-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v589) = v0 c
          ∧ r.2.mem ((c.tc : Thread Cert.ReferenceIdeal.nD Cert.ReferenceIdeal.τ).loc Cert.ReferenceIdeal.main_v577) = v1 c
          ∧ r.2.mem ((c.tc : Thread Cert.ReferenceIdeal.nD Cert.ReferenceIdeal.τ).loc Cert.ReferenceIdeal.main_v590) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v232) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v37) = v0 c
          ∧ r.2.mem ((c.tc : Thread Cert.Reference12Ideal.nD Cert.Reference12Ideal.τ).loc Cert.Reference12Ideal.main_v38) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v37) = v0 c
          ∧ r.2.mem ((c.tc : Thread Cert.Reference13Ideal.nD Cert.Reference13Ideal.τ).loc Cert.Reference13Ideal.main_v75) = v1 c
          ∧ r.2.mem ((c.tc : Thread Cert.Reference13Ideal.nD Cert.Reference13Ideal.τ).loc Cert.Reference13Ideal.main_v76) = v2 c
          ∧ r.2.mem ((c.tc : Thread Cert.Reference13Ideal.nD Cert.Reference13Ideal.τ).loc Cert.Reference13Ideal.main_v77) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v53) = v0 c
          ∧ r.2.mem ((c.tc : Thread Cert.Reference14Ideal.nD Cert.Reference14Ideal.τ).loc Cert.Reference14Ideal.main_v32) = v1 c
          ∧ r.2.mem ((c.tc : Thread Cert.Reference14Ideal.nD Cert.Reference14Ideal.τ).loc Cert.Reference14Ideal.main_v54) = v2 c
          ∧ r.2.mem ((c.tc : Thread Cert.Reference14Ideal.nD Cert.Reference14Ideal.τ).loc Cert.Reference14Ideal.main_v55) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg1) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg1) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg1) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v14) = v0 c
          ∧ r.2.mem ((c.tc : Thread Cert.Reference19Ideal.nD Cert.Reference19Ideal.τ).loc Cert.Reference19Ideal.main_v29) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v76) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Kernel.lean ====
abbrev S2048x6144 : Shape := ⟨2, ![2048, 6144]⟩
abbrev S2048x1024 : Shape := ⟨2, ![2048, 1024]⟩
abbrev S31x1024 : Shape := ⟨2, ![31, 1024]⟩
abbrev S1x1024 : Shape := ⟨2, ![1, 1024]⟩
abbrev S2048x128 : Shape := ⟨2, ![2048, 128]⟩
abbrev S31x128 : Shape := ⟨2, ![31, 128]⟩
abbrev S1x128 : Shape := ⟨2, ![1, 128]⟩
abbrev S2080x128 : Shape := ⟨2, ![2080, 128]⟩
abbrev S2x2048x128 : Shape := ⟨3, ![2, 2048, 128]⟩
abbrev S4 : Shape := ⟨1, ![4]⟩
abbrev S1 : Shape := ⟨1, ![1]⟩
abbrev S_ : Shape := ⟨0, ![]⟩
abbrev S1x2048x128 : Shape := ⟨3, ![1, 2048, 128]⟩
abbrev S32x128 : Shape := ⟨2, ![32, 128]⟩
abbrev S128 : Shape := ⟨1, ![128]⟩
abbrev S160x128 : Shape := ⟨2, ![160, 128]⟩
abbrev S128x128 : Shape := ⟨2, ![128, 128]⟩

abbrev nBuf : Space → Nat
  | .hbm => 7
  | .vmem => 17
  | .smem => 0
  | _ => 0

abbrev bufTy : (tb : Table) → Fin (tcTables nBuf tb) → BufTy
  | .hbm, ⟨0, _⟩ => ⟨S2048x6144, .f32⟩
  | .hbm, ⟨1, _⟩ => ⟨S2048x1024, .f32⟩
  | .hbm, ⟨2, _⟩ => ⟨S31x1024, .f32⟩
  | .hbm, ⟨3, _⟩ => ⟨S2048x6144, .bf16⟩
  | .hbm, ⟨4, _⟩ => ⟨S2048x6144, .bf16⟩
  | .hbm, ⟨5, _⟩ => ⟨S31x1024, .f32⟩
  | .hbm, ⟨6, _⟩ => ⟨S1x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S31x128, .f32⟩
  | .local _ .vmem, ⟨5, _⟩ => ⟨S31x128, .f32⟩
  | .local _ .vmem, ⟨6, _⟩ => ⟨S2048x128, .f32⟩
  | .local _ .vmem, ⟨7, _⟩ => ⟨S2048x128, .f32⟩
  | .local _ .vmem, ⟨8, _⟩ => ⟨S31x128, .f32⟩
  | .local _ .vmem, ⟨9, _⟩ => ⟨S31x128, .f32⟩
  | .local _ .vmem, ⟨10, _⟩ => ⟨S1x128, .f32⟩
  | .local _ .vmem, ⟨11, _⟩ => ⟨S1x128, .f32⟩
  | .local _ .vmem, ⟨12, _⟩ => ⟨S2080x128, .f32⟩
  | .local _ .vmem, ⟨13, _⟩ => ⟨S2080x128, .f32⟩
  | .local _ .vmem, ⟨14, _⟩ => ⟨S2048x128, .f32⟩
  | .local _ .vmem, ⟨15, _⟩ => ⟨S2x2048x128, .bf16⟩
  | .local _ .vmem, ⟨16, _⟩ => ⟨S2x2048x128, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c2_i32_3 : BitVec 32 := 2#32
  let v10 : BitVec 1 := Scalar.cmpi .sge arg0 c2_i32_3
  let v11 : BitVec 32 := Scalar.extui v10
  let c0_i32_4 : BitVec 32 := 0#32
  let v12 : BitVec 1 := Scalar.cmpi .ne v11 c0_i32_4
  v12

def k0_mult1 (i : grid0.Coords) : BitVec 32 :=
  let c24_i32_49 : BitVec 32 := 24#32
  let arg0 : BitVec 32 := BitVec.ofNat 32 (i 0).val
  let c2_i32_48 : BitVec 32 := 2#32
  let v83 : BitVec 32 := Scalar.subi arg0 c2_i32_48
  let v84 : BitVec 32 := Scalar.addi c24_i32_49 v83
  let c128_i32_50 : BitVec 32 := 128#32
  let v85 : BitVec 32 := Scalar.muli v84 c128_i32_50
  v85
def k0_mult2 (i : grid0.Coords) : BitVec 32 :=
  let c32_i32_52 : BitVec 32 := 32#32
  let arg0 : BitVec 32 := BitVec.ofNat 32 (i 0).val
  let c2_i32_48 : BitVec 32 := 2#32
  let v83 : BitVec 32 := Scalar.subi arg0 c2_i32_48
  let v88 : BitVec 32 := Scalar.addi c32_i32_52 v83
  let c128_i32_53 : BitVec 32 := 128#32
  let v89 : BitVec 32 := Scalar.muli v88 c128_i32_53
  v89
def k0_off1 (i : grid0.Coords) (c0_i32_51 : BitVec 32) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v87 : BitVec 32 := Scalar.addi c0_i32_51 v9
  ![v87.toNat]
def k0_off2 (i : grid0.Coords) (c24_i32_49 : BitVec 32) : Fin 2 → Nat :=
  let c0_i32_55 : BitVec 32 := 0#32
  let arg0 : BitVec 32 := BitVec.ofNat 32 (i 0).val
  let c2_i32_48 : BitVec 32 := 2#32
  let v83 : BitVec 32 := Scalar.subi arg0 c2_i32_48
  let v84 : BitVec 32 := Scalar.addi c24_i32_49 v83
  let c128_i32_50 : BitVec 32 := 128#32
  let v85 : BitVec 32 := Scalar.muli v84 c128_i32_50
  let v86 : BitVec 32 := v85
  ![0, v86.toNat]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_56 : BitVec 32 := 0#32
  let c0_i32_57 : BitVec 32 := 0#32
  ![v9.toNat, 0, 0]
@[reducible] def k0_t1_loop : Scf.Loop 32 :=
  let c0_i32_28 : BitVec 32 := 0#32
  let c16_i32 : BitVec 32 := 16#32
  let v44 : BitVec 32 := Scalar.addi c0_i32_28 c16_i32
  let c1_i32_29 : BitVec 32 := 1#32
  ⟨c0_i32_28, v44, c1_i32_29⟩
def k0_mult3 (k0_t1 : Fin k0_t1_loop.trips) : BitVec 32 :=
  let c0_i32_28 : BitVec 32 := 0#32
  let c1_i32_29 : BitVec 32 := 1#32
  let arg15 : BitVec 32 := Scf.iv c0_i32_28 c1_i32_29 k0_t1
  let c128_i32_48 : BitVec 32 := 128#32
  let v83 : BitVec 32 := Scalar.muli arg15 c128_i32_48
  v83
def k0_off4 (k0_t1 : Fin k0_t1_loop.trips) : Fin 2 → Nat :=
  let c0_i32_28 : BitVec 32 := 0#32
  let c1_i32_29 : BitVec 32 := 1#32
  let arg15 : BitVec 32 := Scf.iv c0_i32_28 c1_i32_29 k0_t1
  let c128_i32_48 : BitVec 32 := 128#32
  let v83 : BitVec 32 := Scalar.muli arg15 c128_i32_48
  let v84 : BitVec 32 := v83
  let v85 : Index := Scalar.indexCast v84
  let c0_49 : Index := 0#32
  ![v85.toNat, 0]
def k0_off5 (k0_t1 : Fin k0_t1_loop.trips) : Fin 2 → Nat :=
  let c0_i32_28 : BitVec 32 := 0#32
  let c1_i32_29 : BitVec 32 := 1#32
  let arg15 : BitVec 32 := Scf.iv c0_i32_28 c1_i32_29 k0_t1
  let c128_i32_48 : BitVec 32 := 128#32
  let v83 : BitVec 32 := Scalar.muli arg15 c128_i32_48
  let v84 : BitVec 32 := v83
  let v554 : Index := Scalar.indexCast v84
  let c0_207 : Index := 0#32
  ![v554.toNat, 0]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v48 : Index := Scalar.indexCast v9
  let c0_33 : Index := 0#32
  let c0_34 : Index := 0#32
  ![v48.toNat, 0, 0]
def k0_mult4 (i : grid0.Coords) : BitVec 32 :=
  let c24_i32 : BitVec 32 := 24#32
  let arg0 : BitVec 32 := BitVec.ofNat 32 (i 0).val
  let v62 : BitVec 32 := Scalar.addi c24_i32 arg0
  let c128_i32 : BitVec 32 := 128#32
  let v63 : BitVec 32 := Scalar.muli v62 c128_i32
  v63
def k0_mult5 (i : grid0.Coords) : BitVec 32 :=
  let c32_i32 : BitVec 32 := 32#32
  let arg0 : BitVec 32 := BitVec.ofNat 32 (i 0).val
  let v66 : BitVec 32 := Scalar.addi c32_i32 arg0
  let c128_i32_39 : BitVec 32 := 128#32
  let v67 : BitVec 32 := Scalar.muli v66 c128_i32_39
  v67
def k0_off7 (i : grid0.Coords) (c0_i32_38 : BitVec 32) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v65 : BitVec 32 := Scalar.addi c0_i32_38 v9
  ![v65.toNat]
def k0_off8 (i : grid0.Coords) (c24_i32 : BitVec 32) : Fin 2 → Nat :=
  let c0_i32_41 : BitVec 32 := 0#32
  let arg0 : BitVec 32 := BitVec.ofNat 32 (i 0).val
  let v62 : BitVec 32 := Scalar.addi c24_i32 arg0
  let c128_i32 : BitVec 32 := 128#32
  let v63 : BitVec 32 := Scalar.muli v62 c128_i32
  let v64 : BitVec 32 := v63
  ![0, v64.toNat]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_42 : BitVec 32 := 0#32
  let c0_i32_43 : BitVec 32 := 0#32
  ![v9.toNat, 0, 0]
def k0_cond2 (i : grid0.Coords) : BitVec 1 :=
  let arg0 : BitVec 32 := BitVec.ofNat 32 (i 0).val
  let c7_i32 : BitVec 32 := 7#32
  let v80 : BitVec 1 := Scalar.cmpi .eq arg0 c7_i32
  let v81 : BitVec 32 := Scalar.extui v80
  let c0_i32_47 : BitVec 32 := 0#32
  let v82 : BitVec 1 := Scalar.cmpi .ne v81 c0_i32_47
  v82

def k0_mult6 (i : grid0.Coords) : BitVec 32 :=
  let c24_i32_48 : BitVec 32 := 24#32
  let arg0 : BitVec 32 := BitVec.ofNat 32 (i 0).val
  let v83 : BitVec 32 := Scalar.addi c24_i32_48 arg0
  let c128_i32_49 : BitVec 32 := 128#32
  let v84 : BitVec 32 := Scalar.muli v83 c128_i32_49
  v84
def k0_mult7 (i : grid0.Coords) : BitVec 32 :=
  let c32_i32_51 : BitVec 32 := 32#32
  let arg0 : BitVec 32 := BitVec.ofNat 32 (i 0).val
  let v87 : BitVec 32 := Scalar.addi c32_i32_51 arg0
  let c128_i32_52 : BitVec 32 := 128#32
  let v88 : BitVec 32 := Scalar.muli v87 c128_i32_52
  v88
def k0_off10 (i : grid0.Coords) (c0_i32_50 : BitVec 32) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : BitVec 32 := Scalar.addi c0_i32_50 v9
  ![v86.toNat]
def k0_off11 (i : grid0.Coords) (c24_i32_48 : BitVec 32) : Fin 2 → Nat :=
  let c0_i32_54 : BitVec 32 := 0#32
  let arg0 : BitVec 32 := BitVec.ofNat 32 (i 0).val
  let v83 : BitVec 32 := Scalar.addi c24_i32_48 arg0
  let c128_i32_49 : BitVec 32 := 128#32
  let v84 : BitVec 32 := Scalar.muli v83 c128_i32_49
  let v85 : BitVec 32 := v84
  ![0, v85.toNat]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_55 : BitVec 32 := 0#32
  let c0_i32_56 : BitVec 32 := 0#32
  ![v9.toNat, 0, 0]
def k0_mult8 (i : grid0.Coords) : BitVec 32 :=
  let c24_i32_62 : BitVec 32 := 24#32
  let arg0 : BitVec 32 := BitVec.ofNat 32 (i 0).val
  let c1_i32_61 : BitVec 32 := 1#32
  let v102 : BitVec 32 := Scalar.subi arg0 c1_i32_61
  let v103 : BitVec 32 := Scalar.addi c24_i32_62 v102
  let c128_i32_63 : BitVec 32 := 128#32
  let v104 : BitVec 32 := Scalar.muli v103 c128_i32_63
  v104
def k0_mult9 (i : grid0.Coords) : BitVec 32 :=
  let c32_i32_65 : BitVec 32 := 32#32
  let arg0 : BitVec 32 := BitVec.ofNat 32 (i 0).val
  let c1_i32_61 : BitVec 32 := 1#32
  let v102 : BitVec 32 := Scalar.subi arg0 c1_i32_61
  let v107 : BitVec 32 := Scalar.addi c32_i32_65 v102
  let c128_i32_66 : BitVec 32 := 128#32
  let v108 : BitVec 32 := Scalar.muli v107 c128_i32_66
  v108
def k0_off13 (i : grid0.Coords) (c0_i32_64 : BitVec 32) : Fin 1 → Nat :=
  let c1_i32_60 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_60 v9
  let v106 : BitVec 32 := Scalar.addi c0_i32_64 v101
  ![v106.toNat]
def k0_off14 (i : grid0.Coords) (c24_i32_62 : BitVec 32) : Fin 2 → Nat :=
  let c0_i32_68 : BitVec 32 := 0#32
  let arg0 : BitVec 32 := BitVec.ofNat 32 (i 0).val
  let c1_i32_61 : BitVec 32 := 1#32
  let v102 : BitVec 32 := Scalar.subi arg0 c1_i32_61
  let v103 : BitVec 32 := Scalar.addi c24_i32_62 v102
  let c128_i32_63 : BitVec 32 := 128#32
  let v104 : BitVec 32 := Scalar.muli v103 c128_i32_63
  let v105 : BitVec 32 := v104
  ![0, v105.toNat]
def k0_off15 (i : grid0.Coords) : Fin 3 → Nat :=
  let c1_i32_60 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : BitVec 32 := Scalar.subi c1_i32_60 v9
  let c0_i32_69 : BitVec 32 := 0#32
  let c0_i32_70 : BitVec 32 := 0#32
  ![v101.toNat, 0, 0]
def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S31x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2048x6144 : Shape := ⟨2, ![2048, 6144]⟩
abbrev S2048x1024 : Shape := ⟨2, ![2048, 1024]⟩
abbrev S31x1024 : Shape := ⟨2, ![31, 1024]⟩
abbrev S_ : Shape := ⟨0, ![]⟩
abbrev S1024 : Shape := ⟨1, ![1024]⟩
abbrev S30x1024 : Shape := ⟨2, ![30, 1024]⟩
abbrev S2078x1024 : Shape := ⟨2, ![2078, 1024]⟩
abbrev S1x1024 : Shape := ⟨2, ![1, 1024]⟩
abbrev S2048x3072 : Shape := ⟨2, ![2048, 3072]⟩

abbrev nBuf : Space → Nat
  | .hbm => 728
  | .vmem => 0
  | .smem => 0
  | _ => 0

abbrev hbmTy0_0 (i : Nat) : BufTy := match i % 128 with
  | 0 => ⟨S2048x6144, .f32⟩
  | 1 => ⟨S2048x1024, .f32⟩
  | 2 => ⟨S31x1024, .f32⟩
  | 3 => ⟨S2048x6144, .bf16⟩
  | 4 => ⟨S_, .f32⟩
  | 5 => ⟨S1024, .f32⟩
  | 6 => ⟨S2048x1024, .f32⟩
  | 7 => ⟨S2048x1024, .f32⟩
  | 8 => ⟨S2048x1024, .f32⟩
  | 9 => ⟨S2048x1024, .f32⟩
  | 10 => ⟨S_, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S_, .f32⟩
  | 17 => ⟨S2048x1024, .f32⟩
  | 18 => ⟨S2048x1024, .f32⟩
  | 19 => ⟨S2048x1024, .f32⟩
  | 20 => ⟨S2048x1024, .f32⟩
  | 21 => ⟨S_, .f32⟩
  | 22 => ⟨S30x1024, .f32⟩
  | 23 => ⟨S2078x1024, .f32⟩
  | 24 => ⟨S_, .f32⟩
  | 25 => ⟨S30x1024, .f32⟩
  | 26 => ⟨S2048x1024, .f32⟩
  | 27 => ⟨S1x1024, .f32⟩
  | 28 => ⟨S1024, .f32⟩
  | 29 => ⟨S1x1024, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S2048x1024, .f32⟩
  | 36 => ⟨S1x1024, .f32⟩
  | 37 => ⟨S1024, .f32⟩
  | 38 => ⟨S1x1024, .f32⟩
  | 39 => ⟨S2048x1024, .f32⟩
  | 40 => ⟨S2048x1024, .f32⟩
  | 41 => ⟨S2048x1024, .f32⟩
  | 42 => ⟨S2048x1024, .f32⟩
  | 43 => ⟨S1x1024, .f32⟩
  | 44 => ⟨S1024, .f32⟩
  | 45 => ⟨S1x1024, .f32⟩
  | 46 => ⟨S2048x1024, .f32⟩
  | 47 => ⟨S2048x1024, .f32⟩
  | 48 => ⟨S2048x1024, .f32⟩
  | 49 => ⟨S2048x1024, .f32⟩
  | 50 => ⟨S1x1024, .f32⟩
  | 51 => ⟨S1024, .f32⟩
  | 52 => ⟨S1x1024, .f32⟩
  | 53 => ⟨S2048x1024, .f32⟩
  | 54 => ⟨S2048x1024, .f32⟩
  | 55 => ⟨S2048x1024, .f32⟩
  | 56 => ⟨S2048x1024, .f32⟩
  | 57 => ⟨S1x1024, .f32⟩
  | 58 => ⟨S1024, .f32⟩
  | 59 => ⟨S1x1024, .f32⟩
  | 60 => ⟨S2048x1024, .f32⟩
  | 61 => ⟨S2048x1024, .f32⟩
  | 62 => ⟨S2048x1024, .f32⟩
  | 63 => ⟨S2048x1024, .f32⟩
  | 64 => ⟨S1x1024, .f32⟩
  | 65 => ⟨S1024, .f32⟩
  | 66 => ⟨S1x1024, .f32⟩
  | 67 => ⟨S2048x1024, .f32⟩
  | 68 => ⟨S2048x1024, .f32⟩
  | 69 => ⟨S2048x1024, .f32⟩
  | 70 => ⟨S2048x1024, .f32⟩
  | 71 => ⟨S1x1024, .f32⟩
  | 72 => ⟨S1024, .f32⟩
  | 73 => ⟨S1x1024, .f32⟩
  | 74 => ⟨S2048x1024, .f32⟩
  | 75 => ⟨S2048x1024, .f32⟩
  | 76 => ⟨S2048x1024, .f32⟩
  | 77 => ⟨S2048x1024, .f32⟩
  | 78 => ⟨S1x1024, .f32⟩
  | 79 => ⟨S1024, .f32⟩
  | 80 => ⟨S1x1024, .f32⟩
  | 81 => ⟨S2048x1024, .f32⟩
  | 82 => ⟨S2048x1024, .f32⟩
  | 83 => ⟨S2048x1024, .f32⟩
  | 84 => ⟨S2048x1024, .f32⟩
  | 85 => ⟨S1x1024, .f32⟩
  | 86 => ⟨S1024, .f32⟩
  | 87 => ⟨S1x1024, .f32⟩
  | 88 => ⟨S2048x1024, .f32⟩
  | 89 => ⟨S2048x1024, .f32⟩
  | 90 => ⟨S2048x1024, .f32⟩
  | 91 => ⟨S2048x1024, .f32⟩
  | 92 => ⟨S1x1024, .f32⟩
  | 93 => ⟨S1024, .f32⟩
  | 94 => ⟨S1x1024, .f32⟩
  | 95 => ⟨S2048x1024, .f32⟩
  | 96 => ⟨S2048x1024, .f32⟩
  | 97 => ⟨S2048x1024, .f32⟩
  | 98 => ⟨S2048x1024, .f32⟩
  | 99 => ⟨S1x1024, .f32⟩
  | 100 => ⟨S1024, .f32⟩
  | 101 => ⟨S1x1024, .f32⟩
  | 102 => ⟨S2048x1024, .f32⟩
  | 103 => ⟨S2048x1024, .f32⟩
  | 104 => ⟨S2048x1024, .f32⟩
  | 105 => ⟨S2048x1024, .f32⟩
  | 106 => ⟨S1x1024, .f32⟩
  | 107 => ⟨S1024, .f32⟩
  | 108 => ⟨S1x1024, .f32⟩
  | 109 => ⟨S2048x1024, .f32⟩
  | 110 => ⟨S2048x1024, .f32⟩
  | 111 => ⟨S2048x1024, .f32⟩
  | 112 => ⟨S2048x1024, .f32⟩
  | 113 => ⟨S1x1024, .f32⟩
  | 114 => ⟨S1024, .f32⟩
  | 115 => ⟨S1x1024, .f32⟩
  | 116 => ⟨S2048x1024, .f32⟩
  | 117 => ⟨S2048x1024, .f32⟩
  | 118 => ⟨S2048x1024, .f32⟩
  | 119 => ⟨S2048x1024, .f32⟩
  | 120 => ⟨S1x1024, .f32⟩
  | 121 => ⟨S1024, .f32⟩
  | 122 => ⟨S1x1024, .f32⟩
  | 123 => ⟨S2048x1024, .f32⟩
  | 124 => ⟨S2048x1024, .f32⟩
  | 125 => ⟨S2048x1024, .f32⟩
  | 126 => ⟨S2048x1024, .f32⟩
  | 127 => ⟨S1x1024, .f32⟩
  | _ => ⟨S2048x6144, .f32⟩

abbrev hbmTy0_1 (i : Nat) : BufTy := match i % 128 with
  | 0 => ⟨S1024, .f32⟩
  | 1 => ⟨S1x1024, .f32⟩
  | 2 => ⟨S2048x1024, .f32⟩
  | 3 => ⟨S2048x1024, .f32⟩
  | 4 => ⟨S2048x1024, .f32⟩
  | 5 => ⟨S2048x1024, .f32⟩
  | 6 => ⟨S1x1024, .f32⟩
  | 7 => ⟨S1024, .f32⟩
  | 8 => ⟨S1x1024, .f32⟩
  | 9 => ⟨S2048x1024, .f32⟩
  | 10 => ⟨S2048x1024, .f32⟩
  | 11 => ⟨S2048x1024, .f32⟩
  | 12 => ⟨S2048x1024, .f32⟩
  | 13 => ⟨S1x1024, .f32⟩
  | 14 => ⟨S1024, .f32⟩
  | 15 => ⟨S1x1024, .f32⟩
  | 16 => ⟨S2048x1024, .f32⟩
  | 17 => ⟨S2048x1024, .f32⟩
  | 18 => ⟨S2048x1024, .f32⟩
  | 19 => ⟨S2048x1024, .f32⟩
  | 20 => ⟨S1x1024, .f32⟩
  | 21 => ⟨S1024, .f32⟩
  | 22 => ⟨S1x1024, .f32⟩
  | 23 => ⟨S2048x1024, .f32⟩
  | 24 => ⟨S2048x1024, .f32⟩
  | 25 => ⟨S2048x1024, .f32⟩
  | 26 => ⟨S2048x1024, .f32⟩
  | 27 => ⟨S1x1024, .f32⟩
  | 28 => ⟨S1024, .f32⟩
  | 29 => ⟨S1x1024, .f32⟩
  | 30 => ⟨S2048x1024, .f32⟩
  | 31 => ⟨S2048x1024, .f32⟩
  | 32 => ⟨S2048x1024, .f32⟩
  | 33 => ⟨S2048x1024, .f32⟩
  | 34 => ⟨S1x1024, .f32⟩
  | 35 => ⟨S1024, .f32⟩
  | 36 => ⟨S1x1024, .f32⟩
  | 37 => ⟨S2048x1024, .f32⟩
  | 38 => ⟨S2048x1024, .f32⟩
  | 39 => ⟨S2048x1024, .f32⟩
  | 40 => ⟨S2048x1024, .f32⟩
  | 41 => ⟨S1x1024, .f32⟩
  | 42 => ⟨S1024, .f32⟩
  | 43 => ⟨S1x1024, .f32⟩
  | 44 => ⟨S2048x1024, .f32⟩
  | 45 => ⟨S2048x1024, .f32⟩
  | 46 => ⟨S2048x1024, .f32⟩
  | 47 => ⟨S2048x1024, .f32⟩
  | 48 => ⟨S1x1024, .f32⟩
  | 49 => ⟨S1024, .f32⟩
  | 50 => ⟨S1x1024, .f32⟩
  | 51 => ⟨S2048x1024, .f32⟩
  | 52 => ⟨S2048x1024, .f32⟩
  | 53 => ⟨S2048x1024, .f32⟩
  | 54 => ⟨S2048x1024, .f32⟩
  | 55 => ⟨S1x1024, .f32⟩
  | 56 => ⟨S1024, .f32⟩
  | 57 => ⟨S1x1024, .f32⟩
  | 58 => ⟨S2048x1024, .f32⟩
  | 59 => ⟨S2048x1024, .f32⟩
  | 60 => ⟨S2048x1024, .f32⟩
  | 61 => ⟨S2048x1024, .f32⟩
  | 62 => ⟨S1x1024, .f32⟩
  | 63 => ⟨S1024, .f32⟩
  | 64 => ⟨S1x1024, .f32⟩
  | 65 => ⟨S2048x1024, .f32⟩
  | 66 => ⟨S2048x1024, .f32⟩
  | 67 => ⟨S2048x1024, .f32⟩
  | 68 => ⟨S2048x1024, .f32⟩
  | 69 => ⟨S1x1024, .f32⟩
  | 70 => ⟨S1024, .f32⟩
  | 71 => ⟨S1x1024, .f32⟩
  | 72 => ⟨S2048x1024, .f32⟩
  | 73 => ⟨S2048x1024, .f32⟩
  | 74 => ⟨S2048x1024, .f32⟩
  | 75 => ⟨S2048x1024, .f32⟩
  | 76 => ⟨S1x1024, .f32⟩
  | 77 => ⟨S1024, .f32⟩
  | 78 => ⟨S1x1024, .f32⟩
  | 79 => ⟨S2048x1024, .f32⟩
  | 80 => ⟨S2048x1024, .f32⟩
  | 81 => ⟨S2048x1024, .f32⟩
  | 82 => ⟨S2048x1024, .f32⟩
  | 83 => ⟨S1x1024, .f32⟩
  | 84 => ⟨S1024, .f32⟩
  | 85 => ⟨S1x1024, .f32⟩
  | 86 => ⟨S2048x1024, .f32⟩
  | 87 => ⟨S2048x1024, .f32⟩
  | 88 => ⟨S2048x1024, .f32⟩
  | 89 => ⟨S2048x1024, .f32⟩
  | 90 => ⟨S1x1024, .f32⟩
  | 91 => ⟨S1024, .f32⟩
  | 92 => ⟨S1x1024, .f32⟩
  | 93 => ⟨S2048x1024, .f32⟩
  | 94 => ⟨S2048x1024, .f32⟩
  | 95 => ⟨S2048x1024, .f32⟩
  | 96 => ⟨S2048x1024, .f32⟩
  | 97 => ⟨S1x1024, .f32⟩
  | 98 => ⟨S1024, .f32⟩
  | 99 => ⟨S1x1024, .f32⟩
  | 100 => ⟨S2048x1024, .f32⟩
  | 101 => ⟨S2048x1024, .f32⟩
  | 102 => ⟨S2048x1024, .f32⟩
  | 103 => ⟨S2048x1024, .f32⟩
  | 104 => ⟨S1x1024, .f32⟩
  | 105 => ⟨S1024, .f32⟩
  | 106 => ⟨S1x1024, .f32⟩
  | 107 => ⟨S2048x1024, .f32⟩
  | 108 => ⟨S2048x1024, .f32⟩
  | 109 => ⟨S2048x1024, .f32⟩
  | 110 => ⟨S2048x1024, .f32⟩
  | 111 => ⟨S1x1024, .f32⟩
  | 112 => ⟨S1024, .f32⟩
  | 113 => ⟨S1x1024, .f32⟩
  | 114 => ⟨S2048x1024, .f32⟩
  | 115 => ⟨S2048x1024, .f32⟩
  | 116 => ⟨S2048x1024, .f32⟩
  | 117 => ⟨S1x1024, .f32⟩
  | 118 => ⟨S2048x1024, .f32⟩
  | 119 => ⟨S2048x1024, .f32⟩
  | 120 => ⟨S2048x1024, .f32⟩
  | 121 => ⟨S_, .f32⟩
  | 122 => ⟨S1024, .f32⟩
  | 123 => ⟨S1x1024, .f32⟩
  | 124 => ⟨S_, .f32⟩
  | 125 => ⟨S1024, .f32⟩
  | 126 => ⟨S2048x1024, .f32⟩
  | 127 => ⟨S_, .f32⟩
  | _ => ⟨S2048x6144, .f32⟩

abbrev hbmTy0_2 (i : Nat) : BufTy := match i % 128 with
  | 0 => ⟨S1024, .f32⟩
  | 1 => ⟨S1x1024, .f32⟩
  | 2 => ⟨S2048x1024, .f32⟩
  | 3 => ⟨S2048x1024, .f32⟩
  | 4 => ⟨S_, .f32⟩
  | 5 => ⟨S1024, .f32⟩
  | 6 => ⟨S1x1024, .f32⟩
  | 7 => ⟨S_, .f32⟩
  | 8 => ⟨S31x1024, .f32⟩
  | 9 => ⟨S_, .f32⟩
  | 10 => ⟨S2078x1024, .f32⟩
  | 11 => ⟨S2048x1024, .f32⟩
  | 12 => ⟨S_, .f32⟩
  | 13 => ⟨S1024, .f32⟩
  | 14 => ⟨S1x1024, .f32⟩
  | 15 => ⟨S2048x1024, .f32⟩
  | 16 => ⟨S2048x1024, .f32⟩
  | 17 => ⟨S_, .f32⟩
  | 18 => ⟨S1024, .f32⟩
  | 19 => ⟨S1x1024, .f32⟩
  | 20 => ⟨S_, .f32⟩
  | 21 => ⟨S31x1024, .f32⟩
  | 22 => ⟨S31x1024, .f32⟩
  | 23 => ⟨S_, .f32⟩
  | 24 => ⟨S2078x1024, .f32⟩
  | 25 => ⟨S2078x1024, .f32⟩
  | 26 => ⟨S2048x1024, .f32⟩
  | 27 => ⟨S_, .f32⟩
  | 28 => ⟨S1024, .f32⟩
  | 29 => ⟨S1x1024, .f32⟩
  | 30 => ⟨S2048x1024, .f32⟩
  | 31 => ⟨S2048x1024, .f32⟩
  | 32 => ⟨S_, .f32⟩
  | 33 => ⟨S1024, .f32⟩
  | 34 => ⟨S1x1024, .f32⟩
  | 35 => ⟨S_, .f32⟩
  | 36 => ⟨S31x1024, .f32⟩
  | 37 => ⟨S31x1024, .f32⟩
  | 38 => ⟨S_, .f32⟩
  | 39 => ⟨S2078x1024, .f32⟩
  | 40 => ⟨S2078x1024, .f32⟩
  | 41 => ⟨S2048x1024, .f32⟩
  | 42 => ⟨S_, .f32⟩
  | 43 => ⟨S1024, .f32⟩
  | 44 => ⟨S1x1024, .f32⟩
  | 45 => ⟨S2048x1024, .f32⟩
  | 46 => ⟨S2048x1024, .f32⟩
  | 47 => ⟨S_, .f32⟩
  | 48 => ⟨S1024, .f32⟩
  | 49 => ⟨S1x1024, .f32⟩
  | 50 => ⟨S_, .f32⟩
  | 51 => ⟨S31x1024, .f32⟩
  | 52 => ⟨S31x1024, .f32⟩
  | 53 => ⟨S_, .f32⟩
  | 54 => ⟨S2078x1024, .f32⟩
  | 55 => ⟨S2078x1024, .f32⟩
  | 56 => ⟨S2048x1024, .f32⟩
  | 57 => ⟨S_, .f32⟩
  | 58 => ⟨S1024, .f32⟩
  | 59 => ⟨S1x1024, .f32⟩
  | 60 => ⟨S2048x1024, .f32⟩
  | 61 => ⟨S2048x1024, .f32⟩
  | 62 => ⟨S_, .f32⟩
  | 63 => ⟨S1024, .f32⟩
  | 64 => ⟨S1x1024, .f32⟩
  | 65 => ⟨S_, .f32⟩
  | 66 => ⟨S31x1024, .f32⟩
  | 67 => ⟨S31x1024, .f32⟩
  | 68 => ⟨S_, .f32⟩
  | 69 => ⟨S2078x1024, .f32⟩
  | 70 => ⟨S2078x1024, .f32⟩
  | 71 => ⟨S2048x1024, .f32⟩
  | 72 => ⟨S_, .f32⟩
  | 73 => ⟨S1024, .f32⟩
  | 74 => ⟨S1x1024, .f32⟩
  | 75 => ⟨S2048x1024, .f32⟩
  | 76 => ⟨S2048x1024, .f32⟩
  | 77 => ⟨S_, .f32⟩
  | 78 => ⟨S1024, .f32⟩
  | 79 => ⟨S1x1024, .f32⟩
  | 80 => ⟨S_, .f32⟩
  | 81 => ⟨S31x1024, .f32⟩
  | 82 => ⟨S31x1024, .f32⟩
  | 83 => ⟨S_, .f32⟩
  | 84 => ⟨S2078x1024, .f32⟩
  | 85 => ⟨S2078x1024, .f32⟩
  | 86 => ⟨S2048x1024, .f32⟩
  | 87 => ⟨S_, .f32⟩
  | 88 => ⟨S1024, .f32⟩
  | 89 => ⟨S1x1024, .f32⟩
  | 90 => ⟨S2048x1024, .f32⟩
  | 91 => ⟨S2048x1024, .f32⟩
  | 92 => ⟨S_, .f32⟩
  | 93 => ⟨S1024, .f32⟩
  | 94 => ⟨S1x1024, .f32⟩
  | 95 => ⟨S_, .f32⟩
  | 96 => ⟨S31x1024, .f32⟩
  | 97 => ⟨S31x1024, .f32⟩
  | 98 => ⟨S_, .f32⟩
  | 99 => ⟨S2078x1024, .f32⟩
  | 100 => ⟨S2078x1024, .f32⟩
  | 101 => ⟨S2048x1024, .f32⟩
  | 102 => ⟨S_, .f32⟩
  | 103 => ⟨S1024, .f32⟩
  | 104 => ⟨S1x1024, .f32⟩
  | 105 => ⟨S2048x1024, .f32⟩
  | 106 => ⟨S2048x1024, .f32⟩
  | 107 => ⟨S_, .f32⟩
  | 108 => ⟨S1024, .f32⟩
  | 109 => ⟨S1x1024, .f32⟩
  | 110 => ⟨S_, .f32⟩
  | 111 => ⟨S31x1024, .f32⟩
  | 112 => ⟨S31x1024, .f32⟩
  | 113 => ⟨S_, .f32⟩
  | 114 => ⟨S2078x1024, .f32⟩
  | 115 => ⟨S2078x1024, .f32⟩
  | 116 => ⟨S2048x1024, .f32⟩
  | 117 => ⟨S_, .f32⟩
  | 118 => ⟨S1024, .f32⟩
  | 119 => ⟨S1x1024, .f32⟩
  | 120 => ⟨S2048x1024, .f32⟩
  | 121 => ⟨S2048x1024, .f32⟩
  | 122 => ⟨S_, .f32⟩
  | 123 => ⟨S1024, .f32⟩
  | 124 => ⟨S1x1024, .f32⟩
  | 125 => ⟨S_, .f32⟩
  | 126 => ⟨S31x1024, .f32⟩
  | 127 => ⟨S31x1024, .f32⟩
  | _ => ⟨S2048x6144, .f32⟩

abbrev hbmTy0_3 (i : Nat) : BufTy := match i % 128 with
  | 0 => ⟨S_, .f32⟩
  | 1 => ⟨S2078x1024, .f32⟩
  | 2 => ⟨S2078x1024, .f32⟩
  | 3 => ⟨S2048x1024, .f32⟩
  | 4 => ⟨S_, .f32⟩
  | 5 => ⟨S1024, .f32⟩
  | 6 => ⟨S1x1024, .f32⟩
  | 7 => ⟨S2048x1024, .f32⟩
  | 8 => ⟨S2048x1024, .f32⟩
  | 9 => ⟨S_, .f32⟩
  | 10 => ⟨S1024, .f32⟩
  | 11 => ⟨S1x1024, .f32⟩
  | 12 => ⟨S_, .f32⟩
  | 13 => ⟨S31x1024, .f32⟩
  | 14 => ⟨S31x1024, .f32⟩
  | 15 => ⟨S_, .f32⟩
  | 16 => ⟨S2078x1024, .f32⟩
  | 17 => ⟨S2078x1024, .f32⟩
  | 18 => ⟨S2048x1024, .f32⟩
  | 19 => ⟨S_, .f32⟩
  | 20 => ⟨S1024, .f32⟩
  | 21 => ⟨S1x1024, .f32⟩
  | 22 => ⟨S2048x1024, .f32⟩
  | 23 => ⟨S2048x1024, .f32⟩
  | 24 => ⟨S_, .f32⟩
  | 25 => ⟨S1024, .f32⟩
  | 26 => ⟨S1x1024, .f32⟩
  | 27 => ⟨S_, .f32⟩
  | 28 => ⟨S31x1024, .f32⟩
  | 29 => ⟨S31x1024, .f32⟩
  | 30 => ⟨S_, .f32⟩
  | 31 => ⟨S2078x1024, .f32⟩
  | 32 => ⟨S2078x1024, .f32⟩
  | 33 => ⟨S2048x1024, .f32⟩
  | 34 => ⟨S_, .f32⟩
  | 35 => ⟨S1024, .f32⟩
  | 36 => ⟨S1x1024, .f32⟩
  | 37 => ⟨S2048x1024, .f32⟩
  | 38 => ⟨S2048x1024, .f32⟩
  | 39 => ⟨S_, .f32⟩
  | 40 => ⟨S1024, .f32⟩
  | 41 => ⟨S1x1024, .f32⟩
  | 42 => ⟨S_, .f32⟩
  | 43 => ⟨S31x1024, .f32⟩
  | 44 => ⟨S31x1024, .f32⟩
  | 45 => ⟨S_, .f32⟩
  | 46 => ⟨S2078x1024, .f32⟩
  | 47 => ⟨S2078x1024, .f32⟩
  | 48 => ⟨S2048x1024, .f32⟩
  | 49 => ⟨S_, .f32⟩
  | 50 => ⟨S1024, .f32⟩
  | 51 => ⟨S1x1024, .f32⟩
  | 52 => ⟨S2048x1024, .f32⟩
  | 53 => ⟨S2048x1024, .f32⟩
  | 54 => ⟨S_, .f32⟩
  | 55 => ⟨S1024, .f32⟩
  | 56 => ⟨S1x1024, .f32⟩
  | 57 => ⟨S_, .f32⟩
  | 58 => ⟨S31x1024, .f32⟩
  | 59 => ⟨S31x1024, .f32⟩
  | 60 => ⟨S_, .f32⟩
  | 61 => ⟨S2078x1024, .f32⟩
  | 62 => ⟨S2078x1024, .f32⟩
  | 63 => ⟨S2048x1024, .f32⟩
  | 64 => ⟨S_, .f32⟩
  | 65 => ⟨S1024, .f32⟩
  | 66 => ⟨S1x1024, .f32⟩
  | 67 => ⟨S2048x1024, .f32⟩
  | 68 => ⟨S2048x1024, .f32⟩
  | 69 => ⟨S_, .f32⟩
  | 70 => ⟨S1024, .f32⟩
  | 71 => ⟨S1x1024, .f32⟩
  | 72 => ⟨S_, .f32⟩
  | 73 => ⟨S31x1024, .f32⟩
  | 74 => ⟨S31x1024, .f32⟩
  | 75 => ⟨S_, .f32⟩
  | 76 => ⟨S2078x1024, .f32⟩
  | 77 => ⟨S2078x1024, .f32⟩
  | 78 => ⟨S2048x1024, .f32⟩
  | 79 => ⟨S_, .f32⟩
  | 80 => ⟨S1024, .f32⟩
  | 81 => ⟨S1x1024, .f32⟩
  | 82 => ⟨S2048x1024, .f32⟩
  | 83 => ⟨S2048x1024, .f32⟩
  | 84 => ⟨S_, .f32⟩
  | 85 => ⟨S1024, .f32⟩
  | 86 => ⟨S1x1024, .f32⟩
  | 87 => ⟨S_, .f32⟩
  | 88 => ⟨S31x1024, .f32⟩
  | 89 => ⟨S31x1024, .f32⟩
  | 90 => ⟨S_, .f32⟩
  | 91 => ⟨S2078x1024, .f32⟩
  | 92 => ⟨S2078x1024, .f32⟩
  | 93 => ⟨S2048x1024, .f32⟩
  | 94 => ⟨S_, .f32⟩
  | 95 => ⟨S1024, .f32⟩
  | 96 => ⟨S1x1024, .f32⟩
  | 97 => ⟨S2048x1024, .f32⟩
  | 98 => ⟨S2048x1024, .f32⟩
  | 99 => ⟨S_, .f32⟩
  | 100 => ⟨S1024, .f32⟩
  | 101 => ⟨S1x1024, .f32⟩
  | 102 => ⟨S_, .f32⟩
  | 103 => ⟨S31x1024, .f32⟩
  | 104 => ⟨S31x1024, .f32⟩
  | 105 => ⟨S_, .f32⟩
  | 106 => ⟨S2078x1024, .f32⟩
  | 107 => ⟨S2078x1024, .f32⟩
  | 108 => ⟨S2048x1024, .f32⟩
  | 109 => ⟨S_, .f32⟩
  | 110 => ⟨S1024, .f32⟩
  | 111 => ⟨S1x1024, .f32⟩
  | 112 => ⟨S2048x1024, .f32⟩
  | 113 => ⟨S2048x1024, .f32⟩
  | 114 => ⟨S_, .f32⟩
  | 115 => ⟨S1024, .f32⟩
  | 116 => ⟨S1x1024, .f32⟩
  | 117 => ⟨S_, .f32⟩
  | 118 => ⟨S31x1024, .f32⟩
  | 119 => ⟨S31x1024, .f32⟩
  | 120 => ⟨S_, .f32⟩
  | 121 => ⟨S2078x1024, .f32⟩
  | 122 => ⟨S2078x1024, .f32⟩
  | 123 => ⟨S2048x1024, .f32⟩
  | 124 => ⟨S_, .f32⟩
  | 125 => ⟨S1024, .f32⟩
  | 126 => ⟨S1x1024, .f32⟩
  | 127 => ⟨S2048x1024, .f32⟩
  | _ => ⟨S2048x6144, .f32⟩

abbrev hbmTy0_4 (i : Nat) : BufTy := match i % 128 with
  | 0 => ⟨S2048x1024, .f32⟩
  | 1 => ⟨S_, .f32⟩
  | 2 => ⟨S1024, .f32⟩
  | 3 => ⟨S1x1024, .f32⟩
  | 4 => ⟨S_, .f32⟩
  | 5 => ⟨S31x1024, .f32⟩
  | 6 => ⟨S31x1024, .f32⟩
  | 7 => ⟨S_, .f32⟩
  | 8 => ⟨S2078x1024, .f32⟩
  | 9 => ⟨S2078x1024, .f32⟩
  | 10 => ⟨S2048x1024, .f32⟩
  | 11 => ⟨S_, .f32⟩
  | 12 => ⟨S1024, .f32⟩
  | 13 => ⟨S1x1024, .f32⟩
  | 14 => ⟨S2048x1024, .f32⟩
  | 15 => ⟨S2048x1024, .f32⟩
  | 16 => ⟨S_, .f32⟩
  | 17 => ⟨S1024, .f32⟩
  | 18 => ⟨S1x1024, .f32⟩
  | 19 => ⟨S_, .f32⟩
  | 20 => ⟨S31x1024, .f32⟩
  | 21 => ⟨S31x1024, .f32⟩
  | 22 => ⟨S_, .f32⟩
  | 23 => ⟨S2078x1024, .f32⟩
  | 24 => ⟨S2078x1024, .f32⟩
  | 25 => ⟨S2048x1024, .f32⟩
  | 26 => ⟨S_, .f32⟩
  | 27 => ⟨S1024, .f32⟩
  | 28 => ⟨S1x1024, .f32⟩
  | 29 => ⟨S2048x1024, .f32⟩
  | 30 => ⟨S2048x1024, .f32⟩
  | 31 => ⟨S_, .f32⟩
  | 32 => ⟨S1024, .f32⟩
  | 33 => ⟨S1x1024, .f32⟩
  | 34 => ⟨S_, .f32⟩
  | 35 => ⟨S31x1024, .f32⟩
  | 36 => ⟨S31x1024, .f32⟩
  | 37 => ⟨S_, .f32⟩
  | 38 => ⟨S2078x1024, .f32⟩
  | 39 => ⟨S2078x1024, .f32⟩
  | 40 => ⟨S2048x1024, .f32⟩
  | 41 => ⟨S_, .f32⟩
  | 42 => ⟨S1024, .f32⟩
  | 43 => ⟨S1x1024, .f32⟩
  | 44 => ⟨S2048x1024, .f32⟩
  | 45 => ⟨S2048x1024, .f32⟩
  | 46 => ⟨S_, .f32⟩
  | 47 => ⟨S1024, .f32⟩
  | 48 => ⟨S1x1024, .f32⟩
  | 49 => ⟨S_, .f32⟩
  | 50 => ⟨S31x1024, .f32⟩
  | 51 => ⟨S31x1024, .f32⟩
  | 52 => ⟨S_, .f32⟩
  | 53 => ⟨S2078x1024, .f32⟩
  | 54 => ⟨S2078x1024, .f32⟩
  | 55 => ⟨S2048x1024, .f32⟩
  | 56 => ⟨S_, .f32⟩
  | 57 => ⟨S1024, .f32⟩
  | 58 => ⟨S1x1024, .f32⟩
  | 59 => ⟨S2048x1024, .f32⟩
  | 60 => ⟨S2048x1024, .f32⟩
  | 61 => ⟨S_, .f32⟩
  | 62 => ⟨S1024, .f32⟩
  | 63 => ⟨S1x1024, .f32⟩
  | 64 => ⟨S_, .f32⟩
  | 65 => ⟨S31x1024, .f32⟩
  | 66 => ⟨S31x1024, .f32⟩
  | 67 => ⟨S_, .f32⟩
  | 68 => ⟨S2078x1024, .f32⟩
  | 69 => ⟨S2078x1024, .f32⟩
  | 70 => ⟨S2048x1024, .f32⟩
  | 71 => ⟨S_, .f32⟩
  | 72 => ⟨S1024, .f32⟩
  | 73 => ⟨S1x1024, .f32⟩
  | 74 => ⟨S2048x1024, .f32⟩
  | 75 => ⟨S2048x1024, .f32⟩
  | 76 => ⟨S_, .f32⟩
  | 77 => ⟨S1024, .f32⟩
  | 78 => ⟨S1x1024, .f32⟩
  | 79 => ⟨S_, .f32⟩
  | 80 => ⟨S31x1024, .f32⟩
  | 81 => ⟨S31x1024, .f32⟩
  | 82 => ⟨S_, .f32⟩
  | 83 => ⟨S2078x1024, .f32⟩
  | 84 => ⟨S2078x1024, .f32⟩
  | 85 => ⟨S2048x1024, .f32⟩
  | 86 => ⟨S_, .f32⟩
  | 87 => ⟨S1024, .f32⟩
  | 88 => ⟨S1x1024, .f32⟩
  | 89 => ⟨S2048x1024, .f32⟩
  | 90 => ⟨S2048x1024, .f32⟩
  | 91 => ⟨S_, .f32⟩
  | 92 => ⟨S1024, .f32⟩
  | 93 => ⟨S1x1024, .f32⟩
  | 94 => ⟨S_, .f32⟩
  | 95 => ⟨S31x1024, .f32⟩
  | 96 => ⟨S31x1024, .f32⟩
  | 97 => ⟨S_, .f32⟩
  | 98 => ⟨S2078x1024, .f32⟩
  | 99 => ⟨S2078x1024, .f32⟩
  | 100 => ⟨S2048x1024, .f32⟩
  | 101 => ⟨S_, .f32⟩
  | 102 => ⟨S1024, .f32⟩
  | 103 => ⟨S1x1024, .f32⟩
  | 104 => ⟨S2048x1024, .f32⟩
  | 105 => ⟨S2048x1024, .f32⟩
  | 106 => ⟨S_, .f32⟩
  | 107 => ⟨S1024, .f32⟩
  | 108 => ⟨S1x1024, .f32⟩
  | 109 => ⟨S_, .f32⟩
  | 110 => ⟨S31x1024, .f32⟩
  | 111 => ⟨S31x1024, .f32⟩
  | 112 => ⟨S_, .f32⟩
  | 113 => ⟨S2078x1024, .f32⟩
  | 114 => ⟨S2078x1024, .f32⟩
  | 115 => ⟨S2048x1024, .f32⟩
  | 116 => ⟨S_, .f32⟩
  | 117 => ⟨S1024, .f32⟩
  | 118 => ⟨S1x1024, .f32⟩
  | 119 => ⟨S2048x1024, .f32⟩
  | 120 => ⟨S2048x1024, .f32⟩
  | 121 => ⟨S_, .f32⟩
  | 122 => ⟨S1024, .f32⟩
  | 123 => ⟨S1x1024, .f32⟩
  | 124 => ⟨S_, .f32⟩
  | 125 => ⟨S31x1024, .f32⟩
  | 126 => ⟨S31x1024, .f32⟩
  | 127 => ⟨S_, .f32⟩
  | _ => ⟨S2048x6144, .f32⟩

abbrev hbmTy0_5 (i : Nat) : BufTy := match i % 128 with
  | 0 => ⟨S2078x1024, .f32⟩
  | 1 => ⟨S2078x1024, .f32⟩
  | 2 => ⟨S2048x1024, .f32⟩
  | 3 => ⟨S_, .f32⟩
  | 4 => ⟨S1024, .f32⟩
  | 5 => ⟨S1x1024, .f32⟩
  | 6 => ⟨S2048x1024, .f32⟩
  | 7 => ⟨S2048x1024, .f32⟩
  | 8 => ⟨S_, .f32⟩
  | 9 => ⟨S1024, .f32⟩
  | 10 => ⟨S1x1024, .f32⟩
  | 11 => ⟨S_, .f32⟩
  | 12 => ⟨S31x1024, .f32⟩
  | 13 => ⟨S31x1024, .f32⟩
  | 14 => ⟨S_, .f32⟩
  | 15 => ⟨S2078x1024, .f32⟩
  | 16 => ⟨S2078x1024, .f32⟩
  | 17 => ⟨S2048x1024, .f32⟩
  | 18 => ⟨S_, .f32⟩
  | 19 => ⟨S1024, .f32⟩
  | 20 => ⟨S1x1024, .f32⟩
  | 21 => ⟨S2048x1024, .f32⟩
  | 22 => ⟨S2048x1024, .f32⟩
  | 23 => ⟨S_, .f32⟩
  | 24 => ⟨S1024, .f32⟩
  | 25 => ⟨S1x1024, .f32⟩
  | 26 => ⟨S_, .f32⟩
  | 27 => ⟨S31x1024, .f32⟩
  | 28 => ⟨S31x1024, .f32⟩
  | 29 => ⟨S_, .f32⟩
  | 30 => ⟨S2078x1024, .f32⟩
  | 31 => ⟨S2078x1024, .f32⟩
  | 32 => ⟨S2048x1024, .f32⟩
  | 33 => ⟨S_, .f32⟩
  | 34 => ⟨S1024, .f32⟩
  | 35 => ⟨S1x1024, .f32⟩
  | 36 => ⟨S2048x1024, .f32⟩
  | 37 => ⟨S2048x1024, .f32⟩
  | 38 => ⟨S_, .f32⟩
  | 39 => ⟨S1024, .f32⟩
  | 40 => ⟨S1x1024, .f32⟩
  | 41 => ⟨S_, .f32⟩
  | 42 => ⟨S31x1024, .f32⟩
  | 43 => ⟨S31x1024, .f32⟩
  | 44 => ⟨S_, .f32⟩
  | 45 => ⟨S2078x1024, .f32⟩
  | 46 => ⟨S2078x1024, .f32⟩
  | 47 => ⟨S2048x1024, .f32⟩
  | 48 => ⟨S_, .f32⟩
  | 49 => ⟨S1024, .f32⟩
  | 50 => ⟨S1x1024, .f32⟩
  | 51 => ⟨S2048x1024, .f32⟩
  | 52 => ⟨S2048x1024, .f32⟩
  | 53 => ⟨S_, .f32⟩
  | 54 => ⟨S1024, .f32⟩
  | 55 => ⟨S1x1024, .f32⟩
  | 56 => ⟨S_, .f32⟩
  | 57 => ⟨S31x1024, .f32⟩
  | 58 => ⟨S31x1024, .f32⟩
  | 59 => ⟨S_, .f32⟩
  | 60 => ⟨S2078x1024, .f32⟩
  | 61 => ⟨S2078x1024, .f32⟩
  | 62 => ⟨S2048x1024, .f32⟩
  | 63 => ⟨S_, .f32⟩
  | 64 => ⟨S1024, .f32⟩
  | 65 => ⟨S1x1024, .f32⟩
  | 66 => ⟨S2048x1024, .f32⟩
  | 67 => ⟨S2048x1024, .f32⟩
  | 68 => ⟨S_, .f32⟩
  | 69 => ⟨S1024, .f32⟩
  | 70 => ⟨S1x1024, .f32⟩
  | 71 => ⟨S_, .f32⟩
  | 72 => ⟨S31x1024, .f32⟩
  | 73 => ⟨S31x1024, .f32⟩
  | 74 => ⟨S_, .f32⟩
  | 75 => ⟨S2078x1024, .f32⟩
  | 76 => ⟨S2078x1024, .f32⟩
  | 77 => ⟨S30x1024, .f32⟩
  | 78 => ⟨S2048x1024, .f32⟩
  | 79 => ⟨S2048x1024, .f32⟩
  | 80 => ⟨S2048x1024, .f32⟩
  | 81 => ⟨S2048x1024, .f32⟩
  | 82 => ⟨S2048x3072, .bf16⟩
  | 83 => ⟨S2048x1024, .bf16⟩
  | 84 => ⟨S2048x1024, .bf16⟩
  | 85 => ⟨S2048x1024, .bf16⟩
  | 86 => ⟨S2048x6144, .bf16⟩
  | 87 => ⟨S1x1024, .f32⟩
  | _ => ⟨S2048x6144, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_cst_6 : Ref sig .tc := ⟨.hbm, 249, rfl⟩
abbrev main_v238 : Ref sig .tc := ⟨.hbm, 250, rfl⟩
abbrev main_v239 : Ref sig .tc := ⟨.hbm, 251, rfl⟩
abbrev main_cst_7 : Ref sig .tc := ⟨.hbm, 252, rfl⟩
abbrev main_v240 : Ref sig .tc := ⟨.hbm, 253, rfl⟩
abbrev main_v241 : Ref sig .tc := ⟨.hbm, 254, rfl⟩
abbrev main_cst_8 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_cst_9 : Ref sig .tc := ⟨.hbm, 260, rfl⟩
abbrev main_v246 : Ref sig .tc := ⟨.hbm, 261, rfl⟩
abbrev main_v247 : Ref sig .tc := ⟨.hbm, 262, rfl⟩
abbrev main_cst_10 : Ref sig .tc := ⟨.hbm, 263, rfl⟩
abbrev main_v248 : Ref sig .tc := ⟨.hbm, 264, rfl⟩
abbrev main_cst_11 : Ref sig .tc := ⟨.hbm, 265, rfl⟩
abbrev main_v249 : Ref sig .tc := ⟨.hbm, 266, rfl⟩
abbrev main_v250 : Ref sig .tc := ⟨.hbm, 267, rfl⟩
abbrev main_cst_12 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_cst_13 : Ref sig .tc := ⟨.hbm, 273, rfl⟩
abbrev main_v255 : Ref sig .tc := ⟨.hbm, 274, rfl⟩
abbrev main_v256 : Ref sig .tc := ⟨.hbm, 275, rfl⟩
abbrev main_cst_14 : Ref sig .tc := ⟨.hbm, 276, rfl⟩
abbrev main_v257 : Ref sig .tc := ⟨.hbm, 277, rfl⟩
abbrev main_v258 : Ref sig .tc := ⟨.hbm, 278, rfl⟩
abbrev main_cst_15 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_cst_16 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_cst_17 : Ref sig .tc := ⟨.hbm, 288, rfl⟩
abbrev main_v266 : Ref sig .tc := ⟨.hbm, 289, rfl⟩
abbrev main_v267 : Ref sig .tc := ⟨.hbm, 290, rfl⟩
abbrev main_cst_18 : Ref sig .tc := ⟨.hbm, 291, rfl⟩
abbrev main_v268 : Ref sig .tc := ⟨.hbm, 292, rfl⟩
abbrev main_v269 : Ref sig .tc := ⟨.hbm, 293, rfl⟩
abbrev main_cst_19 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_cst_20 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_cst_21 : Ref sig .tc := ⟨.hbm, 303, rfl⟩
abbrev main_v277 : Ref sig .tc := ⟨.hbm, 304, rfl⟩
abbrev main_v278 : Ref sig .tc := ⟨.hbm, 305, rfl⟩
abbrev main_cst_22 : Ref sig .tc := ⟨.hbm, 306, rfl⟩
abbrev main_v279 : Ref sig .tc := ⟨.hbm, 307, rfl⟩
abbrev main_v280 : Ref sig .tc := ⟨.hbm, 308, rfl⟩
abbrev main_cst_23 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_cst_24 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_cst_25 : Ref sig .tc := ⟨.hbm, 318, rfl⟩
abbrev main_v288 : Ref sig .tc := ⟨.hbm, 319, rfl⟩
abbrev main_v289 : Ref sig .tc := ⟨.hbm, 320, rfl⟩
abbrev main_cst_26 : Ref sig .tc := ⟨.hbm, 321, rfl⟩
abbrev main_v290 : Ref sig .tc := ⟨.hbm, 322, rfl⟩
abbrev main_v291 : Ref sig .tc := ⟨.hbm, 323, rfl⟩
abbrev main_cst_27 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_cst_28 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_cst_29 : Ref sig .tc := ⟨.hbm, 333, rfl⟩
abbrev main_v299 : Ref sig .tc := ⟨.hbm, 334, rfl⟩
abbrev main_v300 : Ref sig .tc := ⟨.hbm, 335, rfl⟩
abbrev main_cst_30 : Ref sig .tc := ⟨.hbm, 336, rfl⟩
abbrev main_v301 : Ref sig .tc := ⟨.hbm, 337, rfl⟩
abbrev main_v302 : Ref sig .tc := ⟨.hbm, 338, rfl⟩
abbrev main_cst_31 : Ref sig .tc := ⟨.hbm, 339, rfl⟩
abbrev main_v303 : Ref sig .tc := ⟨.hbm, 340, rfl⟩
abbrev main_v304 : Ref sig .tc := ⟨.hbm, 341, rfl⟩
abbrev main_v305 : Ref sig .tc := ⟨.hbm, 342, rfl⟩
abbrev main_cst_32 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_cst_33 : Ref sig .tc := ⟨.hbm, 348, rfl⟩
abbrev main_v310 : Ref sig .tc := ⟨.hbm, 349, rfl⟩
abbrev main_v311 : Ref sig .tc := ⟨.hbm, 350, rfl⟩
abbrev main_cst_34 : Ref sig .tc := ⟨.hbm, 351, rfl⟩
abbrev main_v312 : Ref sig .tc := ⟨.hbm, 352, rfl⟩
abbrev main_v313 : Ref sig .tc := ⟨.hbm, 353, rfl⟩
abbrev main_cst_35 : Ref sig .tc := ⟨.hbm, 354, rfl⟩
abbrev main_v314 : Ref sig .tc := ⟨.hbm, 355, rfl⟩
abbrev main_v315 : Ref sig .tc := ⟨.hbm, 356, rfl⟩
abbrev main_v316 : Ref sig .tc := ⟨.hbm, 357, rfl⟩
abbrev main_cst_36 : Ref sig .tc := ⟨.hbm, 358, rfl⟩
abbrev main_v317 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_cst_37 : Ref sig .tc := ⟨.hbm, 363, rfl⟩
abbrev main_v321 : Ref sig .tc := ⟨.hbm, 364, rfl⟩
abbrev main_v322 : Ref sig .tc := ⟨.hbm, 365, rfl⟩
abbrev main_cst_38 : Ref sig .tc := ⟨.hbm, 366, rfl⟩
abbrev main_v323 : Ref sig .tc := ⟨.hbm, 367, rfl⟩
abbrev main_v324 : Ref sig .tc := ⟨.hbm, 368, rfl⟩
abbrev main_cst_39 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_cst_40 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_cst_41 : Ref sig .tc := ⟨.hbm, 378, rfl⟩
abbrev main_v332 : Ref sig .tc := ⟨.hbm, 379, rfl⟩
abbrev main_v333 : Ref sig .tc := ⟨.hbm, 380, rfl⟩
abbrev main_cst_42 : Ref sig .tc := ⟨.hbm, 381, rfl⟩
abbrev main_v334 : Ref sig .tc := ⟨.hbm, 382, rfl⟩
abbrev main_v335 : Ref sig .tc := ⟨.hbm, 383, rfl⟩
abbrev main_cst_43 : Ref sig .tc := ⟨.hbm, 384, rfl⟩
abbrev main_v336 : Ref sig .tc := ⟨.hbm, 385, rfl⟩
abbrev main_v337 : Ref sig .tc := ⟨.hbm, 386, rfl⟩
abbrev main_v338 : Ref sig .tc := ⟨.hbm, 387, rfl⟩
abbrev main_cst_44 : Ref sig .tc := ⟨.hbm, 388, rfl⟩
abbrev main_v339 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_cst_45 : Ref sig .tc := ⟨.hbm, 393, rfl⟩
abbrev main_v343 : Ref sig .tc := ⟨.hbm, 394, rfl⟩
abbrev main_v344 : Ref sig .tc := ⟨.hbm, 395, rfl⟩
abbrev main_cst_46 : Ref sig .tc := ⟨.hbm, 396, rfl⟩
abbrev main_v345 : Ref sig .tc := ⟨.hbm, 397, rfl⟩
abbrev main_v346 : Ref sig .tc := ⟨.hbm, 398, rfl⟩
abbrev main_cst_47 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩
abbrev main_cst_48 : Ref sig .tc := ⟨.hbm, 403, rfl⟩
abbrev main_v350 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_cst_49 : Ref sig .tc := ⟨.hbm, 408, rfl⟩
abbrev main_v354 : Ref sig .tc := ⟨.hbm, 409, rfl⟩
abbrev main_v355 : Ref sig .tc := ⟨.hbm, 410, rfl⟩
abbrev main_cst_50 : Ref sig .tc := ⟨.hbm, 411, rfl⟩
abbrev main_v356 : Ref sig .tc := ⟨.hbm, 412, rfl⟩
abbrev main_v357 : Ref sig .tc := ⟨.hbm, 413, rfl⟩
abbrev main_cst_51 : Ref sig .tc := ⟨.hbm, 414, rfl⟩
abbrev main_v358 : Ref sig .tc := ⟨.hbm, 415, rfl⟩
abbrev main_v359 : Ref sig .tc := ⟨.hbm, 416, rfl⟩
abbrev main_v360 : Ref sig .tc := ⟨.hbm, 417, rfl⟩
abbrev main_cst_52 : Ref sig .tc := ⟨.hbm, 418, rfl⟩
abbrev main_v361 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_cst_53 : Ref sig .tc := ⟨.hbm, 423, rfl⟩
abbrev main_v365 : Ref sig .tc := ⟨.hbm, 424, rfl⟩
abbrev main_v366 : Ref sig .tc := ⟨.hbm, 425, rfl⟩
abbrev main_cst_54 : Ref sig .tc := ⟨.hbm, 426, rfl⟩
abbrev main_v367 : Ref sig .tc := ⟨.hbm, 427, rfl⟩
abbrev main_v368 : Ref sig .tc := ⟨.hbm, 428, rfl⟩
abbrev main_cst_55 : Ref sig .tc := ⟨.hbm, 429, rfl⟩
abbrev main_v369 : Ref sig .tc := ⟨.hbm, 430, rfl⟩
abbrev main_v370 : Ref sig .tc := ⟨.hbm, 431, rfl⟩
abbrev main_v371 : Ref sig .tc := ⟨.hbm, 432, rfl⟩
abbrev main_cst_56 : Ref sig .tc := ⟨.hbm, 433, rfl⟩
abbrev main_v372 : Ref sig .tc := ⟨.hbm, 434, rfl⟩
abbrev main_v373 : Ref sig .tc := ⟨.hbm, 435, rfl⟩
abbrev main_v374 : Ref sig .tc := ⟨.hbm, 436, rfl⟩
abbrev main_v375 : Ref sig .tc := ⟨.hbm, 437, rfl⟩
abbrev main_cst_57 : Ref sig .tc := ⟨.hbm, 438, rfl⟩
abbrev main_v376 : Ref sig .tc := ⟨.hbm, 439, rfl⟩
abbrev main_v377 : Ref sig .tc := ⟨.hbm, 440, rfl⟩
abbrev main_cst_58 : Ref sig .tc := ⟨.hbm, 441, rfl⟩
abbrev main_v378 : Ref sig .tc := ⟨.hbm, 442, rfl⟩
abbrev main_v379 : Ref sig .tc := ⟨.hbm, 443, rfl⟩
abbrev main_cst_59 : Ref sig .tc := ⟨.hbm, 444, rfl⟩
abbrev main_v380 : Ref sig .tc := ⟨.hbm, 445, rfl⟩
abbrev main_v381 : Ref sig .tc := ⟨.hbm, 446, rfl⟩
abbrev main_v382 : Ref sig .tc := ⟨.hbm, 447, rfl⟩
abbrev main_cst_60 : Ref sig .tc := ⟨.hbm, 448, rfl⟩
abbrev main_v383 : Ref sig .tc := ⟨.hbm, 449, rfl⟩
abbrev main_v384 : Ref sig .tc := ⟨.hbm, 450, rfl⟩
abbrev main_v385 : Ref sig .tc := ⟨.hbm, 451, rfl⟩
abbrev main_v386 : Ref sig .tc := ⟨.hbm, 452, rfl⟩
abbrev main_cst_61 : Ref sig .tc := ⟨.hbm, 453, rfl⟩
abbrev main_v387 : Ref sig .tc := ⟨.hbm, 454, rfl⟩
abbrev main_v388 : Ref sig .tc := ⟨.hbm, 455, rfl⟩
abbrev main_cst_62 : Ref sig .tc := ⟨.hbm, 456, rfl⟩
abbrev main_v389 : Ref sig .tc := ⟨.hbm, 457, rfl⟩
abbrev main_v390 : Ref sig .tc := ⟨.hbm, 458, rfl⟩
abbrev main_cst_63 : Ref sig .tc := ⟨.hbm, 459, rfl⟩
abbrev main_v391 : Ref sig .tc := ⟨.hbm, 460, rfl⟩
abbrev main_v392 : Ref sig .tc := ⟨.hbm, 461, rfl⟩
abbrev main_v393 : Ref sig .tc := ⟨.hbm, 462, rfl⟩
abbrev main_cst_64 : Ref sig .tc := ⟨.hbm, 463, rfl⟩
abbrev main_v394 : Ref sig .tc := ⟨.hbm, 464, rfl⟩
abbrev main_v395 : Ref sig .tc := ⟨.hbm, 465, rfl⟩
abbrev main_v396 : Ref sig .tc := ⟨.hbm, 466, rfl⟩
abbrev main_v397 : Ref sig .tc := ⟨.hbm, 467, rfl⟩
abbrev main_cst_65 : Ref sig .tc := ⟨.hbm, 468, rfl⟩
abbrev main_v398 : Ref sig .tc := ⟨.hbm, 469, rfl⟩
abbrev main_v399 : Ref sig .tc := ⟨.hbm, 470, rfl⟩
abbrev main_cst_66 : Ref sig .tc := ⟨.hbm, 471, rfl⟩
abbrev main_v400 : Ref sig .tc := ⟨.hbm, 472, rfl⟩
abbrev main_v401 : Ref sig .tc := ⟨.hbm, 473, rfl⟩
abbrev main_cst_67 : Ref sig .tc := ⟨.hbm, 474, rfl⟩
abbrev main_v402 : Ref sig .tc := ⟨.hbm, 475, rfl⟩
abbrev main_v403 : Ref sig .tc := ⟨.hbm, 476, rfl⟩
abbrev main_v404 : Ref sig .tc := ⟨.hbm, 477, rfl⟩
abbrev main_cst_68 : Ref sig .tc := ⟨.hbm, 478, rfl⟩
abbrev main_v405 : Ref sig .tc := ⟨.hbm, 479, rfl⟩
abbrev main_v406 : Ref sig .tc := ⟨.hbm, 480, rfl⟩
abbrev main_v407 : Ref sig .tc := ⟨.hbm, 481, rfl⟩
abbrev main_v408 : Ref sig .tc := ⟨.hbm, 482, rfl⟩
abbrev main_cst_69 : Ref sig .tc := ⟨.hbm, 483, rfl⟩
abbrev main_v409 : Ref sig .tc := ⟨.hbm, 484, rfl⟩
abbrev main_v410 : Ref sig .tc := ⟨.hbm, 485, rfl⟩
abbrev main_cst_70 : Ref sig .tc := ⟨.hbm, 486, rfl⟩
abbrev main_v411 : Ref sig .tc := ⟨.hbm, 487, rfl⟩
abbrev main_v412 : Ref sig .tc := ⟨.hbm, 488, rfl⟩
abbrev main_cst_71 : Ref sig .tc := ⟨.hbm, 489, rfl⟩
abbrev main_v413 : Ref sig .tc := ⟨.hbm, 490, rfl⟩
abbrev main_v414 : Ref sig .tc := ⟨.hbm, 491, rfl⟩
abbrev main_v415 : Ref sig .tc := ⟨.hbm, 492, rfl⟩
abbrev main_cst_72 : Ref sig .tc := ⟨.hbm, 493, rfl⟩
abbrev main_v416 : Ref sig .tc := ⟨.hbm, 494, rfl⟩
abbrev main_v417 : Ref sig .tc := ⟨.hbm, 495, rfl⟩
abbrev main_v418 : Ref sig .tc := ⟨.hbm, 496, rfl⟩
abbrev main_v419 : Ref sig .tc := ⟨.hbm, 497, rfl⟩
abbrev main_cst_73 : Ref sig .tc := ⟨.hbm, 498, rfl⟩
abbrev main_v420 : Ref sig .tc := ⟨.hbm, 499, rfl⟩
abbrev main_v421 : Ref sig .tc := ⟨.hbm, 500, rfl⟩
abbrev main_cst_74 : Ref sig .tc := ⟨.hbm, 501, rfl⟩
abbrev main_v422 : Ref sig .tc := ⟨.hbm, 502, rfl⟩
abbrev main_v423 : Ref sig .tc := ⟨.hbm, 503, rfl⟩
abbrev main_cst_75 : Ref sig .tc := ⟨.hbm, 504, rfl⟩
abbrev main_v424 : Ref sig .tc := ⟨.hbm, 505, rfl⟩
abbrev main_v425 : Ref sig .tc := ⟨.hbm, 506, rfl⟩
abbrev main_v426 : Ref sig .tc := ⟨.hbm, 507, rfl⟩
abbrev main_cst_76 : Ref sig .tc := ⟨.hbm, 508, rfl⟩
abbrev main_v427 : Ref sig .tc := ⟨.hbm, 509, rfl⟩
abbrev main_v428 : Ref sig .tc := ⟨.hbm, 510, rfl⟩
abbrev main_v429 : Ref sig .tc := ⟨.hbm, 511, rfl⟩
abbrev main_v430 : Ref sig .tc := ⟨.hbm, 512, rfl⟩
abbrev main_cst_77 : Ref sig .tc := ⟨.hbm, 513, rfl⟩
abbrev main_v431 : Ref sig .tc := ⟨.hbm, 514, rfl⟩
abbrev main_v432 : Ref sig .tc := ⟨.hbm, 515, rfl⟩
abbrev main_cst_78 : Ref sig .tc := ⟨.hbm, 516, rfl⟩
abbrev main_v433 : Ref sig .tc := ⟨.hbm, 517, rfl⟩
abbrev main_v434 : Ref sig .tc := ⟨.hbm, 518, rfl⟩
abbrev main_cst_79 : Ref sig .tc := ⟨.hbm, 519, rfl⟩
abbrev main_v435 : Ref sig .tc := ⟨.hbm, 520, rfl⟩
abbrev main_v436 : Ref sig .tc := ⟨.hbm, 521, rfl⟩
abbrev main_v437 : Ref sig .tc := ⟨.hbm, 522, rfl⟩
abbrev main_cst_80 : Ref sig .tc := ⟨.hbm, 523, rfl⟩
abbrev main_v438 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_cst_81 : Ref sig .tc := ⟨.hbm, 528, rfl⟩
abbrev main_v442 : Ref sig .tc := ⟨.hbm, 529, rfl⟩
abbrev main_v443 : Ref sig .tc := ⟨.hbm, 530, rfl⟩
abbrev main_cst_82 : Ref sig .tc := ⟨.hbm, 531, rfl⟩
abbrev main_v444 : Ref sig .tc := ⟨.hbm, 532, rfl⟩
abbrev main_v445 : Ref sig .tc := ⟨.hbm, 533, rfl⟩
abbrev main_cst_83 : Ref sig .tc := ⟨.hbm, 534, rfl⟩
abbrev main_v446 : Ref sig .tc := ⟨.hbm, 535, rfl⟩
abbrev main_v447 : Ref sig .tc := ⟨.hbm, 536, rfl⟩
abbrev main_v448 : Ref sig .tc := ⟨.hbm, 537, rfl⟩
abbrev main_cst_84 : Ref sig .tc := ⟨.hbm, 538, rfl⟩
abbrev main_v449 : Ref sig .tc := ⟨.hbm, 539, rfl⟩
abbrev main_v450 : Ref sig .tc := ⟨.hbm, 540, rfl⟩
abbrev main_v451 : Ref sig .tc := ⟨.hbm, 541, rfl⟩
abbrev main_v452 : Ref sig .tc := ⟨.hbm, 542, rfl⟩
abbrev main_cst_85 : Ref sig .tc := ⟨.hbm, 543, rfl⟩
abbrev main_v453 : Ref sig .tc := ⟨.hbm, 544, rfl⟩
abbrev main_v454 : Ref sig .tc := ⟨.hbm, 545, rfl⟩
abbrev main_cst_86 : Ref sig .tc := ⟨.hbm, 546, rfl⟩
abbrev main_v455 : Ref sig .tc := ⟨.hbm, 547, rfl⟩
abbrev main_v456 : Ref sig .tc := ⟨.hbm, 548, rfl⟩
abbrev main_cst_87 : Ref sig .tc := ⟨.hbm, 549, rfl⟩
abbrev main_v457 : Ref sig .tc := ⟨.hbm, 550, rfl⟩
abbrev main_v458 : Ref sig .tc := ⟨.hbm, 551, rfl⟩
abbrev main_v459 : Ref sig .tc := ⟨.hbm, 552, rfl⟩
abbrev main_cst_88 : Ref sig .tc := ⟨.hbm, 553, rfl⟩
abbrev main_v460 : Ref sig .tc := ⟨.hbm, 554, rfl⟩
abbrev main_v461 : Ref sig .tc := ⟨.hbm, 555, rfl⟩
abbrev main_v462 : Ref sig .tc := ⟨.hbm, 556, rfl⟩
abbrev main_v463 : Ref sig .tc := ⟨.hbm, 557, rfl⟩
abbrev main_cst_89 : Ref sig .tc := ⟨.hbm, 558, rfl⟩
abbrev main_v464 : Ref sig .tc := ⟨.hbm, 559, rfl⟩
abbrev main_v465 : Ref sig .tc := ⟨.hbm, 560, rfl⟩
abbrev main_cst_90 : Ref sig .tc := ⟨.hbm, 561, rfl⟩
abbrev main_v466 : Ref sig .tc := ⟨.hbm, 562, rfl⟩
abbrev main_v467 : Ref sig .tc := ⟨.hbm, 563, rfl⟩
abbrev main_cst_91 : Ref sig .tc := ⟨.hbm, 564, rfl⟩
abbrev main_v468 : Ref sig .tc := ⟨.hbm, 565, rfl⟩
abbrev main_v469 : Ref sig .tc := ⟨.hbm, 566, rfl⟩
abbrev main_v470 : Ref sig .tc := ⟨.hbm, 567, rfl⟩
abbrev main_cst_92 : Ref sig .tc := ⟨.hbm, 568, rfl⟩
abbrev main_v471 : Ref sig .tc := ⟨.hbm, 569, rfl⟩
abbrev main_v472 : Ref sig .tc := ⟨.hbm, 570, rfl⟩
abbrev main_v473 : Ref sig .tc := ⟨.hbm, 571, rfl⟩
abbrev main_v474 : Ref sig .tc := ⟨.hbm, 572, rfl⟩
abbrev main_cst_93 : Ref sig .tc := ⟨.hbm, 573, rfl⟩
abbrev main_v475 : Ref sig .tc := ⟨.hbm, 574, rfl⟩
abbrev main_v476 : Ref sig .tc := ⟨.hbm, 575, rfl⟩
abbrev main_cst_94 : Ref sig .tc := ⟨.hbm, 576, rfl⟩
abbrev main_v477 : Ref sig .tc := ⟨.hbm, 577, rfl⟩
abbrev main_v478 : Ref sig .tc := ⟨.hbm, 578, rfl⟩
abbrev main_cst_95 : Ref sig .tc := ⟨.hbm, 579, rfl⟩
abbrev main_v479 : Ref sig .tc := ⟨.hbm, 580, rfl⟩
abbrev main_v480 : Ref sig .tc := ⟨.hbm, 581, rfl⟩
abbrev main_v481 : Ref sig .tc := ⟨.hbm, 582, rfl⟩
abbrev main_cst_96 : Ref sig .tc := ⟨.hbm, 583, rfl⟩
abbrev main_v482 : Ref sig .tc := ⟨.hbm, 584, rfl⟩
abbrev main_v483 : Ref sig .tc := ⟨.hbm, 585, rfl⟩
abbrev main_v484 : Ref sig .tc := ⟨.hbm, 586, rfl⟩
abbrev main_v485 : Ref sig .tc := ⟨.hbm, 587, rfl⟩
abbrev main_cst_97 : Ref sig .tc := ⟨.hbm, 588, rfl⟩
abbrev main_v486 : Ref sig .tc := ⟨.hbm, 589, rfl⟩
abbrev main_v487 : Ref sig .tc := ⟨.hbm, 590, rfl⟩
abbrev main_cst_98 : Ref sig .tc := ⟨.hbm, 591, rfl⟩
abbrev main_v488 : Ref sig .tc := ⟨.hbm, 592, rfl⟩
abbrev main_v489 : Ref sig .tc := ⟨.hbm, 593, rfl⟩
abbrev main_cst_99 : Ref sig .tc := ⟨.hbm, 594, rfl⟩
abbrev main_v490 : Ref sig .tc := ⟨.hbm, 595, rfl⟩
abbrev main_v491 : Ref sig .tc := ⟨.hbm, 596, rfl⟩
abbrev main_v492 : Ref sig .tc := ⟨.hbm, 597, rfl⟩
abbrev main_cst_100 : Ref sig .tc := ⟨.hbm, 598, rfl⟩
abbrev main_v493 : Ref sig .tc := ⟨.hbm, 599, rfl⟩
abbrev main_v494 : Ref sig .tc := ⟨.hbm, 600, rfl⟩
abbrev main_v495 : Ref sig .tc := ⟨.hbm, 601, rfl⟩
abbrev main_v496 : Ref sig .tc := ⟨.hbm, 602, rfl⟩
abbrev main_cst_101 : Ref sig .tc := ⟨.hbm, 603, rfl⟩
abbrev main_v497 : Ref sig .tc := ⟨.hbm, 604, rfl⟩
abbrev main_v498 : Ref sig .tc := ⟨.hbm, 605, rfl⟩
abbrev main_cst_102 : Ref sig .tc := ⟨.hbm, 606, rfl⟩
abbrev main_v499 : Ref sig .tc := ⟨.hbm, 607, rfl⟩
abbrev main_v500 : Ref sig .tc := ⟨.hbm, 608, rfl⟩
abbrev main_cst_103 : Ref sig .tc := ⟨.hbm, 609, rfl⟩
abbrev main_v501 : Ref sig .tc := ⟨.hbm, 610, rfl⟩
abbrev main_v502 : Ref sig .tc := ⟨.hbm, 611, rfl⟩
abbrev main_v503 : Ref sig .tc := ⟨.hbm, 612, rfl⟩
abbrev main_cst_104 : Ref sig .tc := ⟨.hbm, 613, rfl⟩
abbrev main_v504 : Ref sig .tc := ⟨.hbm, 614, rfl⟩
abbrev main_v505 : Ref sig .tc := ⟨.hbm, 615, rfl⟩
abbrev main_v506 : Ref sig .tc := ⟨.hbm, 616, rfl⟩
abbrev main_v507 : Ref sig .tc := ⟨.hbm, 617, rfl⟩
abbrev main_cst_105 : Ref sig .tc := ⟨.hbm, 618, rfl⟩
abbrev main_v508 : Ref sig .tc := ⟨.hbm, 619, rfl⟩
abbrev main_v509 : Ref sig .tc := ⟨.hbm, 620, rfl⟩
abbrev main_cst_106 : Ref sig .tc := ⟨.hbm, 621, rfl⟩
abbrev main_v510 : Ref sig .tc := ⟨.hbm, 622, rfl⟩
abbrev main_v511 : Ref sig .tc := ⟨.hbm, 623, rfl⟩
abbrev main_cst_107 : Ref sig .tc := ⟨.hbm, 624, rfl⟩
abbrev main_v512 : Ref sig .tc := ⟨.hbm, 625, rfl⟩
abbrev main_v513 : Ref sig .tc := ⟨.hbm, 626, rfl⟩
abbrev main_v514 : Ref sig .tc := ⟨.hbm, 627, rfl⟩
abbrev main_cst_108 : Ref sig .tc := ⟨.hbm, 628, rfl⟩
abbrev main_v515 : Ref sig .tc := ⟨.hbm, 629, rfl⟩
abbrev main_v516 : Ref sig .tc := ⟨.hbm, 630, rfl⟩
abbrev main_v517 : Ref sig .tc := ⟨.hbm, 631, rfl⟩
abbrev main_v518 : Ref sig .tc := ⟨.hbm, 632, rfl⟩
abbrev main_cst_109 : Ref sig .tc := ⟨.hbm, 633, rfl⟩
abbrev main_v519 : Ref sig .tc := ⟨.hbm, 634, rfl⟩
abbrev main_v520 : Ref sig .tc := ⟨.hbm, 635, rfl⟩
abbrev main_cst_110 : Ref sig .tc := ⟨.hbm, 636, rfl⟩
abbrev main_v521 : Ref sig .tc := ⟨.hbm, 637, rfl⟩
abbrev main_v522 : Ref sig .tc := ⟨.hbm, 638, rfl⟩
abbrev main_cst_111 : Ref sig .tc := ⟨.hbm, 639, rfl⟩
abbrev main_v523 : Ref sig .tc := ⟨.hbm, 640, rfl⟩
abbrev main_v524 : Ref sig .tc := ⟨.hbm, 641, rfl⟩
abbrev main_v525 : Ref sig .tc := ⟨.hbm, 642, rfl⟩
abbrev main_cst_112 : Ref sig .tc := ⟨.hbm, 643, rfl⟩
abbrev main_v526 : Ref sig .tc := ⟨.hbm, 644, rfl⟩
abbrev main_v527 : Ref sig .tc := ⟨.hbm, 645, rfl⟩
abbrev main_v528 : Ref sig .tc := ⟨.hbm, 646, rfl⟩
abbrev main_v529 : Ref sig .tc := ⟨.hbm, 647, rfl⟩
abbrev main_cst_113 : Ref sig .tc := ⟨.hbm, 648, rfl⟩
abbrev main_v530 : Ref sig .tc := ⟨.hbm, 649, rfl⟩
abbrev main_v531 : Ref sig .tc := ⟨.hbm, 650, rfl⟩
abbrev main_cst_114 : Ref sig .tc := ⟨.hbm, 651, rfl⟩
abbrev main_v532 : Ref sig .tc := ⟨.hbm, 652, rfl⟩
abbrev main_v533 : Ref sig .tc := ⟨.hbm, 653, rfl⟩
abbrev main_cst_115 : Ref sig .tc := ⟨.hbm, 654, rfl⟩
abbrev main_v534 : Ref sig .tc := ⟨.hbm, 655, rfl⟩
abbrev main_v535 : Ref sig .tc := ⟨.hbm, 656, rfl⟩
abbrev main_v536 : Ref sig .tc := ⟨.hbm, 657, rfl⟩
abbrev main_cst_116 : Ref sig .tc := ⟨.hbm, 658, rfl⟩
abbrev main_v537 : Ref sig .tc := ⟨.hbm, 659, rfl⟩
abbrev main_v538 : Ref sig .tc := ⟨.hbm, 660, rfl⟩
abbrev main_v539 : Ref sig .tc := ⟨.hbm, 661, rfl⟩
abbrev main_v540 : Ref sig .tc := ⟨.hbm, 662, rfl⟩
abbrev main_cst_117 : Ref sig .tc := ⟨.hbm, 663, rfl⟩
abbrev main_v541 : Ref sig .tc := ⟨.hbm, 664, rfl⟩
abbrev main_v542 : Ref sig .tc := ⟨.hbm, 665, rfl⟩
abbrev main_cst_118 : Ref sig .tc := ⟨.hbm, 666, rfl⟩
abbrev main_v543 : Ref sig .tc := ⟨.hbm, 667, rfl⟩
abbrev main_v544 : Ref sig .tc := ⟨.hbm, 668, rfl⟩
abbrev main_cst_119 : Ref sig .tc := ⟨.hbm, 669, rfl⟩
abbrev main_v545 : Ref sig .tc := ⟨.hbm, 670, rfl⟩
abbrev main_v546 : Ref sig .tc := ⟨.hbm, 671, rfl⟩
abbrev main_v547 : Ref sig .tc := ⟨.hbm, 672, rfl⟩
abbrev main_cst_120 : Ref sig .tc := ⟨.hbm, 673, rfl⟩
abbrev main_v548 : Ref sig .tc := ⟨.hbm, 674, rfl⟩
abbrev main_v549 : Ref sig .tc := ⟨.hbm, 675, rfl⟩
abbrev main_v550 : Ref sig .tc := ⟨.hbm, 676, rfl⟩
abbrev main_v551 : Ref sig .tc := ⟨.hbm, 677, rfl⟩
abbrev main_cst_121 : Ref sig .tc := ⟨.hbm, 678, rfl⟩
abbrev main_v552 : Ref sig .tc := ⟨.hbm, 679, rfl⟩
abbrev main_v553 : Ref sig .tc := ⟨.hbm, 680, rfl⟩
abbrev main_cst_122 : Ref sig .tc := ⟨.hbm, 681, rfl⟩
abbrev main_v554 : Ref sig .tc := ⟨.hbm, 682, rfl⟩
abbrev main_v555 : Ref sig .tc := ⟨.hbm, 683, rfl⟩
abbrev main_cst_123 : Ref sig .tc := ⟨.hbm, 684, rfl⟩
abbrev main_v556 : Ref sig .tc := ⟨.hbm, 685, rfl⟩
abbrev main_v557 : Ref sig .tc := ⟨.hbm, 686, rfl⟩
abbrev main_v558 : Ref sig .tc := ⟨.hbm, 687, rfl⟩
abbrev main_cst_124 : Ref sig .tc := ⟨.hbm, 688, rfl⟩
abbrev main_v559 : Ref sig .tc := ⟨.hbm, 689, rfl⟩
abbrev main_v560 : Ref sig .tc := ⟨.hbm, 690, rfl⟩
abbrev main_v561 : Ref sig .tc := ⟨.hbm, 691, rfl⟩
abbrev main_v562 : Ref sig .tc := ⟨.hbm, 692, rfl⟩
abbrev main_cst_125 : Ref sig .tc := ⟨.hbm, 693, rfl⟩
abbrev main_v563 : Ref sig .tc := ⟨.hbm, 694, rfl⟩
abbrev main_v564 : Ref sig .tc := ⟨.hbm, 695, rfl⟩
abbrev main_cst_126 : Ref sig .tc := ⟨.hbm, 696, rfl⟩
abbrev main_v565 : Ref sig .tc := ⟨.hbm, 697, rfl⟩
abbrev main_v566 : Ref sig .tc := ⟨.hbm, 698, rfl⟩
abbrev main_cst_127 : Ref sig .tc := ⟨.hbm, 699, rfl⟩
abbrev main_v567 : Ref sig .tc := ⟨.hbm, 700, rfl⟩
abbrev main_v568 : Ref sig .tc := ⟨.hbm, 701, rfl⟩
abbrev main_v569 : Ref sig .tc := ⟨.hbm, 702, rfl⟩
abbrev main_cst_128 : Ref sig .tc := ⟨.hbm, 703, rfl⟩
abbrev main_v570 : Ref sig .tc := ⟨.hbm, 704, rfl⟩
abbrev main_v571 : Ref sig .tc := ⟨.hbm, 705, rfl⟩
abbrev main_v572 : Ref sig .tc := ⟨.hbm, 706, rfl⟩
abbrev main_v573 : Ref sig .tc := ⟨.hbm, 707, rfl⟩
abbrev main_cst_129 : Ref sig .tc := ⟨.hbm, 708, rfl⟩
abbrev main_v574 : Ref sig .tc := ⟨.hbm, 709, rfl⟩
abbrev main_v575 : Ref sig .tc := ⟨.hbm, 710, rfl⟩
abbrev main_cst_130 : Ref sig .tc := ⟨.hbm, 711, rfl⟩
abbrev main_v576 : Ref sig .tc := ⟨.hbm, 712, rfl⟩
abbrev main_v577 : Ref sig .tc := ⟨.hbm, 713, rfl⟩
abbrev main_cst_131 : Ref sig .tc := ⟨.hbm, 714, rfl⟩
abbrev main_v578 : Ref sig .tc := ⟨.hbm, 715, rfl⟩
abbrev main_v579 : Ref sig .tc := ⟨.hbm, 716, rfl⟩
abbrev main_v580 : Ref sig .tc := ⟨.hbm, 717, rfl⟩
abbrev main_v581 : Ref sig .tc := ⟨.hbm, 718, rfl⟩
abbrev main_v582 : Ref sig .tc := ⟨.hbm, 719, rfl⟩
abbrev main_v583 : Ref sig .tc := ⟨.hbm, 720, rfl⟩
abbrev main_v584 : Ref sig .tc := ⟨.hbm, 721, rfl⟩
abbrev main_v585 : Ref sig .tc := ⟨.hbm, 722, rfl⟩
abbrev main_v586 : Ref sig .tc := ⟨.hbm, 723, rfl⟩
abbrev main_v587 : Ref sig .tc := ⟨.hbm, 724, rfl⟩
abbrev main_v588 : Ref sig .tc := ⟨.hbm, 725, rfl⟩
abbrev main_v589 : Ref sig .tc := ⟨.hbm, 726, rfl⟩
abbrev main_v590 : Ref sig .tc := ⟨.hbm, 727, rfl⟩

abbrev nD : Nat := 1
abbrev τ : Topo := Topo.v7x

variable {F : FTy → Type} [FloatOps F]
-- ==== Kernel2.lean ====
abbrev S2048x2048 : Shape := ⟨2, ![2048, 2048]⟩
abbrev S2048x6144 : Shape := ⟨2, ![2048, 6144]⟩
abbrev S4x2048x1536 : Shape := ⟨3, ![4, 2048, 1536]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S4x2048x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2048x2048 : Shape := ⟨2, ![2048, 2048]⟩
abbrev S2048x6144 : Shape := ⟨2, ![2048, 6144]⟩
abbrev S_ : Shape := ⟨0, ![]⟩
abbrev S4x2048x1536 : Shape := ⟨3, ![4, 2048, 1536]⟩
abbrev S2048x4x1536 : Shape := ⟨3, ![2048, 4, 1536]⟩
abbrev S6144x2048 : Shape := ⟨2, ![6144, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S_, .bf16⟩
  | .hbm, ⟨3, _⟩ => ⟨S4x2048x1536, .bf16⟩
  | .hbm, ⟨4, _⟩ => ⟨S4x2048x1536, .f32⟩
  | .hbm, ⟨5, _⟩ => ⟨S2048x2048, .f32⟩
  | .hbm, ⟨6, _⟩ => ⟨S2048x4x1536, .f32⟩
  | .hbm, ⟨7, _⟩ => ⟨S2048x6144, .f32⟩
  | .hbm, ⟨8, _⟩ => ⟨S2048x6144, .f32⟩
  | .hbm, ⟨9, _⟩ => ⟨S2048x6144, .f32⟩
  | .hbm, ⟨10, _⟩ => ⟨S6144x2048, .f32⟩
  | .hbm, ⟨11, _⟩ => ⟨S2048x6144, .f32⟩
  | .hbm, ⟨12, _⟩ => ⟨S2048x4x1536, .f32⟩
  | .hbm, ⟨13, _⟩ => ⟨S4x2048x1536, .f32⟩
  | .hbm, ⟨14, _⟩ => ⟨S4x2048x1536, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel3.lean ====
abbrev S2048x6144 : Shape := ⟨2, ![2048, 6144]⟩
abbrev S4x2048x1536 : Shape := ⟨3, ![4, 2048, 1536]⟩
abbrev S8x128 : Shape := ⟨2, ![8, 128]⟩
abbrev S2048x2048 : Shape := ⟨2, ![2048, 2048]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S4x2048x1536, .bf16⟩
  | .hbm, ⟨2, _⟩ => ⟨S8x128, .f32⟩
  | .hbm, ⟨3, _⟩ => ⟨S2048x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x6144 : Shape := ⟨2, ![2048, 6144]⟩
abbrev S4x2048x1536 : Shape := ⟨3, ![4, 2048, 1536]⟩
abbrev S8x128 : Shape := ⟨2, ![8, 128]⟩
abbrev S_ : Shape := ⟨0, ![]⟩
abbrev S2048x2048 : Shape := ⟨2, ![2048, 2048]⟩
abbrev S2048x4x1536 : Shape := ⟨3, ![2048, 4, 1536]⟩

abbrev nBuf : Space → Nat
  | .hbm => 13
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S4x2048x1536, .bf16⟩
  | .hbm, ⟨2, _⟩ => ⟨S8x128, .f32⟩
  | .hbm, ⟨3, _⟩ => ⟨S_, .bf16⟩
  | .hbm, ⟨4, _⟩ => ⟨S2048x2048, .bf16⟩
  | .hbm, ⟨5, _⟩ => ⟨S2048x2048, .f32⟩
  | .hbm, ⟨6, _⟩ => ⟨S4x2048x1536, .f32⟩
  | .hbm, ⟨7, _⟩ => ⟨S2048x4x1536, .f32⟩
  | .hbm, ⟨8, _⟩ => ⟨S2048x6144, .f32⟩
  | .hbm, ⟨9, _⟩ => ⟨S2048x6144, .f32⟩
  | .hbm, ⟨10, _⟩ => ⟨S2048x6144, .f32⟩
  | .hbm, ⟨11, _⟩ => ⟨S2048x2048, .f32⟩
  | .hbm, ⟨12, _⟩ => ⟨S2048x2048, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S2048x2048 : Shape := ⟨2, ![2048, 2048]⟩
abbrev S2048x12288 : Shape := ⟨2, ![2048, 12288]⟩
abbrev S4x2048x3072 : Shape := ⟨3, ![4, 2048, 3072]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S4x2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x2048 : Shape := ⟨2, ![2048, 2048]⟩
abbrev S2048x12288 : Shape := ⟨2, ![2048, 12288]⟩
abbrev S_ : Shape := ⟨0, ![]⟩
abbrev S4x2048x3072 : Shape := ⟨3, ![4, 2048, 3072]⟩
abbrev S2048x4x3072 : Shape := ⟨3, ![2048, 4, 3072]⟩
abbrev S12288x2048 : Shape := ⟨2, ![12288, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x12288, .bf16⟩
  | .hbm, ⟨2, _⟩ => ⟨S_, .bf16⟩
  | .hbm, ⟨3, _⟩ => ⟨S4x2048x3072, .bf16⟩
  | .hbm, ⟨4, _⟩ => ⟨S4x2048x3072, .f32⟩
  | .hbm, ⟨5, _⟩ => ⟨S2048x2048, .f32⟩
  | .hbm, ⟨6, _⟩ => ⟨S2048x4x3072, .f32⟩
  | .hbm, ⟨7, _⟩ => ⟨S2048x12288, .f32⟩
  | .hbm, ⟨8, _⟩ => ⟨S2048x12288, .f32⟩
  | .hbm, ⟨9, _⟩ => ⟨S2048x12288, .f32⟩
  | .hbm, ⟨10, _⟩ => ⟨S12288x2048, .f32⟩
  | .hbm, ⟨11, _⟩ => ⟨S2048x12288, .f32⟩
  | .hbm, ⟨12, _⟩ => ⟨S2048x4x3072, .f32⟩
  | .hbm, ⟨13, _⟩ => ⟨S4x2048x3072, .f32⟩
  | .hbm, ⟨14, _⟩ => ⟨S4x2048x3072, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S2048x12288 : Shape := ⟨2, ![2048, 12288]⟩
abbrev S4x2048x1024 : Shape := ⟨3, ![4, 2048, 1024]⟩
abbrev S8x128 : Shape := ⟨2, ![8, 128]⟩
abbrev S2048x2048 : Shape := ⟨2, ![2048, 2048]⟩
abbrev S1024x3072 : Shape := ⟨2, ![1024, 3072]⟩
abbrev S1x1024x1024 : Shape := ⟨3, ![1, 1024, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2048x12288, .bf16⟩
  | .hbm, ⟨1, _⟩ => ⟨S4x2048x1024, .bf16⟩
  | .hbm, ⟨2, _⟩ => ⟨S4x2048x1024, .bf16⟩
  | .hbm, ⟨3, _⟩ => ⟨S4x2048x1024, .bf16⟩
  | .hbm, ⟨4, _⟩ => ⟨S8x128, .f32⟩
  | .hbm, ⟨5, _⟩ => ⟨S2048x2048, .bf16⟩
  | .local _ .vmem, ⟨0, _⟩ => ⟨S1024x3072, .bf16⟩
  | .local _ .vmem, ⟨1, _⟩ => ⟨S1024x3072, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_16 : BitVec 32 := 0#32
  let v22 : BitVec 1 := Scalar.cmpi .ne v21 c0_i32_16
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S2048x12288 : Shape := ⟨2, ![2048, 12288]⟩
abbrev S4x2048x1024 : Shape := ⟨3, ![4, 2048, 1024]⟩
abbrev S8x128 : Shape := ⟨2, ![8, 128]⟩
abbrev S_ : Shape := ⟨0, ![]⟩
abbrev S2048x2048 : Shape := ⟨2, ![2048, 2048]⟩
abbrev S4x2048x3072 : Shape := ⟨3, ![4, 2048, 3072]⟩
abbrev S2048x4x3072 : Shape := ⟨3, ![2048, 4, 3072]⟩

abbrev nBuf : Space → Nat
  | .hbm => 16
  | .vmem => 0
  | .smem => 0
  | _ => 0

abbrev bufTy : (tb : Table) → Fin (tcTables nBuf tb) → BufTy
  | .hbm, ⟨0, _⟩ => ⟨S2048x12288, .bf16⟩
  | .hbm, ⟨1, _⟩ => ⟨S4x2048x1024, .bf16⟩
  | .hbm, ⟨2, _⟩ => ⟨S4x2048x1024, .bf16⟩
  | .hbm, ⟨3, _⟩ => ⟨S4x2048x1024, .bf16⟩
  | .hbm, ⟨4, _⟩ => ⟨S8x128, .f32⟩
  | .hbm, ⟨5, _⟩ => ⟨S_, .bf16⟩
  | .hbm, ⟨6, _⟩ => ⟨S2048x2048, .bf16⟩
  | .hbm, ⟨7, _⟩ => ⟨S4x2048x3072, .bf16⟩
  | .hbm, ⟨8, _⟩ => ⟨S2048x2048, .f32⟩
  | .hbm, ⟨9, _⟩ => ⟨S4x2048x3072, .f32⟩
  | .hbm, ⟨10, _⟩ => ⟨S2048x4x3072, .f32⟩
  | .hbm, ⟨11, _⟩ => ⟨S2048x12288, .f32⟩
  | .hbm, ⟨12, _⟩ => ⟨S2048x12288, .f32⟩
  | .hbm, ⟨13, _⟩ => ⟨S2048x12288, .f32⟩
  | .hbm, ⟨14, _⟩ => ⟨S2048x2048, .f32⟩
  | .hbm, ⟨15, _⟩ => ⟨S2048x2048, .bf16⟩
  | _, _ => ⟨S2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel6.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x2048 : Shape := ⟨2, ![2048, 2048]⟩
abbrev S_ : Shape := ⟨0, ![]⟩
abbrev S1x2048x2048 : Shape := ⟨3, ![1, 2048, 2048]⟩
abbrev S2048x1x2048 : Shape := ⟨3, ![2048, 1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .bf16⟩
  | .hbm, ⟨3, _⟩ => ⟨S1x2048x2048, .bf16⟩
  | .hbm, ⟨4, _⟩ => ⟨S1x2048x2048, .f32⟩
  | .hbm, ⟨5, _⟩ => ⟨S2048x2048, .f32⟩
  | .hbm, ⟨6, _⟩ => ⟨S2048x1x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x1x2048, .f32⟩
  | .hbm, ⟨13, _⟩ => ⟨S1x2048x2048, .f32⟩
  | .hbm, ⟨14, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel7.lean ====
abbrev S2048x2048 : Shape := ⟨2, ![2048, 2048]⟩
abbrev S1x2048x2048 : Shape := ⟨3, ![1, 2048, 2048]⟩
abbrev S8x128 : Shape := ⟨2, ![8, 128]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S8x128, .f32⟩
  | .hbm, ⟨3, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S1x2048x2048 : Shape := ⟨3, ![1, 2048, 2048]⟩
abbrev S8x128 : Shape := ⟨2, ![8, 128]⟩
abbrev S_ : Shape := ⟨0, ![]⟩
abbrev S2048x1x2048 : Shape := ⟨3, ![2048, 1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S8x128, .f32⟩
  | .hbm, ⟨3, _⟩ => ⟨S_, .bf16⟩
  | .hbm, ⟨4, _⟩ => ⟨S2048x2048, .bf16⟩
  | .hbm, ⟨5, _⟩ => ⟨S2048x2048, .f32⟩
  | .hbm, ⟨6, _⟩ => ⟨S1x2048x2048, .f32⟩
  | .hbm, ⟨7, _⟩ => ⟨S2048x1x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel8.lean ====
abbrev S2048x2048 : Shape := ⟨2, ![2048, 2048]⟩
abbrev S4x2048x1024 : Shape := ⟨3, ![4, 2048, 1024]⟩
abbrev S2048x12288 : Shape := ⟨2, ![2048, 12288]⟩
abbrev S1x2048x1024 : Shape := ⟨3, ![1, 2048, 1024]⟩
abbrev S2048x1024 : Shape := ⟨2, ![2048, 1024]⟩

abbrev nBuf : Space → Nat
  | .hbm => 7
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S4x2048x1024, .bf16⟩
  | .hbm, ⟨3, _⟩ => ⟨S4x2048x1024, .bf16⟩
  | .hbm, ⟨4, _⟩ => ⟨S2048x12288, .f32⟩
  | .hbm, ⟨5, _⟩ => ⟨S2048x12288, .f32⟩
  | .hbm, ⟨6, _⟩ => ⟨S2048x12288, .f32⟩
  | .local _ .vmem, ⟨0, _⟩ => ⟨S2048x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S2048x1024, .f32⟩
  | .local _ .vmem, ⟨4, _⟩ => ⟨S2048x1024, .f32⟩
  | .local _ .vmem, ⟨5, _⟩ => ⟨S2048x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S2048x1024, .f32⟩
  | .local _ .vmem, ⟨9, _⟩ => ⟨S2048x1024, .f32⟩
  | .local _ .vmem, ⟨10, _⟩ => ⟨S2048x2048, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S2048x1024, .f32⟩
  | .local _ .vmem, ⟨14, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 32 := Scalar.muli v16 c3_i32
  let c0_i32_5 : BitVec 32 := 0#32
  let v18 : BitVec 32 := Scalar.addi v17 c0_i32_5
  let c1_i32_6 : BitVec 32 := 1#32
  let v19 : BitVec 32 := Scalar.muli v18 c1_i32_6
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi arg0 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_13 : BitVec 32 := 0#32
  ![arg1.toNat, v30.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 32 := Scalar.muli v16 c3_i32
  let c1_i32_5 : BitVec 32 := 1#32
  let v18 : BitVec 32 := Scalar.addi v17 c1_i32_5
  let c1_i32_6 : BitVec 32 := 1#32
  let v19 : BitVec 32 := Scalar.muli v18 c1_i32_6
  let c1_i32_7 : BitVec 32 := 1#32
  let c0_i32_8 : BitVec 32 := 0#32
  let v20 : BitVec 1 := Scalar.cmpi .eq c1_i32_7 c0_i32_8
  let c1_i32_9 : BitVec 32 := 1#32
  let v21 : BitVec 32 := Scalar.select v20 c1_i32_9 c1_i32_7
  let v22 : BitVec 32 := Scalar.remsi arg0 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_13 : BitVec 32 := 0#32
  ![arg1.toNat, v30.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc2_transform_3 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 32 := Scalar.muli v16 c3_i32
  let c2_i32 : BitVec 32 := 2#32
  let v18 : BitVec 32 := Scalar.addi v17 c2_i32
  let c1_i32_5 : BitVec 32 := 1#32
  let v19 : BitVec 32 := Scalar.muli v18 c1_i32_5
  let c1_i32_6 : BitVec 32 := 1#32
  let c0_i32_7 : BitVec 32 := 0#32
  let v20 : BitVec 1 := Scalar.cmpi .eq c1_i32_6 c0_i32_7
  let c1_i32_8 : BitVec 32 := 1#32
  let v21 : BitVec 32 := Scalar.select v20 c1_i32_8 c1_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  ![arg1.toNat, v30.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 2 → Memref sig .tc .vmem S1x2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference8Ideal.lean ====
abbrev S2048x2048 : Shape := ⟨2, ![2048, 2048]⟩
abbrev S4x2048x1024 : Shape := ⟨3, ![4, 2048, 1024]⟩
abbrev S4x2048x3072 : Shape := ⟨3, ![4, 2048, 3072]⟩
abbrev S2048x4x3072 : Shape := ⟨3, ![2048, 4, 3072]⟩
abbrev S2048x12288 : Shape := ⟨2, ![2048, 12288]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1024, .bf16⟩
  | .hbm, ⟨2, _⟩ => ⟨S4x2048x1024, .bf16⟩
  | .hbm, ⟨3, _⟩ => ⟨S4x2048x1024, .bf16⟩
  | .hbm, ⟨4, _⟩ => ⟨S2048x2048, .f32⟩
  | .hbm, ⟨5, _⟩ => ⟨S4x2048x3072, .bf16⟩
  | .hbm, ⟨6, _⟩ => ⟨S4x2048x3072, .f32⟩
  | .hbm, ⟨7, _⟩ => ⟨S2048x4x3072, .f32⟩
  | .hbm, ⟨8, _⟩ => ⟨S2048x12288, .f32⟩
  | .hbm, ⟨9, _⟩ => ⟨S2048x12288, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S2048x2048 : Shape := ⟨2, ![2048, 2048]⟩
abbrev S4x2048x1536 : Shape := ⟨3, ![4, 2048, 1536]⟩
abbrev S2048x6144 : Shape := ⟨2, ![2048, 6144]⟩
abbrev S1x2048x768 : Shape := ⟨3, ![1, 2048, 768]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S4x2048x1536, .bf16⟩
  | .hbm, ⟨2, _⟩ => ⟨S2048x6144, .f32⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .f32⟩
  | .local _ .vmem, ⟨4, _⟩ => ⟨S2048x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c0_i32_5 : BitVec 32 := 0#32
  let v18 : BitVec 32 := Scalar.addi v17 c0_i32_5
  let c2_i32_6 : BitVec 32 := 2#32
  let v19 : BitVec 32 := Scalar.muli v18 c2_i32_6
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi arg0 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_13 : BitVec 32 := 0#32
  ![arg1.toNat, v30.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x2048 : Shape := ⟨2, ![2048, 2048]⟩
abbrev S4x2048x1536 : Shape := ⟨3, ![4, 2048, 1536]⟩
abbrev S2048x4x1536 : Shape := ⟨3, ![2048, 4, 1536]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1536, .bf16⟩
  | .hbm, ⟨2, _⟩ => ⟨S2048x2048, .f32⟩
  | .hbm, ⟨3, _⟩ => ⟨S4x2048x1536, .f32⟩
  | .hbm, ⟨4, _⟩ => ⟨S2048x4x1536, .f32⟩
  | .hbm, ⟨5, _⟩ => ⟨S2048x6144, .f32⟩
  | .hbm, ⟨6, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S2048x2048 : Shape := ⟨2, ![2048, 2048]⟩
abbrev S1x2048x2048 : Shape := ⟨3, ![1, 2048, 2048]⟩
abbrev S1x2048x1024 : Shape := ⟨3, ![1, 2048, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S2048x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S2048x1024, .f32⟩
  | .local _ .vmem, ⟨4, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli v16 c1_i32_4
  let c0_i32_5 : BitVec 32 := 0#32
  let v18 : BitVec 32 := Scalar.addi v17 c0_i32_5
  let c2_i32_6 : BitVec 32 := 2#32
  let v19 : BitVec 32 := Scalar.muli v18 c2_i32_6
  let c2_i32_7 : BitVec 32 := 2#32
  let c0_i32_8 : BitVec 32 := 0#32
  let v20 : BitVec 1 := Scalar.cmpi .eq c2_i32_7 c0_i32_8
  let c1_i32_9 : BitVec 32 := 1#32
  let v21 : BitVec 32 := Scalar.select v20 c1_i32_9 c2_i32_7
  let v22 : BitVec 32 := Scalar.remsi arg0 v21
  let c0_i32_10 : BitVec 32 := 0#32
  let v23 : BitVec 1 := Scalar.cmpi .ne v22 c0_i32_10
  let c0_i32_11 : BitVec 32 := 0#32
  let v24 : BitVec 1 := Scalar.cmpi .slt v22 c0_i32_11
  let c0_i32_12 : BitVec 32 := 0#32
  let v25 : BitVec 1 := Scalar.cmpi .slt v21 c0_i32_12
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_13 : BitVec 32 := 0#32
  ![arg1.toNat, v30.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x2048 : Shape := ⟨2, ![2048, 2048]⟩
abbrev S1x2048x2048 : Shape := ⟨3, ![1, 2048, 2048]⟩
abbrev S2048x1x2048 : Shape := ⟨3, ![2048, 1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S1x2048x2048, .f32⟩
  | .hbm, ⟨4, _⟩ => ⟨S2048x1x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S2048x6144 : Shape := ⟨2, ![2048, 6144]⟩
abbrev S31x1024 : Shape := ⟨2, ![31, 1024]⟩
abbrev S1x1024 : Shape := ⟨2, ![1, 1024]⟩
abbrev S2048x1024 : Shape := ⟨2, ![2048, 1024]⟩
abbrev S2048x128 : Shape := ⟨2, ![2048, 128]⟩
abbrev S31x128 : Shape := ⟨2, ![31, 128]⟩
abbrev S1x128 : Shape := ⟨2, ![1, 128]⟩
abbrev S2080x128 : Shape := ⟨2, ![2080, 128]⟩
abbrev S32x128 : Shape := ⟨2, ![32, 128]⟩
abbrev S160x128 : Shape := ⟨2, ![160, 128]⟩
abbrev S128x128 : Shape := ⟨2, ![128, 128]⟩

abbrev nBuf : Space → Nat
  | .hbm => 4
  | .vmem => 11
  | .smem => 0
  | _ => 0

abbrev bufTy : (tb : Table) → Fin (tcTables nBuf tb) → BufTy
  | .hbm, ⟨0, _⟩ => ⟨S2048x6144, .f32⟩
  | .hbm, ⟨1, _⟩ => ⟨S31x1024, .f32⟩
  | .hbm, ⟨2, _⟩ => ⟨S1x1024, .f32⟩
  | .hbm, ⟨3, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S31x128, .f32⟩
  | .local _ .vmem, ⟨5, _⟩ => ⟨S31x128, .f32⟩
  | .local _ .vmem, ⟨6, _⟩ => ⟨S1x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | .local _ .vmem, ⟨10, _⟩ => ⟨S2080x128, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v19 : BitVec 32 := Scalar.addi c0_i32 c16_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v20 : BitVec 32 := Scalar.muli arg7 c128_i32
  v20
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v20 : BitVec 32 := Scalar.muli arg7 c128_i32
  let v21 : BitVec 32 := v20
  let v22 : Index := Scalar.indexCast v21
  let c0_14 : Index := 0#32
  ![v22.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v20 : BitVec 32 := Scalar.muli arg7 c128_i32
  let v21 : BitVec 32 := v20
  let v212 : Index := Scalar.indexCast v21
  let c0_16 : Index := 0#32
  ![v212.toNat, 0]
def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S2048x6144 : Shape := ⟨2, ![2048, 6144]⟩
abbrev S31x1024 : Shape := ⟨2, ![31, 1024]⟩
abbrev S1x1024 : Shape := ⟨2, ![1, 1024]⟩
abbrev S2048x1024 : Shape := ⟨2, ![2048, 1024]⟩
abbrev S1024 : Shape := ⟨1, ![1024]⟩
abbrev S_ : Shape := ⟨0, ![]⟩
abbrev S30x1024 : Shape := ⟨2, ![30, 1024]⟩
abbrev S2078x1024 : Shape := ⟨2, ![2078, 1024]⟩

abbrev nBuf : Space → Nat
  | .hbm => 240
  | .vmem => 0
  | .smem => 0
  | _ => 0

abbrev hbmTy0_0 (i : Nat) : BufTy := match i % 128 with
  | 0 => ⟨S2048x6144, .f32⟩
  | 1 => ⟨S31x1024, .f32⟩
  | 2 => ⟨S1x1024, .f32⟩
  | 3 => ⟨S2048x1024, .f32⟩
  | 4 => ⟨S2048x1024, .f32⟩
  | 5 => ⟨S1024, .f32⟩
  | 6 => ⟨S2048x1024, .f32⟩
  | 7 => ⟨S2048x1024, .f32⟩
  | 8 => ⟨S_, .f32⟩
  | 9 => ⟨S2048x1024, .f32⟩
  | 10 => ⟨S2048x1024, .f32⟩
  | 11 => ⟨S_, .f32⟩
  | 12 => ⟨S2048x1024, .f32⟩
  | 13 => ⟨S2048x1024, .f32⟩
  | 14 => ⟨S2048x1024, .f32⟩
  | 15 => ⟨S_, .f32⟩
  | 16 => ⟨S30x1024, .f32⟩
  | 17 => ⟨S2078x1024, .f32⟩
  | 18 => ⟨S2048x1024, .f32⟩
  | 19 => ⟨S1x1024, .f32⟩
  | 20 => ⟨S1024, .f32⟩
  | 21 => ⟨S1x1024, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S2048x1024, .f32⟩
  | 28 => ⟨S1x1024, .f32⟩
  | 29 => ⟨S1024, .f32⟩
  | 30 => ⟨S1x1024, .f32⟩
  | 31 => ⟨S2048x1024, .f32⟩
  | 32 => ⟨S2048x1024, .f32⟩
  | 33 => ⟨S2048x1024, .f32⟩
  | 34 => ⟨S2048x1024, .f32⟩
  | 35 => ⟨S1x1024, .f32⟩
  | 36 => ⟨S1024, .f32⟩
  | 37 => ⟨S1x1024, .f32⟩
  | 38 => ⟨S2048x1024, .f32⟩
  | 39 => ⟨S2048x1024, .f32⟩
  | 40 => ⟨S2048x1024, .f32⟩
  | 41 => ⟨S2048x1024, .f32⟩
  | 42 => ⟨S1x1024, .f32⟩
  | 43 => ⟨S1024, .f32⟩
  | 44 => ⟨S1x1024, .f32⟩
  | 45 => ⟨S2048x1024, .f32⟩
  | 46 => ⟨S2048x1024, .f32⟩
  | 47 => ⟨S2048x1024, .f32⟩
  | 48 => ⟨S2048x1024, .f32⟩
  | 49 => ⟨S1x1024, .f32⟩
  | 50 => ⟨S1024, .f32⟩
  | 51 => ⟨S1x1024, .f32⟩
  | 52 => ⟨S2048x1024, .f32⟩
  | 53 => ⟨S2048x1024, .f32⟩
  | 54 => ⟨S2048x1024, .f32⟩
  | 55 => ⟨S2048x1024, .f32⟩
  | 56 => ⟨S1x1024, .f32⟩
  | 57 => ⟨S1024, .f32⟩
  | 58 => ⟨S1x1024, .f32⟩
  | 59 => ⟨S2048x1024, .f32⟩
  | 60 => ⟨S2048x1024, .f32⟩
  | 61 => ⟨S2048x1024, .f32⟩
  | 62 => ⟨S2048x1024, .f32⟩
  | 63 => ⟨S1x1024, .f32⟩
  | 64 => ⟨S1024, .f32⟩
  | 65 => ⟨S1x1024, .f32⟩
  | 66 => ⟨S2048x1024, .f32⟩
  | 67 => ⟨S2048x1024, .f32⟩
  | 68 => ⟨S2048x1024, .f32⟩
  | 69 => ⟨S2048x1024, .f32⟩
  | 70 => ⟨S1x1024, .f32⟩
  | 71 => ⟨S1024, .f32⟩
  | 72 => ⟨S1x1024, .f32⟩
  | 73 => ⟨S2048x1024, .f32⟩
  | 74 => ⟨S2048x1024, .f32⟩
  | 75 => ⟨S2048x1024, .f32⟩
  | 76 => ⟨S2048x1024, .f32⟩
  | 77 => ⟨S1x1024, .f32⟩
  | 78 => ⟨S1024, .f32⟩
  | 79 => ⟨S1x1024, .f32⟩
  | 80 => ⟨S2048x1024, .f32⟩
  | 81 => ⟨S2048x1024, .f32⟩
  | 82 => ⟨S2048x1024, .f32⟩
  | 83 => ⟨S2048x1024, .f32⟩
  | 84 => ⟨S1x1024, .f32⟩
  | 85 => ⟨S1024, .f32⟩
  | 86 => ⟨S1x1024, .f32⟩
  | 87 => ⟨S2048x1024, .f32⟩
  | 88 => ⟨S2048x1024, .f32⟩
  | 89 => ⟨S2048x1024, .f32⟩
  | 90 => ⟨S2048x1024, .f32⟩
  | 91 => ⟨S1x1024, .f32⟩
  | 92 => ⟨S1024, .f32⟩
  | 93 => ⟨S1x1024, .f32⟩
  | 94 => ⟨S2048x1024, .f32⟩
  | 95 => ⟨S2048x1024, .f32⟩
  | 96 => ⟨S2048x1024, .f32⟩
  | 97 => ⟨S2048x1024, .f32⟩
  | 98 => ⟨S1x1024, .f32⟩
  | 99 => ⟨S1024, .f32⟩
  | 100 => ⟨S1x1024, .f32⟩
  | 101 => ⟨S2048x1024, .f32⟩
  | 102 => ⟨S2048x1024, .f32⟩
  | 103 => ⟨S2048x1024, .f32⟩
  | 104 => ⟨S2048x1024, .f32⟩
  | 105 => ⟨S1x1024, .f32⟩
  | 106 => ⟨S1024, .f32⟩
  | 107 => ⟨S1x1024, .f32⟩
  | 108 => ⟨S2048x1024, .f32⟩
  | 109 => ⟨S2048x1024, .f32⟩
  | 110 => ⟨S2048x1024, .f32⟩
  | 111 => ⟨S2048x1024, .f32⟩
  | 112 => ⟨S1x1024, .f32⟩
  | 113 => ⟨S1024, .f32⟩
  | 114 => ⟨S1x1024, .f32⟩
  | 115 => ⟨S2048x1024, .f32⟩
  | 116 => ⟨S2048x1024, .f32⟩
  | 117 => ⟨S2048x1024, .f32⟩
  | 118 => ⟨S2048x1024, .f32⟩
  | 119 => ⟨S1x1024, .f32⟩
  | 120 => ⟨S1024, .f32⟩
  | 121 => ⟨S1x1024, .f32⟩
  | 122 => ⟨S2048x1024, .f32⟩
  | 123 => ⟨S2048x1024, .f32⟩
  | 124 => ⟨S2048x1024, .f32⟩
  | 125 => ⟨S2048x1024, .f32⟩
  | 126 => ⟨S1x1024, .f32⟩
  | 127 => ⟨S1024, .f32⟩
  | _ => ⟨S2048x6144, .f32⟩

abbrev hbmTy0_1 (i : Nat) : BufTy := match i % 128 with
  | 0 => ⟨S1x1024, .f32⟩
  | 1 => ⟨S2048x1024, .f32⟩
  | 2 => ⟨S2048x1024, .f32⟩
  | 3 => ⟨S2048x1024, .f32⟩
  | 4 => ⟨S2048x1024, .f32⟩
  | 5 => ⟨S1x1024, .f32⟩
  | 6 => ⟨S1024, .f32⟩
  | 7 => ⟨S1x1024, .f32⟩
  | 8 => ⟨S2048x1024, .f32⟩
  | 9 => ⟨S2048x1024, .f32⟩
  | 10 => ⟨S2048x1024, .f32⟩
  | 11 => ⟨S2048x1024, .f32⟩
  | 12 => ⟨S1x1024, .f32⟩
  | 13 => ⟨S1024, .f32⟩
  | 14 => ⟨S1x1024, .f32⟩
  | 15 => ⟨S2048x1024, .f32⟩
  | 16 => ⟨S2048x1024, .f32⟩
  | 17 => ⟨S2048x1024, .f32⟩
  | 18 => ⟨S2048x1024, .f32⟩
  | 19 => ⟨S1x1024, .f32⟩
  | 20 => ⟨S1024, .f32⟩
  | 21 => ⟨S1x1024, .f32⟩
  | 22 => ⟨S2048x1024, .f32⟩
  | 23 => ⟨S2048x1024, .f32⟩
  | 24 => ⟨S2048x1024, .f32⟩
  | 25 => ⟨S2048x1024, .f32⟩
  | 26 => ⟨S1x1024, .f32⟩
  | 27 => ⟨S1024, .f32⟩
  | 28 => ⟨S1x1024, .f32⟩
  | 29 => ⟨S2048x1024, .f32⟩
  | 30 => ⟨S2048x1024, .f32⟩
  | 31 => ⟨S2048x1024, .f32⟩
  | 32 => ⟨S2048x1024, .f32⟩
  | 33 => ⟨S1x1024, .f32⟩
  | 34 => ⟨S1024, .f32⟩
  | 35 => ⟨S1x1024, .f32⟩
  | 36 => ⟨S2048x1024, .f32⟩
  | 37 => ⟨S2048x1024, .f32⟩
  | 38 => ⟨S2048x1024, .f32⟩
  | 39 => ⟨S2048x1024, .f32⟩
  | 40 => ⟨S1x1024, .f32⟩
  | 41 => ⟨S1024, .f32⟩
  | 42 => ⟨S1x1024, .f32⟩
  | 43 => ⟨S2048x1024, .f32⟩
  | 44 => ⟨S2048x1024, .f32⟩
  | 45 => ⟨S2048x1024, .f32⟩
  | 46 => ⟨S2048x1024, .f32⟩
  | 47 => ⟨S1x1024, .f32⟩
  | 48 => ⟨S1024, .f32⟩
  | 49 => ⟨S1x1024, .f32⟩
  | 50 => ⟨S2048x1024, .f32⟩
  | 51 => ⟨S2048x1024, .f32⟩
  | 52 => ⟨S2048x1024, .f32⟩
  | 53 => ⟨S2048x1024, .f32⟩
  | 54 => ⟨S1x1024, .f32⟩
  | 55 => ⟨S1024, .f32⟩
  | 56 => ⟨S1x1024, .f32⟩
  | 57 => ⟨S2048x1024, .f32⟩
  | 58 => ⟨S2048x1024, .f32⟩
  | 59 => ⟨S2048x1024, .f32⟩
  | 60 => ⟨S2048x1024, .f32⟩
  | 61 => ⟨S1x1024, .f32⟩
  | 62 => ⟨S1024, .f32⟩
  | 63 => ⟨S1x1024, .f32⟩
  | 64 => ⟨S2048x1024, .f32⟩
  | 65 => ⟨S2048x1024, .f32⟩
  | 66 => ⟨S2048x1024, .f32⟩
  | 67 => ⟨S2048x1024, .f32⟩
  | 68 => ⟨S1x1024, .f32⟩
  | 69 => ⟨S1024, .f32⟩
  | 70 => ⟨S1x1024, .f32⟩
  | 71 => ⟨S2048x1024, .f32⟩
  | 72 => ⟨S2048x1024, .f32⟩
  | 73 => ⟨S2048x1024, .f32⟩
  | 74 => ⟨S2048x1024, .f32⟩
  | 75 => ⟨S1x1024, .f32⟩
  | 76 => ⟨S1024, .f32⟩
  | 77 => ⟨S1x1024, .f32⟩
  | 78 => ⟨S2048x1024, .f32⟩
  | 79 => ⟨S2048x1024, .f32⟩
  | 80 => ⟨S2048x1024, .f32⟩
  | 81 => ⟨S2048x1024, .f32⟩
  | 82 => ⟨S1x1024, .f32⟩
  | 83 => ⟨S1024, .f32⟩
  | 84 => ⟨S1x1024, .f32⟩
  | 85 => ⟨S2048x1024, .f32⟩
  | 86 => ⟨S2048x1024, .f32⟩
  | 87 => ⟨S2048x1024, .f32⟩
  | 88 => ⟨S2048x1024, .f32⟩
  | 89 => ⟨S1x1024, .f32⟩
  | 90 => ⟨S1024, .f32⟩
  | 91 => ⟨S1x1024, .f32⟩
  | 92 => ⟨S2048x1024, .f32⟩
  | 93 => ⟨S2048x1024, .f32⟩
  | 94 => ⟨S2048x1024, .f32⟩
  | 95 => ⟨S2048x1024, .f32⟩
  | 96 => ⟨S1x1024, .f32⟩
  | 97 => ⟨S1024, .f32⟩
  | 98 => ⟨S1x1024, .f32⟩
  | 99 => ⟨S2048x1024, .f32⟩
  | 100 => ⟨S2048x1024, .f32⟩
  | 101 => ⟨S2048x1024, .f32⟩
  | 102 => ⟨S2048x1024, .f32⟩
  | 103 => ⟨S1x1024, .f32⟩
  | 104 => ⟨S1024, .f32⟩
  | 105 => ⟨S1x1024, .f32⟩
  | 106 => ⟨S2048x1024, .f32⟩
  | 107 => ⟨S2048x1024, .f32⟩
  | 108 => ⟨S2048x1024, .f32⟩
  | 109 => ⟨S1x1024, .f32⟩
  | 110 => ⟨S2048x1024, .f32⟩
  | 111 => ⟨S2048x1024, .f32⟩
  | _ => ⟨S2048x6144, .f32⟩

abbrev hbmTy (i : Nat) : BufTy := match i / 128 with
  | 0 => hbmTy0_0 i
  | 1 => hbmTy0_1 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩

abbrev nD : Nat := 1
abbrev τ : Topo := Topo.v7x

variable {F : FTy → Type} [FloatOps F]
-- ==== Kernel12.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v31 : BitVec 1 := Scalar.cmpi .eq arg0 c0_i32
  let v_true : BitVec 1 := 1#1
  let v34 : BitVec 1 := Scalar.xori v31 v_true
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference12Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel13.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v61 : BitVec 32 := Scalar.extui v0
  let c0_i32_26 : BitVec 32 := 0#32
  let v62 : BitVec 1 := Scalar.cmpi .ne v61 c0_i32_26
  v62

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v63 : BitVec 1 := Scalar.xori v0 v_true
  let v64 : BitVec 32 := Scalar.extui v63
  let c0_i32_27 : BitVec 32 := 0#32
  let v65 : BitVec 1 := Scalar.cmpi .ne v64 c0_i32_27
  v65

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v66 : BitVec 32 := Scalar.extui v0
  let c0_i32_28 : BitVec 32 := 0#32
  let v67 : BitVec 1 := Scalar.cmpi .ne v66 c0_i32_28
  v67

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_29 : BitVec 1 := 1#1
  let v68 : BitVec 1 := Scalar.xori v0 true_29
  let v69 : BitVec 32 := Scalar.extui v68
  let c0_i32_30 : BitVec 32 := 0#32
  let v70 : BitVec 1 := Scalar.cmpi .ne v69 c0_i32_30
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference13Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 102
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S2048x2048, .f32⟩
  | .hbm, ⟨70, _⟩ => ⟨S2048x2048, .f32⟩
  | .hbm, ⟨71, _⟩ => ⟨S1x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S2048, .f32⟩
  | .hbm, ⟨82, _⟩ => ⟨S2048x2048, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x2048, .f32⟩
  | .hbm, ⟨87, _⟩ => ⟨S2048x2048, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S2048x2048, .f32⟩
  | .hbm, ⟨98, _⟩ => ⟨S2048x2048, .f32⟩
  | .hbm, ⟨99, _⟩ => ⟨S2048x2048, .bf16⟩
  | .hbm, ⟨100, _⟩ => ⟨S1x2048, .f32⟩
  | .hbm, ⟨101, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel14.lean ====
abbrev S2048x2048 : Shape := ⟨2, ![2048, 2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S1x1, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x1, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v26 : BitVec 32 := Scalar.extui v0
  let c0_i32_12 : BitVec 32 := 0#32
  let v27 : BitVec 1 := Scalar.cmpi .ne v26 c0_i32_12
  v27

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v28 : BitVec 1 := Scalar.xori v0 v_true
  let v29 : BitVec 32 := Scalar.extui v28
  let c0_i32_13 : BitVec 32 := 0#32
  let v30 : BitVec 1 := Scalar.cmpi .ne v29 c0_i32_13
  v30

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v61 : BitVec 32 := Scalar.extui v0
  let c0_i32_25 : BitVec 32 := 0#32
  let v62 : BitVec 1 := Scalar.cmpi .ne v61 c0_i32_25
  v62

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_26 : BitVec 1 := 1#1
  let v63 : BitVec 1 := Scalar.xori v0 true_26
  let v64 : BitVec 32 := Scalar.extui v63
  let c0_i32_27 : BitVec 32 := 0#32
  let v65 : BitVec 1 := Scalar.cmpi .ne v64 c0_i32_27
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x2048, .f32⟩
  | .hbm, ⟨62, _⟩ => ⟨S2048x2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S1x1, .f32⟩
  | .hbm, ⟨75, _⟩ => ⟨S2048x2048, .bf16⟩
  | .hbm, ⟨76, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel15.lean ====
abbrev S2048x3072 : Shape := ⟨2, ![2048, 3072]⟩
abbrev S128x3072 : Shape := ⟨2, ![128, 3072]⟩

abbrev nBuf : Space → Nat
  | .hbm => 8
  | .vmem => 16
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S2048x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S2048x3072 : Shape := ⟨2, ![2048, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S_, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S_, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S_, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2048x1536 : Shape := ⟨2, ![2048, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel19.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference19Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S1x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel20.lean ====
abbrev S2048x1024 : Shape := ⟨2, ![2048, 1024]⟩
abbrev S2048x6144 : Shape := ⟨2, ![2048, 6144]⟩
abbrev S1x1024 : Shape := ⟨2, ![1, 1024]⟩
abbrev S4x128x128 : Shape := ⟨3, ![4, 128, 128]⟩
abbrev S128x128 : Shape := ⟨2, ![128, 128]⟩
abbrev S2048x2048 : Shape := ⟨2, ![2048, 2048]⟩
abbrev S128x1024 : Shape := ⟨2, ![128, 1024]⟩
abbrev S1x128x128 : Shape := ⟨3, ![1, 128, 128]⟩
abbrev S128 : Shape := ⟨1, ![128]⟩
abbrev S128x1 : Shape := ⟨2, ![128, 1]⟩
abbrev S128x256 : Shape := ⟨2, ![128, 256]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x6144, .f32⟩
  | .hbm, ⟨2, _⟩ => ⟨S1x1024, .f32⟩
  | .hbm, ⟨3, _⟩ => ⟨S1x1024, .f32⟩
  | .hbm, ⟨4, _⟩ => ⟨S4x128x128, .f32⟩
  | .hbm, ⟨5, _⟩ => ⟨S128x128, .f32⟩
  | .hbm, ⟨6, _⟩ => ⟨S1x1024, .f32⟩
  | .hbm, ⟨7, _⟩ => ⟨S1x1024, .f32⟩
  | .hbm, ⟨8, _⟩ => ⟨S2048x2048, .bf16⟩
  | .hbm, ⟨9, _⟩ => ⟨S2048x2048, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S4x128x128, .f32⟩
  | .local _ .vmem, ⟨9, _⟩ => ⟨S128x128, .f32⟩
  | .local _ .vmem, ⟨10, _⟩ => ⟨S128x1024, .bf16⟩
  | .local _ .vmem, ⟨11, _⟩ => ⟨S128x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c5_i32 : BitVec 32 := 5#32
  let c0_i32 : BitVec 32 := 0#32
  ![arg0.toNat, c5_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference20Ideal.lean ====
abbrev S2048x1024 : Shape := ⟨2, ![2048, 1024]⟩
abbrev S2048x6144 : Shape := ⟨2, ![2048, 6144]⟩
abbrev S1x1024 : Shape := ⟨2, ![1, 1024]⟩
abbrev S4x128x128 : Shape := ⟨3, ![4, 128, 128]⟩
abbrev S128x128 : Shape := ⟨2, ![128, 128]⟩
abbrev S1024 : Shape := ⟨1, ![1024]⟩
abbrev S_ : Shape := ⟨0, ![]⟩
abbrev S2048 : Shape := ⟨1, ![2048]⟩
abbrev S2048x1 : Shape := ⟨2, ![2048, 1]⟩
abbrev S16x128x4x256 : Shape := ⟨4, ![16, 128, 4, 256]⟩
abbrev S1x128x128 : Shape := ⟨3, ![1, 128, 128]⟩
abbrev S4x16x256x128 : Shape := ⟨4, ![4, 16, 256, 128]⟩
abbrev S128x4 : Shape := ⟨2, ![128, 4]⟩
abbrev S1x128x4x1 : Shape := ⟨4, ![1, 128, 4, 1]⟩
abbrev S2048x2048 : Shape := ⟨2, ![2048, 2048]⟩

abbrev nBuf : Space → Nat
  | .hbm => 128
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6144, .f32⟩
  | .hbm, ⟨2, _⟩ => ⟨S1x1024, .f32⟩
  | .hbm, ⟨3, _⟩ => ⟨S1x1024, .f32⟩
  | .hbm, ⟨4, _⟩ => ⟨S4x128x128, .f32⟩
  | .hbm, ⟨5, _⟩ => ⟨S128x128, .f32⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S16x128x4x256, .f32⟩
  | .hbm, ⟨44, _⟩ => ⟨S_, .f32⟩
  | .hbm, ⟨45, _⟩ => ⟨S128x128, .f32⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S_, .f32⟩
  | .hbm, ⟨53, _⟩ => ⟨S128x128, .f32⟩
  | .hbm, ⟨54, _⟩ => ⟨S128x128, .f32⟩
  | .hbm, ⟨55, _⟩ => ⟨S1x128x128, .f32⟩
  | .hbm, ⟨56, _⟩ => ⟨S4x128x128, .f32⟩
  | .hbm, ⟨57, _⟩ => ⟨S4x128x128, .f32⟩
  | .hbm, ⟨58, _⟩ => ⟨S4x16x256x128, .f32⟩
  | .hbm, ⟨59, _⟩ => ⟨S16x128x4x256, .f32⟩
  | .hbm, ⟨60, _⟩ => ⟨S128x4, .f32⟩
  | .hbm, ⟨61, _⟩ => ⟨S1x128x4x1, .f32⟩
  | .hbm, ⟨62, _⟩ => ⟨S16x128x4x256, .f32⟩
  | .hbm, ⟨63, _⟩ => ⟨S16x128x4x256, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S1024, .f32⟩
  | .hbm, ⟨77, _⟩ => ⟨S1024, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S_, .f32⟩
  | .hbm, ⟨88, _⟩ => ⟨S2048, .f32⟩
  | .hbm, ⟨89, _⟩ => ⟨S2048x1, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S2048x1024, .f32⟩
  | .hbm, ⟨94, _⟩ => ⟨S2048x1024, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S2048x1, .f32⟩
  | .hbm, ⟨99, _⟩ => ⟨S2048x1024, .f32⟩
  | .hbm, ⟨100, _⟩ => ⟨S2048x1024, .f32⟩
  | .hbm, ⟨101, _⟩ => ⟨S1x1024, .f32⟩
  | .hbm, ⟨102, _⟩ => ⟨S2048x1024, .f32⟩
  | .hbm, ⟨103, _⟩ => ⟨S2048x1024, .f32⟩
  | .hbm, ⟨104, _⟩ => ⟨S1x1024, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S_, .f32⟩
  | .hbm, ⟨110, _⟩ => ⟨S2048x1024, .f32⟩
  | .hbm, ⟨111, _⟩ => ⟨S2048x1024, .f32⟩
  | .hbm, ⟨112, _⟩ => ⟨S_, .f32⟩
  | .hbm, ⟨113, _⟩ => ⟨S2048x1024, .f32⟩
  | .hbm, ⟨114, _⟩ => ⟨S2048x1024, .f32⟩
  | .hbm, ⟨115, _⟩ => ⟨S2048x1024, .f32⟩
  | .hbm, ⟨116, _⟩ => ⟨S2048x1024, .f32⟩
  | .hbm, ⟨117, _⟩ => ⟨S2048x1024, .f32⟩
  | .hbm, ⟨118, _⟩ => ⟨S_, .f32⟩
  | .hbm, ⟨119, _⟩ => ⟨S2048x1024, .f32⟩
  | .hbm, ⟨120, _⟩ => ⟨S2048x1024, .f32⟩
  | .hbm, ⟨121, _⟩ => ⟨S_, .f32⟩
  | .hbm, ⟨122, _⟩ => ⟨S2048x1024, .f32⟩
  | .hbm, ⟨123, _⟩ => ⟨S2048x1024, .f32⟩
  | .hbm, ⟨124, _⟩ => ⟨S2048x1024, .f32⟩
  | .hbm, ⟨125, _⟩ => ⟨S2048x1024, .f32⟩
  | .hbm, ⟨126, _⟩ => ⟨S2048x2048, .f32⟩
  | .hbm, ⟨127, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_cst : Ref sig .tc := ⟨.hbm, 52, rfl⟩
abbrev main_call0_v5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_5 : Ref sig .tc := ⟨.hbm, 78, rfl⟩
abbrev main_v48 : Ref sig .tc := ⟨.hbm, 79, rfl⟩
abbrev main_v49 : Ref sig .tc := ⟨.hbm, 80, rfl⟩
abbrev main_cst_6 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_7 : Ref sig .tc := ⟨.hbm, 87, rfl⟩
abbrev main_v55 : Ref sig .tc := ⟨.hbm, 88, rfl⟩
abbrev main_v56 : Ref sig .tc := ⟨.hbm, 89, rfl⟩
abbrev main_cst_8 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_9 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_call2_v5 : Ref sig .tc := ⟨.hbm, 114, rfl⟩
abbrev main_v72 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩

abbrev nD : Nat := 1
abbrev τ : Topo := Topo.v7x

variable {F : FTy → Type} [FloatOps F]
-- ==== Kernel21.lean ====
abbrev S2048x12288 : Shape := ⟨2, ![2048, 12288]⟩
abbrev S4x256x256 : Shape := ⟨3, ![4, 256, 256]⟩
abbrev S1x1024 : Shape := ⟨2, ![1, 1024]⟩
abbrev S2048x2048 : Shape := ⟨2, ![2048, 2048]⟩
abbrev S2048x256 : Shape := ⟨2, ![2048, 256]⟩
abbrev S1x256x256 : Shape := ⟨3, ![1, 256, 256]⟩
abbrev S1x256 : Shape := ⟨2, ![1, 256]⟩
abbrev S2048x1 : Shape := ⟨2, ![2048, 1]⟩
abbrev S256x256 : Shape := ⟨2, ![256, 256]⟩
abbrev S2048x1024 : Shape := ⟨2, ![2048, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x12288, .f32⟩
  | .hbm, ⟨1, _⟩ => ⟨S4x256x256, .bf16⟩
  | .hbm, ⟨2, _⟩ => ⟨S1x1024, .f32⟩
  | .hbm, ⟨3, _⟩ => ⟨S2048x2048, .bf16⟩
  | .hbm, ⟨4, _⟩ => ⟨S2048x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | _, _ => ⟨S2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference21Ideal.lean ====
abbrev S2048x12288 : Shape := ⟨2, ![2048, 12288]⟩
abbrev S4x256x256 : Shape := ⟨3, ![4, 256, 256]⟩
abbrev S1x1024 : Shape := ⟨2, ![1, 1024]⟩
abbrev S2048x1024 : Shape := ⟨2, ![2048, 1024]⟩
abbrev S2048x4x256 : Shape := ⟨3, ![2048, 4, 256]⟩
abbrev S4x2048x2048 : Shape := ⟨3, ![4, 2048, 2048]⟩
abbrev S_ : Shape := ⟨0, ![]⟩
abbrev S2048x4x1 : Shape := ⟨3, ![2048, 4, 1]⟩
abbrev S4x256x2048 : Shape := ⟨3, ![4, 256, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x12288, .f32⟩
  | .hbm, ⟨1, _⟩ => ⟨S4x256x256, .bf16⟩
  | .hbm, ⟨2, _⟩ => ⟨S1x1024, .f32⟩
  | .hbm, ⟨3, _⟩ => ⟨S2048x1024, .f32⟩
  | .hbm, ⟨4, _⟩ => ⟨S2048x4x256, .f32⟩
  | .hbm, ⟨5, _⟩ => ⟨S4x2048x2048, .i32⟩
  | .hbm, ⟨6, _⟩ => ⟨S4x2048x2048, .i32⟩
  | .hbm, ⟨7, _⟩ => ⟨S4x2048x2048, .i32⟩
  | .hbm, ⟨8, _⟩ => ⟨S_, .i32⟩
  | .hbm, ⟨9, _⟩ => ⟨S4x2048x2048, .i32⟩
  | .hbm, ⟨10, _⟩ => ⟨S4x2048x2048, .i32⟩
  | .hbm, ⟨11, _⟩ => ⟨S4x2048x2048, .i1⟩
  | .hbm, ⟨12, _⟩ => ⟨S4x2048x2048, .i32⟩
  | .hbm, ⟨13, _⟩ => ⟨S4x2048x2048, .i1⟩
  | .hbm, ⟨14, _⟩ => ⟨S4x2048x2048, .i1⟩
  | .hbm, ⟨15, _⟩ => ⟨S_, .f32⟩
  | .hbm, ⟨16, _⟩ => ⟨S_, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S2048x4x1, .i32⟩
  | .hbm, ⟨21, _⟩ => ⟨S2048x4x1, .i32⟩
  | .hbm, ⟨22, _⟩ => ⟨S_, .i32⟩
  | .hbm, ⟨23, _⟩ => ⟨S2048x4x1, .i32⟩
  | .hbm, ⟨24, _⟩ => ⟨S2048x4x1, .i32⟩
  | .hbm, ⟨25, _⟩ => ⟨S_, .i32⟩
  | .hbm, ⟨26, _⟩ => ⟨S2048x4x1, .i32⟩
  | .hbm, ⟨27, _⟩ => ⟨S2048x4x1, .i32⟩
  | .hbm, ⟨28, _⟩ => ⟨S2048x4x1, .i32⟩
  | .hbm, ⟨29, _⟩ => ⟨S2048x4x1, .f32⟩
  | .hbm, ⟨30, _⟩ => ⟨S4x256x2048, .f32⟩
  | .hbm, ⟨31, _⟩ => ⟨S2048x4x256, .f32⟩
  | .hbm, ⟨32, _⟩ => ⟨S2048x4x256, .f32⟩
  | .hbm, ⟨33, _⟩ => ⟨S2048x4x256, .f32⟩
  | .hbm, ⟨34, _⟩ => ⟨S2048x4x256, .f32⟩
  | .hbm, ⟨35, _⟩ => ⟨S4x256x256, .f32⟩
  | .hbm, ⟨36, _⟩ => ⟨S4x256x2048, .f32⟩
  | .hbm, ⟨37, _⟩ => ⟨S2048x4x256, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | _, _ => ⟨S2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Proof.Products.lean ====
/- The products with weights kept in parts, as sums: `w[r, k, c]` is column `n · r + c` of the whole matrix, of `R` parts of
   `n` columns. -/
module

public import Idealize.ShloMosaic.PureOps.Ideal
public import Idealize.ShloMosaic.Lib.Pointwise

@[expose] public section

noncomputable section

namespace Cert.Products

open Idealize.ShloMosaic

theorem zero3 : (![0, 0, 0] : Fin 3 → Nat) = fun _ => 0 := funext fun a => by fin_cases a <;> rfl
theorem zero2 : (![0, 0] : Fin 2 → Nat) = fun _ => 0 := funext fun a => by fin_cases a <;> rfl

/-- Column `c` of part `r`, as a column of the whole matrix. -/
def column {R n C : ℕ} (hC : C = R * n) (r : Fin R) (c : Fin n) : Fin C := ⟨n * r.val + c.val, by
  subst hC
  calc n * r.val + c.val < n * r.val + n := Nat.add_lt_add_left c.isLt _
    _ = (r.val + 1) * n := by ring
    _ ≤ R * n := Nat.mul_le_mul_right _ r.isLt⟩

theorem column_val {R n C : ℕ} (hC : C = R * n) (r : Fin R) (c : Fin n) : (column hC r c).val = n * r.val + c.val := rfl

/-- A sum over the columns, part by part. -/
theorem sum_columns {M : Type} [AddCommMonoid M] {R n C : ℕ} (hC : C = R * n) (f : Fin C → M) :
    ∑ J, f J = ∑ r, ∑ c, f (column hC r c) := by
  subst hC
  rw [← Fintype.sum_prod_type', ← Equiv.sum_comp finProdFinEquiv]
  exact Finset.sum_congr rfl fun p _ => congrArg f (Fin.ext (by rw [column_val, finProdFinEquiv_apply_val]; exact Nat.add_comm _ _))

abbrev Mat (T K : ℕ) : Type := FVec Ideal ⟨2, ![T, K]⟩ .bf16
abbrev Parts (R K n : ℕ) : Type := FVec Ideal ⟨3, ![R, K, n]⟩ .bf16

/-- Weights whose every part is in three pieces, put together. -/
def joined {R K n : ℕ} (w w' w'' : Parts R K n) : Parts R K (3 * n) := fun j =>
  if h : (j 2).val < n then w (ix3 (j 0) (j 1) ⟨(j 2).val, h⟩)
  else if h' : (j 2).val - n < n then w' (ix3 (j 0) (j 1) ⟨(j 2).val - n, h'⟩)
  else w'' (ix3 (j 0) (j 1) ⟨(j 2).val - n - n, by have := (j 2).isLt; change (j 2).val < 3 * n at this; omega⟩)

section Joined

variable {R K n : ℕ} (w w' w'' : Parts R K n) (r : Fin R) (k : Fin K) (c : Fin n)

theorem joined_zero : joined w w' w'' (ix3 r k (column rfl 0 c)) = w (ix3 r k c) :=
  (dif_pos (show n * 0 + c.val < n by omega)).trans (congrArg (fun c => w (ix3 r k c)) (Fin.ext (show n * 0 + c.val = c.val by omega)))
theorem joined_one : joined w w' w'' (ix3 r k (column rfl 1 c)) = w' (ix3 r k c) :=
  (dif_neg (show ¬ n * 1 + c.val < n by omega)).trans ((dif_pos (show n * 1 + c.val - n < n by omega)).trans
    (congrArg (fun c => w' (ix3 r k c)) (Fin.ext (show n * 1 + c.val - n = c.val by omega))))
theorem joined_two : joined w w' w'' (ix3 r k (column rfl 2 c)) = w'' (ix3 r k c) :=
  (dif_neg (show ¬ n * 2 + c.val < n by omega)).trans ((dif_neg (show ¬ n * 2 + c.val - n < n by omega)).trans
    (congrArg (fun c => w'' (ix3 r k c)) (Fin.ext (show n * 2 + c.val - n - n = c.val by omega))))

end Joined

variable {T K R n C : ℕ} (hC : C = R * n)

/-- The gradient of the weights: `h` transposed times `dz`. -/
def weightGrad (h : Mat T K) (dz : Mat T C) (r : Fin R) (k : Fin K) (c : Fin n) : EReal :=
  ∑ t : Fin T, h (ix2 t k) * dz (ix2 t (column hC r c))
/-- One part's term of the gradient of the input, -/
def partGrad (dz : Mat T C) (w : Parts R K n) (t : Fin T) (k : Fin K) (r : Fin R) : EReal :=
  ∑ c : Fin n, dz (ix2 t (column hC r c)) * w (ix3 r k c)
/-- and the gradient: `dz` times the weights transposed, part by part. -/
def inputGrad (dz : Mat T C) (w : Parts R K n) (t : Fin T) (k : Fin K) : EReal :=
  ∑ r : Fin R, partGrad hC dz w t k r
/-- Where the parts are in three pieces, so is the term. -/
theorem partGrad_joined (hC : C = R * (3 * n)) (dz : Mat T C) (w w' w'' : Parts R K n) (t : Fin T) (k : Fin K) (r : Fin R) :
    partGrad hC dz (joined w w' w'') t k r = ∑ c : Fin n, dz (ix2 t (column hC r (column rfl 0 c))) * w (ix3 r k c)
      + ∑ c : Fin n, dz (ix2 t (column hC r (column rfl 1 c))) * w' (ix3 r k c)
      + ∑ c : Fin n, dz (ix2 t (column hC r (column rfl 2 c))) * w'' (ix3 r k c) := by
  unfold partGrad
  rw [sum_columns rfl, Fin.sum_univ_three]
  simp only [joined_zero, joined_one, joined_two]
/-- The part a column is in, -/
def part (J : Fin C) : Fin R := ⟨J.val / n, Nat.div_lt_of_lt_mul (lt_of_lt_of_eq J.isLt (hC.trans (Nat.mul_comm _ _)))⟩
/-- and its place there. -/
def place (J : Fin C) : Fin n := ⟨J.val % n, Nat.mod_lt _ (Nat.pos_of_ne_zero fun h => by subst h; subst hC; exact absurd J.isLt (Nat.not_lt_zero _))⟩
/-- The product itself. -/
def output (h : Mat T K) (w : Parts R K n) (t : Fin T) (J : Fin C) : EReal :=
  ∑ k : Fin K, h (ix2 t k) * w (ix3 (part hC J) k (place hC J))

end Cert.Products

end
-- ==== Proof.OInWeight.lean ====
/- The gradient of the weights of the odd branch's input product: `h` transposed times `dz`, one part of the columns after
   another. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Products
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel2Ideal

open Gen Cert.Products

/-- A point's block of the result: the product of the two blocks read. -/
theorem out_apply (x : Vec Ideal S2048x1024 .bf16) (y : Vec Ideal S2048x768 .bf16) (k : Fin 1024) (l : Fin 768) :
    out0_2 (F := Ideal) x y (ix3 0 k l) = (∑ t : Fin 2048, x (ix2 t k) * y (ix2 t l) : EReal) := by
  unfold out0_2
  rw [View.canon_unit_zero zero3, View.ld_unit_zero (S := S2048x1024) zero2, View.ld_unit_zero (S := S2048x768) zero2]
  simp only [pointwise, k0_pay1]
  exact zero_add _

variable (m : (ℓ : Loc nD τ sig) → Buf (Elt Ideal) ℓ)

/-- Every window's block index: point `8 · i + j` takes `1024` columns of `h` from the `i`-th and `768` columns of `dz` from the `j`-th. -/
theorem index_at : ∀ t : Fin cfg0.N, win0_0.index t = ![0, t.val / 8] ∧ win0_1.index t = ![0, t.val % 8]
    ∧ win0_2.index t = ![t.val % 8 / 2, t.val / 8, t.val % 2] := by decide +kernel

theorem count (t : Fin cfg0.N) : t.val < 16 := lt_of_lt_of_eq t.isLt N_0

theorem block_h (c : Dev nD) (t : Fin cfg0.N) (s : Fin 2048) (k : Fin 1024) :
    iblk m c 0 t (ix2 s k) = m ((c : Thread nD τ).loc main_arg0) (ix2 s ⟨1024 * (t.val / 8) + k.val, by have := count t; omega⟩) := by
  rw [← V_main_arg0 m c]
  blk_ext [iblk, (index_at t).1]
theorem block_dz (c : Dev nD) (t : Fin cfg0.N) (s : Fin 2048) (l : Fin 768) :
    iblk m c 1 t (ix2 s l) = m ((c : Thread nD τ).loc main_arg1) (ix2 s ⟨768 * (t.val % 8) + l.val, by have := count t; omega⟩) := by
  rw [← V_main_arg1 m c]
  blk_ext [iblk, (index_at t).2.1]

/-- The result, whole. -/
theorem result_end (c : Dev nD) : (dats m 0 c).arrAt 2 cfg0.N
    = fun j => weightGrad (R := 4) (n := 1536) rfl (m ((c : Thread nD τ).loc main_arg0)) (m ((c : Thread nD τ).loc main_arg1)) (j 0) (j 1) (j 2) := by
  refine (dats m 0 c).arrAt_eq_of_covers 2 _ (by decide +kernel) fun t hf y => ?_
  obtain ⟨z, k, l, rfl⟩ : ∃ (z : Fin 1) (k : Fin 1024) (l : Fin 768), ix3 z k l = y := ⟨y 0, y 1, y 2, ix3_eta y⟩
  obtain rfl : z = 0 := Subsingleton.elim _ _
  blk_simp
  rw [after0_2]
  refine (out_apply _ _ k l).trans ?_
  have ht := count t
  have e0 : (win0_2.blk t).view.emb (ix3 0 k l) 0 = (⟨t.val % 8 / 2, by omega⟩ : Fin 4) :=
    Fin.ext (by blk_simp; rw [(index_at t).2.2]; show t.val % 8 / 2 + 0 = t.val % 8 / 2; omega)
  have e1 : (win0_2.blk t).view.emb (ix3 0 k l) 1 = (⟨1024 * (t.val / 8) + k.val, by omega⟩ : Fin 2048) :=
    Fin.ext (by blk_simp; rw [(index_at t).2.2]; show t.val / 8 * 1024 + k.val = 1024 * (t.val / 8) + k.val; omega)
  have e2 : (win0_2.blk t).view.emb (ix3 0 k l) 2 = (⟨768 * (t.val % 2) + l.val, by omega⟩ : Fin 1536) :=
    Fin.ext (by blk_simp; rw [(index_at t).2.2]; show t.val % 2 * 768 + l.val = 768 * (t.val % 2) + l.val; omega)
  refine Eq.trans ?_ (congr (congr (congrArg (weightGrad _ _ _) e0) e1) e2).symm
  refine Finset.sum_congr rfl fun s _ => ?_
  have e : (⟨768 * (t.val % 8) + l.val, by omega⟩ : Fin 6144) = column (R := 4) (n := 1536) rfl ⟨t.val % 8 / 2, by omega⟩ ⟨768 * (t.val % 2) + l.val, by omega⟩ :=
    Fin.ext (by rw [column_val]; show 768 * (t.val % 8) + l.val = 1536 * (t.val % 8 / 2) + (768 * (t.val % 2) + l.val); omega)
  exact congrArg₂ (fun a b : EReal => a * b) (block_h m c t s k) ((block_dz m c t s l).trans (congrArg (fun J => m ((c : Thread nD τ).loc main_arg1) (ix2 s J)) e))

end Cert.Kernel2Ideal

namespace Cert.Reference2Ideal

open Read Cert.Products

/-- The reference's gradient, as the same sum. -/
theorem grad_apply (h : FVec Ideal S2048x2048 .bf16) (dz : FVec Ideal S2048x6144 .bf16) (r : Fin 4) (k : Fin 2048) (n : Fin 1536) :
    val_main_v11 (F := Ideal) h dz (ix3 r k n) = weightGrad rfl h dz r k n := by
  rw [val_main_v11_apply, val_main_v10_apply, val_main_v9_apply, val_main_v8_apply, val_main_v7_apply]
  refine Finset.sum_congr rfl fun s _ => ?_
  refine (mul_comm _ _).trans ?_
  refine congrArg₂ (· * ·) (congrArg h (funext fun a => ?_)) (congrArg dz (funext fun a => ?_))
  · match a with
    | ⟨0, _⟩ => rfl
    | ⟨1, _⟩ => exact Fin.ext (by show ((k.val * 4 + r.val) * 1536 + n.val) / 6144 = k.val; omega)
  · match a with
    | ⟨0, _⟩ => rfl
    | ⟨1, _⟩ => exact Fin.ext (by show ((k.val * 4 + r.val) * 1536 + n.val) % 6144 = 1536 * r.val + n.val; omega)

end Cert.Reference2Ideal

namespace Cert.Proof2

theorem frame_ri : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem equal : Cert.algebraic_Kernel2Ideal_Reference2Ideal (hKernel2Ideal := Cert.Kernel2Ideal.Gen.facts) (hReference2Ideal := Cert.Reference2Ideal.Gen.facts) := by
  intro m g m' g' _ ha
  refine ⟨fun c => (Cert.Kernel2Ideal.Gen.dats m 0 c).arrAt 2 Cert.Kernel2Ideal.cfg0.N, Cert.Kernel2Ideal.Value.run_blocks m g, ?_⟩
  refine (θ_run _ _ _).mono (fun r h c => ?_) (Cert.Reference2Ideal.Value.run (F := Ideal) m' g')
  obtain ⟨h0, h1⟩ := h c
  obtain ⟨a0, a1⟩ := ha c
  rw [← StableHlo.launchContents_devRef m' c] at a0 a1
  refine ⟨h0.trans ((Cert.Reference2Ideal.Read.val_main_v11_eq (F := Ideal) _ _).trans ?_), h1⟩
  rw [← StableHlo.launchContents_devRef m' c, ← StableHlo.launchContents_devRef m' c, a0, a1]
  refine Eq.trans ?_ (Cert.Kernel2Ideal.result_end m c).symm
  funext j
  obtain ⟨r, k, n, rfl⟩ : ∃ r k n, ix3 r k n = j := ⟨j 0, j 1, j 2, ix3_eta j⟩
  exact Cert.Reference2Ideal.grad_apply _ _ r k n

end Cert.Proof2

end
-- ==== Proof.OInInput.lean ====
/- The gradient of the input of the odd branch's input product: `dz` times the weights transposed, the products of the four
   parts added up in a scratch buffer. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Products
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel3Ideal

open Gen Cert.Products

section Cases

variable (c : Dev nD) (i : grid0.Coords) (a3 : Memref sig .tc .vmem S1024x1536 .bf16) (h3 : a3.IsWhole) (a4 : Memref sig .tc .vmem S1x1024x1536 .bf16) (h4 : a4.IsWhole)
  (a6 : Memref sig .tc .vmem S1024x1024 .bf16) (h6 : a6.IsWhole) (a7 : Memref sig .tc .vmem S1024x1024 .f32) (h7 : a7.IsWhole)
  (x : Vec Ideal S1024x1536 .bf16) (y : Vec Ideal S1x1024x1536 .bf16) (s : Vec Ideal S1024x1024 .f32)

/-- The first part's product starts the sum, -/
theorem first_eq (hc0 : cond0_0 i) (hc1 : ¬cond0_1 i) (hc2 : ¬cond0_2 i) :
    sout0_A_0 (F := Ideal) c i a3 h3 a4 h4 a6 h6 a7 h7 hc0 hc1 hc2 x y = k0_pay1 x y := by
  unfold sout0_A_0
  rw [View.read_writes_eq_canon _ _ _ (scover0_A_0 c i a3 h3 a4 h4 a6 h6 a7 h7 hc0 hc1 hc2 x y)]
  unfold kernelRun0_A
  dsimp only
  rw [View.canon_unit_zero zero2]
  unfold k0_pay2
  simp only [View.readAt_eq_ld, h3.read_unread, h4.read_unread, View.ld_unit_zero (S := S1024x1536) zero2, View.ld_unit_zero (S := S1x1024x1536) zero3, shapeCast_self]
/-- the others are added to it, -/
theorem middle_eq (hc0 : ¬cond0_0 i) (hc1 : cond0_1 i) (hc2 : ¬cond0_2 i) :
    sout0_B_0 (F := Ideal) c i a3 h3 a4 h4 a6 h6 a7 h7 hc0 hc1 hc2 x y s = addf s (k0_pay1 x y) := by
  unfold sout0_B_0
  rw [View.read_writes_eq_canon _ _ _ (scover0_B_0 c i a3 h3 a4 h4 a6 h6 a7 h7 hc0 hc1 hc2 x y s)]
  unfold kernelRun0_B
  dsimp only
  rw [View.canon_unit_zero zero2]
  unfold k0_pay3
  simp only [View.readAt_eq_ld, h3.read_unread, h4.read_unread, h7.read_unread, View.ld_unit_zero (S := S1024x1536) zero2, View.ld_unit_zero (S := S1x1024x1536) zero3, View.ld_unit_zero (S := S1024x1024) zero2, shapeCast_self]
/-- and the sum with the last is the block. -/
theorem last_eq (hc0 : ¬cond0_0 i) (hc1 : cond0_1 i) (hc2 : cond0_2 i) :
    out0_C_2 (F := Ideal) c i a3 h3 a4 h4 a6 h6 a7 h7 hc0 hc1 hc2 x y s = k0_pay4 (addf s (k0_pay1 x y)) := by
  unfold out0_C_2
  rw [View.read_writes_eq_canon _ _ _ (cover0_C_2 c i a3 h3 a4 h4 a6 h6 a7 h7 hc0 hc1 hc2 x y s)]
  unfold kernelRun0_C
  dsimp only
  sl_unfold_words
  rw [View.canon_unit_zero zero2, View.readCov_unit_zero (S := S1024x1024) _ zero2]
  unfold k0_pay3
  simp only [View.readAt_eq_ld, h3.read_unread, h4.read_unread, h7.read_unread, View.ld_unit_zero (S := S1024x1536) zero2, View.ld_unit_zero (S := S1x1024x1536) zero3, View.ld_unit_zero (S := S1024x1024) zero2, shapeCast_self]

end Cases

/-- One part's product at an element. -/
theorem part_apply (x : Vec Ideal S1024x1536 .bf16) (y : Vec Ideal S1x1024x1536 .bf16) (u k : Fin 1024) :
    k0_pay1 (F := Ideal) x y (ix2 u k) = (∑ n : Fin 1536, x (ix2 u n) * y (ix3 0 k n) : EReal) := by
  simp only [pointwise, k0_pay1]
  exact zero_add _

variable (m : (ℓ : Loc nD τ sig) → Buf (Elt Ideal) ℓ)

theorem count (t : Fin cfg0.N) : t.val < 16 := lt_of_lt_of_eq t.isLt N_0

theorem at_first (c : Dev nD) (t : Fin cfg0.N) (h : t.val % 4 = 0) :
    (outsAt0 m c t.val t.isLt).2 = k0_pay1 (iblk m c 0 t) (iblk m c 1 t) := by
  rw [outsAt0_A m c t h (by omega) (by omega)]
  dsimp only
  rw [first_eq]
theorem at_middle (c : Dev nD) (t : Fin cfg0.N) (h : t.val % 4 ≠ 0) (h' : t.val % 4 ≠ 3) :
    (outsAt0 m c t.val t.isLt).2 = addf (outsAt0 m c (t.val - 1) (Nat.lt_of_le_of_lt (Nat.sub_le _ _) t.isLt)).2 (k0_pay1 (iblk m c 0 t) (iblk m c 1 t)) := by
  rw [outsAt0_B m c t h (by omega) h']
  dsimp only
  rw [middle_eq]
theorem at_last (c : Dev nD) (t : Fin cfg0.N) (h : t.val % 4 = 3) :
    (outsAt0 m c t.val t.isLt).1 = k0_pay4 (addf (outsAt0 m c (t.val - 1) (Nat.lt_of_le_of_lt (Nat.sub_le _ _) t.isLt)).2 (k0_pay1 (iblk m c 0 t) (iblk m c 1 t))) := by
  rw [outsAt0_C m c t (by omega) (by omega) h]
  dsimp only
  rw [last_eq]

/-- Every window's block index: point `8 · i + 4 · j + r` takes part `r` of the weights. -/
theorem index_at : ∀ t : Fin cfg0.N, win0_0.index t = ![t.val / 8, t.val % 4] ∧ win0_1.index t = ![t.val % 4, t.val / 4 % 2, 0]
    ∧ win0_2.index t = ![t.val / 8, t.val / 4 % 2] := by decide +kernel

theorem flush_at : ∀ t : Fin cfg0.N, (cfg0.win 2).flush t = true → t.val % 4 = 3 := by decide +kernel

theorem block_dz (c : Dev nD) (t : Fin cfg0.N) (u : Fin 1024) (n : Fin 1536) :
    iblk m c 0 t (ix2 u n) = m ((c : Thread nD τ).loc main_arg0) (ix2 (⟨1024 * (t.val / 8) + u.val, by have := count t; omega⟩ : Fin 2048) ⟨1536 * (t.val % 4) + n.val, by omega⟩) := by
  rw [← V_main_arg0 m c]
  blk_ext [iblk, (index_at t).1]
theorem block_w (c : Dev nD) (t : Fin cfg0.N) (k : Fin 1024) (n : Fin 1536) :
    iblk m c 1 t (ix3 0 k n) = m ((c : Thread nD τ).loc main_arg1) (ix3 (⟨t.val % 4, by omega⟩ : Fin 4) ⟨1024 * (t.val / 4 % 2) + k.val, by omega⟩ n) := by
  rw [← V_main_arg1 m c]
  blk_ext [iblk, (index_at t).2.1]

/-- The product of part `r` over the blocks of point `4 · (t / 4) + r`. -/
theorem part_at (c : Dev nD) (t : Fin cfg0.N) (u k : Fin 1024) (p : ℕ) (hp : p < 4) (hp' : t.val / 4 = p) (r : Fin 4) (hr : t.val % 4 = r.val) :
    k0_pay1 (F := Ideal) (iblk m c 0 t) (iblk m c 1 t) (ix2 u k)
      = partGrad (R := 4) (n := 1536) rfl (m ((c : Thread nD τ).loc main_arg0)) (m ((c : Thread nD τ).loc main_arg1))
        (⟨1024 * (p / 2) + u.val, by omega⟩ : Fin 2048) (⟨1024 * (p % 2) + k.val, by omega⟩ : Fin 2048) r := by
  refine (part_apply _ _ u k).trans (Finset.sum_congr rfl fun n _ => ?_)
  refine congrArg₂ (fun a b : EReal => a * b) ((block_dz m c t u n).trans ?_) ((block_w m c t k n).trans ?_)
  · exact congrArg (m ((c : Thread nD τ).loc main_arg0)) (congrArg₂ ix2
      (Fin.ext (by show 1024 * (t.val / 8) + u.val = 1024 * (p / 2) + u.val; omega))
      (Fin.ext (by rw [column_val]; show 1536 * (t.val % 4) + n.val = 1536 * r.val + n.val; omega)))
  · exact congrArg (m ((c : Thread nD τ).loc main_arg1)) (congr (congrArg₂ ix3 (Fin.ext hr)
      (Fin.ext (by show 1024 * (t.val / 4 % 2) + k.val = 1024 * (p % 2) + k.val; omega))) rfl)

/-- The block written back at the last point of a run: the four parts' products, added up. -/
theorem block_end (c : Dev nD) (t : Fin cfg0.N) (h : t.val % 4 = 3) (u k : Fin 1024) :
    (outsAt0 m c t.val t.isLt).1 (ix2 u k) = inputGrad (R := 4) (n := 1536) rfl (m ((c : Thread nD τ).loc main_arg0)) (m ((c : Thread nD τ).loc main_arg1))
      (⟨1024 * (t.val / 8) + u.val, by have := count t; omega⟩ : Fin 2048) (⟨1024 * (t.val / 4 % 2) + k.val, by omega⟩ : Fin 2048) := by
  have ht := count t
  have hN : cfg0.N = 16 := N_0
  have e2 := at_middle m c ⟨t.val - 1, by omega⟩ (by show (t.val - 1) % 4 ≠ 0; omega) (by show (t.val - 1) % 4 ≠ 3; omega)
  have e1 := at_middle m c ⟨t.val - 1 - 1, by omega⟩ (by show (t.val - 1 - 1) % 4 ≠ 0; omega) (by show (t.val - 1 - 1) % 4 ≠ 3; omega)
  have e0 := at_first m c ⟨t.val - 1 - 1 - 1, by omega⟩ (by show (t.val - 1 - 1 - 1) % 4 = 0; omega)
  dsimp only at e0 e1 e2
  rw [at_last m c t h, e2, e1, e0]
  unfold inputGrad
  rw [Fin.sum_univ_four]
  simp only [pointwise, k0_pay4]
  rw [part_at m c t u k (t.val / 4) (by omega) rfl 3 h,
    part_at m c ⟨t.val - 1, by omega⟩ u k (t.val / 4) (by omega) (by show (t.val - 1) / 4 = _; omega) 2 (by show (t.val - 1) % 4 = 2; omega),
    part_at m c ⟨t.val - 1 - 1, by omega⟩ u k (t.val / 4) (by omega) (by show (t.val - 1 - 1) / 4 = _; omega) 1 (by show (t.val - 1 - 1) % 4 = 1; omega),
    part_at m c ⟨t.val - 1 - 1 - 1, by omega⟩ u k (t.val / 4) (by omega) (by show (t.val - 1 - 1 - 1) / 4 = _; omega) 0 (by show (t.val - 1 - 1 - 1) % 4 = 0; omega)]
  have e : (⟨1024 * (t.val / 4 / 2) + u.val, by omega⟩ : Fin 2048) = ⟨1024 * (t.val / 8) + u.val, by omega⟩ := Fin.ext (by show 1024 * (t.val / 4 / 2) + u.val = 1024 * (t.val / 8) + u.val; omega)
  rw [e]

/-- The result, whole. -/
theorem result_end (c : Dev nD) : (dats m 0 c).arrAt 2 cfg0.N
    = fun j => inputGrad (R := 4) (n := 1536) rfl (m ((c : Thread nD τ).loc main_arg0)) (m ((c : Thread nD τ).loc main_arg1)) (j 0) (j 1) := by
  refine (dats m 0 c).arrAt_eq_of_covers 2 _ (by decide +kernel) fun t hf y => ?_
  obtain ⟨u, k, rfl⟩ : ∃ (u : Fin 1024) (k : Fin 1024), ix2 u k = y := ⟨y 0, y 1, ix2_eta y⟩
  blk_simp
  rw [after0_2]
  refine (block_end m c t (flush_at t hf) u k).trans ?_
  have ht := count t
  have e0 : (win0_2.blk t).view.emb (ix2 u k) 0 = (⟨1024 * (t.val / 8) + u.val, by omega⟩ : Fin 2048) :=
    Fin.ext (by blk_simp; rw [(index_at t).2.2]; show t.val / 8 * 1024 + u.val = 1024 * (t.val / 8) + u.val; omega)
  have e1 : (win0_2.blk t).view.emb (ix2 u k) 1 = (⟨1024 * (t.val / 4 % 2) + k.val, by omega⟩ : Fin 2048) :=
    Fin.ext (by blk_simp; rw [(index_at t).2.2]; show t.val / 4 % 2 * 1024 + k.val = 1024 * (t.val / 4 % 2) + k.val; omega)
  exact (congr (congrArg (inputGrad _ _ _) e0) e1).symm

end Cert.Kernel3Ideal

namespace Cert.Reference3Ideal

open Read Cert.Products

/-- The reference's gradient, as the same sum. -/
theorem grad_apply (dz : FVec Ideal S2048x6144 .bf16) (w : FVec Ideal S4x2048x1536 .bf16) (t k : Fin 2048) :
    val_main_v8 (F := Ideal) dz w (ix2 t k) = inputGrad (R := 4) (n := 1536) rfl dz w t k := by
  rw [val_main_v8_apply, val_main_v7_apply]
  refine (sum_columns (R := 4) (n := 1536) rfl _).trans ?_
  refine Finset.sum_congr rfl fun r _ => Finset.sum_congr rfl fun n _ => ?_
  rw [val_main_v4_apply, val_main_v3_apply]
  refine congrArg₂ (· * ·) (congrArg dz (funext fun a => ?_)) (congrArg w (funext fun a => ?_))
  · match a with
    | ⟨0, _⟩ => rfl
    | ⟨1, _⟩ => rfl
  · match a with
    | ⟨0, _⟩ => exact Fin.ext (by show (k.val * 6144 + (1536 * r.val + n.val)) / 1536 % 4 = r.val; omega)
    | ⟨1, _⟩ => exact Fin.ext (by show (k.val * 6144 + (1536 * r.val + n.val)) / 6144 = k.val; omega)
    | ⟨2, _⟩ => exact Fin.ext (by show (k.val * 6144 + (1536 * r.val + n.val)) % 1536 = n.val; omega)

end Cert.Reference3Ideal

namespace Cert.Proof3

theorem frame_ri : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem equal : Cert.algebraic_Kernel3Ideal_Reference3Ideal (hKernel3Ideal := Cert.Kernel3Ideal.Gen.facts) (hReference3Ideal := Cert.Reference3Ideal.Gen.facts) := by
  intro m g m' g' _ ha
  refine ⟨fun c => (Cert.Kernel3Ideal.Gen.dats m 0 c).arrAt 2 Cert.Kernel3Ideal.cfg0.N, Cert.Kernel3Ideal.Value.run_blocks m g, ?_⟩
  refine (θ_run _ _ _).mono (fun r h c => ?_) (Cert.Reference3Ideal.Value.run (F := Ideal) m' g')
  obtain ⟨h0, h1⟩ := h c
  obtain ⟨a0, a1, -⟩ := ha c
  rw [← StableHlo.launchContents_devRef m' c] at a0 a1
  refine ⟨h0.trans ((Cert.Reference3Ideal.Read.val_main_v8_eq (F := Ideal) _ _).trans ?_), h1⟩
  rw [← StableHlo.launchContents_devRef m' c, ← StableHlo.launchContents_devRef m' c, a0, a1]
  refine Eq.trans ?_ (Cert.Kernel3Ideal.result_end m c).symm
  funext j
  obtain ⟨t, k, rfl⟩ : ∃ t k, ix2 t k = j := ⟨j 0, j 1, ix2_eta j⟩
  exact Cert.Reference3Ideal.grad_apply _ _ t k

end Cert.Proof3

end
-- ==== Proof.EInWeight.lean ====
/- The gradient of the weights of the even branch's input product. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Products
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel4Ideal

open Gen Cert.Products

/-- A point's block of the result: the product of the two blocks read. -/
theorem out_apply (x : Vec Ideal S2048x1024 .bf16) (y : Vec Ideal S2048x1024 .bf16) (k : Fin 1024) (l : Fin 1024) :
    out0_2 (F := Ideal) x y (ix3 0 k l) = (∑ t : Fin 2048, x (ix2 t k) * y (ix2 t l) : EReal) := by
  unfold out0_2
  rw [View.canon_unit_zero zero3, View.ld_unit_zero (S := S2048x1024) zero2, View.ld_unit_zero (S := S2048x1024) zero2]
  simp only [pointwise, k0_pay1]
  exact zero_add _

variable (m : (ℓ : Loc nD τ sig) → Buf (Elt Ideal) ℓ)

/-- Every window's block index: point `12 · i + j` takes `1024` columns of `h` from the `i`-th and `1024` columns of `dz` from the `j`-th. -/
theorem index_at : ∀ t : Fin cfg0.N, win0_0.index t = ![0, t.val / 12] ∧ win0_1.index t = ![0, t.val % 12]
    ∧ win0_2.index t = ![t.val % 12 / 3, t.val / 12, t.val % 3] := by decide +kernel

theorem count (t : Fin cfg0.N) : t.val < 24 := lt_of_lt_of_eq t.isLt N_0

theorem block_h (c : Dev nD) (t : Fin cfg0.N) (s : Fin 2048) (k : Fin 1024) :
    iblk m c 0 t (ix2 s k) = m ((c : Thread nD τ).loc main_arg0) (ix2 s ⟨1024 * (t.val / 12) + k.val, by have := count t; omega⟩) := by
  rw [← V_main_arg0 m c]
  blk_ext [iblk, (index_at t).1]
theorem block_dz (c : Dev nD) (t : Fin cfg0.N) (s : Fin 2048) (l : Fin 1024) :
    iblk m c 1 t (ix2 s l) = m ((c : Thread nD τ).loc main_arg1) (ix2 s ⟨1024 * (t.val % 12) + l.val, by have := count t; omega⟩) := by
  rw [← V_main_arg1 m c]
  blk_ext [iblk, (index_at t).2.1]

/-- The result, whole. -/
theorem result_end (c : Dev nD) : (dats m 0 c).arrAt 2 cfg0.N
    = fun j => weightGrad (R := 4) (n := 3072) rfl (m ((c : Thread nD τ).loc main_arg0)) (m ((c : Thread nD τ).loc main_arg1)) (j 0) (j 1) (j 2) := by
  refine (dats m 0 c).arrAt_eq_of_covers 2 _ (by decide +kernel) fun t hf y => ?_
  obtain ⟨z, k, l, rfl⟩ : ∃ (z : Fin 1) (k : Fin 1024) (l : Fin 1024), ix3 z k l = y := ⟨y 0, y 1, y 2, ix3_eta y⟩
  obtain rfl : z = 0 := Subsingleton.elim _ _
  blk_simp
  rw [after0_2]
  refine (out_apply _ _ k l).trans ?_
  have ht := count t
  have e0 : (win0_2.blk t).view.emb (ix3 0 k l) 0 = (⟨t.val % 12 / 3, by omega⟩ : Fin 4) :=
    Fin.ext (by blk_simp; rw [(index_at t).2.2]; show t.val % 12 / 3 + 0 = t.val % 12 / 3; omega)
  have e1 : (win0_2.blk t).view.emb (ix3 0 k l) 1 = (⟨1024 * (t.val / 12) + k.val, by omega⟩ : Fin 2048) :=
    Fin.ext (by blk_simp; rw [(index_at t).2.2]; show t.val / 12 * 1024 + k.val = 1024 * (t.val / 12) + k.val; omega)
  have e2 : (win0_2.blk t).view.emb (ix3 0 k l) 2 = (⟨1024 * (t.val % 3) + l.val, by omega⟩ : Fin 3072) :=
    Fin.ext (by blk_simp; rw [(index_at t).2.2]; show t.val % 3 * 1024 + l.val = 1024 * (t.val % 3) + l.val; omega)
  refine Eq.trans ?_ (congr (congr (congrArg (weightGrad _ _ _) e0) e1) e2).symm
  refine Finset.sum_congr rfl fun s _ => ?_
  have e : (⟨1024 * (t.val % 12) + l.val, by omega⟩ : Fin 12288) = column (R := 4) (n := 3072) rfl ⟨t.val % 12 / 3, by omega⟩ ⟨1024 * (t.val % 3) + l.val, by omega⟩ :=
    Fin.ext (by rw [column_val]; show 1024 * (t.val % 12) + l.val = 3072 * (t.val % 12 / 3) + (1024 * (t.val % 3) + l.val); omega)
  exact congrArg₂ (fun a b : EReal => a * b) (block_h m c t s k) ((block_dz m c t s l).trans (congrArg (fun J => m ((c : Thread nD τ).loc main_arg1) (ix2 s J)) e))

end Cert.Kernel4Ideal

namespace Cert.Reference4Ideal

open Read Cert.Products

/-- The reference's gradient, as the same sum. -/
theorem grad_apply (h : FVec Ideal S2048x2048 .bf16) (dz : FVec Ideal S2048x12288 .bf16) (r : Fin 4) (k : Fin 2048) (n : Fin 3072) :
    val_main_v11 (F := Ideal) h dz (ix3 r k n) = weightGrad rfl h dz r k n := by
  rw [val_main_v11_apply, val_main_v10_apply, val_main_v9_apply, val_main_v8_apply, val_main_v7_apply]
  refine Finset.sum_congr rfl fun s _ => ?_
  refine (mul_comm _ _).trans ?_
  refine congrArg₂ (· * ·) (congrArg h (funext fun a => ?_)) (congrArg dz (funext fun a => ?_))
  · match a with
    | ⟨0, _⟩ => rfl
    | ⟨1, _⟩ => exact Fin.ext (by show ((k.val * 4 + r.val) * 3072 + n.val) / 12288 = k.val; omega)
  · match a with
    | ⟨0, _⟩ => rfl
    | ⟨1, _⟩ => exact Fin.ext (by show ((k.val * 4 + r.val) * 3072 + n.val) % 12288 = 3072 * r.val + n.val; omega)

end Cert.Reference4Ideal

namespace Cert.Proof4

theorem frame_ri : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem equal : Cert.algebraic_Kernel4Ideal_Reference4Ideal (hKernel4Ideal := Cert.Kernel4Ideal.Gen.facts) (hReference4Ideal := Cert.Reference4Ideal.Gen.facts) := by
  intro m g m' g' _ ha
  refine ⟨fun c => (Cert.Kernel4Ideal.Gen.dats m 0 c).arrAt 2 Cert.Kernel4Ideal.cfg0.N, Cert.Kernel4Ideal.Value.run_blocks m g, ?_⟩
  refine (θ_run _ _ _).mono (fun r h c => ?_) (Cert.Reference4Ideal.Value.run (F := Ideal) m' g')
  obtain ⟨h0, h1⟩ := h c
  obtain ⟨a0, a1⟩ := ha c
  rw [← StableHlo.launchContents_devRef m' c] at a0 a1
  refine ⟨h0.trans ((Cert.Reference4Ideal.Read.val_main_v11_eq (F := Ideal) _ _).trans ?_), h1⟩
  rw [← StableHlo.launchContents_devRef m' c, ← StableHlo.launchContents_devRef m' c, a0, a1]
  refine Eq.trans ?_ (Cert.Kernel4Ideal.result_end m c).symm
  funext j
  obtain ⟨r, k, n, rfl⟩ : ∃ r k n, ix3 r k n = j := ⟨j 0, j 1, j 2, ix3_eta j⟩
  exact Cert.Reference4Ideal.grad_apply _ _ r k n

end Cert.Proof4

end
-- ==== Proof.EInInput.lean ====
/- The gradient of the input of the even branch's input product: `dz` times the weights transposed, the products of the four
   parts added up in a scratch buffer; each part of the weights is in three pieces. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Products
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel5Ideal

open Gen Cert.Products

/-- One part's product: the columns of `dz` in three pieces, each against its piece of the weights. -/
def product (x : Vec Ideal S1024x3072 .bf16) (y y' y'' : Vec Ideal S1x1024x1024 .bf16) : FVec Ideal S1024x1024 .f32 :=
  k0_pay1 (View.ld x (Rect.unit (s := S1024x3072) ![0, 0] S1024x1024.size inb_S1024x3072_S1024x1024_0_0)) y
    (View.ld x (Rect.unit (s := S1024x3072) ![0, 1024] S1024x1024.size inb_S1024x3072_S1024x1024_0_1024)) y'
    (View.ld x (Rect.unit (s := S1024x3072) ![0, 2048] S1024x1024.size inb_S1024x3072_S1024x1024_0_2048)) y''

section Cases

variable (c : Dev nD) (i : grid0.Coords) (a3 : Memref sig .tc .vmem S1024x3072 .bf16) (h3 : a3.IsWhole) (a4 : Memref sig .tc .vmem S1x1024x1024 .bf16) (h4 : a4.IsWhole)
  (a5 : Memref sig .tc .vmem S1x1024x1024 .bf16) (h5 : a5.IsWhole) (a6 : Memref sig .tc .vmem S1x1024x1024 .bf16) (h6 : a6.IsWhole)
  (a8 : Memref sig .tc .vmem S1024x1024 .bf16) (h8 : a8.IsWhole) (a9 : Memref sig .tc .vmem S1024x1024 .f32) (h9 : a9.IsWhole)
  (x : Vec Ideal S1024x3072 .bf16) (y y' y'' : Vec Ideal S1x1024x1024 .bf16) (s : Vec Ideal S1024x1024 .f32)

/-- The first part's product starts the sum, -/
theorem first_eq (hc0 : cond0_0 i) (hc1 : ¬cond0_1 i) (hc2 : ¬cond0_2 i) :
    sout0_A_0 (F := Ideal) c i a3 h3 a4 h4 a5 h5 a6 h6 a8 h8 a9 h9 hc0 hc1 hc2 x y y' y'' = product x y y' y'' := by
  unfold sout0_A_0
  rw [View.read_writes_eq_canon _ _ _ (scover0_A_0 c i a3 h3 a4 h4 a5 h5 a6 h6 a8 h8 a9 h9 hc0 hc1 hc2 x y y' y'')]
  unfold kernelRun0_A
  dsimp only
  rw [View.canon_unit_zero zero2]
  unfold k0_pay2
  simp only [View.readAt_eq_ld, h3.read_unread, h4.read_unread, h5.read_unread, h6.read_unread, View.ld_unit_zero (S := S1x1024x1024) zero3, shapeCast_self, product]
/-- the others are added to it, -/
theorem middle_eq (hc0 : ¬cond0_0 i) (hc1 : cond0_1 i) (hc2 : ¬cond0_2 i) :
    sout0_B_0 (F := Ideal) c i a3 h3 a4 h4 a5 h5 a6 h6 a8 h8 a9 h9 hc0 hc1 hc2 x y y' y'' s = addf s (product x y y' y'') := by
  unfold sout0_B_0
  rw [View.read_writes_eq_canon _ _ _ (scover0_B_0 c i a3 h3 a4 h4 a5 h5 a6 h6 a8 h8 a9 h9 hc0 hc1 hc2 x y y' y'' s)]
  unfold kernelRun0_B
  dsimp only
  rw [View.canon_unit_zero zero2]
  unfold k0_pay3
  simp only [View.readAt_eq_ld, h3.read_unread, h4.read_unread, h5.read_unread, h6.read_unread, h9.read_unread, View.ld_unit_zero (S := S1x1024x1024) zero3, View.ld_unit_zero (S := S1024x1024) zero2, shapeCast_self, product]
/-- and the sum with the last is the block. -/
theorem last_eq (hc0 : ¬cond0_0 i) (hc1 : cond0_1 i) (hc2 : cond0_2 i) :
    out0_C_4 (F := Ideal) c i a3 h3 a4 h4 a5 h5 a6 h6 a8 h8 a9 h9 hc0 hc1 hc2 x y y' y'' s = k0_pay4 (addf s (product x y y' y'')) := by
  unfold out0_C_4
  rw [View.read_writes_eq_canon _ _ _ (cover0_C_4 c i a3 h3 a4 h4 a5 h5 a6 h6 a8 h8 a9 h9 hc0 hc1 hc2 x y y' y'' s)]
  unfold kernelRun0_C
  dsimp only
  sl_unfold_words
  rw [View.canon_unit_zero zero2, View.readCov_unit_zero (S := S1024x1024) _ zero2]
  unfold k0_pay3
  simp only [View.readAt_eq_ld, h3.read_unread, h4.read_unread, h5.read_unread, h6.read_unread, h9.read_unread, View.ld_unit_zero (S := S1x1024x1024) zero3, View.ld_unit_zero (S := S1024x1024) zero2, shapeCast_self, product]

end Cases

/-- It, at an element. -/
theorem part_apply (x : Vec Ideal S1024x3072 .bf16) (y y' y'' : Vec Ideal S1x1024x1024 .bf16) (u k : Fin 1024) :
    product x y y' y'' (ix2 u k) = (∑ n : Fin 1024, x (ix2 u (column (R := 3) rfl 0 n)) * y (ix3 0 k n) + ∑ n : Fin 1024, x (ix2 u (column (R := 3) rfl 1 n)) * y' (ix3 0 k n)
      + ∑ n : Fin 1024, x (ix2 u (column (R := 3) rfl 2 n)) * y'' (ix3 0 k n) : EReal) := by
  unfold product
  simp only [pointwise, k0_pay1]
  have e (a : ℕ) (x' : Vec Ideal S1x1024x1024 .bf16) (q : Fin 3) (ha : a = 1024 * q.val) (h0 : ∀ n : Fin 1024, 0 + 1 * u.val < 1024) (h1 : ∀ n : Fin 1024, a + 1 * n.val < 3072) :
      (0 + ∑ n : Fin 1024, x (ix2 ⟨0 + 1 * u.val, h0 n⟩ ⟨a + 1 * n.val, h1 n⟩) * x' (ix3 0 k n) : EReal)
        = ∑ n : Fin 1024, x (ix2 u (column (R := 3) rfl q n)) * x' (ix3 0 k n) :=
    (zero_add _).trans (Finset.sum_congr rfl fun n _ => congrArg₂ (fun a b : EReal => a * b) (congrArg x (congrArg₂ ix2
      (Fin.ext (show 0 + 1 * u.val = u.val by omega)) (Fin.ext (show a + 1 * n.val = 1024 * q.val + n.val by omega)))) rfl)
  exact congrArg₂ (fun a b : EReal => a + b) (congrArg₂ (fun a b : EReal => a + b)
    (e 0 y 0 rfl (fun _ => by omega) fun _ => by omega) (e 1024 y' 1 rfl (fun _ => by omega) fun _ => by omega)) (e 2048 y'' 2 rfl (fun _ => by omega) fun _ => by omega)

variable (m : (ℓ : Loc nD τ sig) → Buf (Elt Ideal) ℓ)

theorem count (t : Fin cfg0.N) : t.val < 16 := lt_of_lt_of_eq t.isLt N_0

theorem at_first (c : Dev nD) (t : Fin cfg0.N) (h : t.val % 4 = 0) :
    (outsAt0 m c t.val t.isLt).2 = product (iblk m c 0 t) (iblk m c 1 t) (iblk m c 2 t) (iblk m c 3 t) := by
  rw [outsAt0_A m c t h (by omega) (by omega)]
  dsimp only
  rw [first_eq]
theorem at_middle (c : Dev nD) (t : Fin cfg0.N) (h : t.val % 4 ≠ 0) (h' : t.val % 4 ≠ 3) :
    (outsAt0 m c t.val t.isLt).2 = addf (outsAt0 m c (t.val - 1) (Nat.lt_of_le_of_lt (Nat.sub_le _ _) t.isLt)).2 (product (iblk m c 0 t) (iblk m c 1 t) (iblk m c 2 t) (iblk m c 3 t)) := by
  rw [outsAt0_B m c t h (by omega) h']
  dsimp only
  rw [middle_eq]
theorem at_last (c : Dev nD) (t : Fin cfg0.N) (h : t.val % 4 = 3) :
    (outsAt0 m c t.val t.isLt).1 = k0_pay4 (addf (outsAt0 m c (t.val - 1) (Nat.lt_of_le_of_lt (Nat.sub_le _ _) t.isLt)).2 (product (iblk m c 0 t) (iblk m c 1 t) (iblk m c 2 t) (iblk m c 3 t))) := by
  rw [outsAt0_C m c t (by omega) (by omega) h]
  dsimp only
  rw [last_eq]

/-- Every window's block index: point `8 · i + 4 · j + r` takes part `r` of the weights, the same block of each piece. -/
theorem index_at : ∀ t : Fin cfg0.N, win0_0.index t = ![t.val / 8, t.val % 4] ∧ win0_1.index t = ![t.val % 4, t.val / 4 % 2, 0]
    ∧ win0_2.index t = ![t.val % 4, t.val / 4 % 2, 0] ∧ win0_3.index t = ![t.val % 4, t.val / 4 % 2, 0]
    ∧ win0_4.index t = ![t.val / 8, t.val / 4 % 2] := by decide +kernel

theorem flush_at : ∀ t : Fin cfg0.N, (cfg0.win 4).flush t = true → t.val % 4 = 3 := by decide +kernel

theorem block_dz (c : Dev nD) (t : Fin cfg0.N) (u : Fin 1024) (n : Fin 3072) :
    iblk m c 0 t (ix2 u n) = m ((c : Thread nD τ).loc main_arg0) (ix2 (⟨1024 * (t.val / 8) + u.val, by have := count t; omega⟩ : Fin 2048) ⟨3072 * (t.val % 4) + n.val, by omega⟩) := by
  rw [← V_main_arg0 m c]
  blk_ext [iblk, (index_at t).1]
theorem block_w (c : Dev nD) (t : Fin cfg0.N) (k n : Fin 1024) :
    iblk m c 1 t (ix3 0 k n) = m ((c : Thread nD τ).loc main_arg1) (ix3 (⟨t.val % 4, by omega⟩ : Fin 4) ⟨1024 * (t.val / 4 % 2) + k.val, by omega⟩ n) := by
  rw [← V_main_arg1 m c]
  blk_ext [iblk, (index_at t).2.1]
theorem block_w' (c : Dev nD) (t : Fin cfg0.N) (k n : Fin 1024) :
    iblk m c 2 t (ix3 0 k n) = m ((c : Thread nD τ).loc main_arg2) (ix3 (⟨t.val % 4, by omega⟩ : Fin 4) ⟨1024 * (t.val / 4 % 2) + k.val, by omega⟩ n) := by
  rw [← V_main_arg2 m c]
  blk_ext [iblk, (index_at t).2.2.1]
theorem block_w'' (c : Dev nD) (t : Fin cfg0.N) (k n : Fin 1024) :
    iblk m c 3 t (ix3 0 k n) = m ((c : Thread nD τ).loc main_arg3) (ix3 (⟨t.val % 4, by omega⟩ : Fin 4) ⟨1024 * (t.val / 4 % 2) + k.val, by omega⟩ n) := by
  rw [← V_main_arg3 m c]
  blk_ext [iblk, (index_at t).2.2.2.1]

/-- The whole weights. -/
abbrev weights (c : Dev nD) : Parts 4 2048 3072 :=
  joined (n := 1024) (m ((c : Thread nD τ).loc main_arg1)) (m ((c : Thread nD τ).loc main_arg2)) (m ((c : Thread nD τ).loc main_arg3))

/-- The product of part `r` over the blocks of point `4 · (t / 4) + r`. -/
theorem part_at (c : Dev nD) (t : Fin cfg0.N) (u k : Fin 1024) (p : ℕ) (hp : p < 4) (hp' : t.val / 4 = p) (r : Fin 4) (hr : t.val % 4 = r.val) :
    product (iblk m c 0 t) (iblk m c 1 t) (iblk m c 2 t) (iblk m c 3 t) (ix2 u k)
      = partGrad (R := 4) (n := 3072) rfl (m ((c : Thread nD τ).loc main_arg0)) (weights m c)
        (⟨1024 * (p / 2) + u.val, by omega⟩ : Fin 2048) (⟨1024 * (p % 2) + k.val, by omega⟩ : Fin 2048) r := by
  refine (part_apply _ _ _ _ u k).trans (Eq.trans ?_ (partGrad_joined (n := 1024) rfl _ _ _ _ _ _ r).symm)
  have hz (n : Fin 3072) : iblk m c 0 t (ix2 u n) = m ((c : Thread nD τ).loc main_arg0) (ix2 (⟨1024 * (p / 2) + u.val, by omega⟩ : Fin 2048) (column (R := 4) (n := 3072) rfl r n)) :=
    (block_dz m c t u n).trans (congrArg (m ((c : Thread nD τ).loc main_arg0)) (congrArg₂ ix2
      (Fin.ext (by show 1024 * (t.val / 8) + u.val = 1024 * (p / 2) + u.val; omega))
      (Fin.ext (by rw [column_val]; show 3072 * (t.val % 4) + n.val = 3072 * r.val + n.val; omega))))
  have hw (n : Fin 1024) : ix3 (⟨t.val % 4, by omega⟩ : Fin 4) (⟨1024 * (t.val / 4 % 2) + k.val, by omega⟩ : Fin 2048) n
      = ix3 r (⟨1024 * (p % 2) + k.val, by omega⟩ : Fin 2048) n :=
    congr (congrArg₂ ix3 (Fin.ext hr) (Fin.ext (by show 1024 * (t.val / 4 % 2) + k.val = 1024 * (p % 2) + k.val; omega))) rfl
  refine congrArg₂ (fun a b : EReal => a + b) (congrArg₂ (fun a b : EReal => a + b) ?_ ?_) ?_
  · exact Finset.sum_congr rfl fun n _ => congrArg₂ (fun a b : EReal => a * b) (hz _) ((block_w m c t k n).trans (congrArg (m ((c : Thread nD τ).loc main_arg1)) (hw n)))
  · exact Finset.sum_congr rfl fun n _ => congrArg₂ (fun a b : EReal => a * b) (hz _) ((block_w' m c t k n).trans (congrArg (m ((c : Thread nD τ).loc main_arg2)) (hw n)))
  · exact Finset.sum_congr rfl fun n _ => congrArg₂ (fun a b : EReal => a * b) (hz _) ((block_w'' m c t k n).trans (congrArg (m ((c : Thread nD τ).loc main_arg3)) (hw n)))

/-- The block written back at the last point of a run: the four parts' products, added up. -/
theorem block_end (c : Dev nD) (t : Fin cfg0.N) (h : t.val % 4 = 3) (u k : Fin 1024) :
    (outsAt0 m c t.val t.isLt).1 (ix2 u k) = inputGrad (R := 4) (n := 3072) rfl (m ((c : Thread nD τ).loc main_arg0)) (weights m c)
      (⟨1024 * (t.val / 8) + u.val, by have := count t; omega⟩ : Fin 2048) (⟨1024 * (t.val / 4 % 2) + k.val, by omega⟩ : Fin 2048) := by
  have ht := count t
  have hN : cfg0.N = 16 := N_0
  have e2 := at_middle m c ⟨t.val - 1, by omega⟩ (by show (t.val - 1) % 4 ≠ 0; omega) (by show (t.val - 1) % 4 ≠ 3; omega)
  have e1 := at_middle m c ⟨t.val - 1 - 1, by omega⟩ (by show (t.val - 1 - 1) % 4 ≠ 0; omega) (by show (t.val - 1 - 1) % 4 ≠ 3; omega)
  have e0 := at_first m c ⟨t.val - 1 - 1 - 1, by omega⟩ (by show (t.val - 1 - 1 - 1) % 4 = 0; omega)
  dsimp only at e0 e1 e2
  rw [at_last m c t h, e2, e1, e0]
  unfold inputGrad
  rw [Fin.sum_univ_four]
  simp only [pointwise, k0_pay4]
  rw [part_at m c t u k (t.val / 4) (by omega) rfl 3 h,
    part_at m c ⟨t.val - 1, by omega⟩ u k (t.val / 4) (by omega) (by show (t.val - 1) / 4 = _; omega) 2 (by show (t.val - 1) % 4 = 2; omega),
    part_at m c ⟨t.val - 1 - 1, by omega⟩ u k (t.val / 4) (by omega) (by show (t.val - 1 - 1) / 4 = _; omega) 1 (by show (t.val - 1 - 1) % 4 = 1; omega),
    part_at m c ⟨t.val - 1 - 1 - 1, by omega⟩ u k (t.val / 4) (by omega) (by show (t.val - 1 - 1 - 1) / 4 = _; omega) 0 (by show (t.val - 1 - 1 - 1) % 4 = 0; omega)]
  have e : (⟨1024 * (t.val / 4 / 2) + u.val, by omega⟩ : Fin 2048) = ⟨1024 * (t.val / 8) + u.val, by omega⟩ := Fin.ext (by show 1024 * (t.val / 4 / 2) + u.val = 1024 * (t.val / 8) + u.val; omega)
  rw [e]

/-- The result, whole. -/
theorem result_end (c : Dev nD) : (dats m 0 c).arrAt 4 cfg0.N
    = fun j => inputGrad (R := 4) (n := 3072) rfl (m ((c : Thread nD τ).loc main_arg0)) (weights m c) (j 0) (j 1) := by
  refine (dats m 0 c).arrAt_eq_of_covers 4 _ (by decide +kernel) fun t hf y => ?_
  obtain ⟨u, k, rfl⟩ : ∃ (u : Fin 1024) (k : Fin 1024), ix2 u k = y := ⟨y 0, y 1, ix2_eta y⟩
  blk_simp
  rw [after0_4]
  refine (block_end m c t (flush_at t hf) u k).trans ?_
  have ht := count t
  have e0 : (win0_4.blk t).view.emb (ix2 u k) 0 = (⟨1024 * (t.val / 8) + u.val, by omega⟩ : Fin 2048) :=
    Fin.ext (by blk_simp; rw [(index_at t).2.2.2.2]; show t.val / 8 * 1024 + u.val = 1024 * (t.val / 8) + u.val; omega)
  have e1 : (win0_4.blk t).view.emb (ix2 u k) 1 = (⟨1024 * (t.val / 4 % 2) + k.val, by omega⟩ : Fin 2048) :=
    Fin.ext (by blk_simp; rw [(index_at t).2.2.2.2]; show t.val / 4 % 2 * 1024 + k.val = 1024 * (t.val / 4 % 2) + k.val; omega)
  exact (congr (congrArg (inputGrad _ _ _) e0) e1).symm

end Cert.Kernel5Ideal

namespace Cert.Reference5Ideal

open Read Cert.Products

/-- The pieces of the weights put together, at an element. -/
theorem weights_at (w w' w'' : FVec Ideal S4x2048x1024 .bf16) (r : Fin 4) (k : Fin 2048) (n : Fin 3072) :
    val_main_v1 (F := Ideal) w w' w'' (ix3 r k n) = if h : n.val < 1024 then w (ix3 r k ⟨n.val, h⟩)
      else if h' : n.val - 1024 < 1024 then w' (ix3 r k ⟨n.val - 1024, h'⟩)
      else w'' (ix3 r k ⟨n.val - 1024 - 1024, by omega⟩) := by
  unfold val_main_v1
  simp only [pointwise]
  by_cases h : n.val < 1024
  · refine (dif_pos h).trans (Eq.trans ?_ (dif_pos h).symm); rfl
  · refine (dif_neg h).trans (Eq.trans ?_ (dif_neg h).symm)
    by_cases h' : n.val - 1024 < 1024
    · refine (dif_pos h').trans (Eq.trans ?_ (dif_pos h').symm); rfl
    · refine (dif_neg h').trans (Eq.trans ?_ (dif_neg h').symm); rfl
/-- The pieces of the weights put together, as the reference puts them. -/
theorem weights_eq (w w' w'' : FVec Ideal S4x2048x1024 .bf16) : val_main_v1 (F := Ideal) w w' w'' = joined (n := 1024) w w' w'' := by
  funext j
  obtain ⟨r, k, n, rfl⟩ : ∃ (r : Fin 4) (k : Fin 2048) (n : Fin 3072), ix3 r k n = j := ⟨j 0, j 1, j 2, ix3_eta j⟩
  exact weights_at w w' w'' r k n

/-- The reference's gradient, as the same sum. -/
theorem grad_apply (dz : FVec Ideal S2048x12288 .bf16) (w w' w'' : FVec Ideal S4x2048x1024 .bf16) (t k : Fin 2048) :
    val_main_v9 (F := Ideal) dz w w' w'' (ix2 t k) = inputGrad (R := 4) (n := 3072) rfl dz (joined (n := 1024) w w' w'') t k := by
  rw [val_main_v9_apply, val_main_v8_apply, ← weights_eq]
  refine (sum_columns (R := 4) (n := 3072) rfl _).trans ?_
  refine Finset.sum_congr rfl fun r _ => Finset.sum_congr rfl fun n _ => ?_
  rw [val_main_v5_apply, val_main_v4_apply, val_main_v3_apply]
  refine congrArg₂ (· * ·) (congrArg dz (funext fun a => ?_)) (congrArg (val_main_v1 (F := Ideal) w w' w'') (funext fun a => ?_))
  · match a with
    | ⟨0, _⟩ => rfl
    | ⟨1, _⟩ => rfl
  · match a with
    | ⟨0, _⟩ => exact Fin.ext (by show (k.val * 12288 + (3072 * r.val + n.val)) / 3072 % 4 = r.val; omega)
    | ⟨1, _⟩ => exact Fin.ext (by show (k.val * 12288 + (3072 * r.val + n.val)) / 12288 = k.val; omega)
    | ⟨2, _⟩ => exact Fin.ext (by show (k.val * 12288 + (3072 * r.val + n.val)) % 3072 = n.val; omega)

end Cert.Reference5Ideal

namespace Cert.Proof5

theorem frame_ri : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem equal : Cert.algebraic_Kernel5Ideal_Reference5Ideal (hKernel5Ideal := Cert.Kernel5Ideal.Gen.facts) (hReference5Ideal := Cert.Reference5Ideal.Gen.facts) := by
  intro m g m' g' _ ha
  refine ⟨fun c => (Cert.Kernel5Ideal.Gen.dats m 0 c).arrAt 4 Cert.Kernel5Ideal.cfg0.N, Cert.Kernel5Ideal.Value.run_blocks m g, ?_⟩
  refine (θ_run _ _ _).mono (fun r h c => ?_) (Cert.Reference5Ideal.Value.run (F := Ideal) m' g')
  obtain ⟨h0, h1⟩ := h c
  obtain ⟨a0, a1, a2, a3, -⟩ := ha c
  rw [← StableHlo.launchContents_devRef m' c] at a0 a1 a2 a3
  refine ⟨h0.trans ((Cert.Reference5Ideal.Read.val_main_v9_eq (F := Ideal) _ _ _ _).trans ?_), h1⟩
  simp only [← StableHlo.launchContents_devRef m' c, a0, a1, a2, a3]
  refine Eq.trans ?_ (Cert.Kernel5Ideal.result_end m c).symm
  funext j
  obtain ⟨t, k, rfl⟩ : ∃ t k, ix2 t k = j := ⟨j 0, j 1, ix2_eta j⟩
  exact Cert.Reference5Ideal.grad_apply _ _ _ _ t k

end Cert.Proof5

end
-- ==== Proof.OutWeight.lean ====
/- The gradient of the weights of a branch's output product, which are one part. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Products
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel6Ideal

open Gen Cert.Products

/-- A point's block of the result: the product of the two blocks read. -/
theorem out_apply (x : Vec Ideal S2048x1024 .bf16) (y : Vec Ideal S2048x1024 .bf16) (k : Fin 1024) (l : Fin 1024) :
    out0_2 (F := Ideal) x y (ix3 0 k l) = (∑ t : Fin 2048, x (ix2 t k) * y (ix2 t l) : EReal) := by
  unfold out0_2
  rw [View.canon_unit_zero zero3, View.ld_unit_zero (S := S2048x1024) zero2, View.ld_unit_zero (S := S2048x1024) zero2]
  simp only [pointwise, k0_pay1]
  exact zero_add _

variable (m : (ℓ : Loc nD τ sig) → Buf (Elt Ideal) ℓ)

/-- Every window's block index: point `2 · i + j` takes `1024` columns of `h` from the `i`-th and `1024` columns of `dz` from the `j`-th. -/
theorem index_at : ∀ t : Fin cfg0.N, win0_0.index t = ![0, t.val / 2] ∧ win0_1.index t = ![0, t.val % 2]
    ∧ win0_2.index t = ![t.val % 2 / 2, t.val / 2, t.val % 2] := by decide +kernel

theorem count (t : Fin cfg0.N) : t.val < 4 := lt_of_lt_of_eq t.isLt N_0

theorem block_h (c : Dev nD) (t : Fin cfg0.N) (s : Fin 2048) (k : Fin 1024) :
    iblk m c 0 t (ix2 s k) = m ((c : Thread nD τ).loc main_arg0) (ix2 s ⟨1024 * (t.val / 2) + k.val, by have := count t; omega⟩) := by
  rw [← V_main_arg0 m c]
  blk_ext [iblk, (index_at t).1]
theorem block_dz (c : Dev nD) (t : Fin cfg0.N) (s : Fin 2048) (l : Fin 1024) :
    iblk m c 1 t (ix2 s l) = m ((c : Thread nD τ).loc main_arg1) (ix2 s ⟨1024 * (t.val % 2) + l.val, by have := count t; omega⟩) := by
  rw [← V_main_arg1 m c]
  blk_ext [iblk, (index_at t).2.1]

/-- The result, whole. -/
theorem result_end (c : Dev nD) : (dats m 0 c).arrAt 2 cfg0.N
    = fun j => weightGrad (R := 1) (n := 2048) rfl (m ((c : Thread nD τ).loc main_arg0)) (m ((c : Thread nD τ).loc main_arg1)) (j 0) (j 1) (j 2) := by
  refine (dats m 0 c).arrAt_eq_of_covers 2 _ (by decide +kernel) fun t hf y => ?_
  obtain ⟨z, k, l, rfl⟩ : ∃ (z : Fin 1) (k : Fin 1024) (l : Fin 1024), ix3 z k l = y := ⟨y 0, y 1, y 2, ix3_eta y⟩
  obtain rfl : z = 0 := Subsingleton.elim _ _
  blk_simp
  rw [after0_2]
  refine (out_apply _ _ k l).trans ?_
  have ht := count t
  have e0 : (win0_2.blk t).view.emb (ix3 0 k l) 0 = (⟨t.val % 2 / 2, by omega⟩ : Fin 1) :=
    Fin.ext (by blk_simp; rw [(index_at t).2.2]; show t.val % 2 / 2 + 0 = t.val % 2 / 2; omega)
  have e1 : (win0_2.blk t).view.emb (ix3 0 k l) 1 = (⟨1024 * (t.val / 2) + k.val, by omega⟩ : Fin 2048) :=
    Fin.ext (by blk_simp; rw [(index_at t).2.2]; show t.val / 2 * 1024 + k.val = 1024 * (t.val / 2) + k.val; omega)
  have e2 : (win0_2.blk t).view.emb (ix3 0 k l) 2 = (⟨1024 * (t.val % 2) + l.val, by omega⟩ : Fin 2048) :=
    Fin.ext (by blk_simp; rw [(index_at t).2.2]; show t.val % 2 * 1024 + l.val = 1024 * (t.val % 2) + l.val; omega)
  refine Eq.trans ?_ (congr (congr (congrArg (weightGrad _ _ _) e0) e1) e2).symm
  refine Finset.sum_congr rfl fun s _ => ?_
  have e : (⟨1024 * (t.val % 2) + l.val, by omega⟩ : Fin 2048) = column (R := 1) (n := 2048) rfl ⟨t.val % 2 / 2, by omega⟩ ⟨1024 * (t.val % 2) + l.val, by omega⟩ :=
    Fin.ext (by rw [column_val]; show 1024 * (t.val % 2) + l.val = 2048 * (t.val % 2 / 2) + (1024 * (t.val % 2) + l.val); omega)
  exact congrArg₂ (fun a b : EReal => a * b) (block_h m c t s k) ((block_dz m c t s l).trans (congrArg (fun J => m ((c : Thread nD τ).loc main_arg1) (ix2 s J)) e))

end Cert.Kernel6Ideal

namespace Cert.Reference6Ideal

open Read Cert.Products

/-- The reference's gradient, as the same sum. -/
theorem grad_apply (h : FVec Ideal S2048x2048 .bf16) (dz : FVec Ideal S2048x2048 .bf16) (r : Fin 1) (k : Fin 2048) (n : Fin 2048) :
    val_main_v11 (F := Ideal) h dz (ix3 r k n) = weightGrad rfl h dz r k n := by
  rw [val_main_v11_apply, val_main_v10_apply, val_main_v9_apply, val_main_v8_apply, val_main_v7_apply]
  refine Finset.sum_congr rfl fun s _ => ?_
  refine (mul_comm _ _).trans ?_
  refine congrArg₂ (· * ·) (congrArg h (funext fun a => ?_)) (congrArg dz (funext fun a => ?_))
  · match a with
    | ⟨0, _⟩ => rfl
    | ⟨1, _⟩ => exact Fin.ext (by show ((k.val * 1 + r.val) * 2048 + n.val) / 2048 = k.val; omega)
  · match a with
    | ⟨0, _⟩ => rfl
    | ⟨1, _⟩ => exact Fin.ext (by show ((k.val * 1 + r.val) * 2048 + n.val) % 2048 = 2048 * r.val + n.val; omega)

end Cert.Reference6Ideal

namespace Cert.Proof6

theorem frame_ri : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem equal : Cert.algebraic_Kernel6Ideal_Reference6Ideal (hKernel6Ideal := Cert.Kernel6Ideal.Gen.facts) (hReference6Ideal := Cert.Reference6Ideal.Gen.facts) := by
  intro m g m' g' _ ha
  refine ⟨fun c => (Cert.Kernel6Ideal.Gen.dats m 0 c).arrAt 2 Cert.Kernel6Ideal.cfg0.N, Cert.Kernel6Ideal.Value.run_blocks m g, ?_⟩
  refine (θ_run _ _ _).mono (fun r h c => ?_) (Cert.Reference6Ideal.Value.run (F := Ideal) m' g')
  obtain ⟨h0, h1⟩ := h c
  obtain ⟨a0, a1⟩ := ha c
  rw [← StableHlo.launchContents_devRef m' c] at a0 a1
  refine ⟨h0.trans ((Cert.Reference6Ideal.Read.val_main_v11_eq (F := Ideal) _ _).trans ?_), h1⟩
  rw [← StableHlo.launchContents_devRef m' c, ← StableHlo.launchContents_devRef m' c, a0, a1]
  refine Eq.trans ?_ (Cert.Kernel6Ideal.result_end m c).symm
  funext j
  obtain ⟨r, k, n, rfl⟩ : ∃ r k n, ix3 r k n = j := ⟨j 0, j 1, j 2, ix3_eta j⟩
  exact Cert.Reference6Ideal.grad_apply _ _ r k n

end Cert.Proof6

end
-- ==== Proof.OutInput.lean ====
/- The gradient of the input of a branch's output product, whose weights are one part. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Products
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel7Ideal

open Gen Cert.Products

/-- A point's block of the result: the product of the two blocks read. -/
theorem out_eq (c : Dev nD) (i : grid0.Coords) (a3 : Memref sig .tc .vmem S1024x2048 .bf16) (h3 : a3.IsWhole) (a4 : Memref sig .tc .vmem S1x1024x2048 .bf16) (h4 : a4.IsWhole)
    (a6 : Memref sig .tc .vmem S1024x1024 .bf16) (h6 : a6.IsWhole) (x : Vec Ideal S1024x2048 .bf16) (y : Vec Ideal S1x1024x2048 .bf16) :
    out0_A_2 (F := Ideal) c i a3 h3 a4 h4 a6 h6 x y = k0_pay1 x y := by
  unfold out0_A_2
  rw [View.read_writes_eq_canon _ _ _ (cover0_A_2 c i a3 h3 a4 h4 a6 h6 x y)]
  unfold kernelRun0_A
  dsimp only
  rw [View.canon_unit_zero zero2]
  simp only [View.readAt_eq_ld, h3.read_unread, h4.read_unread, View.ld_unit_zero (S := S1024x2048) zero2, View.ld_unit_zero (S := S1x1024x2048) zero3]

theorem out_apply (x : Vec Ideal S1024x2048 .bf16) (y : Vec Ideal S1x1024x2048 .bf16) (u k : Fin 1024) :
    k0_pay1 (F := Ideal) x y (ix2 u k) = (∑ n : Fin 2048, x (ix2 u n) * y (ix3 0 k n) : EReal) := by
  simp only [pointwise, k0_pay1]
  exact zero_add _

variable (m : (ℓ : Loc nD τ sig) → Buf (Elt Ideal) ℓ)

theorem count (t : Fin cfg0.N) : t.val < 4 := lt_of_lt_of_eq t.isLt N_0

/-- Every window's block index, at point `2 · i + j`. -/
theorem index_at : ∀ t : Fin cfg0.N, win0_0.index t = ![t.val / 2, 0] ∧ win0_1.index t = ![0, t.val % 2, 0]
    ∧ win0_2.index t = ![t.val / 2, t.val % 2] := by decide +kernel

theorem block_dz (c : Dev nD) (t : Fin cfg0.N) (u : Fin 1024) (n : Fin 2048) :
    iblk m c 0 t (ix2 u n) = m ((c : Thread nD τ).loc main_arg0) (ix2 (⟨1024 * (t.val / 2) + u.val, by have := count t; omega⟩ : Fin 2048) n) := by
  rw [← V_main_arg0 m c]
  blk_ext [iblk, (index_at t).1]
theorem block_w (c : Dev nD) (t : Fin cfg0.N) (k : Fin 1024) (n : Fin 2048) :
    iblk m c 1 t (ix3 0 k n) = m ((c : Thread nD τ).loc main_arg1) (ix3 (0 : Fin 1) ⟨1024 * (t.val % 2) + k.val, by omega⟩ n) := by
  rw [← V_main_arg1 m c]
  blk_ext [iblk, (index_at t).2.1]

/-- The block written back. -/
theorem block_end (c : Dev nD) (t : Fin cfg0.N) (u k : Fin 1024) :
    outsAt0 m c t (ix2 u k) = inputGrad (R := 1) (n := 2048) rfl (m ((c : Thread nD τ).loc main_arg0)) (m ((c : Thread nD τ).loc main_arg1))
      (⟨1024 * (t.val / 2) + u.val, by have := count t; omega⟩ : Fin 2048) (⟨1024 * (t.val % 2) + k.val, by omega⟩ : Fin 2048) := by
  unfold outsAt0
  rw [out_eq]
  refine (out_apply _ _ u k).trans (Eq.trans ?_ (Fin.sum_univ_one _).symm)
  refine Finset.sum_congr rfl fun n _ => congrArg₂ (fun a b : EReal => a * b) ((block_dz m c t u n).trans ?_) (block_w m c t k n)
  exact congrArg (fun J => m ((c : Thread nD τ).loc main_arg0) (ix2 (⟨1024 * (t.val / 2) + u.val, by have := count t; omega⟩ : Fin 2048) J))
    (Fin.ext (show n.val = 2048 * 0 + n.val by omega))

/-- The result, whole. -/
theorem result_end (c : Dev nD) : (dats m 0 c).arrAt 2 cfg0.N
    = fun j => inputGrad (R := 1) (n := 2048) rfl (m ((c : Thread nD τ).loc main_arg0)) (m ((c : Thread nD τ).loc main_arg1)) (j 0) (j 1) := by
  refine (dats m 0 c).arrAt_eq_of_covers 2 _ (by decide +kernel) fun t hf y => ?_
  obtain ⟨u, k, rfl⟩ : ∃ (u : Fin 1024) (k : Fin 1024), ix2 u k = y := ⟨y 0, y 1, ix2_eta y⟩
  blk_simp
  rw [after0_2]
  refine (block_end m c t u k).trans ?_
  have ht := count t
  have e0 : (win0_2.blk t).view.emb (ix2 u k) 0 = (⟨1024 * (t.val / 2) + u.val, by omega⟩ : Fin 2048) :=
    Fin.ext (by blk_simp; rw [(index_at t).2.2]; show t.val / 2 * 1024 + u.val = 1024 * (t.val / 2) + u.val; omega)
  have e1 : (win0_2.blk t).view.emb (ix2 u k) 1 = (⟨1024 * (t.val % 2) + k.val, by omega⟩ : Fin 2048) :=
    Fin.ext (by blk_simp; rw [(index_at t).2.2]; show t.val % 2 * 1024 + k.val = 1024 * (t.val % 2) + k.val; omega)
  exact (congr (congrArg (inputGrad _ _ _) e0) e1).symm

end Cert.Kernel7Ideal

namespace Cert.Reference7Ideal

open Read Cert.Products

/-- The reference's gradient, as the same sum. -/
theorem grad_apply (dz : FVec Ideal S2048x2048 .bf16) (w : FVec Ideal S1x2048x2048 .bf16) (t k : Fin 2048) :
    val_main_v8 (F := Ideal) dz w (ix2 t k) = inputGrad (R := 1) (n := 2048) rfl dz w t k := by
  rw [val_main_v8_apply, val_main_v7_apply]
  refine (sum_columns (R := 1) (n := 2048) rfl _).trans ?_
  refine Finset.sum_congr rfl fun r _ => Finset.sum_congr rfl fun n _ => ?_
  rw [val_main_v4_apply, val_main_v3_apply]
  refine congrArg₂ (· * ·) (congrArg dz (funext fun a => ?_)) (congrArg w (funext fun a => ?_))
  · match a with
    | ⟨0, _⟩ => rfl
    | ⟨1, _⟩ => rfl
  · match a with
    | ⟨0, _⟩ => exact Subsingleton.elim (α := Fin 1) _ _
    | ⟨1, _⟩ => exact Fin.ext (by show (k.val * 2048 + (2048 * r.val + n.val)) / 2048 = k.val; omega)
    | ⟨2, _⟩ => exact Fin.ext (by show (k.val * 2048 + (2048 * r.val + n.val)) % 2048 = n.val; omega)

end Cert.Reference7Ideal

namespace Cert.Proof7

theorem frame_ri : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem equal : Cert.algebraic_Kernel7Ideal_Reference7Ideal (hKernel7Ideal := Cert.Kernel7Ideal.Gen.facts) (hReference7Ideal := Cert.Reference7Ideal.Gen.facts) := by
  intro m g m' g' _ ha
  refine ⟨fun c => (Cert.Kernel7Ideal.Gen.dats m 0 c).arrAt 2 Cert.Kernel7Ideal.cfg0.N, Cert.Kernel7Ideal.Value.run_blocks m g, ?_⟩
  refine (θ_run _ _ _).mono (fun r h c => ?_) (Cert.Reference7Ideal.Value.run (F := Ideal) m' g')
  obtain ⟨h0, h1⟩ := h c
  obtain ⟨a0, a1, -⟩ := ha c
  rw [← StableHlo.launchContents_devRef m' c] at a0 a1
  refine ⟨h0.trans ((Cert.Reference7Ideal.Read.val_main_v8_eq (F := Ideal) _ _).trans ?_), h1⟩
  rw [← StableHlo.launchContents_devRef m' c, ← StableHlo.launchContents_devRef m' c, a0, a1]
  refine Eq.trans ?_ (Cert.Kernel7Ideal.result_end m c).symm
  funext j
  obtain ⟨t, k, rfl⟩ : ∃ t k, ix2 t k = j := ⟨j 0, j 1, ix2_eta j⟩
  exact Cert.Reference7Ideal.grad_apply _ _ t k

end Cert.Proof7

end
-- ==== Proof.EInOutput.lean ====
/- The even branch's input product, of weights whose every part is in three pieces: a call for each piece, which writes the
   piece's columns of every part into the array the call before it left. -/
module

public import proofs.«01_k».proof.Defs
public import proofs.«01_k».proof.Proof.Gen.Kernel8Ideal.Frame
public import proofs.«01_k».proof.Proof.Gen.Reference8Ideal.Run
public import proofs.«01_k».proof.Proof.Gen.Reference8Ideal.Read
public import proofs.«01_k».proof.Proof.EInInput
public import proofs.«01_k».proof.Proof.Products
public import Idealize.ShloMosaic.Lib.Pipeline.ValueKit
public import Idealize.ShloMosaic.Lib.Pointwise

@[expose] public section

set_option maxRecDepth 16384

noncomputable section

open Idealize.ShloMosaic Idealize.ShloMosaic.TcCoe Idealize.SL Idealize.SL.Sem

namespace Cert.Kernel8Ideal

open Gen Cert.Products

/-! ## A point's block of the result: the product of the two blocks read -/

theorem product_apply (x : Vec Ideal S2048x2048 .bf16) (y : Vec Ideal S1x2048x1024 .bf16) (s : Fin 2048) (l : Fin 1024) :
    k0_pay1 (F := Ideal) x y (ix2 s l) = (∑ k : Fin 2048, x (ix2 s k) * y (ix3 0 k l) : EReal) := by
  simp only [pointwise, k0_pay1]
  exact zero_add _

theorem out_zero (x : Vec Ideal S2048x2048 .bf16) (y : Vec Ideal S1x2048x1024 .bf16) : out0_2 (F := Ideal) x y = k0_pay1 x y := by
  unfold out0_2
  rw [View.canon_unit_zero zero2, View.ld_unit_zero (S := S2048x2048) zero2, View.ld_unit_zero (S := S1x2048x1024) zero3]

section Later

variable (c : Dev nD) (a2 : Memref sig .tc .vmem S2048x2048 .bf16) (h2 : a2.IsWhole) (a3 : Memref sig .tc .vmem S1x2048x1024 .bf16) (h3 : a3.IsWhole)
  (a5 : Memref sig .tc .vmem S2048x1024 .f32) (h5 : a5.IsWhole) (x : Vec Ideal S2048x2048 .bf16) (y : Vec Ideal S1x2048x1024 .bf16)

theorem out_one (i : grid1.Coords) : out1_A_2 (F := Ideal) c i a2 h2 a3 h3 a5 h5 x y = k0_pay1 x y := by
  unfold out1_A_2
  rw [View.read_writes_eq_canon _ _ _ (cover1_A_2 c i a2 h2 a3 h3 a5 h5 x y)]
  unfold kernelRun1_A
  dsimp only
  rw [View.canon_unit_zero zero2]
  simp only [View.readAt_eq_ld, h2.read_unread, h3.read_unread, View.ld_unit_zero (S := S2048x2048) zero2, View.ld_unit_zero (S := S1x2048x1024) zero3]
  rfl
theorem out_two (i : grid2.Coords) : out2_A_2 (F := Ideal) c i a2 h2 a3 h3 a5 h5 x y = k0_pay1 x y := by
  unfold out2_A_2
  rw [View.read_writes_eq_canon _ _ _ (cover2_A_2 c i a2 h2 a3 h3 a5 h5 x y)]
  unfold kernelRun2_A
  dsimp only
  rw [View.canon_unit_zero zero2]
  simp only [View.readAt_eq_ld, h2.read_unread, h3.read_unread, View.ld_unit_zero (S := S2048x2048) zero2, View.ld_unit_zero (S := S1x2048x1024) zero3]
  rfl

end Later

/-! ## The blocks the calls read -/

/-- Every window's block index: point `t` takes part `t` of the weights and writes the piece's columns of it. -/
theorem index_zero : ∀ t : Fin cfg0.N, win0_0.index t = ![0, 0] ∧ win0_1.index t = ![t.val, 0, 0] ∧ win0_2.index t = ![0, 3 * t.val + 0] := by decide +kernel
theorem index_one : ∀ t : Fin cfg1.N, win1_0.index t = ![0, 0] ∧ win1_1.index t = ![t.val, 0, 0] ∧ win1_2.index t = ![0, 3 * t.val + 1] := by decide +kernel
theorem index_two : ∀ t : Fin cfg2.N, win2_0.index t = ![0, 0] ∧ win2_1.index t = ![t.val, 0, 0] ∧ win2_2.index t = ![0, 3 * t.val + 2] := by decide +kernel

section Blocks

variable (V : (c : Dev nD) → (b : Ref sig .tc) → Buf (Elt Ideal) ((c : Thread nD τ).loc b)) (c : Dev nD) (s k : Fin 2048) (l : Fin 1024)

theorem block_h_zero (t : Fin cfg0.N) : iblk0 V c 0 t (ix2 s k) = V c main_arg0 (ix2 s k) := by blk_ext [iblk0, (index_zero t).1]
theorem block_h_one (t : Fin cfg1.N) : iblk1 V c 0 t (ix2 s k) = V c main_arg0 (ix2 s k) := by blk_ext [iblk1, (index_one t).1]
theorem block_h_two (t : Fin cfg2.N) : iblk2 V c 0 t (ix2 s k) = V c main_arg0 (ix2 s k) := by blk_ext [iblk2, (index_two t).1]
theorem block_w_zero (t : Fin cfg0.N) : iblk0 V c 1 t (ix3 0 k l) = V c main_arg1 (ix3 (⟨t.val, lt_of_lt_of_eq t.isLt N_0⟩ : Fin 4) k l) := by
  blk_ext [iblk0, (index_zero t).2.1]
theorem block_w_one (t : Fin cfg1.N) : iblk1 V c 1 t (ix3 0 k l) = V c main_arg2 (ix3 (⟨t.val, lt_of_lt_of_eq t.isLt N_1⟩ : Fin 4) k l) := by
  blk_ext [iblk1, (index_one t).2.1]
theorem block_w_two (t : Fin cfg2.N) : iblk2 V c 1 t (ix3 0 k l) = V c main_arg3 (ix3 (⟨t.val, lt_of_lt_of_eq t.isLt N_2⟩ : Fin 4) k l) := by
  blk_ext [iblk2, (index_two t).2.1]

end Blocks

/-! ## The arrays the calls leave -/

variable (m : (ℓ : Loc nD τ sig) → Buf (Elt Ideal) ℓ) (ρ : Dev nD → PrngReg)

/-- The input, -/
abbrev input (c : Dev nD) : Mat 2048 2048 := m ((c : Thread nD τ).loc main_arg0)
/-- the weights, put together, -/
abbrev weights (c : Dev nD) : Parts 4 2048 3072 :=
  joined (n := 1024) (m ((c : Thread nD τ).loc main_arg1)) (m ((c : Thread nD τ).loc main_arg2)) (m ((c : Thread nD τ).loc main_arg3))
/-- and the whole product. -/
def whole (c : Dev nD) : FVec Ideal S2048x12288 .f32 := fun j =>
  output (R := 4) (n := 3072) rfl (input m c) (weights m c) (j 0) (j 1)

/-- A product with piece `q` of part `r` is the whole product at the piece's columns. -/
theorem whole_piece (c : Dev nD) (w : Parts 4 2048 1024) (q : Fin 3) (hw : ∀ r k l, weights m c (ix3 r k (column rfl q l)) = w (ix3 r k l))
    (s : Fin 2048) (l : Fin 1024) (r : Fin 4) (j : S2048x12288.Idx) (h0 : (j 0).val = s.val) (h1 : (j 1).val = 3072 * r.val + (1024 * q.val + l.val)) :
    (∑ k : Fin 2048, input m c (ix2 s k) * w (ix3 r k l) : EReal) = whole m c j := by
  unfold whole output
  refine Finset.sum_congr rfl fun k _ => congrArg₂ (fun a b : EReal => a * b) ?_ ((hw r k l).symm.trans ?_)
  · exact congrArg (fun s => input m c (ix2 s k)) (Fin.ext h0.symm)
  · refine congrArg (weights m c) (congr (congrArg (fun r => ix3 r k) (Fin.ext ?_)) (Fin.ext ?_))
    · show r.val = (j 1).val / 3072; omega
    · show 1024 * q.val + l.val = (j 1).val % 3072; omega

theorem end_zero (c : Dev nD) : (dat0 (V0 m ρ) c).arrAt 2 cfg0.N
    = fun j => if (j 1 : ℕ) / 1024 % 3 = 0 then whole m c j else (dat0 (V0 m ρ) c).A 2 j := by
  refine (dat0 (V0 m ρ) c).arrAt_eq_of_coversWhere 2 _ (fun β => β (1 : Fin 2) % 3 = 0) (by decide +kernel) (fun t hf y => ?_) (fun j => Iff.rfl)
  obtain ⟨s, l, rfl⟩ : ∃ (s : Fin 2048) (l : Fin 1024), ix2 s l = y := ⟨y 0, y 1, ix2_eta y⟩
  blk_simp
  rw [after0_2, out_zero]
  refine (product_apply _ _ s l).trans (Eq.trans ?_ (whole_piece m c _ 0 (fun r k l => joined_zero _ _ _ r k l) s l ⟨t.val, lt_of_lt_of_eq t.isLt N_0⟩ _ ?_ ?_))
  · refine Finset.sum_congr rfl fun k _ => congrArg₂ (fun a b : EReal => a * b) ((block_h_zero _ c s k t).trans ?_) ((block_w_zero _ c k l t).trans ?_)
    · exact congrFun (W0_args m ρ c main_arg0 (by decide)) _
    · exact congrFun (W0_args m ρ c main_arg1 (by decide)) _
  · blk_simp; rw [(index_zero t).2.2]; show 0 * 2048 + s.val = s.val; omega
  · blk_simp; rw [(index_zero t).2.2]; show (3 * t.val + 0) * 1024 + l.val = 3072 * t.val + (1024 * 0 + l.val); omega
theorem end_one (c : Dev nD) : (dat1 (V2 m ρ) c).arrAt 2 cfg1.N
    = fun j => if (j 1 : ℕ) / 1024 % 3 = 1 then whole m c j else (dat1 (V2 m ρ) c).A 2 j := by
  refine (dat1 (V2 m ρ) c).arrAt_eq_of_coversWhere 2 _ (fun β => β (1 : Fin 2) % 3 = 1) (by decide +kernel) (fun t hf y => ?_) (fun j => Iff.rfl)
  obtain ⟨s, l, rfl⟩ : ∃ (s : Fin 2048) (l : Fin 1024), ix2 s l = y := ⟨y 0, y 1, ix2_eta y⟩
  blk_simp
  rw [after1_2]; unfold outsAt1; rw [out_one]
  refine (product_apply _ _ s l).trans (Eq.trans ?_ (whole_piece m c _ 1 (fun r k l => joined_one _ _ _ r k l) s l ⟨t.val, lt_of_lt_of_eq t.isLt N_1⟩ _ ?_ ?_))
  · refine Finset.sum_congr rfl fun k _ => congrArg₂ (fun a b : EReal => a * b) ((block_h_one _ c s k t).trans ?_) ((block_w_one _ c k l t).trans ?_)
    · exact congrFun (W2_args m ρ c main_arg0 (by decide)) _
    · exact congrFun (W2_args m ρ c main_arg2 (by decide)) _
  · blk_simp; rw [(index_one t).2.2]; show 0 * 2048 + s.val = s.val; omega
  · blk_simp; rw [(index_one t).2.2]; show (3 * t.val + 1) * 1024 + l.val = 3072 * t.val + (1024 * 1 + l.val); omega
theorem end_two (c : Dev nD) : (dat2 (V4 m ρ) c).arrAt 2 cfg2.N
    = fun j => if (j 1 : ℕ) / 1024 % 3 = 2 then whole m c j else (dat2 (V4 m ρ) c).A 2 j := by
  refine (dat2 (V4 m ρ) c).arrAt_eq_of_coversWhere 2 _ (fun β => β (1 : Fin 2) % 3 = 2) (by decide +kernel) (fun t hf y => ?_) (fun j => Iff.rfl)
  obtain ⟨s, l, rfl⟩ : ∃ (s : Fin 2048) (l : Fin 1024), ix2 s l = y := ⟨y 0, y 1, ix2_eta y⟩
  blk_simp
  rw [after2_2]; unfold outsAt2; rw [out_two]
  refine (product_apply _ _ s l).trans (Eq.trans ?_ (whole_piece m c _ 2 (fun r k l => joined_two _ _ _ r k l) s l ⟨t.val, lt_of_lt_of_eq t.isLt N_2⟩ _ ?_ ?_))
  · refine Finset.sum_congr rfl fun k _ => congrArg₂ (fun a b : EReal => a * b) ((block_h_two _ c s k t).trans ?_) ((block_w_two _ c k l t).trans ?_)
    · exact congrFun (W4_args m ρ c main_arg0 (by decide)) _
    · exact congrFun (W4_args m ρ c main_arg3 (by decide)) _
  · blk_simp; rw [(index_two t).2.2]; show 0 * 2048 + s.val = s.val; omega
  · blk_simp; rw [(index_two t).2.2]; show (3 * t.val + 2) * 1024 + l.val = 3072 * t.val + (1024 * 2 + l.val); omega

/-- Each call starts from a copy of what the one before it left. -/
theorem entry_one (c : Dev nD) : (dat1 (V2 m ρ) c).A 2 = (dat0 (V0 m ρ) c).arrAt 2 cfg0.N :=
  (A_eq1 (V2 m ρ) c 2).trans (Eq.trans (by show StableHlo.after hostOps1 (W1 m ρ c) (Proc.devRef .tc main_v1) = W1 m ρ c (Proc.devRef .tc main_v0); after_results; rfl) (W1_arr m ρ c 2))
theorem entry_two (c : Dev nD) : (dat2 (V4 m ρ) c).A 2 = (dat1 (V2 m ρ) c).arrAt 2 cfg1.N :=
  (A_eq2 (V4 m ρ) c 2).trans (Eq.trans (by show StableHlo.after hostOps2 (W3 m ρ c) (Proc.devRef .tc main_v2) = W3 m ρ c (Proc.devRef .tc main_v1); after_results; rfl) (W3_arr m ρ c 2))

/-- The result, whole: every column is some piece's. -/
theorem result_end (c : Dev nD) : W5 m ρ c (Proc.devRef .tc main_v2) = whole m c := by
  refine (W5_arr m ρ c 2).trans ?_
  rw [end_two]
  funext j
  by_cases h2 : (j 1 : ℕ) / 1024 % 3 = 2
  · exact if_pos h2
  refine (if_neg h2).trans ?_
  rw [entry_two, end_one]
  by_cases h1 : (j 1 : ℕ) / 1024 % 3 = 1
  · exact if_pos h1
  refine (if_neg h1).trans ?_
  rw [entry_one, end_zero]
  exact if_pos (by omega)

/-! ## The run -/

section Run

open Idealize.SL.RA Idealize.SL.BI Idealize.SL.BI.BIBase Idealize.SL.BI.Laws Idealize.SL.ProofMode Idealize.ShloMosaic.Rounds
open scoped Idealize.SL.BI

local notation "𝕄" => MT nD τ sig Unit (Elt Ideal) ℕ (UR sig nD τ) ℕ

set_option backward.isDefEq.respectTransparency.types false in
/-- After the three calls every array of the program holds what the last boundary says. -/
theorem run_main : θ_run defs (onTc (τ := τ) (main (F := Ideal))) ⟨m, fun _ => 0, ρ⟩ (fun r => ∀ c : Dev nD,
      ∀ b ∈ Pipeline.ucRefs τ sig, r.2.mem ((c : Thread nD τ).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Run

theorem run_value : θ_run defs (onTc (τ := τ) (main (F := Ideal))) ⟨m, fun _ => 0, ρ⟩ (fun r => ∀ c : Dev nD,
      r.2.mem ((c.tc : Thread nD τ).loc main_v2) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c _ (mem_uc main_v2 (by decide))).trans (result_end m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c)⟩)
    (run_main m ρ)

end Cert.Kernel8Ideal

namespace Cert.Reference8Ideal

open Read Cert.Products

/-- The pieces of the weights put together, as the reference puts them. -/
theorem weights_eq (w w' w'' : FVec Ideal S4x2048x1024 .bf16) : val_main_v1 (F := Ideal) w w' w'' = joined (n := 1024) w w' w'' :=
  Cert.Reference5Ideal.weights_eq w w' w''

/-- The reference's product, as the same sum. -/
theorem output_apply (h : FVec Ideal S2048x2048 .bf16) (w w' w'' : FVec Ideal S4x2048x1024 .bf16) (t : Fin 2048) (J : Fin 12288) :
    val_main_v5 (F := Ideal) h w w' w'' (ix2 t J) = output (R := 4) (n := 3072) rfl h (joined (n := 1024) w w' w'') t J := by
  rw [val_main_v5_apply, ← weights_eq]
  refine Finset.sum_congr rfl fun k _ => ?_
  rw [val_main_v4_apply, val_main_v3_apply]
  refine congrArg₂ (· * ·) (congrArg h (funext fun a => ?_)) (congrArg (val_main_v1 (F := Ideal) w w' w'') (funext fun a => ?_))
  · match a with
    | ⟨0, _⟩ => rfl
    | ⟨1, _⟩ => rfl
  · match a with
    | ⟨0, _⟩ => exact Fin.ext (by show (k.val * 12288 + J.val) / 3072 % 4 = J.val / 3072; omega)
    | ⟨1, _⟩ => exact Fin.ext (by show (k.val * 12288 + J.val) / 12288 = k.val; omega)
    | ⟨2, _⟩ => exact Fin.ext (by show (k.val * 12288 + J.val) % 3072 = J.val % 3072; omega)

end Cert.Reference8Ideal

namespace Cert.Proof8

theorem frame_ri : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem equal : Cert.algebraic_Kernel8Ideal_Reference8Ideal (hKernel8Ideal := Cert.Kernel8Ideal.Gen.facts) (hReference8Ideal := Cert.Reference8Ideal.Gen.facts) := by
  intro m g m' g' _ ha
  refine ⟨fun c => Cert.Kernel8Ideal.whole m c, Cert.Kernel8Ideal.run_value m g, ?_⟩
  refine (θ_run _ _ _).mono (fun r h c => ?_) (Cert.Reference8Ideal.Value.run (F := Ideal) m' g')
  obtain ⟨h0, h1⟩ := h c
  obtain ⟨a0, a1, a2, a3⟩ := ha c
  rw [← StableHlo.launchContents_devRef m' c] at a0 a1 a2 a3
  refine ⟨h0.trans ((Cert.Reference8Ideal.Read.val_main_v5_eq (F := Ideal) _ _ _ _).trans ?_), h1⟩
  simp only [← StableHlo.launchContents_devRef m' c, a0, a1, a2, a3]
  funext j
  obtain ⟨t, J, rfl⟩ : ∃ t J, ix2 t J = j := ⟨j 0, j 1, ix2_eta j⟩
  exact Cert.Reference8Ideal.output_apply _ _ _ _ t J

end Cert.Proof8

end
-- ==== Proof.OInOutput.lean ====
/- The odd branch's input product: `h` times the weights, one part of the columns after another. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Products
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel9Ideal

open Gen Cert.Products

/-- A point's block of the result: the product of the two blocks read. -/
theorem out_apply (x : Vec Ideal S2048x2048 .bf16) (y : Vec Ideal S1x2048x768 .bf16) (s : Fin 2048) (l : Fin 768) :
    out0_2 (F := Ideal) x y (ix2 s l) = (∑ k : Fin 2048, x (ix2 s k) * y (ix3 0 k l) : EReal) := by
  unfold out0_2
  rw [View.canon_unit_zero zero2, View.ld_unit_zero (S := S2048x2048) zero2, View.ld_unit_zero (S := S1x2048x768) zero3]
  simp only [pointwise, k0_pay1]
  exact zero_add _

variable (m : (ℓ : Loc nD τ sig) → Buf (Elt Ideal) ℓ)

/-- Every window's block index: point `t` takes `768` columns of the weights, two points to a part. -/
theorem index_at : ∀ t : Fin cfg0.N, win0_0.index t = ![0, 0] ∧ win0_1.index t = ![t.val / 2, 0, t.val % 2]
    ∧ win0_2.index t = ![0, t.val] := by decide +kernel

theorem count (t : Fin cfg0.N) : t.val < 8 := lt_of_lt_of_eq t.isLt N_0

theorem block_h (c : Dev nD) (t : Fin cfg0.N) (s k : Fin 2048) :
    iblk m c 0 t (ix2 s k) = m ((c : Thread nD τ).loc main_arg0) (ix2 s k) := by
  rw [← V_main_arg0 m c]
  blk_ext [iblk, (index_at t).1]
theorem block_w (c : Dev nD) (t : Fin cfg0.N) (k : Fin 2048) (l : Fin 768) :
    iblk m c 1 t (ix3 0 k l) = m ((c : Thread nD τ).loc main_arg1) (ix3 (⟨t.val / 2, by have := count t; omega⟩ : Fin 4) k ⟨768 * (t.val % 2) + l.val, by omega⟩) := by
  rw [← V_main_arg1 m c]
  blk_ext [iblk, (index_at t).2.1]

/-- The result, whole. -/
theorem result_end (c : Dev nD) : (dats m 0 c).arrAt 2 cfg0.N
    = fun j => output (R := 4) (n := 1536) rfl (m ((c : Thread nD τ).loc main_arg0)) (m ((c : Thread nD τ).loc main_arg1)) (j 0) (j 1) := by
  refine (dats m 0 c).arrAt_eq_of_covers 2 _ (by decide +kernel) fun t hf y => ?_
  obtain ⟨s, l, rfl⟩ : ∃ (s : Fin 2048) (l : Fin 768), ix2 s l = y := ⟨y 0, y 1, ix2_eta y⟩
  blk_simp
  rw [after0_2]
  refine (out_apply _ _ s l).trans ?_
  have ht := count t
  have e0 : (win0_2.blk t).view.emb (ix2 s l) 0 = s :=
    Fin.ext (by blk_simp; rw [(index_at t).2.2]; show 0 * 2048 + s.val = s.val; omega)
  have e1 : (win0_2.blk t).view.emb (ix2 s l) 1 = (⟨768 * t.val + l.val, by omega⟩ : Fin 6144) :=
    Fin.ext (by blk_simp; rw [(index_at t).2.2]; show t.val * 768 + l.val = 768 * t.val + l.val; omega)
  refine Eq.trans ?_ (congr (congrArg (output _ _ _) e0) e1).symm
  refine Finset.sum_congr rfl fun k _ => congrArg₂ (fun a b : EReal => a * b) (block_h m c t s k) ((block_w m c t k l).trans ?_)
  exact congrArg (m ((c : Thread nD τ).loc main_arg1)) (congr (congrArg (fun r => ix3 r k)
    (Fin.ext (by show t.val / 2 = (768 * t.val + l.val) / 1536; omega))) (Fin.ext (by show 768 * (t.val % 2) + l.val = (768 * t.val + l.val) % 1536; omega)))

end Cert.Kernel9Ideal

namespace Cert.Reference9Ideal

open Read Cert.Products

/-- The reference's product, as the same sum. -/
theorem output_apply (h : FVec Ideal S2048x2048 .bf16) (w : FVec Ideal S4x2048x1536 .bf16) (t : Fin 2048) (J : Fin 6144) :
    val_main_v4 (F := Ideal) h w (ix2 t J) = output (R := 4) (n := 1536) rfl h w t J := by
  rw [val_main_v4_apply]
  refine Finset.sum_congr rfl fun k _ => ?_
  rw [val_main_v3_apply, val_main_v2_apply]
  refine congrArg₂ (· * ·) (congrArg h (funext fun a => ?_)) (congrArg w (funext fun a => ?_))
  · match a with
    | ⟨0, _⟩ => rfl
    | ⟨1, _⟩ => rfl
  · match a with
    | ⟨0, _⟩ => exact Fin.ext (by show (k.val * 6144 + J.val) / 1536 % 4 = J.val / 1536; omega)
    | ⟨1, _⟩ => exact Fin.ext (by show (k.val * 6144 + J.val) / 6144 = k.val; omega)
    | ⟨2, _⟩ => exact Fin.ext (by show (k.val * 6144 + J.val) % 1536 = J.val % 1536; omega)

end Cert.Reference9Ideal

namespace Cert.Proof9

theorem frame_ri : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem equal : Cert.algebraic_Kernel9Ideal_Reference9Ideal (hKernel9Ideal := Cert.Kernel9Ideal.Gen.facts) (hReference9Ideal := Cert.Reference9Ideal.Gen.facts) := by
  intro m g m' g' _ ha
  refine ⟨fun c => (Cert.Kernel9Ideal.Gen.dats m 0 c).arrAt 2 Cert.Kernel9Ideal.cfg0.N, Cert.Kernel9Ideal.Value.run_blocks m g, ?_⟩
  refine (θ_run _ _ _).mono (fun r h c => ?_) (Cert.Reference9Ideal.Value.run (F := Ideal) m' g')
  obtain ⟨h0, h1⟩ := h c
  obtain ⟨a0, a1⟩ := ha c
  rw [← StableHlo.launchContents_devRef m' c] at a0 a1
  refine ⟨h0.trans ((Cert.Reference9Ideal.Read.val_main_v4_eq (F := Ideal) _ _).trans ?_), h1⟩
  rw [← StableHlo.launchContents_devRef m' c, ← StableHlo.launchContents_devRef m' c, a0, a1]
  refine Eq.trans ?_ (Cert.Kernel9Ideal.result_end m c).symm
  funext j
  obtain ⟨t, J, rfl⟩ : ∃ t J, ix2 t J = j := ⟨j 0, j 1, ix2_eta j⟩
  exact Cert.Reference9Ideal.output_apply _ _ t J

end Cert.Proof9

end
-- ==== Proof.OutOutput.lean ====
/- A branch's output product: `h` times the weights, which are one part. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Products
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel10Ideal

open Gen Cert.Products

/-- A point's block of the result: the product of the two blocks read. -/
theorem out_apply (x : Vec Ideal S2048x2048 .bf16) (y : Vec Ideal S1x2048x1024 .bf16) (s : Fin 2048) (l : Fin 1024) :
    out0_2 (F := Ideal) x y (ix2 s l) = (∑ k : Fin 2048, x (ix2 s k) * y (ix3 0 k l) : EReal) := by
  unfold out0_2
  rw [View.canon_unit_zero zero2, View.ld_unit_zero (S := S2048x2048) zero2, View.ld_unit_zero (S := S1x2048x1024) zero3]
  simp only [pointwise, k0_pay1]
  exact zero_add _

variable (m : (ℓ : Loc nD τ sig) → Buf (Elt Ideal) ℓ)

/-- Every window's block index: point `t` takes `1024` columns of the weights, the first half, then the second. -/
theorem index_at : ∀ t : Fin cfg0.N, win0_0.index t = ![0, 0] ∧ win0_1.index t = ![t.val / 2, 0, t.val % 2]
    ∧ win0_2.index t = ![0, t.val] := by decide +kernel

theorem count (t : Fin cfg0.N) : t.val < 2 := lt_of_lt_of_eq t.isLt N_0

theorem block_h (c : Dev nD) (t : Fin cfg0.N) (s k : Fin 2048) :
    iblk m c 0 t (ix2 s k) = m ((c : Thread nD τ).loc main_arg0) (ix2 s k) := by
  rw [← V_main_arg0 m c]
  blk_ext [iblk, (index_at t).1]
theorem block_w (c : Dev nD) (t : Fin cfg0.N) (k : Fin 2048) (l : Fin 1024) :
    iblk m c 1 t (ix3 0 k l) = m ((c : Thread nD τ).loc main_arg1) (ix3 (⟨t.val / 2, by have := count t; omega⟩ : Fin 1) k ⟨1024 * (t.val % 2) + l.val, by omega⟩) := by
  rw [← V_main_arg1 m c]
  blk_ext [iblk, (index_at t).2.1]

/-- The result, whole. -/
theorem result_end (c : Dev nD) : (dats m 0 c).arrAt 2 cfg0.N
    = fun j => output (R := 1) (n := 2048) rfl (m ((c : Thread nD τ).loc main_arg0)) (m ((c : Thread nD τ).loc main_arg1)) (j 0) (j 1) := by
  refine (dats m 0 c).arrAt_eq_of_covers 2 _ (by decide +kernel) fun t hf y => ?_
  obtain ⟨s, l, rfl⟩ : ∃ (s : Fin 2048) (l : Fin 1024), ix2 s l = y := ⟨y 0, y 1, ix2_eta y⟩
  blk_simp
  rw [after0_2]
  refine (out_apply _ _ s l).trans ?_
  have ht := count t
  have e0 : (win0_2.blk t).view.emb (ix2 s l) 0 = s :=
    Fin.ext (by blk_simp; rw [(index_at t).2.2]; show 0 * 2048 + s.val = s.val; omega)
  have e1 : (win0_2.blk t).view.emb (ix2 s l) 1 = (⟨1024 * t.val + l.val, by omega⟩ : Fin 2048) :=
    Fin.ext (by blk_simp; rw [(index_at t).2.2]; show t.val * 1024 + l.val = 1024 * t.val + l.val; omega)
  refine Eq.trans ?_ (congr (congrArg (output _ _ _) e0) e1).symm
  refine Finset.sum_congr rfl fun k _ => congrArg₂ (fun a b : EReal => a * b) (block_h m c t s k) ((block_w m c t k l).trans ?_)
  exact congrArg (m ((c : Thread nD τ).loc main_arg1)) (congr (congrArg (fun r => ix3 r k)
    (Fin.ext (by show t.val / 2 = (1024 * t.val + l.val) / 2048; omega))) (Fin.ext (by show 1024 * (t.val % 2) + l.val = (1024 * t.val + l.val) % 2048; omega)))

end Cert.Kernel10Ideal

namespace Cert.Reference10Ideal

open Read Cert.Products

/-- The reference's product, as the same sum. -/
theorem output_apply (h : FVec Ideal S2048x2048 .bf16) (w : FVec Ideal S1x2048x2048 .bf16) (t : Fin 2048) (J : Fin 2048) :
    val_main_v4 (F := Ideal) h w (ix2 t J) = output (R := 1) (n := 2048) rfl h w t J := by
  rw [val_main_v4_apply]
  refine Finset.sum_congr rfl fun k _ => ?_
  rw [val_main_v3_apply, val_main_v2_apply]
  refine congrArg₂ (· * ·) (congrArg h (funext fun a => ?_)) (congrArg w (funext fun a => ?_))
  · match a with
    | ⟨0, _⟩ => rfl
    | ⟨1, _⟩ => rfl
  · match a with
    | ⟨0, _⟩ => exact Subsingleton.elim (α := Fin 1) _ _
    | ⟨1, _⟩ => exact Fin.ext (by show (k.val * 2048 + J.val) / 2048 = k.val; omega)
    | ⟨2, _⟩ => exact Fin.ext (by show (k.val * 2048 + J.val) % 2048 = J.val % 2048; omega)

end Cert.Reference10Ideal

namespace Cert.Proof10

theorem frame_ri : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

theorem equal : Cert.algebraic_Kernel10Ideal_Reference10Ideal (hKernel10Ideal := Cert.Kernel10Ideal.Gen.facts) (hReference10Ideal := Cert.Reference10Ideal.Gen.facts) := by
  intro m g m' g' _ ha
  refine ⟨fun c => (Cert.Kernel10Ideal.Gen.dats m 0 c).arrAt 2 Cert.Kernel10Ideal.cfg0.N, Cert.Kernel10Ideal.Value.run_blocks m g, ?_⟩
  refine (θ_run _ _ _).mono (fun r h c => ?_) (Cert.Reference10Ideal.Value.run (F := Ideal) m' g')
  obtain ⟨h0, h1⟩ := h c
  obtain ⟨a0, a1⟩ := ha c
  rw [← StableHlo.launchContents_devRef m' c] at a0 a1
  refine ⟨h0.trans ((Cert.Reference10Ideal.Read.val_main_v4_eq (F := Ideal) _ _).trans ?_), h1⟩
  rw [← StableHlo.launchContents_devRef m' c, ← StableHlo.launchContents_devRef m' c, a0, a1]
  refine Eq.trans ?_ (Cert.Kernel10Ideal.result_end m c).symm
  funext j
  obtain ⟨t, J, rfl⟩ : ∃ t J, ix2 t J = j := ⟨j 0, j 1, ix2_eta j⟩
  exact Cert.Reference10Ideal.output_apply _ _ t J

end Cert.Proof10

end
-- ==== Proof.Taps.lean ====
/- The mathematics of one trip of the kernel's loop over row blocks: what the trip adds to the gradient of the 31 filter
   taps, and the 128 rows of the gradient of the padded sequence it writes. -/
module

public import proofs.«01_k».proof.Proof.Gen.KernelIdeal.Skeleton
public import Idealize.ShloMosaic.Lib.Pointwise

@[expose] public section

noncomputable section

namespace Cert.KernelIdeal

open Idealize.ShloMosaic Gen

variable {F : FTy → Type} [FloatOps F]

/-- One tap's row after a trip: the row before it plus the column sums of the block's cotangent times the block of the
    padded sequence rotated by `sh`. -/
def rowStep (sh : BitVec 32) (x d : Vec F S160x128 .f32) (v : Vec F S1x128 .f32) : FVec F S1x128 .f32 :=
  addf (shapeCast S1x128 v shapeCasts_S1x128_S1x128)
    (shapeCast S1x128
      (multiReduction .add [0] S128
        (mulf (k0_pay1 d)
          (extractStridedSlice S128x128 ![0, 0] (dynamicRotate 0 sh none x rotates_S160x128_d0) slices_S160x128_o0_0_S128x128))
        0x00000000#32 reduces_S128x128_S128 (.inl rfl) rfl)
      shapeCasts_S128_S1x128)

/-- Row `r` of the tap gradient. -/
def tapRow (v : Vec F S31x128 .f32) (r : Fin 31) : Vec F S1x128 .f32 := fun z => v (ix2 r (z 1))

/-- The tap gradient after a trip, from the one before it. -/
def dwStep (x d : Vec F S160x128 .f32) (v : Vec F S31x128 .f32) : Vec F S31x128 .f32 :=
  fun j => rowStep (BitVec.ofNat 32 (158 - (j 0).val)) x d (tapRow v (j 0)) (ix2 0 (j 1))

/-- The 128 rows of the sequence's gradient a trip writes: the sum over the taps of the tap's row times the block of the
    padded cotangent moved to it. -/
def dxTile (w : Vec F S31x128 .f32) (d : Vec F S160x128 .f32) : FVec F S128x128 .f32 :=
  let a1 := k0_pay7 w d (k0_pay4 w d)
  let a2 := k0_pay15 w d (k0_pay11 w d a1)
  let a3 := k0_pay21 w d a2 (k0_pay17 d) (k0_pay18 w)
  let a4 := k0_pay31 w d (k0_pay27 w d a3)
  let a5 := k0_pay40 w d (k0_pay35 w d a4)
  let a6 := k0_pay46 w d a5 (k0_pay42 d) (k0_pay43 w)
  let a7 := k0_pay54 w d (k0_pay50 w d a6)
  k0_pay64 (k0_pay1 d) a7 (k0_pay56 w)

/-- The 160 rows of a padded sequence trip `k` reads. -/
def block (X : Vec F S2080x128 .f32) (k : ℕ) : Vec F S160x128 .f32 :=
  fun z => X (ix2 ⟨(128 * k + (z 0).val) % 2080, Nat.mod_lt _ (by decide)⟩ (z 1))

/-- The tap gradient before trip `k`. -/
def dwAt (X D : Vec F S2080x128 .f32) (v : Vec F S31x128 .f32) : ℕ → Vec F S31x128 .f32
  | 0 => v
  | k + 1 => dwStep (block X k) (block D k) (dwAt X D v k)

/-- The gradient of the sequence, all rows. -/
def dxAll (w : Vec F S31x128 .f32) (D : Vec F S2080x128 .f32) : Vec F S2048x128 .f32 :=
  fun j => dxTile w (block D ((j 0).val / 128)) (ix2 ⟨(j 0).val % 128, Nat.mod_lt _ (by decide)⟩ (j 1))

/-- The trips' pieces of the gradient of the sequence, the last first. -/
def dxPieces (w : Vec F S31x128 .f32) (D : Vec F S2080x128 .f32) : ℕ → List (View.Piece (Elt F) S2048x128 .f32)
  | 0 => []
  | k + 1 => if h : k < k0_t1_loop.trips then
      ⟨Rect.unit (s := S2048x128) (k0_off5 ⟨k, h⟩) S128x128.size (k0_off5_inb ⟨k, h⟩), dxTile w (block D k)⟩ :: dxPieces w D k
    else dxPieces w D k

end Cert.KernelIdeal

end
-- ==== Proof.Values.lean ====
/- What the kernel's body computes at a grid point, from the point's blocks of the values, of the gates, of the filter and of
   the cotangent. -/
module

public import proofs.«01_k».proof.Proof.Taps

@[expose] public section

noncomputable section

namespace Cert.KernelIdeal

open Idealize.ShloMosaic Gen

variable {F : FTy → Type} [FloatOps F]

/-- The sequence under 32 rows of zeros. -/
def padTop (x : Vec F S2048x128 .f32) : Vec F S2080x128 .f32 := fun j =>
  if h : (j 0).val < 32 then k0_pay58 (F := F) (ix2 ⟨(j 0).val, h⟩ (j 1))
  else x (ix2 ⟨(j 0).val - 32, by have := (j 0).isLt; change (j 0).val < 2080 at this; omega⟩ (j 1))

/-- The cotangent above 32 rows of zeros. -/
def padBottom (x : Vec F S2048x128 .f32) : Vec F S2080x128 .f32 := fun j =>
  if h : (j 0).val < 2048 then x (ix2 ⟨(j 0).val, h⟩ (j 1))
  else k0_pay61 (F := F) (ix2 ⟨(j 0).val - 2048, by have := (j 0).isLt; change (j 0).val < 2080 at this; omega⟩ (j 1))

/-- The gradient of the filter, -/
def dwOut (x0 x1 x3 : Vec F S2048x128 .f32) : Vec F S31x128 .f32 := dwAt (padTop (k0_pay59 x0 x1)) (padBottom (k0_pay60 x3)) k0_pay63 16
/-- of the bias, -/
def dbOut (x3 : Vec F S2048x128 .f32) : Vec F S1x128 .f32 := k0_pay62 x3
/-- of the values, -/
def valOut (x1 : Vec F S2048x128 .f32) (x2 : Vec F S31x128 .f32) (x3 : Vec F S2048x128 .f32) : Vec F S2048x128 .bf16 :=
  shapeCast S2048x128 (k0_pay65 (k0_pay57 x1) (dxAll x2 (padBottom (k0_pay60 x3)))) shapeCasts_S1x2048x128_S2048x128
/-- and of the gates. -/
def gluOut (x0 x1 : Vec F S2048x128 .f32) (x2 : Vec F S31x128 .f32) (x3 : Vec F S2048x128 .f32) : Vec F S2048x128 .bf16 :=
  shapeCast S2048x128 (k0_pay66 x0 (k0_pay57 x1) (dxAll x2 (padBottom (k0_pay60 x3)))) shapeCasts_S1x2048x128_S2048x128

end Cert.KernelIdeal

end
-- ==== Proof.Trip.lean ====
/- One trip of the kernel's loop, run at a symbolic trip. -/
module

public import proofs.«01_k».proof.Proof.Taps
public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

/-- A row stored by the trip is that row of `dwStep`. -/
theorem row_piece (x d : Vec F S160x128 .f32) (v : View sig .tc .vmem S31x128 .f32) (f : v.ty.Contents (Elt F)) (n : ℕ) (hn : n < 31)
    (inb : ∀ a, (![n, 0] : Fin 2 → ℕ) a + S1x128.size a ≤ S31x128.size a) (w : Vec F S1x128 .f32)
    (hw : w = rowStep (BitVec.ofNat 32 (158 - n)) x d (v.readAt (Elt F) (Rect.unit (s := S31x128) ![n, 0] S1x128.size inb).toLoadRect f))
    (z : (Rect.unit (s := S31x128) ![n, 0] S1x128.size inb).shape.Idx) :
    w z = dwStep x d (v.read (Elt F) f) ((Rect.unit (s := S31x128) ![n, 0] S1x128.size inb).emb z) := by
  have e0 : ∀ u : S1x128.Idx, (Rect.unit (s := S31x128) ![n, 0] S1x128.size inb).emb u = ix2 ⟨n, hn⟩ (u 1) := by
    intro u
    funext a
    refine Fin.cases ?_ (fun b => ?_) a
    · apply Fin.ext
      rw [Rect.emb_apply]
      have := (u 0).isLt
      change (u 0).val < 1 at this
      change n + 1 * (u 0).val = n
      omega
    · obtain rfl : b = 0 := Subsingleton.elim (α := Fin 1) _ _
      apply Fin.ext
      rw [Rect.emb_apply]
      change 0 + 1 * (u 1).val = (u 1).val
      omega
  have hz : z = ix2 (0 : Fin 1) (z 1) := by
    funext a
    refine Fin.cases ?_ (fun b => ?_) a
    · exact Subsingleton.elim (α := Fin 1) _ _
    · obtain rfl : b = 0 := Subsingleton.elim (α := Fin 1) _ _
      rfl
  have ht : v.readAt (Elt F) (Rect.unit (s := S31x128) ![n, 0] S1x128.size inb).toLoadRect f = tapRow (v.read (Elt F) f) ⟨n, hn⟩ := by
    funext u
    change v.read (Elt F) f ((Rect.unit (s := S31x128) ![n, 0] S1x128.size inb).emb u) = _
    rw [e0]; rfl
  rw [e0 z, hw, ht]
  conv_lhs => rw [hz]
  rfl

/-- An element lies in row `n` when its first index is `n`. -/
theorem mem_row (n : ℕ) (inb : ∀ a, (![n, 0] : Fin 2 → ℕ) a + (![1, 128] : Fin 2 → ℕ) a ≤ S31x128.size a) (y : S31x128.Idx) :
    y ∈ (Rect.unit (s := S31x128) ![n, 0] ![1, 128] inb).set ↔ (y 0).val = n := by
  rw [Rect.mem_set_unit]
  have := (y 1).isLt
  change (y 1).val < 128 at this
  constructor
  · intro h
    have h0 := h 0
    change n ≤ (y 0).val ∧ (y 0).val < n + 1 at h0
    omega
  · intro h
    refine Fin.forall_fin_two.mpr ⟨?_, ?_⟩
    · change n ≤ (y 0).val ∧ (y 0).val < n + 1
      omega
    · change 0 ≤ (y 1).val ∧ (y 1).val < 0 + 128
      omega

set_option maxHeartbeats 4000000 in
theorem trip (𝒱 : Variants) (c : Dev nD) (bd : Option 𝒱.V) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .hbm S2048x6144 .bf16) (harg5 : arg5.IsWhole) (arg6 : Memref sig .tc .hbm S2048x6144 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S2048x128 .f32) (harg11 : arg11.IsWhole) (arg12 : Memref sig .tc .vmem S2x2048x128 .bf16) (harg12 : arg12.IsWhole) (arg13 : Memref sig .tc .vmem S2x2048x128 .bf16) (harg13 : arg13.IsWhole) (arg14 : DmaSems sig S4) (v9 : BitVec 32) (v13 : Vec F S2048x128 .f32) (v21 : FVec F S2048x128 .f32) (v30 : Vec F S2048x128 .f32) (v31 : Vec F S2048x128 .f32) (v43 : Vec F S31x128 .f32)
    (X9 : BufTy.Contents (Elt F) arg9.view.ty) (X10 : BufTy.Contents (Elt F) arg10.view.ty) (f7 : BufTy.Contents (Elt F) arg7.view.ty) (f11 : BufTy.Contents (Elt F) arg11.view.ty) (k : Fin k0_t1_loop.trips) :
    iprop((arg9.view.loc (c : Thread nD τ) ↦[arg9.view.set]{fullShare} X9) ∗ (arg10.view.loc (c : Thread nD τ) ↦[arg10.view.set]{fullShare} X10) ∗ (arg7.view.loc (c : Thread nD τ) ↦[arg7.view.set]{fullShare} f7) ∗ (arg11.view.loc (c : Thread nD τ) ↦[arg11.view.set]{fullShare} f11))
      ⊢@{sProp 𝕄} wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 v9 v13 v21 v30 v31 v43 k PUnit.unit)
          (fun _ => iprop((arg9.view.loc (c : Thread nD τ) ↦[arg9.view.set]{fullShare} X9) ∗ (arg10.view.loc (c : Thread nD τ) ↦[arg10.view.set]{fullShare} X10)
            ∗ (∃ f, (arg7.view.loc (c : Thread nD τ) ↦[arg7.view.set]{fullShare} f) ∗ ⌜arg7.view.read (Elt F) f = dwStep (arg9.view.readAt (Elt F) (Rect.unit (s := S2080x128) (k0_off4 k) S160x128.size (k0_off4_inb k)).toLoadRect X9) (arg10.view.readAt (Elt F) (Rect.unit (s := S2080x128) (k0_off4 k) S160x128.size (k0_off4_inb k)).toLoadRect X10) (arg7.view.read (Elt F) f7)⌝)
            ∗ (∃ f, (arg11.view.loc (c : Thread nD τ) ↦[arg11.view.set]{fullShare} f) ∗ ⌜f = arg11.view.writes (Elt F) f11 [⟨Rect.unit (s := S2048x128) (k0_off5 k) S128x128.size (k0_off5_inb k), dxTile v43 (arg10.view.readAt (Elt F) (Rect.unit (s := S2080x128) (k0_off4 k) S160x128.size (k0_off4_inb k)).toLoadRect X10)⟩]⌝))) := by
  have hk : k.val < 16 := Nat.lt_of_lt_of_le k.isLt k0_t1_abs.2.1
  unfold k0_t1_body
  iintro ⟨H9, H10, H7, H11⟩
  sl_exec
  sl_step
  isplitl [H9]; · iexact H9
  isplitl [H10]; · iexact H10
  isplitl [H7]
  · iexists _; isplitl [H7]; · iexact H7
    ipureintro
    sl_unfold_run_names
    funext y
    refine View.read_writes_apply_of_pieces _ _ (dwStep _ _ (arg7.view.read (Elt F) f7)) _ ?_ y ?_
    · refine List.forall_mem_cons.mpr ⟨row_piece _ _ _ _ 30 (by decide) _ _ rfl, ?_⟩
      refine List.forall_mem_cons.mpr ⟨row_piece _ _ _ _ 29 (by decide) _ _ rfl, ?_⟩
      refine List.forall_mem_cons.mpr ⟨row_piece _ _ _ _ 28 (by decide) _ _ rfl, ?_⟩
      refine List.forall_mem_cons.mpr ⟨row_piece _ _ _ _ 27 (by decide) _ _ rfl, ?_⟩
      refine List.forall_mem_cons.mpr ⟨row_piece _ _ _ _ 26 (by decide) _ _ rfl, ?_⟩
      refine List.forall_mem_cons.mpr ⟨row_piece _ _ _ _ 25 (by decide) _ _ rfl, ?_⟩
      refine List.forall_mem_cons.mpr ⟨row_piece _ _ _ _ 24 (by decide) _ _ rfl, ?_⟩
      refine List.forall_mem_cons.mpr ⟨row_piece _ _ _ _ 23 (by decide) _ _ rfl, ?_⟩
      refine List.forall_mem_cons.mpr ⟨row_piece _ _ _ _ 22 (by decide) _ _ rfl, ?_⟩
      refine List.forall_mem_cons.mpr ⟨row_piece _ _ _ _ 21 (by decide) _ _ rfl, ?_⟩
      refine List.forall_mem_cons.mpr ⟨row_piece _ _ _ _ 20 (by decide) _ _ rfl, ?_⟩
      refine List.forall_mem_cons.mpr ⟨row_piece _ _ _ _ 19 (by decide) _ _ rfl, ?_⟩
      refine List.forall_mem_cons.mpr ⟨row_piece _ _ _ _ 18 (by decide) _ _ rfl, ?_⟩
      refine List.forall_mem_cons.mpr ⟨row_piece _ _ _ _ 17 (by decide) _ _ rfl, ?_⟩
      refine List.forall_mem_cons.mpr ⟨row_piece _ _ _ _ 16 (by decide) _ _ rfl, ?_⟩
      refine List.forall_mem_cons.mpr ⟨row_piece _ _ _ _ 15 (by decide) _ _ rfl, ?_⟩
      refine List.forall_mem_cons.mpr ⟨row_piece _ _ _ _ 14 (by decide) _ _ rfl, ?_⟩
      refine List.forall_mem_cons.mpr ⟨row_piece _ _ _ _ 13 (by decide) _ _ rfl, ?_⟩
      refine List.forall_mem_cons.mpr ⟨row_piece _ _ _ _ 12 (by decide) _ _ rfl, ?_⟩
      refine List.forall_mem_cons.mpr ⟨row_piece _ _ _ _ 11 (by decide) _ _ rfl, ?_⟩
      refine List.forall_mem_cons.mpr ⟨row_piece _ _ _ _ 10 (by decide) _ _ rfl, ?_⟩
      refine List.forall_mem_cons.mpr ⟨row_piece _ _ _ _ 9 (by decide) _ _ rfl, ?_⟩
      refine List.forall_mem_cons.mpr ⟨row_piece _ _ _ _ 8 (by decide) _ _ rfl, ?_⟩
      refine List.forall_mem_cons.mpr ⟨row_piece _ _ _ _ 7 (by decide) _ _ rfl, ?_⟩
      refine List.forall_mem_cons.mpr ⟨row_piece _ _ _ _ 6 (by decide) _ _ rfl, ?_⟩
      refine List.forall_mem_cons.mpr ⟨row_piece _ _ _ _ 5 (by decide) _ _ rfl, ?_⟩
      refine List.forall_mem_cons.mpr ⟨row_piece _ _ _ _ 4 (by decide) _ _ rfl, ?_⟩
      refine List.forall_mem_cons.mpr ⟨row_piece _ _ _ _ 3 (by decide) _ _ rfl, ?_⟩
      refine List.forall_mem_cons.mpr ⟨row_piece _ _ _ _ 2 (by decide) _ _ rfl, ?_⟩
      refine List.forall_mem_cons.mpr ⟨row_piece _ _ _ _ 1 (by decide) _ _ rfl, ?_⟩
      refine List.forall_mem_cons.mpr ⟨row_piece _ _ _ _ 0 (by decide) _ _ rfl, ?_⟩
      exact fun _ h => absurd h List.not_mem_nil
    · simp only [List.exists_mem_cons_iff, mem_row, List.not_mem_nil, false_and, exists_false, or_false]
      have := (y 0).isLt
      change (y 0).val < 31 at this
      omega
  · iexists _; isplitl [H11]; · iexact H11
    ipureintro
    rfl

/-- The 160 rows read at a trip's offset are the trip's block. -/
theorem readAt_rows {σ : _} (v : View σ .tc .vmem S2080x128 .f32) (f : v.ty.Contents (Elt F)) (off : Fin 2 → ℕ) (k : ℕ) (hk : k < 16) (ho : off = ![128 * k, 0])
    (inb : ∀ a, off a + S160x128.size a ≤ S2080x128.size a) :
    v.readAt (Elt F) (Rect.unit (s := S2080x128) off S160x128.size inb).toLoadRect f = block (v.read (Elt F) f) k := by
  subst ho
  funext u
  change v.read (Elt F) f ((Rect.unit (s := S2080x128) ![128 * k, 0] S160x128.size inb).emb u) = v.read (Elt F) f _
  congr 1
  funext a
  refine Fin.cases ?_ (fun b => ?_) a
  · apply Fin.ext
    rw [Rect.emb_apply]
    have := (u 0).isLt
    change (u 0).val < 160 at this
    change 128 * k + 1 * (u 0).val = (128 * k + (u 0).val) % 2080
    rw [Nat.mod_eq_of_lt (by omega)]; omega
  · obtain rfl : b = 0 := Subsingleton.elim (α := Fin 1) _ _
    apply Fin.ext
    rw [Rect.emb_apply]
    change 0 + 1 * (u 1).val = (u 1).val
    omega

theorem readAt_block (v : View sig .tc .vmem S2080x128 .f32) (f : v.ty.Contents (Elt F)) (k : Fin k0_t1_loop.trips) :
    v.readAt (Elt F) (Rect.unit (s := S2080x128) (k0_off4 k) S160x128.size (k0_off4_inb k)).toLoadRect f = block (v.read (Elt F) f) k.val :=
  readAt_rows v f _ k.val (Nat.lt_of_lt_of_le k.isLt k0_t1_abs.2.1) (k0_off4_eq k) _

/-- What the loop holds before trip `k`: the two padded sequences as they are, the tap gradient summed over the trips
    before, and the rows of the sequence's gradient those trips wrote. -/
abbrev inv (c : Dev nD) (arg7 : Memref sig .tc .vmem S31x128 .f32) (arg9 : Memref sig .tc .vmem S2080x128 .f32) (arg10 : Memref sig .tc .vmem S2080x128 .f32) (arg11 : Memref sig .tc .vmem S2048x128 .f32) (w : Vec F S31x128 .f32)
    (X9 : BufTy.Contents (Elt F) arg9.view.ty) (X10 : BufTy.Contents (Elt F) arg10.view.ty) (G7 : BufTy.Contents (Elt F) arg7.view.ty) (G11 : BufTy.Contents (Elt F) arg11.view.ty) (k : ℕ) (_u : PUnit) : sProp 𝕄 :=
  iprop((arg9.view.loc (c : Thread nD τ) ↦[arg9.view.set]{fullShare} X9) ∗ (arg10.view.loc (c : Thread nD τ) ↦[arg10.view.set]{fullShare} X10)
    ∗ (∃ f, (arg7.view.loc (c : Thread nD τ) ↦[arg7.view.set]{fullShare} f) ∗ ⌜arg7.view.read (Elt F) f = dwAt (arg9.view.read (Elt F) X9) (arg10.view.read (Elt F) X10) (arg7.view.read (Elt F) G7) k⌝)
    ∗ (∃ f, (arg11.view.loc (c : Thread nD τ) ↦[arg11.view.set]{fullShare} f) ∗ ⌜f = arg11.view.writes (Elt F) G11 (dxPieces w (arg10.view.read (Elt F) X10) k)⌝))

set_option warn.classDefReducibility false in
/-- The loop by its invariant. -/
@[sl_loop] def loopInv (𝒱 : Variants) (c : Dev nD) (bd : Option 𝒱.V) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg5 : Memref sig .tc .hbm S2048x6144 .bf16) (harg5 : arg5.IsWhole) (arg6 : Memref sig .tc .hbm S2048x6144 .bf16) (harg6 : arg6.IsWhole) (arg7 : Memref sig .tc .vmem S31x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole) (arg11 : Memref sig .tc .vmem S2048x128 .f32) (harg11 : arg11.IsWhole) (arg12 : Memref sig .tc .vmem S2x2048x128 .bf16) (harg12 : arg12.IsWhole) (arg13 : Memref sig .tc .vmem S2x2048x128 .bf16) (harg13 : arg13.IsWhole) (arg14 : DmaSems sig S4) (v9 : BitVec 32) (v13 : Vec F S2048x128 .f32) (v21 : FVec F S2048x128 .f32) (v30 : Vec F S2048x128 .f32) (v31 : Vec F S2048x128 .f32) (v43 : Vec F S31x128 .f32)
    (X9 : BufTy.Contents (Elt F) arg9.view.ty) (X10 : BufTy.Contents (Elt F) arg10.view.ty) (G7 : BufTy.Contents (Elt F) arg7.view.ty) (G11 : BufTy.Contents (Elt F) arg11.view.ty) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 v9 v13 v21 v30 v31 v43 where
  inv := inv (F := F) c arg7 arg9 arg10 arg11 v43 X9 X10 G7 G11
  step k acc := by
    iintro ⟨H9, H10, ⟨%f7, H7, %h7⟩, ⟨%f11, H11, %h11⟩⟩
    iapply (wp_wand_r Idealize.ShloMosaic.frame (wpE (defs₀ (F := F)) 𝒱 (c : Thread nD τ) bd) E)
    isplitl [H9 H10 H7 H11]
    · iapply (trip (F := F) 𝒱 c bd E i arg1 harg1 arg2 harg2 arg3 harg3 arg4 harg4 arg5 harg5 arg6 harg6 arg7 harg7 arg8 harg8 arg9 harg9 arg10 harg10 arg11 harg11 arg12 harg12 arg13 harg13 arg14 v9 v13 v21 v30 v31 v43 X9 X10 f7 f11 k)
      isplitl [H9]; · iexact H9
      isplitl [H10]; · iexact H10
      isplitl [H7]; · iexact H7
      iexact H11
    · iintro %_ ⟨H9, H10, ⟨%g7, H7, %e7⟩, ⟨%g11, H11, %e11⟩⟩
      isplitl [H9]; · iexact H9
      isplitl [H10]; · iexact H10
      isplitl [H7]
      · iexists _; isplitl [H7]; · iexact H7
        ipureintro; rw [e7, h7, readAt_block, readAt_block]; rfl
      iexists _; isplitl [H11]; · iexact H11
      ipureintro
      rw [e11, h11, readAt_block, dxPieces, dif_pos k.isLt]; rfl

end Cert.KernelIdeal

end
-- ==== Proof.Ring.lean ====
/- The kernel's two result columns in flight: each grid point sends the gradient of the values and the gradient of the gates
   to their column blocks of the result from one of two tiles each, and waits for them two points later. -/
module

public import proofs.«01_k».proof.Proof.Trip
public import proofs.«01_k».proof.Proof.Gen.KernelIdeal.Frame
public import Idealize.ShloMosaic.Lib.Ring.WriteBehind
public import Idealize.ShloMosaic.Lib.Pipeline.FrameValue

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Gen

variable {F : FTy → Type} [FloatOps F]

local notation "𝕄" => MT nD τ sig Unit (Elt F) ℕ (Pipeline.UD sig nD τ) ℕ

/-! ## The branch conditions over the grid -/

abbrev late (i : grid0.Coords) : Prop := k0_cond1 i = 1#1
abbrev final (i : grid0.Coords) : Prop := k0_cond2 i = 1#1
theorem late_iff : ∀ t : Fin grid0.N, late (grid0.coords t) ↔ 2 ≤ t.val := by decide +kernel
theorem final_iff : ∀ t : Fin grid0.N, final (grid0.coords t) ↔ t.val + 1 = 8 := by decide +kernel

/-! ## Buffers, tiles, pieces and cells -/

abbrev padX : Memref sig .tc .vmem S2080x128 .f32 := Memref.whole cc0_scratch0
abbrev padD : Memref sig .tc .vmem S2080x128 .f32 := Memref.whole cc0_scratch1
abbrev gradX : Memref sig .tc .vmem S2048x128 .f32 := Memref.whole cc0_scratch2
abbrev tilesA : Memref sig .tc .vmem S2x2048x128 .bf16 := Memref.whole cc0_scratch3
abbrev tilesB : Memref sig .tc .vmem S2x2048x128 .bf16 := Memref.whole cc0_scratch4
abbrev result : Memref sig .tc .hbm S2048x6144 .bf16 := Memref.whole main_v0_0

/-- The contents of a memref's buffer. -/
abbrev Held (c : Dev nD) {sp : Space} {S : Shape} {e : EltTy} (M : Memref sig .tc sp S e) : Type := Buf (Elt F) (M.view.loc (c : Thread nD τ))

instance : NeZero grid0.N := ⟨by rw [N_0]; decide⟩

abbrev tileOff (g : Fin 2) : Fin 3 → ℕ := ![g.val, 0, 0]
abbrev pieceOff (u : Fin 8 × Fin 2) : Fin 2 → ℕ := ![0, 128 * u.1.val + (1024 * u.2.val + 3072)]
abbrev cellOff (g r : Fin 2) : Fin 1 → ℕ := ![2 * r.val + g.val]

theorem tileOff_inb (g : Fin 2) : ∀ a, tileOff g a + S1x2048x128.size a ≤ S2x2048x128.size a := by
  have := g.isLt; intro a; fin_cases a <;> simp [tileOff]; omega
theorem pieceOff_inb (u : Fin 8 × Fin 2) : ∀ a, pieceOff u a + S2048x128.size a ≤ S2048x6144.size a := by
  have := u.1.isLt; have := u.2.isLt; intro a; fin_cases a <;> simp [pieceOff]; omega
theorem cellOff_inb (g r : Fin 2) : ∀ a, cellOff g r a + S1.size a ≤ S4.size a := by
  have := g.isLt; have := r.isLt; intro a; fin_cases a; simp [cellOff]; omega

/-- Tile `g` of the values' gradient, -/
def tileA (g : Fin 2) : Memref sig .tc .vmem S2048x128 .bf16 :=
  (tilesA.slice (Rect.unit (s := S2x2048x128) ![g.val, 0, 0] S1x2048x128.size (tileOff_inb g)) (fun _ => rfl)).squeeze S2048x128 squeezes_S1x2048x128_S2048x128
/-- and of the gates' gradient. -/
def tileB (g : Fin 2) : Memref sig .tc .vmem S2048x128 .bf16 :=
  (tilesB.slice (Rect.unit (s := S2x2048x128) ![g.val, 0, 0] S1x2048x128.size (tileOff_inb g)) (fun _ => rfl)).squeeze S2048x128 squeezes_S1x2048x128_S2048x128
/-- The column block of the result point `u.1` writes: the values' (`u.2 = 0`) and the gates' (`u.2 = 1`). -/
def piece (u : Fin 8 × Fin 2) : Memref sig .tc .hbm S2048x128 .bf16 :=
  result.slice (Rect.unit (s := S2048x6144) ![0, 128 * u.1.val + (1024 * u.2.val + 3072)] S2048x128.size (pieceOff_inb u)) (fun _ => rfl)
def cellSem (g r : Fin 2) : DmaSems sig S_ :=
  (cc0_scratch5.slice (Rect.unit (s := S4) ![2 * r.val + g.val] S1.size (cellOff_inb g r))).squeeze S_ squeezes_S1_S_
abbrev cellLoc (g r : Fin 2) : SemLoc sig := SemLoc.dma (cellSem g r).sem

abbrev ownCells : Fin 4 → SemLoc sig := fun j => (![SemLoc.dma 12, SemLoc.dma 13, SemLoc.dma 14, SemLoc.dma 15] : Fin 4 → SemLoc sig) j
theorem cellLoc_eq : ∀ g r : Fin 2, cellLoc g r = ownCells ⟨2 * r.val + g.val, by omega⟩ := by decide
theorem ownCells_facts : Pipeline.OwnSemFacts spec0 ownCells := by decide

section Families
variable (c : Dev nD)

abbrev tileAP (g : Fin 2) (e : Held (F := F) c (tileA g)) : sProp 𝕄 := (tileA g).view.loc (c : Thread nD τ) ↦[(tileA g).view.set]{fullShare} e
abbrev tileBP (g : Fin 2) (e : Held (F := F) c (tileB g)) : sProp 𝕄 := (tileB g).view.loc (c : Thread nD τ) ↦[(tileB g).view.set]{fullShare} e
abbrev pieceP (u : Fin 8 × Fin 2) (f : Held (F := F) c (piece u)) : sProp 𝕄 := (piece u).view.loc (c : Thread nD τ) ↦[(piece u).view.set]{fullShare} f
abbrev cellP (g r : Fin 2) : sProp 𝕄 := semVal ((c : Thread nD τ), cellLoc g r) 0
/-- Column block `u` holding `T`. -/
abbrev home (u : Fin 8 × Fin 2) (T : Vec F S2048x128 .bf16) : sProp 𝕄 := iprop(∃ f, ⌜(piece u).view.read (Elt F) f = T⌝ ∗ pieceP c u f)
/-- The copies under way: each delivers its column block holding `T`, and its tile. -/
abbrev flightA (g : Fin 2) (u : Fin 8) (T : Vec F S2048x128 .bf16) : sProp 𝕄 :=
  iprop(∃ f e, ⌜(piece (u, 0)).view.read (Elt F) f = T⌝ ∗ Transfers.Flight countersEmb (c : Thread nD τ) (cellLoc g 0) default ((piece (u, 0)).view.amount (cellLoc g 0)) iprop(pieceP c (u, 0) f ∗ tileAP c g e))
abbrev flightB (g : Fin 2) (u : Fin 8) (T : Vec F S2048x128 .bf16) : sProp 𝕄 :=
  iprop(∃ f e, ⌜(piece (u, 1)).view.read (Elt F) f = T⌝ ∗ Transfers.Flight countersEmb (c : Thread nD τ) (cellLoc g 1) default ((piece (u, 1)).view.amount (cellLoc g 1)) iprop(pieceP c (u, 1) f ∗ tileBP c g e))

/-- Both tiles `g` free, -/
abbrev free (g : Fin 2) : sProp 𝕄 := iprop((cellP c g 0 ∗ ∃ e, tileAP c g e) ∗ (cellP c g 1 ∗ ∃ e, tileBP c g e))
/-- under way with point `u`'s blocks, -/
abbrev infl (TA TB : Fin 8 → Vec F S2048x128 .bf16) (g : Fin 2) (u : Fin 8) : sProp 𝕄 := iprop(flightA c g u (TA u) ∗ flightB c g u (TB u))
/-- point `u`'s column blocks not yet written, -/
abbrev ahead (u : Fin 8) : sProp 𝕄 := iprop((∃ f, pieceP (F := F) c (u, 0) f) ∗ (∃ f, pieceP (F := F) c (u, 1) f))
/-- and written. -/
abbrev behind (TA TB : Fin 8 → Vec F S2048x128 .bf16) (u : Fin 8) : sProp 𝕄 := iprop(home c (u, 0) (TA u) ∗ home c (u, 1) (TB u))
/-- The columns before point `k`. -/
def ring (TA TB : Fin 8 → Vec F S2048x128 .bf16) (k : ℕ) : sProp 𝕄 := Ring.AtBΦ 2 (free c) (infl c TA TB) (ahead c) (behind c TA TB) k

end Families

/-! ## The tiles and the column blocks are disjoint -/

abbrev tileSet (g : Fin 2) : Finset S2x2048x128.Idx := (Rect.unit (s := S2x2048x128) (tileOff g) S1x2048x128.size (tileOff_inb g)).set
abbrev pieceSet (u : Fin 8 × Fin 2) : Finset S2048x6144.Idx := (Rect.unit (s := S2048x6144) (pieceOff u) S2048x128.size (pieceOff_inb u)).set
theorem tileA_set (g : Fin 2) : (tileA g).view.set = tileSet g := by
  simp only [tileA, Memref.view_squeeze, View.set_reshape]; exact View.set_slice_whole _ _
theorem tileB_set (g : Fin 2) : (tileB g).view.set = tileSet g := by
  simp only [tileB, Memref.view_squeeze, View.set_reshape]; exact View.set_slice_whole _ _
theorem piece_set (u : Fin 8 × Fin 2) : (piece u).view.set = pieceSet u := View.set_slice_whole _ _

theorem tileSet_disjoint (g g' : Fin 2) (h : g ≠ g') : Disjoint (tileSet g) (tileSet g') := by
  rw [Finset.disjoint_left]
  intro x hx hx'
  have a := (Rect.mem_set_unit.mp hx) 0
  have b := (Rect.mem_set_unit.mp hx') 0
  change g.val ≤ (x 0).val ∧ (x 0).val < g.val + 1 at a
  change g'.val ≤ (x 0).val ∧ (x 0).val < g'.val + 1 at b
  exact h (Fin.ext (by omega))

theorem mem_pieceSet (u : Fin 8 × Fin 2) (x : S2048x6144.Idx) :
    x ∈ pieceSet u ↔ 128 * u.1.val + (1024 * u.2.val + 3072) ≤ (x 1).val ∧ (x 1).val < 128 * u.1.val + (1024 * u.2.val + 3072) + 128 := by
  rw [Rect.mem_set_unit]
  have h0 := (x 0).isLt
  change (x 0).val < 2048 at h0
  constructor
  · exact fun h => h 1
  · intro h
    refine Fin.forall_fin_two.mpr ⟨?_, h⟩
    change 0 ≤ (x 0).val ∧ (x 0).val < 0 + 2048
    omega

theorem pieceSet_disjoint (u u' : Fin 8 × Fin 2) (h : u ≠ u') : Disjoint (pieceSet u) (pieceSet u') := by
  rw [Finset.disjoint_left]
  intro x hx hx'
  have a := (mem_pieceSet u x).mp hx
  have b := (mem_pieceSet u' x).mp hx'
  have := u.1.isLt; have := u'.1.isLt; have := u.2.isLt; have := u'.2.isLt
  exact h (Prod.ext (Fin.ext (by omega)) (Fin.ext (by omega)))

/-! ## The names the body uses at a point -/

section Names
omit [FloatOps F]
set_option synthInstance.maxSize 4096 in
theorem off7_cell0 : ∀ t : Fin grid0.N, k0_off7 (grid0.coords t) 0#32 = cellOff (Ring.sl 2 t.val) 0 := by decide +kernel
@[sl_canon] theorem cell7_0 (t : Fin grid0.N) :
    (cc0_scratch5.slice (Rect.unit (s := S4) (k0_off7 (grid0.coords t) 0#32) S1.size (k0_off7_inb (grid0.coords t) 0))).squeeze S_ squeezes_S1_S_ = cellSem (Ring.sl 2 t.val) 0 :=
  congrArg (fun A : DmaSems sig S1 => A.squeeze S_ squeezes_S1_S_) (SemArray.slice_unit_congr _ (off7_cell0 t) _ _)
@[sl_canon] theorem cell7_0' (t : Fin grid0.N) :
    (cc0_scratch5.slice (Rect.unit (s := S4) (k0_off7 (grid0.coords t) 0#32) ![1] (k0_off7_inb (grid0.coords t) 0))).squeeze S_ squeezes_S1_S_ = cellSem (Ring.sl 2 t.val) 0 :=
  congrArg (fun A : DmaSems sig S1 => A.squeeze S_ squeezes_S1_S_) (SemArray.slice_unit_congr _ (off7_cell0 t) _ _)
set_option synthInstance.maxSize 4096 in
theorem off7_cell1 : ∀ t : Fin grid0.N, k0_off7 (grid0.coords t) 2#32 = cellOff (Ring.sl 2 t.val) 1 := by decide +kernel
@[sl_canon] theorem cell7_1 (t : Fin grid0.N) :
    (cc0_scratch5.slice (Rect.unit (s := S4) (k0_off7 (grid0.coords t) 2#32) S1.size (k0_off7_inb (grid0.coords t) 1))).squeeze S_ squeezes_S1_S_ = cellSem (Ring.sl 2 t.val) 1 :=
  congrArg (fun A : DmaSems sig S1 => A.squeeze S_ squeezes_S1_S_) (SemArray.slice_unit_congr _ (off7_cell1 t) _ _)
@[sl_canon] theorem cell7_1' (t : Fin grid0.N) :
    (cc0_scratch5.slice (Rect.unit (s := S4) (k0_off7 (grid0.coords t) 2#32) ![1] (k0_off7_inb (grid0.coords t) 1))).squeeze S_ squeezes_S1_S_ = cellSem (Ring.sl 2 t.val) 1 :=
  congrArg (fun A : DmaSems sig S1 => A.squeeze S_ squeezes_S1_S_) (SemArray.slice_unit_congr _ (off7_cell1 t) _ _)
set_option synthInstance.maxSize 4096 in
theorem off1_cell0 : ∀ t : Fin grid0.N, k0_off1 (grid0.coords t) 0#32 = cellOff (Ring.sl 2 t.val) 0 := by decide +kernel
@[sl_canon] theorem cell1_0 (t : Fin grid0.N) (h : late (grid0.coords t)) :
    (cc0_scratch5.slice (Rect.unit (s := S4) (k0_off1 (grid0.coords t) 0#32) S1.size (k0_off1_inb (grid0.coords t) h 0))).squeeze S_ squeezes_S1_S_ = cellSem (Ring.sl 2 t.val) 0 :=
  congrArg (fun A : DmaSems sig S1 => A.squeeze S_ squeezes_S1_S_) (SemArray.slice_unit_congr _ (off1_cell0 t) _ _)
@[sl_canon] theorem cell1_0' (t : Fin grid0.N) (h : late (grid0.coords t)) :
    (cc0_scratch5.slice (Rect.unit (s := S4) (k0_off1 (grid0.coords t) 0#32) ![1] (k0_off1_inb (grid0.coords t) h 0))).squeeze S_ squeezes_S1_S_ = cellSem (Ring.sl 2 t.val) 0 :=
  congrArg (fun A : DmaSems sig S1 => A.squeeze S_ squeezes_S1_S_) (SemArray.slice_unit_congr _ (off1_cell0 t) _ _)
set_option synthInstance.maxSize 4096 in
theorem off1_cell1 : ∀ t : Fin grid0.N, k0_off1 (grid0.coords t) 2#32 = cellOff (Ring.sl 2 t.val) 1 := by decide +kernel
@[sl_canon] theorem cell1_1 (t : Fin grid0.N) (h : late (grid0.coords t)) :
    (cc0_scratch5.slice (Rect.unit (s := S4) (k0_off1 (grid0.coords t) 2#32) S1.size (k0_off1_inb (grid0.coords t) h 1))).squeeze S_ squeezes_S1_S_ = cellSem (Ring.sl 2 t.val) 1 :=
  congrArg (fun A : DmaSems sig S1 => A.squeeze S_ squeezes_S1_S_) (SemArray.slice_unit_congr _ (off1_cell1 t) _ _)
@[sl_canon] theorem cell1_1' (t : Fin grid0.N) (h : late (grid0.coords t)) :
    (cc0_scratch5.slice (Rect.unit (s := S4) (k0_off1 (grid0.coords t) 2#32) ![1] (k0_off1_inb (grid0.coords t) h 1))).squeeze S_ squeezes_S1_S_ = cellSem (Ring.sl 2 t.val) 1 :=
  congrArg (fun A : DmaSems sig S1 => A.squeeze S_ squeezes_S1_S_) (SemArray.slice_unit_congr _ (off1_cell1 t) _ _)
set_option synthInstance.maxSize 4096 in
theorem off10_cell0 : ∀ t : Fin grid0.N, k0_off10 (grid0.coords t) 0#32 = cellOff (Ring.sl 2 t.val) 0 := by decide +kernel
@[sl_canon] theorem cell10_0 (t : Fin grid0.N) (h : final (grid0.coords t)) :
    (cc0_scratch5.slice (Rect.unit (s := S4) (k0_off10 (grid0.coords t) 0#32) S1.size (k0_off10_inb (grid0.coords t) h 0))).squeeze S_ squeezes_S1_S_ = cellSem (Ring.sl 2 t.val) 0 :=
  congrArg (fun A : DmaSems sig S1 => A.squeeze S_ squeezes_S1_S_) (SemArray.slice_unit_congr _ (off10_cell0 t) _ _)
@[sl_canon] theorem cell10_0' (t : Fin grid0.N) (h : final (grid0.coords t)) :
    (cc0_scratch5.slice (Rect.unit (s := S4) (k0_off10 (grid0.coords t) 0#32) ![1] (k0_off10_inb (grid0.coords t) h 0))).squeeze S_ squeezes_S1_S_ = cellSem (Ring.sl 2 t.val) 0 :=
  congrArg (fun A : DmaSems sig S1 => A.squeeze S_ squeezes_S1_S_) (SemArray.slice_unit_congr _ (off10_cell0 t) _ _)
set_option synthInstance.maxSize 4096 in
theorem off10_cell1 : ∀ t : Fin grid0.N, k0_off10 (grid0.coords t) 2#32 = cellOff (Ring.sl 2 t.val) 1 := by decide +kernel
@[sl_canon] theorem cell10_1 (t : Fin grid0.N) (h : final (grid0.coords t)) :
    (cc0_scratch5.slice (Rect.unit (s := S4) (k0_off10 (grid0.coords t) 2#32) S1.size (k0_off10_inb (grid0.coords t) h 1))).squeeze S_ squeezes_S1_S_ = cellSem (Ring.sl 2 t.val) 1 :=
  congrArg (fun A : DmaSems sig S1 => A.squeeze S_ squeezes_S1_S_) (SemArray.slice_unit_congr _ (off10_cell1 t) _ _)
@[sl_canon] theorem cell10_1' (t : Fin grid0.N) (h : final (grid0.coords t)) :
    (cc0_scratch5.slice (Rect.unit (s := S4) (k0_off10 (grid0.coords t) 2#32) ![1] (k0_off10_inb (grid0.coords t) h 1))).squeeze S_ squeezes_S1_S_ = cellSem (Ring.sl 2 t.val) 1 :=
  congrArg (fun A : DmaSems sig S1 => A.squeeze S_ squeezes_S1_S_) (SemArray.slice_unit_congr _ (off10_cell1 t) _ _)
set_option synthInstance.maxSize 4096 in
theorem off13_cell0 : ∀ t : Fin grid0.N, k0_off13 (grid0.coords t) 0#32 = cellOff (Ring.sl 2 (t.val + 1)) 0 := by decide +kernel
@[sl_canon] theorem cell13_0 (t : Fin grid0.N) (h : final (grid0.coords t)) :
    (cc0_scratch5.slice (Rect.unit (s := S4) (k0_off13 (grid0.coords t) 0#32) S1.size (k0_off13_inb (grid0.coords t) h 0))).squeeze S_ squeezes_S1_S_ = cellSem (Ring.sl 2 (t.val + 1)) 0 :=
  congrArg (fun A : DmaSems sig S1 => A.squeeze S_ squeezes_S1_S_) (SemArray.slice_unit_congr _ (off13_cell0 t) _ _)
@[sl_canon] theorem cell13_0' (t : Fin grid0.N) (h : final (grid0.coords t)) :
    (cc0_scratch5.slice (Rect.unit (s := S4) (k0_off13 (grid0.coords t) 0#32) ![1] (k0_off13_inb (grid0.coords t) h 0))).squeeze S_ squeezes_S1_S_ = cellSem (Ring.sl 2 (t.val + 1)) 0 :=
  congrArg (fun A : DmaSems sig S1 => A.squeeze S_ squeezes_S1_S_) (SemArray.slice_unit_congr _ (off13_cell0 t) _ _)
set_option synthInstance.maxSize 4096 in
theorem off13_cell1 : ∀ t : Fin grid0.N, k0_off13 (grid0.coords t) 2#32 = cellOff (Ring.sl 2 (t.val + 1)) 1 := by decide +kernel
@[sl_canon] theorem cell13_1 (t : Fin grid0.N) (h : final (grid0.coords t)) :
    (cc0_scratch5.slice (Rect.unit (s := S4) (k0_off13 (grid0.coords t) 2#32) S1.size (k0_off13_inb (grid0.coords t) h 1))).squeeze S_ squeezes_S1_S_ = cellSem (Ring.sl 2 (t.val + 1)) 1 :=
  congrArg (fun A : DmaSems sig S1 => A.squeeze S_ squeezes_S1_S_) (SemArray.slice_unit_congr _ (off13_cell1 t) _ _)
@[sl_canon] theorem cell13_1' (t : Fin grid0.N) (h : final (grid0.coords t)) :
    (cc0_scratch5.slice (Rect.unit (s := S4) (k0_off13 (grid0.coords t) 2#32) ![1] (k0_off13_inb (grid0.coords t) h 1))).squeeze S_ squeezes_S1_S_ = cellSem (Ring.sl 2 (t.val + 1)) 1 :=
  congrArg (fun A : DmaSems sig S1 => A.squeeze S_ squeezes_S1_S_) (SemArray.slice_unit_congr _ (off13_cell1 t) _ _)
set_option synthInstance.maxSize 4096 in
theorem off8_piece0 : ∀ t : Fin grid0.N, k0_off8 (grid0.coords t) 24#32 = pieceOff (Ring.bk 8 t.val, 0) := by decide +kernel
@[sl_canon] theorem piece8_0 (t : Fin grid0.N) :
    result.slice (Rect.unit (s := S2048x6144) (k0_off8 (grid0.coords t) 24#32) S2048x128.size (k0_off8_inb (grid0.coords t) 0)) (fun _ => rfl) = piece (Ring.bk 8 t.val, 0) :=
  Memref.slice_unit_congr _ (off8_piece0 t) _ _ (fun _ => rfl) (fun _ => rfl)
@[sl_canon] theorem piece8_0' (t : Fin grid0.N) :
    result.slice (Rect.unit (s := S2048x6144) (k0_off8 (grid0.coords t) 24#32) ![2048, 128] (k0_off8_inb (grid0.coords t) 0)) (fun _ => rfl) = piece (Ring.bk 8 t.val, 0) :=
  Memref.slice_unit_congr _ (off8_piece0 t) _ _ (fun _ => rfl) (fun _ => rfl)
set_option synthInstance.maxSize 4096 in
theorem off8_piece1 : ∀ t : Fin grid0.N, k0_off8 (grid0.coords t) 32#32 = pieceOff (Ring.bk 8 t.val, 1) := by decide +kernel
@[sl_canon] theorem piece8_1 (t : Fin grid0.N) :
    result.slice (Rect.unit (s := S2048x6144) (k0_off8 (grid0.coords t) 32#32) S2048x128.size (k0_off8_inb (grid0.coords t) 1)) (fun _ => rfl) = piece (Ring.bk 8 t.val, 1) :=
  Memref.slice_unit_congr _ (off8_piece1 t) _ _ (fun _ => rfl) (fun _ => rfl)
@[sl_canon] theorem piece8_1' (t : Fin grid0.N) :
    result.slice (Rect.unit (s := S2048x6144) (k0_off8 (grid0.coords t) 32#32) ![2048, 128] (k0_off8_inb (grid0.coords t) 1)) (fun _ => rfl) = piece (Ring.bk 8 t.val, 1) :=
  Memref.slice_unit_congr _ (off8_piece1 t) _ _ (fun _ => rfl) (fun _ => rfl)
set_option synthInstance.maxSize 4096 in
theorem off9_tile : ∀ t : Fin grid0.N, k0_off9 (grid0.coords t) = tileOff (Ring.sl 2 t.val) := by decide +kernel
@[sl_canon] theorem tileA9 (t : Fin grid0.N) :
    (tilesA.slice (Rect.unit (s := S2x2048x128) (k0_off9 (grid0.coords t)) S1x2048x128.size (k0_off9_inb (grid0.coords t))) (fun _ => rfl)).squeeze S2048x128 squeezes_S1x2048x128_S2048x128 = tileA (Ring.sl 2 t.val) :=
  congrArg (fun M : Memref sig .tc .vmem S1x2048x128 .bf16 => M.squeeze S2048x128 squeezes_S1x2048x128_S2048x128) (Memref.slice_unit_congr _ (off9_tile t) _ _ (fun _ => rfl) (fun _ => rfl))
@[sl_canon] theorem tileA9' (t : Fin grid0.N) :
    (tilesA.slice (Rect.unit (s := S2x2048x128) (k0_off9 (grid0.coords t)) ![1, 2048, 128] (k0_off9_inb (grid0.coords t))) (fun _ => rfl)).squeeze S2048x128 squeezes_S1x2048x128_S2048x128 = tileA (Ring.sl 2 t.val) :=
  congrArg (fun M : Memref sig .tc .vmem S1x2048x128 .bf16 => M.squeeze S2048x128 squeezes_S1x2048x128_S2048x128) (Memref.slice_unit_congr _ (off9_tile t) _ _ (fun _ => rfl) (fun _ => rfl))
@[sl_canon] theorem tileB9 (t : Fin grid0.N) :
    (tilesB.slice (Rect.unit (s := S2x2048x128) (k0_off9 (grid0.coords t)) S1x2048x128.size (k0_off9_inb (grid0.coords t))) (fun _ => rfl)).squeeze S2048x128 squeezes_S1x2048x128_S2048x128 = tileB (Ring.sl 2 t.val) :=
  congrArg (fun M : Memref sig .tc .vmem S1x2048x128 .bf16 => M.squeeze S2048x128 squeezes_S1x2048x128_S2048x128) (Memref.slice_unit_congr _ (off9_tile t) _ _ (fun _ => rfl) (fun _ => rfl))
@[sl_canon] theorem tileB9' (t : Fin grid0.N) :
    (tilesB.slice (Rect.unit (s := S2x2048x128) (k0_off9 (grid0.coords t)) ![1, 2048, 128] (k0_off9_inb (grid0.coords t))) (fun _ => rfl)).squeeze S2048x128 squeezes_S1x2048x128_S2048x128 = tileB (Ring.sl 2 t.val) :=
  congrArg (fun M : Memref sig .tc .vmem S1x2048x128 .bf16 => M.squeeze S2048x128 squeezes_S1x2048x128_S2048x128) (Memref.slice_unit_congr _ (off9_tile t) _ _ (fun _ => rfl) (fun _ => rfl))
set_option synthInstance.maxSize 4096 in
theorem off3_tile : ∀ t : Fin grid0.N, k0_off3 (grid0.coords t) = tileOff (Ring.sl 2 t.val) := by decide +kernel
@[sl_canon] theorem tileA3 (t : Fin grid0.N) (h : late (grid0.coords t)) :
    (tilesA.slice (Rect.unit (s := S2x2048x128) (k0_off3 (grid0.coords t)) S1x2048x128.size (k0_off3_inb (grid0.coords t) h)) (fun _ => rfl)).squeeze S2048x128 squeezes_S1x2048x128_S2048x128 = tileA (Ring.sl 2 t.val) :=
  congrArg (fun M : Memref sig .tc .vmem S1x2048x128 .bf16 => M.squeeze S2048x128 squeezes_S1x2048x128_S2048x128) (Memref.slice_unit_congr _ (off3_tile t) _ _ (fun _ => rfl) (fun _ => rfl))
@[sl_canon] theorem tileA3' (t : Fin grid0.N) (h : late (grid0.coords t)) :
    (tilesA.slice (Rect.unit (s := S2x2048x128) (k0_off3 (grid0.coords t)) ![1, 2048, 128] (k0_off3_inb (grid0.coords t) h)) (fun _ => rfl)).squeeze S2048x128 squeezes_S1x2048x128_S2048x128 = tileA (Ring.sl 2 t.val) :=
  congrArg (fun M : Memref sig .tc .vmem S1x2048x128 .bf16 => M.squeeze S2048x128 squeezes_S1x2048x128_S2048x128) (Memref.slice_unit_congr _ (off3_tile t) _ _ (fun _ => rfl) (fun _ => rfl))
@[sl_canon] theorem tileB3 (t : Fin grid0.N) (h : late (grid0.coords t)) :
    (tilesB.slice (Rect.unit (s := S2x2048x128) (k0_off3 (grid0.coords t)) S1x2048x128.size (k0_off3_inb (grid0.coords t) h)) (fun _ => rfl)).squeeze S2048x128 squeezes_S1x2048x128_S2048x128 = tileB (Ring.sl 2 t.val) :=
  congrArg (fun M : Memref sig .tc .vmem S1x2048x128 .bf16 => M.squeeze S2048x128 squeezes_S1x2048x128_S2048x128) (Memref.slice_unit_congr _ (off3_tile t) _ _ (fun _ => rfl) (fun _ => rfl))
@[sl_canon] theorem tileB3' (t : Fin grid0.N) (h : late (grid0.coords t)) :
    (tilesB.slice (Rect.unit (s := S2x2048x128) (k0_off3 (grid0.coords t)) ![1, 2048, 128] (k0_off3_inb (grid0.coords t) h)) (fun _ => rfl)).squeeze S2048x128 squeezes_S1x2048x128_S2048x128 = tileB (Ring.sl 2 t.val) :=
  congrArg (fun M : Memref sig .tc .vmem S1x2048x128 .bf16 => M.squeeze S2048x128 squeezes_S1x2048x128_S2048x128) (Memref.slice_unit_congr _ (off3_tile t) _ _ (fun _ => rfl) (fun _ => rfl))
set_option synthInstance.maxSize 4096 in
theorem off12_tile : ∀ t : Fin grid0.N, k0_off12 (grid0.coords t) = tileOff (Ring.sl 2 t.val) := by decide +kernel
@[sl_canon] theorem tileA12 (t : Fin grid0.N) (h : final (grid0.coords t)) :
    (tilesA.slice (Rect.unit (s := S2x2048x128) (k0_off12 (grid0.coords t)) S1x2048x128.size (k0_off12_inb (grid0.coords t) h)) (fun _ => rfl)).squeeze S2048x128 squeezes_S1x2048x128_S2048x128 = tileA (Ring.sl 2 t.val) :=
  congrArg (fun M : Memref sig .tc .vmem S1x2048x128 .bf16 => M.squeeze S2048x128 squeezes_S1x2048x128_S2048x128) (Memref.slice_unit_congr _ (off12_tile t) _ _ (fun _ => rfl) (fun _ => rfl))
@[sl_canon] theorem tileA12' (t : Fin grid0.N) (h : final (grid0.coords t)) :
    (tilesA.slice (Rect.unit (s := S2x2048x128) (k0_off12 (grid0.coords t)) ![1, 2048, 128] (k0_off12_inb (grid0.coords t) h)) (fun _ => rfl)).squeeze S2048x128 squeezes_S1x2048x128_S2048x128 = tileA (Ring.sl 2 t.val) :=
  congrArg (fun M : Memref sig .tc .vmem S1x2048x128 .bf16 => M.squeeze S2048x128 squeezes_S1x2048x128_S2048x128) (Memref.slice_unit_congr _ (off12_tile t) _ _ (fun _ => rfl) (fun _ => rfl))
@[sl_canon] theorem tileB12 (t : Fin grid0.N) (h : final (grid0.coords t)) :
    (tilesB.slice (Rect.unit (s := S2x2048x128) (k0_off12 (grid0.coords t)) S1x2048x128.size (k0_off12_inb (grid0.coords t) h)) (fun _ => rfl)).squeeze S2048x128 squeezes_S1x2048x128_S2048x128 = tileB (Ring.sl 2 t.val) :=
  congrArg (fun M : Memref sig .tc .vmem S1x2048x128 .bf16 => M.squeeze S2048x128 squeezes_S1x2048x128_S2048x128) (Memref.slice_unit_congr _ (off12_tile t) _ _ (fun _ => rfl) (fun _ => rfl))
@[sl_canon] theorem tileB12' (t : Fin grid0.N) (h : final (grid0.coords t)) :
    (tilesB.slice (Rect.unit (s := S2x2048x128) (k0_off12 (grid0.coords t)) ![1, 2048, 128] (k0_off12_inb (grid0.coords t) h)) (fun _ => rfl)).squeeze S2048x128 squeezes_S1x2048x128_S2048x128 = tileB (Ring.sl 2 t.val) :=
  congrArg (fun M : Memref sig .tc .vmem S1x2048x128 .bf16 => M.squeeze S2048x128 squeezes_S1x2048x128_S2048x128) (Memref.slice_unit_congr _ (off12_tile t) _ _ (fun _ => rfl) (fun _ => rfl))
set_option synthInstance.maxSize 4096 in
theorem off15_tile : ∀ t : Fin grid0.N, k0_off15 (grid0.coords t) = tileOff (Ring.sl 2 (t.val + 1)) := by decide +kernel
@[sl_canon] theorem tileA15 (t : Fin grid0.N) (h : final (grid0.coords t)) :
    (tilesA.slice (Rect.unit (s := S2x2048x128) (k0_off15 (grid0.coords t)) S1x2048x128.size (k0_off15_inb (grid0.coords t) h)) (fun _ => rfl)).squeeze S2048x128 squeezes_S1x2048x128_S2048x128 = tileA (Ring.sl 2 (t.val + 1)) :=
  congrArg (fun M : Memref sig .tc .vmem S1x2048x128 .bf16 => M.squeeze S2048x128 squeezes_S1x2048x128_S2048x128) (Memref.slice_unit_congr _ (off15_tile t) _ _ (fun _ => rfl) (fun _ => rfl))
@[sl_canon] theorem tileA15' (t : Fin grid0.N) (h : final (grid0.coords t)) :
    (tilesA.slice (Rect.unit (s := S2x2048x128) (k0_off15 (grid0.coords t)) ![1, 2048, 128] (k0_off15_inb (grid0.coords t) h)) (fun _ => rfl)).squeeze S2048x128 squeezes_S1x2048x128_S2048x128 = tileA (Ring.sl 2 (t.val + 1)) :=
  congrArg (fun M : Memref sig .tc .vmem S1x2048x128 .bf16 => M.squeeze S2048x128 squeezes_S1x2048x128_S2048x128) (Memref.slice_unit_congr _ (off15_tile t) _ _ (fun _ => rfl) (fun _ => rfl))
@[sl_canon] theorem tileB15 (t : Fin grid0.N) (h : final (grid0.coords t)) :
    (tilesB.slice (Rect.unit (s := S2x2048x128) (k0_off15 (grid0.coords t)) S1x2048x128.size (k0_off15_inb (grid0.coords t) h)) (fun _ => rfl)).squeeze S2048x128 squeezes_S1x2048x128_S2048x128 = tileB (Ring.sl 2 (t.val + 1)) :=
  congrArg (fun M : Memref sig .tc .vmem S1x2048x128 .bf16 => M.squeeze S2048x128 squeezes_S1x2048x128_S2048x128) (Memref.slice_unit_congr _ (off15_tile t) _ _ (fun _ => rfl) (fun _ => rfl))
@[sl_canon] theorem tileB15' (t : Fin grid0.N) (h : final (grid0.coords t)) :
    (tilesB.slice (Rect.unit (s := S2x2048x128) (k0_off15 (grid0.coords t)) ![1, 2048, 128] (k0_off15_inb (grid0.coords t) h)) (fun _ => rfl)).squeeze S2048x128 squeezes_S1x2048x128_S2048x128 = tileB (Ring.sl 2 (t.val + 1)) :=
  congrArg (fun M : Memref sig .tc .vmem S1x2048x128 .bf16 => M.squeeze S2048x128 squeezes_S1x2048x128_S2048x128) (Memref.slice_unit_congr _ (off15_tile t) _ _ (fun _ => rfl) (fun _ => rfl))
set_option synthInstance.maxSize 4096 in
theorem off6_tile : ∀ t : Fin grid0.N, k0_off6 (grid0.coords t) = tileOff (Ring.sl 2 t.val) := by decide +kernel
instance (priority := high) (t : Fin grid0.N) : ClosedOff (k0_off6 (grid0.coords t)) := ⟨![(Ring.sl 2 t.val).val, 0, 0], off6_tile t⟩
end Names

end Cert.KernelIdeal

end
-- ==== Proof.Stores.lean ====
/- What the buffers of the kernel's body hold after its stores. -/
module

public import proofs.«01_k».proof.Proof.Values
public import proofs.«01_k».proof.Proof.Ring
public import Idealize.ShloMosaic.Lib.VecWindow

@[expose] public section

set_option maxRecDepth 16384

noncomputable section

namespace Cert.KernelIdeal

open Idealize.ShloMosaic Gen

variable {F : FTy → Type} [FloatOps F]

/-- Where an index of a block of rows falls. -/
theorem emb_rows {R N : ℕ} (o : ℕ) (inb : ∀ a, (![o, 0] : Fin 2 → ℕ) a + (⟨2, ![N, 128]⟩ : Shape).size a ≤ (⟨2, ![R, 128]⟩ : Shape).size a)
    (z : (⟨2, ![N, 128]⟩ : Shape).Idx) :
    (((Rect.unit (s := ⟨2, ![R, 128]⟩) ![o, 0] (⟨2, ![N, 128]⟩ : Shape).size inb).emb z 0 : Fin _) : ℕ) = o + (z 0).val
      ∧ (Rect.unit (s := ⟨2, ![R, 128]⟩) ![o, 0] (⟨2, ![N, 128]⟩ : Shape).size inb).emb z 1 = z 1 := by
  refine ⟨?_, Fin.ext ?_⟩
  · rw [Rect.emb_apply]
    change o + 1 * (z 0).val = _
    omega
  · rw [Rect.emb_apply]
    change 0 + 1 * (z 1).val = (z 1).val
    omega

/-- Which indices a block of rows holds. -/
theorem mem_rows {R N : ℕ} (o : ℕ) (inb : ∀ a, (![o, 0] : Fin 2 → ℕ) a + (⟨2, ![N, 128]⟩ : Shape).size a ≤ (⟨2, ![R, 128]⟩ : Shape).size a)
    (y : (⟨2, ![R, 128]⟩ : Shape).Idx) (h : o ≤ (y 0).val) (h' : (y 0).val < o + N) :
    y ∈ (Rect.unit (s := ⟨2, ![R, 128]⟩) ![o, 0] (⟨2, ![N, 128]⟩ : Shape).size inb).set := by
  rw [Rect.mem_set_unit]
  have := (y 1).isLt
  change (y 1).val < 128 at this
  refine Fin.forall_fin_two.mpr ⟨⟨h, h'⟩, ?_⟩
  change 0 ≤ (y 1).val ∧ (y 1).val < 0 + 128
  omega

theorem read_padTop {σ : _} (v : View σ .tc .vmem S2080x128 .f32) (f : v.ty.Contents (Elt F)) (x : Vec F S2048x128 .f32) :
    v.read (Elt F) (v.writes (Elt F) f [⟨Rect.unit (s := S2080x128) ![32, 0] S2048x128.size inb_S2080x128_S2048x128_32_0, x⟩,
      ⟨Rect.unit (s := S2080x128) ![0, 0] S32x128.size inb_S2080x128_S32x128_0_0, k0_pay58 (F := F)⟩]) = padTop x := by
  funext y
  refine View.read_writes_apply_of_pieces _ _ (padTop x) _ ?_ y ?_
  · refine List.forall_mem_cons.mpr ⟨fun z => ?_, List.forall_mem_cons.mpr ⟨fun z => ?_, fun _ h => absurd h List.not_mem_nil⟩⟩
    · obtain ⟨h0, h1⟩ := emb_rows (R := 2080) (N := 2048) 32 inb_S2080x128_S2048x128_32_0 z
      have hz : (z : S2048x128.Idx) = ix2 (z 0) (z 1) := by funext a; fin_cases a <;> rfl
      unfold padTop
      rw [dif_neg (by change ¬ (((Rect.unit (s := ⟨2, ![2080, 128]⟩) ![32, 0] (⟨2, ![2048, 128]⟩ : Shape).size inb_S2080x128_S2048x128_32_0).emb z 0 : Fin _) : ℕ) < 32; rw [h0]; omega)]
      refine (congrArg x hz).trans (congrArg x ?_)
      funext a; fin_cases a
      · refine Fin.ext ?_
        change (z 0).val = (((Rect.unit (s := ⟨2, ![2080, 128]⟩) ![32, 0] (⟨2, ![2048, 128]⟩ : Shape).size inb_S2080x128_S2048x128_32_0).emb z 0 : Fin _) : ℕ) - 32
        rw [h0]; omega
      · exact h1.symm
    · obtain ⟨h0, h1⟩ := emb_rows (R := 2080) (N := 32) 0 inb_S2080x128_S32x128_0_0 z
      have hz0 := (z 0).isLt
      change (z 0).val < 32 at hz0
      unfold padTop
      rw [dif_pos (by change (((Rect.unit (s := ⟨2, ![2080, 128]⟩) ![0, 0] (⟨2, ![32, 128]⟩ : Shape).size inb_S2080x128_S32x128_0_0).emb z 0 : Fin _) : ℕ) < 32; rw [h0]; omega)]
      refine congrArg (a₁ := (z : S32x128.Idx)) (k0_pay58 (F := F)) ?_
      funext a; fin_cases a
      · refine Fin.ext ?_
        change (z 0).val = (((Rect.unit (s := ⟨2, ![2080, 128]⟩) ![0, 0] (⟨2, ![32, 128]⟩ : Shape).size inb_S2080x128_S32x128_0_0).emb z 0 : Fin _) : ℕ)
        rw [h0]; omega
      · exact h1.symm
  · have hy := (y 0).isLt
    change (y 0).val < 2080 at hy
    by_cases h : (y 0).val < 32
    · exact ⟨_, List.mem_cons_of_mem _ List.mem_cons_self, mem_rows (R := 2080) (N := 32) 0 inb_S2080x128_S32x128_0_0 y (by omega) (by omega)⟩
    · exact ⟨_, List.mem_cons_self, mem_rows (R := 2080) (N := 2048) 32 inb_S2080x128_S2048x128_32_0 y (by omega) (by omega)⟩

theorem read_padBottom (v : View sig .tc .vmem S2080x128 .f32) (f : v.ty.Contents (Elt F)) (x : Vec F S2048x128 .f32) :
    v.read (Elt F) (v.writes (Elt F) f [⟨Rect.unit (s := S2080x128) ![2048, 0] S32x128.size inb_S2080x128_S32x128_2048_0, k0_pay61 (F := F)⟩,
      ⟨Rect.unit (s := S2080x128) ![0, 0] S2048x128.size inb_S2080x128_S2048x128_0_0, x⟩]) = padBottom x := by
  funext y
  refine View.read_writes_apply_of_pieces _ _ (padBottom x) _ ?_ y ?_
  · refine List.forall_mem_cons.mpr ⟨fun z => ?_, List.forall_mem_cons.mpr ⟨fun z => ?_, fun _ h => absurd h List.not_mem_nil⟩⟩
    · obtain ⟨h0, h1⟩ := emb_rows (R := 2080) (N := 32) 2048 inb_S2080x128_S32x128_2048_0 z
      unfold padBottom
      rw [dif_neg (by change ¬ (((Rect.unit (s := ⟨2, ![2080, 128]⟩) ![2048, 0] (⟨2, ![32, 128]⟩ : Shape).size inb_S2080x128_S32x128_2048_0).emb z 0 : Fin _) : ℕ) < 2048; rw [h0]; omega)]
      refine congrArg (a₁ := (z : S32x128.Idx)) (k0_pay61 (F := F)) ?_
      funext a; fin_cases a
      · refine Fin.ext ?_
        change (z 0).val = (((Rect.unit (s := ⟨2, ![2080, 128]⟩) ![2048, 0] (⟨2, ![32, 128]⟩ : Shape).size inb_S2080x128_S32x128_2048_0).emb z 0 : Fin _) : ℕ) - 2048
        rw [h0]; omega
      · exact h1.symm
    · obtain ⟨h0, h1⟩ := emb_rows (R := 2080) (N := 2048) 0 inb_S2080x128_S2048x128_0_0 z
      have hz0 := (z 0).isLt
      change (z 0).val < 2048 at hz0
      unfold padBottom
      rw [dif_pos (by change (((Rect.unit (s := ⟨2, ![2080, 128]⟩) ![0, 0] (⟨2, ![2048, 128]⟩ : Shape).size inb_S2080x128_S2048x128_0_0).emb z 0 : Fin _) : ℕ) < 2048; rw [h0]; omega)]
      refine congrArg x ?_
      funext a; fin_cases a
      · refine Fin.ext ?_
        change (z 0).val = (((Rect.unit (s := ⟨2, ![2080, 128]⟩) ![0, 0] (⟨2, ![2048, 128]⟩ : Shape).size inb_S2080x128_S2048x128_0_0).emb z 0 : Fin _) : ℕ)
        rw [h0]; omega
      · exact h1.symm
  · have hy := (y 0).isLt
    change (y 0).val < 2080 at hy
    by_cases h : (y 0).val < 2048
    · exact ⟨_, List.mem_cons_of_mem _ List.mem_cons_self, mem_rows (R := 2080) (N := 2048) 0 inb_S2080x128_S2048x128_0_0 y (by omega) (by omega)⟩
    · exact ⟨_, List.mem_cons_self, mem_rows (R := 2080) (N := 32) 2048 inb_S2080x128_S32x128_2048_0 y (by omega) (by omega)⟩

theorem emb_rows_of {R N : ℕ} (off : Fin 2 → ℕ) (o : ℕ) (ho : off = ![o, 0]) (inb : ∀ a, off a + (⟨2, ![N, 128]⟩ : Shape).size a ≤ (⟨2, ![R, 128]⟩ : Shape).size a)
    (z : (⟨2, ![N, 128]⟩ : Shape).Idx) :
    (((Rect.unit (s := ⟨2, ![R, 128]⟩) off (⟨2, ![N, 128]⟩ : Shape).size inb).emb z 0 : Fin _) : ℕ) = o + (z 0).val
      ∧ (Rect.unit (s := ⟨2, ![R, 128]⟩) off (⟨2, ![N, 128]⟩ : Shape).size inb).emb z 1 = z 1 := by
  subst ho
  exact emb_rows o inb z

theorem dxAll_at (w : Vec F S31x128 .f32) (D : Vec F S2080x128 .f32) (j : S2048x128.Idx) (k r : ℕ) (hr : r < 128) (h : (j 0).val = 128 * k + r) :
    dxAll w D j = dxTile w (block D k) (ix2 ⟨r, hr⟩ (j 1)) := by
  have hd : (j 0).val / 128 = k := by omega
  have hm : (j 0).val % 128 = r := by omega
  unfold dxAll
  refine congr (congrArg (fun k => dxTile w (block D k)) hd) ?_
  exact congrArg (fun a : Fin 128 => (ix2 a (j 1) : S128x128.Idx)) (Fin.ext hm)

/-- Every piece of the loop holds its rows of `dxAll`, -/
theorem dxPieces_val (w : Vec F S31x128 .f32) (D : Vec F S2080x128 .f32) :
    ∀ k, ∀ p ∈ dxPieces w D k, ∀ z : p.1.shape.Idx, p.2 z = dxAll w D (p.1.emb z)
  | 0 => fun _ h => absurd h List.not_mem_nil
  | k + 1 => by
    unfold dxPieces
    split
    · rename_i h
      refine List.forall_mem_cons.mpr ⟨fun z => ?_, dxPieces_val w D k⟩
      have hz0 := (z 0).isLt
      change (z 0).val < 128 at hz0
      obtain ⟨e0, e1⟩ := emb_rows_of (R := 2048) (N := 128) (k0_off5 ⟨k, h⟩) (128 * k) (k0_off5_eq ⟨k, h⟩) (k0_off5_inb ⟨k, h⟩) z
      refine Eq.trans ?_ (dxAll_at w D _ k (z 0).val hz0 e0).symm
      refine congrArg (dxTile w (block D k)) ?_
      funext a; fin_cases a
      · rfl
      · exact e1.symm
    · exact dxPieces_val w D k

/-- and the rows below `128 * k` are in the pieces of the first `k` trips. -/
theorem dxPieces_cover (w : Vec F S31x128 .f32) (D : Vec F S2080x128 .f32) (y : S2048x128.Idx) :
    ∀ k, k ≤ 16 → (y 0).val < 128 * k → ∃ p ∈ dxPieces w D k, y ∈ p.1.set
  | 0 => fun _ h => absurd h (by omega)
  | k + 1 => fun hk hy => by
    have h : k < k0_t1_loop.trips := Nat.lt_of_lt_of_eq (show k < 16 by omega) (by decide +kernel)
    unfold dxPieces
    rw [dif_pos h]
    by_cases h' : (y 0).val < 128 * k
    · obtain ⟨p, hp, hy⟩ := dxPieces_cover w D y k (by omega) h'
      exact ⟨p, List.mem_cons_of_mem _ hp, hy⟩
    · refine ⟨_, List.mem_cons_self, ?_⟩
      rw [Rect.mem_set_unit]
      have := (y 1).isLt
      change (y 1).val < 128 at this
      have h5 := k0_off5_eq ⟨k, h⟩
      refine Fin.forall_fin_two.mpr ⟨?_, ?_⟩
      · change k0_off5 ⟨k, h⟩ 0 ≤ (y 0).val ∧ (y 0).val < k0_off5 ⟨k, h⟩ 0 + 128
        rw [h5]; change 128 * k ≤ (y 0).val ∧ (y 0).val < 128 * k + 128; omega
      · change k0_off5 ⟨k, h⟩ 1 ≤ (y 1).val ∧ (y 1).val < k0_off5 ⟨k, h⟩ 1 + 128
        rw [h5]; change 0 ≤ (y 1).val ∧ (y 1).val < 0 + 128; omega

theorem readCov_dx (v : View sig .tc .vmem S2048x128 .f32) (w : Vec F S31x128 .f32) (D : Vec F S2080x128 .f32) (k : ℕ) (hk : k = 16) :
    v.readCov (dxPieces w D k) (Rect.unit (s := S2048x128) ![0, 0] S2048x128.size inb_S2048x128_S2048x128_0_0).toLoadRect = dxAll w D := by
  subst hk
  unfold View.readCov
  rw [View.readAt_full]
  funext y
  have hy := (y 0).isLt
  change (y 0).val < 2048 at hy
  exact View.read_writes_apply_of_pieces _ _ (dxAll w D) _ (dxPieces_val w D 16) y (dxPieces_cover w D y 16 le_rfl (by omega))

theorem read_tileA_at (g : Fin 2) (off : Fin 3 → ℕ) (ho : off = tileOff g) (inb : ∀ a, off a + S1x2048x128.size a ≤ S2x2048x128.size a)
    (f : (tilesA.access (Rect.unit (s := S2x2048x128) off S1x2048x128.size inb)).ty.Contents (Elt F)) (x : Vec F S1x2048x128 .bf16) :
    (tileA g).view.read (Elt F) (View.write (Elt F) (tilesA.access (Rect.unit (s := S2x2048x128) off S1x2048x128.size inb)) f x Finset.univ)
      = shapeCast S2048x128 x shapeCasts_S1x2048x128_S2048x128 := by
  subst ho
  funext z
  exact congrFun (View.read_write_univ (v := tilesA.access (Rect.unit (s := S2x2048x128) (tileOff g) S1x2048x128.size inb)) f x) (Shape.reshapeEquiv shapeCasts_S1x2048x128_S2048x128 z)

theorem read_tileA (t : Fin grid0.N) (f : (tilesA.access (Rect.unit (s := S2x2048x128) (k0_off6 (grid0.coords t)) S1x2048x128.size (k0_off6_inb (grid0.coords t)))).ty.Contents (Elt F)) (x : Vec F S1x2048x128 .bf16) :
    (tileA (Ring.sl 2 t.val)).view.read (Elt F) (View.write (Elt F) (tilesA.access (Rect.unit (s := S2x2048x128) (k0_off6 (grid0.coords t)) S1x2048x128.size (k0_off6_inb (grid0.coords t)))) f x Finset.univ)
      = shapeCast S2048x128 x shapeCasts_S1x2048x128_S2048x128 :=
  read_tileA_at (Ring.sl 2 t.val) _ (off6_tile t) _ f x

theorem read_tileB_at (g : Fin 2) (off : Fin 3 → ℕ) (ho : off = tileOff g) (inb : ∀ a, off a + S1x2048x128.size a ≤ S2x2048x128.size a)
    (f : (tilesB.access (Rect.unit (s := S2x2048x128) off S1x2048x128.size inb)).ty.Contents (Elt F)) (x : Vec F S1x2048x128 .bf16) :
    (tileB g).view.read (Elt F) (View.write (Elt F) (tilesB.access (Rect.unit (s := S2x2048x128) off S1x2048x128.size inb)) f x Finset.univ)
      = shapeCast S2048x128 x shapeCasts_S1x2048x128_S2048x128 := by
  subst ho
  funext z
  exact congrFun (View.read_write_univ (v := tilesB.access (Rect.unit (s := S2x2048x128) (tileOff g) S1x2048x128.size inb)) f x) (Shape.reshapeEquiv shapeCasts_S1x2048x128_S2048x128 z)

theorem read_tileB (t : Fin grid0.N) (f : (tilesB.access (Rect.unit (s := S2x2048x128) (k0_off6 (grid0.coords t)) S1x2048x128.size (k0_off6_inb (grid0.coords t)))).ty.Contents (Elt F)) (x : Vec F S1x2048x128 .bf16) :
    (tileB (Ring.sl 2 t.val)).view.read (Elt F) (View.write (Elt F) (tilesB.access (Rect.unit (s := S2x2048x128) (k0_off6 (grid0.coords t)) S1x2048x128.size (k0_off6_inb (grid0.coords t)))) f x Finset.univ)
      = shapeCast S2048x128 x shapeCasts_S1x2048x128_S2048x128 :=
  read_tileB_at (Ring.sl 2 t.val) _ (off6_tile t) _ f x

theorem trips_eq : Scf.trips k0_t1_loop.lb k0_t1_loop.ub k0_t1_loop.st = 16 := by decide +kernel

/-- A staged block as the body loads it. -/
theorem load_block {σ : _} {S : Shape} {e : EltTy} {M : Memref σ .tc .vmem S e} (h : M.IsWhole) (x : S.Idx → Elt F e) {off : Fin S.rank → ℕ} (inb : ∀ a, off a + S.size a ≤ S.size a) :
    M.view.readAt (Elt F) (Rect.unit off S.size inb).toLoadRect (h.unread x) = x := by
  rw [View.readAt_full, h.read_unread]

end Cert.KernelIdeal

end
-- ==== Proof.TapSums.lean ====
/- The rows a trip writes, as a sum over the taps. -/
module

public import proofs.«01_k».proof.Proof.Values

@[expose] public section

set_option maxRecDepth 16384

noncomputable section

namespace Cert.KernelIdeal

open Idealize.ShloMosaic Gen

variable {F : FTy → Type} [FloatOps F]

theorem tap_slices : ∀ k : Fin 31, S31x128.Slices ![k.val, 0] S1x128 := by decide

/-- What tap `k` adds to the rows, the block of the cotangent moved to it. -/
def tapTerm (w : Vec F S31x128 .f32) (k : Fin 31) (d : FVec F S128x128 .f32) : FVec F S128x128 .f32 :=
  mulf (broadcastTo S128x128 (extractStridedSlice S1x128 ![k.val, 0] w (tap_slices k)) broadcasts_S1x128_S128x128) d

/-- The block of the cotangent, moved to tap `k`. -/
def moved (d : Vec F S160x128 .f32) (k : ℕ) : FVec F S128x128 .f32 :=
  extractStridedSlice S128x128 ![0, 0] (dynamicRotate 0 (BitVec.ofNat 32 (130 + k)) none d rotates_S160x128_d0) slices_S160x128_o0_0_S128x128

/-- The sum over the taps before tap `n`. -/
def tapsBefore (w : Vec F S31x128 .f32) (d : Vec F S160x128 .f32) : ℕ → FVec F S128x128 .f32
  | 0 => broadcast S128x128 (Scalar.ofBits .f32 0x00000000#32)
  | n + 1 => addf (tapsBefore w d n) (tapTerm w (Fin.ofNat 31 n) (moved d n))

theorem dxTile_eq (w : Vec F S31x128 .f32) (d : Vec F S160x128 .f32) :
    dxTile w d = shapeCast S128x128 (addf (tapsBefore w d 30) (tapTerm w 30 (k0_pay1 d))) shapeCasts_S128x128_S128x128 := rfl

end Cert.KernelIdeal

end
-- ==== Proof.Rows.lean ====
/- A matrix's rows by number, and the weight of a gate: the words both sides' values are stated in. -/
module

public import Idealize.ShloMosaic.Lib.Pointwise

@[expose] public section

noncomputable section

namespace Cert

open Idealize.ShloMosaic

/-- A matrix read at a row by its number, zero past the last. -/
def rowOr {n m : ℕ} (x : FVec Ideal ⟨2, ![n, m]⟩ .f32) (i : ℕ) (l : Fin m) : EReal := if h : i < n then x (ix2 ⟨i, h⟩ l) else 0

theorem rowOr_of_lt {n m : ℕ} (x : FVec Ideal ⟨2, ![n, m]⟩ .f32) (i : ℕ) (h : i < n) (l : Fin m) : rowOr x i l = x (ix2 ⟨i, h⟩ l) := dif_pos h

theorem rowOr_of_le {n m : ℕ} (x : FVec Ideal ⟨2, ![n, m]⟩ .f32) (i : ℕ) (h : n ≤ i) (l : Fin m) : rowOr x i l = 0 := dif_neg (by omega)

/-- Two matrices with the same column have the same rows there. -/
theorem rowOr_congr {n m m' : ℕ} (x : FVec Ideal ⟨2, ![n, m]⟩ .f32) (y : FVec Ideal ⟨2, ![n, m']⟩ .f32) (l : Fin m) (l' : Fin m')
    (h : ∀ t : Fin n, x (ix2 t l) = y (ix2 t l')) (i : ℕ) : rowOr x i l = rowOr y i l' := by
  unfold rowOr
  by_cases hi : i < n
  · rw [dif_pos hi, dif_pos hi]; exact h _
  · rw [dif_neg hi, dif_neg hi]

/-- The gate's weight. -/
def gate (g : EReal) : EReal := Ideal.div 1 (1 + Ideal.exp (0 - g))

/-- The gradient of the sequence at row `t`: over the taps, the tap times the cotangent `30 - k` rows on. -/
def dxAt {m : ℕ} (w : FVec Ideal ⟨2, ![31, m]⟩ .f32) (dy : FVec Ideal ⟨2, ![2048, m]⟩ .f32) (t : ℕ) (l : Fin m) : EReal :=
  ∑ k ∈ Finset.range 31, rowOr w k l * rowOr dy (t + (30 - k)) l

/-- The gradient of tap `k`: over the rows, the cotangent times the sequence `30 - k` rows back. -/
def filterAt {m : ℕ} (x dy : FVec Ideal ⟨2, ![2048, m]⟩ .f32) (k : ℕ) (l : Fin m) : EReal :=
  ∑ t ∈ Finset.range 2048, rowOr dy t l * (if 30 ≤ t + k then rowOr x (t + k - 30) l else 0)

/-- The gradient of the bias. -/
def biasAt {m : ℕ} (dy : FVec Ideal ⟨2, ![2048, m]⟩ .f32) (l : Fin m) : EReal := ∑ t ∈ Finset.range 2048, rowOr dy t l

theorem dxAt_congr {m m' : ℕ} (w : FVec Ideal ⟨2, ![31, m]⟩ .f32) (w' : FVec Ideal ⟨2, ![31, m']⟩ .f32)
    (dy : FVec Ideal ⟨2, ![2048, m]⟩ .f32) (dy' : FVec Ideal ⟨2, ![2048, m']⟩ .f32) (t : ℕ) (l : Fin m) (l' : Fin m')
    (hw : ∀ k, w (ix2 k l) = w' (ix2 k l')) (hdy : ∀ t, dy (ix2 t l) = dy' (ix2 t l')) : dxAt w dy t l = dxAt w' dy' t l' :=
  Finset.sum_congr rfl fun k _ => by rw [rowOr_congr w w' l l' hw, rowOr_congr dy dy' l l' hdy]

theorem filterAt_congr {m m' : ℕ} (x dy : FVec Ideal ⟨2, ![2048, m]⟩ .f32) (x' dy' : FVec Ideal ⟨2, ![2048, m']⟩ .f32) (k : ℕ)
    (l : Fin m) (l' : Fin m') (hx : ∀ t, x (ix2 t l) = x' (ix2 t l')) (hdy : ∀ t, dy (ix2 t l) = dy' (ix2 t l')) :
    filterAt x dy k l = filterAt x' dy' k l' :=
  Finset.sum_congr rfl fun t _ => by rw [rowOr_congr x x' l l' hx, rowOr_congr dy dy' l l' hdy]

theorem biasAt_congr {m m' : ℕ} (dy : FVec Ideal ⟨2, ![2048, m]⟩ .f32) (dy' : FVec Ideal ⟨2, ![2048, m']⟩ .f32)
    (l : Fin m) (l' : Fin m') (hdy : ∀ t, dy (ix2 t l) = dy' (ix2 t l')) : biasAt dy l = biasAt dy' l' :=
  Finset.sum_congr rfl fun t _ => rowOr_congr dy dy' l l' hdy t

end Cert

end
-- ==== Proof.TapValues.lean ====
/- The kernel's results at a point, element by element over the extended reals. -/
module

public import proofs.«01_k».proof.Proof.TapSums
public import proofs.«01_k».proof.Proof.Rows

@[expose] public section

set_option maxRecDepth 16384

noncomputable section

namespace Cert.KernelIdeal

open Idealize.ShloMosaic Gen

theorem tapTerm_apply (w : FVec Ideal S31x128 .f32) (k : Fin 31) (d : FVec Ideal S128x128 .f32) (r : Fin 128) (l : Fin 128) :
    tapTerm w k d (ix2 r l) = w (ix2 k l) * d (ix2 r l) := by
  pointwise [tapTerm]

theorem moved_apply (d : FVec Ideal S160x128 .f32) (k : ℕ) (hk : k < 30) (r : Fin 128) (l : Fin 128) :
    moved d k (ix2 r l) = d (ix2 ⟨r.val + (30 - k), by omega⟩ l) := by
  pointwise [moved]
  refine congrArg d (congrArg (ix2 · l) (Fin.ext ?_))
  have hr := r.isLt
  rw [BitVec.toNat_ofNat, Nat.mod_eq_of_lt (a := 130 + k) (by omega)]
  change (r.val + 160 - (130 + k) % 160) % 160 = r.val + (30 - k)
  omega

theorem pay1_apply (d : FVec Ideal S160x128 .f32) (r : Fin 128) (l : Fin 128) :
    k0_pay1 d (ix2 r l) = d (ix2 ⟨r.val, by omega⟩ l) := by
  pointwise [k0_pay1]

/-! ## The gradient of the sequence -/

theorem tapsBefore_apply (w : FVec Ideal S31x128 .f32) (d : FVec Ideal S160x128 .f32) (r : Fin 128) (l : Fin 128) :
    ∀ n : ℕ, n ≤ 30 → tapsBefore (F := Ideal) w d n (ix2 r l) = ∑ k ∈ Finset.range n, rowOr w k l * rowOr d (r.val + (30 - k)) l
  | 0, _ => by rw [Finset.sum_range_zero]; pointwise [tapsBefore]
  | n + 1, hn => by
    have hr := r.isLt
    have e : tapsBefore (F := Ideal) w d (n + 1) (ix2 r l) = tapsBefore (F := Ideal) w d n (ix2 r l) + tapTerm w (Fin.ofNat 31 n) (moved d n) (ix2 r l) := rfl
    rw [e, tapsBefore_apply w d r l n (by omega), tapTerm_apply, moved_apply d n (by omega), Finset.sum_range_succ,
      rowOr_of_lt w n (by omega), rowOr_of_lt d _ (by omega)]
    rw [show (Fin.ofNat 31 n : Fin 31) = ⟨n, by omega⟩ from Fin.ext (Nat.mod_eq_of_lt (by omega))]

theorem dxTile_apply (w : FVec Ideal S31x128 .f32) (d : FVec Ideal S160x128 .f32) (r : Fin 128) (l : Fin 128) :
    dxTile (F := Ideal) w d (ix2 r l) = ∑ k ∈ Finset.range 31, rowOr w k l * rowOr d (r.val + (30 - k)) l := by
  have hr := r.isLt
  have e : dxTile (F := Ideal) w d (ix2 r l) = tapsBefore (F := Ideal) w d 30 (ix2 r l) + tapTerm w 30 (k0_pay1 d) (ix2 r l) := by
    rw [dxTile_eq]; pointwise
  rw [e, tapsBefore_apply w d r l 30 le_rfl, tapTerm_apply, pay1_apply, Finset.sum_range_succ _ 30, rowOr_of_lt w 30 (by omega),
    rowOr_of_lt d _ (by omega)]
  rfl

theorem block_row (X : FVec Ideal S2080x128 .f32) (n i : ℕ) (hn : n < 16) (hi : i < 160) (l : Fin 128) :
    rowOr (n := 160) (block (F := Ideal) X n) i l = rowOr (n := 2080) X (128 * n + i) l := by
  have e : (128 * n + i) % 2080 = 128 * n + i := Nat.mod_eq_of_lt (by omega)
  rw [rowOr_of_lt _ i hi, rowOr_of_lt _ _ (by omega)]
  exact congrArg X (congrArg (ix2 · l) (Fin.ext e))

theorem dxAll_apply (w : FVec Ideal S31x128 .f32) (D : FVec Ideal S2080x128 .f32) (t : Fin 2048) (l : Fin 128) :
    dxAll (F := Ideal) w D (ix2 t l) = ∑ k ∈ Finset.range 31, rowOr w k l * rowOr D (t.val + (30 - k)) l := by
  have ht := t.isLt
  have e : dxAll (F := Ideal) w D (ix2 t l) = dxTile (F := Ideal) w (block D (t.val / 128)) (ix2 ⟨t.val % 128, Nat.mod_lt _ (by decide)⟩ l) := rfl
  rw [e, dxTile_apply]
  refine Finset.sum_congr rfl fun k hk => ?_
  rw [block_row D _ _ (by omega) (by dsimp only; omega)]
  congr 2
  dsimp only
  omega

theorem padBottom_row (x : FVec Ideal S2048x128 .f32) (i : ℕ) (hi : i < 2080) (l : Fin 128) :
    rowOr (n := 2080) (padBottom (F := Ideal) x) i l = rowOr x i l := by
  rw [rowOr_of_lt _ i hi]
  unfold rowOr padBottom
  by_cases h : i < 2048
  · rw [dif_pos h]; exact dif_pos h
  · rw [dif_neg h]; refine (dif_neg h).trans ?_
    pointwise [k0_pay61]

theorem padTop_row (x : FVec Ideal S2048x128 .f32) (i : ℕ) (hi : i < 2080) (l : Fin 128) :
    rowOr (n := 2080) (padTop (F := Ideal) x) i l = if 32 ≤ i then rowOr x (i - 32) l else 0 := by
  rw [rowOr_of_lt _ i hi]
  unfold padTop
  by_cases h : i < 32
  · rw [if_neg (by omega)]; refine (dif_pos h).trans ?_
    pointwise [k0_pay58]
  · rw [if_pos (by omega), rowOr_of_lt x _ (by omega)]
    exact dif_neg h

theorem pay60_eq (x : FVec Ideal S2048x128 .f32) : k0_pay60 (F := Ideal) x = x := by
  funext j; pointwise [k0_pay60]

theorem dx_apply (w : FVec Ideal S31x128 .f32) (dy : FVec Ideal S2048x128 .f32) (t : Fin 2048) (l : Fin 128) :
    dxAll (F := Ideal) w (padBottom (k0_pay60 (F := Ideal) dy)) (ix2 t l) = dxAt w dy t.val l := by
  have ht := t.isLt
  rw [dxAll_apply, pay60_eq]
  exact Finset.sum_congr rfl fun k hk => by rw [padBottom_row dy _ (by omega)]

/-! ## The gradients of the values and of the gates -/

theorem pay57_apply (g : FVec Ideal S2048x128 .f32) (j : S2048x128.Idx) : k0_pay57 (F := Ideal) g j = gate (g j) := by
  pointwise [k0_pay57, gate]

theorem valOut_apply (x1 : FVec Ideal S2048x128 .f32) (w : FVec Ideal S31x128 .f32) (dy : FVec Ideal S2048x128 .f32) (t : Fin 2048) (l : Fin 128) :
    valOut (F := Ideal) x1 w dy (ix2 t l) = dxAt w dy t.val l * gate (x1 (ix2 t l)) := by
  rw [← dx_apply, ← pay57_apply]
  unfold valOut
  generalize dxAll (F := Ideal) w (padBottom (k0_pay60 (F := Ideal) dy)) = y
  generalize k0_pay57 (F := Ideal) x1 = s
  pointwise [k0_pay65]

theorem gluOut_apply (x0 x1 : FVec Ideal S2048x128 .f32) (w : FVec Ideal S31x128 .f32) (dy : FVec Ideal S2048x128 .f32) (t : Fin 2048) (l : Fin 128) :
    gluOut (F := Ideal) x0 x1 w dy (ix2 t l)
      = dxAt w dy t.val l * x0 (ix2 t l) * gate (x1 (ix2 t l)) * (1 - gate (x1 (ix2 t l))) := by
  rw [← dx_apply, ← pay57_apply]
  unfold gluOut
  generalize dxAll (F := Ideal) w (padBottom (k0_pay60 (F := Ideal) dy)) = y
  generalize k0_pay57 (F := Ideal) x1 = s
  pointwise [k0_pay66]

/-! ## The gradients of the filter and of the bias -/

theorem rowStep_apply (k : ℕ) (hk : k < 31) (x d : FVec Ideal S160x128 .f32) (v : FVec Ideal S1x128 .f32) (l : Fin 128) :
    rowStep (F := Ideal) (BitVec.ofNat 32 (158 - k)) x d v (ix2 0 l) = v (ix2 0 l) + ∑ r ∈ Finset.range 128, rowOr d r l * rowOr x (r + 2 + k) l := by
  rw [Finset.sum_range]
  pointwise [rowStep, k0_pay1]
  refine congrArg (v (ix2 0 l) + ·) (Finset.sum_congr rfl fun r _ => ?_)
  have hr := r.isLt
  rw [rowOr_of_lt _ _ (by omega), rowOr_of_lt _ _ (by omega)]
  refine congrArg₂ (· * ·) rfl (congrArg x (congrArg (ix2 · l) (Fin.ext ?_)))
  rw [BitVec.toNat_ofNat, Nat.mod_eq_of_lt (a := 158 - k) (by omega)]
  change (r.val + 160 - (158 - k) % 160) % 160 = r.val + 2 + k
  omega

theorem dwAt_apply (X D : FVec Ideal S2080x128 .f32) (v : FVec Ideal S31x128 .f32) (k : Fin 31) (l : Fin 128) :
    ∀ n : ℕ, n ≤ 16 → dwAt (F := Ideal) X D v n (ix2 k l) = v (ix2 k l) + ∑ t ∈ Finset.range (128 * n), rowOr D t l * rowOr X (t + 2 + k.val) l
  | 0, _ => by rw [show Finset.range (128 * 0) = ∅ from rfl, Finset.sum_empty, add_zero]; rfl
  | n + 1, hn => by
    have hk := k.isLt
    have e : dwAt (F := Ideal) X D v (n + 1) (ix2 k l)
        = rowStep (F := Ideal) (BitVec.ofNat 32 (158 - k.val)) (block X n) (block D n) (tapRow (dwAt (F := Ideal) X D v n) k) (ix2 0 l) := rfl
    rw [e, rowStep_apply k.val hk, show tapRow (dwAt (F := Ideal) X D v n) k (ix2 0 l) = dwAt (F := Ideal) X D v n (ix2 k l) from rfl,
      dwAt_apply X D v k l n (by omega), show 128 * (n + 1) = 128 * n + 128 by omega, Finset.sum_range_add, add_assoc]
    refine congrArg (v (ix2 k l) + ·) (congrArg (_ + ·) (Finset.sum_congr rfl fun r hr => ?_))
    have hr' := Finset.mem_range.mp hr
    rw [block_row D n r (by omega) (by omega), block_row X n _ (by omega) (by omega)]
    congr 2
    omega

theorem dwOut_apply (x0 x1 dy : FVec Ideal S2048x128 .f32) (k : Fin 31) (l : Fin 128) :
    dwOut (F := Ideal) x0 x1 dy (ix2 k l) = filterAt (k0_pay59 (F := Ideal) x0 x1) dy k.val l := by
  have hk := k.isLt
  unfold dwOut filterAt
  rw [dwAt_apply _ _ _ k l 16 le_rfl, pay60_eq]
  have z : k0_pay63 (F := Ideal) (ix2 k l) = (0 : EReal) := by pointwise [k0_pay63]
  rw [z, zero_add]
  refine Finset.sum_congr rfl fun t ht => ?_
  have ht' := Finset.mem_range.mp ht
  rw [padBottom_row dy t (by omega), padTop_row _ _ (by omega)]
  by_cases h : 30 ≤ t + k.val
  · rw [if_pos h, if_pos (by omega)]
    congr 2
    omega
  · rw [if_neg h, if_neg (by omega)]

theorem pay59_apply (x0 x1 : FVec Ideal S2048x128 .f32) (j : S2048x128.Idx) : k0_pay59 (F := Ideal) x0 x1 j = x0 j * gate (x1 j) := by
  rw [← pay57_apply]
  pointwise [k0_pay59]

theorem dbOut_apply (x : FVec Ideal S2048x128 .f32) (l : Fin 128) :
    dbOut (F := Ideal) x (ix2 0 l) = biasAt x l := by
  unfold biasAt
  rw [Finset.sum_range]
  pointwise [dbOut, k0_pay62]
  exact Finset.sum_congr rfl fun t _ => (rowOr_of_lt x t.val t.isLt l).symm

end Cert.KernelIdeal

end
-- ==== Proof.ConvOutput.lean ====
/- The convolution's output: the bias plus, over the filter's taps, the tap times the gated sequence `30 - k` rows back. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Stores
public import proofs.«01_k».proof.Proof.TapValues
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert

/-- What the taps add to row `t` of the output. -/
def convAt {m : ℕ} (w : FVec Ideal ⟨2, ![31, m]⟩ .f32) (x : FVec Ideal ⟨2, ![2048, m]⟩ .f32) (t : ℕ) (l : Fin m) : EReal :=
  ∑ k ∈ Finset.range 31, rowOr w k l * (if 30 ≤ t + k then rowOr x (t + k - 30) l else 0)

theorem convAt_congr {m m' : ℕ} (w : FVec Ideal ⟨2, ![31, m]⟩ .f32) (w' : FVec Ideal ⟨2, ![31, m']⟩ .f32)
    (x : FVec Ideal ⟨2, ![2048, m]⟩ .f32) (x' : FVec Ideal ⟨2, ![2048, m']⟩ .f32) (t : ℕ) (l : Fin m) (l' : Fin m')
    (hw : ∀ k, w (ix2 k l) = w' (ix2 k l')) (hx : ∀ t, x (ix2 t l) = x' (ix2 t l')) : convAt w x t l = convAt w' x' t l' :=
  Finset.sum_congr rfl fun k _ => by rw [rowOr_congr w w' l l' hw, rowOr_congr x x' l l' hx]

end Cert

namespace Cert.Kernel11Ideal

open Gen
open Cert.KernelIdeal (padTop block tapTerm)

variable {F : FTy → Type} [FloatOps F]

/-! ## A trip's rows -/

/-- The block of the sequence, moved to tap `k`. -/
def movedTo (d : Vec F S160x128 .f32) (k : ℕ) : FVec F S128x128 .f32 :=
  extractStridedSlice S128x128 ![0, 0] (dynamicRotate 0 (BitVec.ofNat 32 (158 - k)) none d rotates_S160x128_d0) slices_S160x128_o0_0_S128x128

/-- The bias plus the taps before tap `n`. -/
def fromBias (w : Vec F S31x128 .f32) (b : Vec F S1x128 .f32) (d : Vec F S160x128 .f32) : ℕ → FVec F S128x128 .f32
  | 0 => broadcastTo S128x128 (shapeCast S1x128 b shapeCasts_S1x128_S1x128) broadcasts_S1x128_S128x128
  | n + 1 => addf (fromBias w b d n) (tapTerm w (Fin.ofNat 31 n) (movedTo d n))

/-- The 128 rows of the output a trip writes. -/
def outTile (w : Vec F S31x128 .f32) (b : Vec F S1x128 .f32) (d : Vec F S160x128 .f32) : FVec F S128x128 .f32 :=
  k0_pay3 w d (k0_pay8 w d (k0_pay6 w d (k0_pay4 w b d) (k0_pay5 w) 151#32) (k0_pay7 w d)) (k0_pay9 w) (k0_pay10 d)

theorem outTile_eq (w : Vec F S31x128 .f32) (b : Vec F S1x128 .f32) (d : Vec F S160x128 .f32) : outTile w b d = fromBias w b d 31 := rfl

/-- The output, all rows. -/
def outAll (w : Vec F S31x128 .f32) (b : Vec F S1x128 .f32) (X : Vec F S2080x128 .f32) : Vec F S2048x128 .f32 :=
  fun j => outTile w b (block X ((j 0).val / 128)) (ix2 ⟨(j 0).val % 128, Nat.mod_lt _ (by decide)⟩ (j 1))

theorem outAll_at (w : Vec F S31x128 .f32) (b : Vec F S1x128 .f32) (X : Vec F S2080x128 .f32) (j : S2048x128.Idx) (k r : ℕ) (hr : r < 128)
    (h : (j 0).val = 128 * k + r) : outAll w b X j = outTile w b (block X k) (ix2 ⟨r, hr⟩ (j 1)) := by
  have hd : (j 0).val / 128 = k := by omega
  have hm : (j 0).val % 128 = r := by omega
  unfold outAll
  refine congr (congrArg (fun k => outTile w b (block X k)) hd) ?_
  exact congrArg (fun a : Fin 128 => (ix2 a (j 1) : S128x128.Idx)) (Fin.ext hm)

theorem trip_pieces (𝒱 : Variants) (c : Dev nD) (bd : Option 𝒱.V) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2080x128 .f32) (harg6 : arg6.IsWhole)
    (w : Vec F S31x128 .f32) (b : Vec F S1x128 .f32) (X : BufTy.Contents (Elt F) arg6.view.ty) (k : Fin k0_t1_loop.trips) :
    tripL_k0_t1 (F := F) 𝒱 c bd i arg1 harg1 arg2 harg2 arg3 harg3 arg4 harg4 arg5 harg5 arg6 harg6 w b X k
      = [⟨Rect.unit (s := S2048x128) (k0_off2 k) S128x128.size (k0_off2_inb k), outTile w b (block (arg6.view.read (Elt F) X) k.val)⟩] := by
  rw [← Cert.KernelIdeal.readAt_rows arg6.view X (k0_off1 k) k.val (Nat.lt_of_lt_of_le k.isLt k0_t1_abs.2.1) (k0_off1_eq k) (k0_off1_inb k)]
  unfold tripL_k0_t1 trip_k0_t1
  rfl

/-- Every piece of the loop holds its rows of the output. -/
theorem pieces_val (𝒱 : Variants) (c : Dev nD) (bd : Option 𝒱.V) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2080x128 .f32) (harg6 : arg6.IsWhole)
    (w : Vec F S31x128 .f32) (b : Vec F S1x128 .f32) (X : BufTy.Contents (Elt F) arg6.view.ty) :
    ∀ k, k ≤ k0_t1_loop.trips → ∀ p ∈ pb_k0_t1 (F := F) 𝒱 c bd i arg1 harg1 arg2 harg2 arg3 harg3 arg4 harg4 arg5 harg5 arg6 harg6 w b X k,
      ∀ z : p.1.shape.Idx, p.2 z = outAll w b (arg6.view.read (Elt F) X) (p.1.emb z)
  | 0, _ => fun _ h => absurd h List.not_mem_nil
  | k + 1, hk => by
    have e := pb_k0_t1_succ (F := F) 𝒱 c bd i arg1 harg1 arg2 harg2 arg3 harg3 arg4 harg4 arg5 harg5 arg6 harg6 w b X ⟨k, hk⟩
    dsimp only at e
    rw [e, trip_pieces]
    refine List.forall_mem_cons.mpr ⟨fun z => ?_, pieces_val 𝒱 c bd i arg1 harg1 arg2 harg2 arg3 harg3 arg4 harg4 arg5 harg5 arg6 harg6 w b X k (Nat.le_of_succ_le hk)⟩
    have hz0 := (z 0).isLt
    change (z 0).val < 128 at hz0
    obtain ⟨e0, e1⟩ := Cert.KernelIdeal.emb_rows_of (R := 2048) (N := 128) (k0_off2 ⟨k, hk⟩) (128 * k) (k0_off2_eq ⟨k, hk⟩) (k0_off2_inb ⟨k, hk⟩) z
    refine Eq.trans ?_ (outAll_at w b _ _ k (z 0).val hz0 e0).symm
    refine congrArg (outTile w b (block (arg6.view.read (Elt F) X) k)) ?_
    funext a; fin_cases a
    · rfl
    · exact e1.symm

/-- A point's block of the output. -/
theorem out_block (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2080x128 .f32) (harg6 : arg6.IsWhole)
    (x0 x1 : Vec F S2048x128 .f32) (x2 : Vec F S31x128 .f32) (x3 : Vec F S1x128 .f32) :
    out0_A_4 c i arg1 harg1 arg2 harg2 arg3 harg3 arg4 harg4 arg5 harg5 arg6 harg6 x0 x1 x2 x3 = outAll x2 x3 (padTop (Cert.KernelIdeal.Gen.k0_pay59 x0 x1)) := by
  funext y
  unfold out0_A_4
  refine View.read_writes_apply_of_pieces _ _ (outAll x2 x3 (padTop (Cert.KernelIdeal.Gen.k0_pay59 x0 x1))) _ ?_ y
    (cover0_A_4 c i arg1 harg1 arg2 harg2 arg3 harg3 arg4 harg4 arg5 harg5 arg6 harg6 x0 x1 x2 x3 y)
  unfold kernelRun0_A
  dsimp only
  sl_unfold_run_names
  rw [← Cert.KernelIdeal.read_padTop arg6.view arg6.view.junk, Cert.KernelIdeal.load_block harg1, Cert.KernelIdeal.load_block harg2,
    Cert.KernelIdeal.load_block harg3, Cert.KernelIdeal.load_block harg4]
  exact pieces_val Variants.none c none i arg1 harg1 arg2 harg2 arg3 harg3 arg4 harg4 arg5 harg5 arg6 harg6 x2 x3 _ _ le_rfl

/-! ## The output, element by element -/

theorem movedTo_apply (d : FVec Ideal S160x128 .f32) (k : ℕ) (hk : k < 31) (r l : Fin 128) :
    movedTo (F := Ideal) d k (ix2 r l) = d (ix2 ⟨r.val + 2 + k, by omega⟩ l) := by
  pointwise [movedTo]
  refine congrArg d (congrArg (ix2 · l) (Fin.ext ?_))
  have hr := r.isLt
  rw [BitVec.toNat_ofNat, Nat.mod_eq_of_lt (a := 158 - k) (by omega)]
  change (r.val + 160 - (158 - k) % 160) % 160 = r.val + 2 + k
  omega

theorem fromBias_apply (w : FVec Ideal S31x128 .f32) (b : FVec Ideal S1x128 .f32) (d : FVec Ideal S160x128 .f32) (r l : Fin 128) :
    ∀ n : ℕ, n ≤ 31 → fromBias (F := Ideal) w b d n (ix2 r l)
      = (b (ix2 0 l) + ∑ k ∈ Finset.range n, rowOr w k l * rowOr d (r.val + 2 + k) l : EReal)
  | 0, _ => by rw [Finset.sum_range_zero, add_zero]; pointwise [fromBias]
  | n + 1, hn => by
    have hr := r.isLt
    have e : fromBias (F := Ideal) w b d (n + 1) (ix2 r l)
        = (fromBias (F := Ideal) w b d n (ix2 r l) + tapTerm (F := Ideal) w (Fin.ofNat 31 n) (movedTo d n) (ix2 r l) : EReal) := rfl
    rw [e, fromBias_apply w b d r l n (by omega), Cert.KernelIdeal.tapTerm_apply, movedTo_apply d n (by omega), Finset.sum_range_succ, ← add_assoc,
      rowOr_of_lt w n (by omega), rowOr_of_lt d _ (by omega)]
    rw [show (Fin.ofNat 31 n : Fin 31) = ⟨n, by omega⟩ from Fin.ext (Nat.mod_eq_of_lt (by omega))]

theorem outAll_apply (w : FVec Ideal S31x128 .f32) (b : FVec Ideal S1x128 .f32) (x : FVec Ideal S2048x128 .f32) (t : Fin 2048) (l : Fin 128) :
    outAll (F := Ideal) w b (padTop x) (ix2 t l) = (b (ix2 0 l) + convAt w x t.val l : EReal) := by
  have ht := t.isLt
  have e : outAll (F := Ideal) w b (padTop x) (ix2 t l)
      = fromBias (F := Ideal) w b (block (padTop x) (t.val / 128)) 31 (ix2 ⟨t.val % 128, Nat.mod_lt _ (by decide)⟩ l) := rfl
  rw [e, fromBias_apply _ _ _ _ _ 31 le_rfl]
  refine congrArg (b (ix2 0 l) + ·) (Finset.sum_congr rfl fun k hk => congrArg (rowOr w k l * ·) ?_)
  have hk' := Finset.mem_range.mp hk
  dsimp only
  refine (Cert.KernelIdeal.block_row (padTop (F := Ideal) x) (t.val / 128) (t.val % 128 + 2 + k) (by omega) (by omega) l).trans
    ((Cert.KernelIdeal.padTop_row x (128 * (t.val / 128) + (t.val % 128 + 2 + k)) (by omega) l).trans ?_)
  by_cases h : 30 ≤ t.val + k
  · rw [if_pos h, if_pos (by omega)]
    congr 1
    omega
  · rw [if_neg h, if_neg (by omega)]

variable (m : (ℓ : Loc nD τ sig) → Buf (Elt Ideal) ℓ)

/-- Every window's block index: point `t` takes 128 channels. -/
theorem index_at : ∀ t : Fin cfg0.N, win0_0.index t = ![0, 24 + t.val] ∧ win0_1.index t = ![0, 32 + t.val]
    ∧ win0_2.index t = ![0, t.val] ∧ win0_3.index t = ![0, t.val] ∧ win0_4.index t = ![0, t.val] := by decide +kernel

theorem count (t : Fin cfg0.N) : t.val < 8 := lt_of_lt_of_eq t.isLt N_0

/-- The channel of a point's column. -/
def channel (t : Fin cfg0.N) (l : Fin 128) : Fin 1024 := ⟨128 * t.val + l.val, by have := count t; omega⟩

theorem block_values (c : Dev nD) (t : Fin cfg0.N) (s : Fin 2048) (l : Fin 128) :
    iblk m c 0 t (ix2 s l) = m ((c : Thread nD τ).loc main_arg0) (ix2 s ⟨3072 + (channel t l).val, by omega⟩) := by
  rw [← V_main_arg0 m c]
  blk_ext [iblk, (index_at t).1, channel]
theorem block_gates (c : Dev nD) (t : Fin cfg0.N) (s : Fin 2048) (l : Fin 128) :
    iblk m c 1 t (ix2 s l) = m ((c : Thread nD τ).loc main_arg0) (ix2 s ⟨4096 + (channel t l).val, by omega⟩) := by
  rw [← V_main_arg0 m c]
  blk_ext [iblk, (index_at t).2.1, channel]
theorem block_filter (c : Dev nD) (t : Fin cfg0.N) (k : Fin 31) (l : Fin 128) :
    iblk m c 2 t (ix2 k l) = m ((c : Thread nD τ).loc main_arg1) (ix2 k (channel t l)) := by
  rw [← V_main_arg1 m c]
  blk_ext [iblk, (index_at t).2.2.1, channel]
theorem block_bias (c : Dev nD) (t : Fin cfg0.N) (l : Fin 128) :
    iblk m c 3 t (ix2 0 l) = m ((c : Thread nD τ).loc main_arg2) (ix2 0 (channel t l)) := by
  rw [← V_main_arg2 m c]
  blk_ext [iblk, (index_at t).2.2.2.1, channel]

/-- The sequence the gates let through. -/
def gated (x : FVec Ideal S2048x6144 .f32) : FVec Ideal S2048x1024 .f32 := fun j =>
  (x (ix2 (j 0) ⟨3072 + (j 1).val, by have := (j 1).isLt; change (j 1).val < 1024 at this; omega⟩)
    * gate (x (ix2 (j 0) ⟨4096 + (j 1).val, by have := (j 1).isLt; change (j 1).val < 1024 at this; omega⟩)) : EReal)

/-- The output at row `t`. -/
def output (x : FVec Ideal S2048x6144 .f32) (w : FVec Ideal S31x1024 .f32) (b : FVec Ideal S1x1024 .f32) (t : ℕ) (ch : Fin 1024) : EReal :=
  b (ix2 0 ch) + convAt w (gated x) t ch

/-- The result, whole. -/
theorem result_end (c : Dev nD) : (dats m 0 c).arrAt 4 cfg0.N
    = fun j => output (m ((c : Thread nD τ).loc main_arg0)) (m ((c : Thread nD τ).loc main_arg1)) (m ((c : Thread nD τ).loc main_arg2)) (j 0).val (j 1) := by
  refine (dats m 0 c).arrAt_eq_of_covers 4 _ (by decide +kernel) fun t hf y => ?_
  obtain ⟨s, l, rfl⟩ : ∃ (s : Fin 2048) (l : Fin 128), ix2 s l = y := ⟨y 0, y 1, ix2_eta y⟩
  blk_simp
  rw [after0_4]
  unfold outsAt0
  rw [out_block]
  refine (outAll_apply _ _ _ s l).trans ?_
  have ht := count t
  have e0 : s.val = win0_4.index t 0 * 2048 + s.val := by rw [(index_at t).2.2.2.2]; simp
  have e1 : (win0_4.blk t).view.emb (ix2 s l) 1 = channel t l :=
    Fin.ext (by blk_simp; rw [(index_at t).2.2.2.2]; show t.val * 128 + l.val = 128 * t.val + l.val; omega)
  have hc := convAt_congr (iblk m c 2 t) (m ((c : Thread nD τ).loc main_arg1)) (Cert.KernelIdeal.Gen.k0_pay59 (F := Ideal) (iblk m c 0 t) (iblk m c 1 t))
    (gated (m ((c : Thread nD τ).loc main_arg0))) s.val l (channel t l) (fun k => block_filter m c t k l)
    fun r => (Cert.KernelIdeal.pay59_apply _ _ _).trans (by rw [block_values, block_gates]; rfl)
  refine (congrArg₂ (fun a b : EReal => a + b) (block_bias m c t l) hc).trans ?_
  exact congrArg₂ (output _ _ _) e0 e1.symm

end Cert.Kernel11Ideal

namespace Cert.Reference11Ideal

open Gen Read

variable {F : FTy → Type} [FloatOps F]

theorem row_slices : ∀ k : Fin 31, S31x1024.Slices ![k.val, 0] S1x1024 := by decide
theorem seq_slices : ∀ k : Fin 31, S2078x1024.Slices ![k.val, 0] S2048x1024 := by decide

/-- What tap `k` adds to the output. -/
def outTap (x : FVec F S2078x1024 .f32) (w : FVec F S31x1024 .f32) (k : Fin 31) : FVec F S2048x1024 .f32 :=
  mulf (extractStridedSlice S2048x1024 ![k.val, 0] x (seq_slices k))
    (broadcastInDim S2048x1024 ![0, 1] bcast_S1x1024_S2048x1024_0_1
      (broadcastInDim S1x1024 ![1] bcast_S1024_S1x1024_1 (shapeCast S1024 (extractStridedSlice S1x1024 ![k.val, 0] w (row_slices k)) shapeCasts_S1x1024_S1024)))

/-- The taps before tap `n`. -/
def tapsUpTo (x : FVec F S2078x1024 .f32) (w : FVec F S31x1024 .f32) : ℕ → FVec F S2048x1024 .f32
  | 0 => val_main_v18
  | n + 1 => addf (tapsUpTo x w n) (outTap x w (Fin.ofNat 31 n))

theorem taps_eq (x : FVec F S2048x6144 .f32) (w : FVec F S31x1024 .f32) : val_main_v229 x w = tapsUpTo (val_main_v11 x) w 31 := rfl

theorem outTap_apply (x : FVec Ideal S2078x1024 .f32) (w : FVec Ideal S31x1024 .f32) (k : Fin 31) (t : Fin 2048) (ch : Fin 1024) :
    outTap (F := Ideal) x w k (ix2 t ch) = (x (ix2 ⟨k.val + t.val, by omega⟩ ch) * w (ix2 k ch) : EReal) := by
  pointwise [outTap]

theorem tapsUpTo_apply (x : FVec Ideal S2078x1024 .f32) (w : FVec Ideal S31x1024 .f32) (t : Fin 2048) (ch : Fin 1024) :
    ∀ n : ℕ, n ≤ 31 → tapsUpTo (F := Ideal) x w n (ix2 t ch) = (∑ k ∈ Finset.range n, rowOr w k ch * rowOr x (t.val + k) ch : EReal)
  | 0, _ => by rw [Finset.sum_range_zero]; pointwise [tapsUpTo, val_main_v18, val_main_cst_2]
  | n + 1, hn => by
    have ht := t.isLt
    have e : tapsUpTo (F := Ideal) x w (n + 1) (ix2 t ch) = (tapsUpTo (F := Ideal) x w n (ix2 t ch) + outTap (F := Ideal) x w (Fin.ofNat 31 n) (ix2 t ch) : EReal) := rfl
    rw [e, tapsUpTo_apply x w t ch n (by omega), Finset.sum_range_succ, show (Fin.ofNat 31 n : Fin 31) = ⟨n, by omega⟩ from Fin.ext (Nat.mod_eq_of_lt (by omega)),
      outTap_apply, rowOr_of_lt w n (by omega), rowOr_of_lt x _ (by omega), mul_comm (x _)]
    refine congrArg (_ + ·) (congrArg (w _ * ·) (congrArg x (congrArg (ix2 · ch) (Fin.ext ?_))))
    exact Nat.add_comm _ _

theorem gated_apply (x : FVec Ideal S2048x6144 .f32) (t : Fin 2048) (ch : Fin 1024) :
    val_main_v9 (F := Ideal) x (ix2 t ch) = Cert.Kernel11Ideal.gated x (ix2 t ch) := by
  unfold Cert.Kernel11Ideal.gated
  pointwise [val_main_v9, val_main_v8, val_main_v7, val_main_v6, val_main_v5, val_main_v4, val_main_v3, val_main_v1, val_main_v0, val_main_cst, val_main_cst_0, gate]
  rw [zero_sub]

theorem padded_apply (x : FVec Ideal S2048x6144 .f32) (i : Fin 2078) (ch : Fin 1024) :
    val_main_v11 (F := Ideal) x (ix2 i ch) = (if 30 ≤ i.val then rowOr (val_main_v9 (F := Ideal) x) (i.val - 30) ch else 0 : EReal) := by
  unfold val_main_v11
  generalize val_main_v9 (F := Ideal) x = y
  pointwise [val_main_v10, val_main_cst_1]
  have hi := i.isLt
  by_cases h : i.val < 30
  · exact (dif_pos h).trans (if_neg (by omega)).symm
  · exact (dif_neg h).trans ((if_pos (by omega)).trans (rowOr_of_lt y _ (by omega) ch)).symm

theorem output_apply (x : FVec Ideal S2048x6144 .f32) (w : FVec Ideal S31x1024 .f32) (b : FVec Ideal S1x1024 .f32) (t : Fin 2048) (ch : Fin 1024) :
    val_main_v232 (F := Ideal) x w b (ix2 t ch) = Cert.Kernel11Ideal.output x w b t.val ch := by
  have ht := t.isLt
  have e : val_main_v232 (F := Ideal) x w b (ix2 t ch) = (val_main_v229 (F := Ideal) x w (ix2 t ch) + val_main_v231 (F := Ideal) b (ix2 t ch) : EReal) := rfl
  have hb : val_main_v231 (F := Ideal) b (ix2 t ch) = b (ix2 0 ch) := by pointwise [val_main_v231, val_main_v230, val_main_v2]
  rw [e, hb, taps_eq, tapsUpTo_apply _ _ _ _ 31 le_rfl, add_comm]
  refine congrArg (b (ix2 0 ch) + ·) (Finset.sum_congr rfl fun k hk => congrArg (rowOr w k ch * ·) ?_)
  have hk' := Finset.mem_range.mp hk
  rw [rowOr_of_lt (val_main_v11 (F := Ideal) x) _ (by omega), padded_apply]
  by_cases h : 30 ≤ t.val + k
  · rw [if_pos h, if_pos h]
    exact rowOr_congr _ _ ch ch (fun s => gated_apply x s ch) _
  · rw [if_neg h, if_neg h]

end Cert.Reference11Ideal

namespace Cert.Proof11

theorem frame_ri : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem equal : Cert.algebraic_Kernel11Ideal_Reference11Ideal (hKernel11Ideal := Cert.Kernel11Ideal.Gen.facts) (hReference11Ideal := Cert.Reference11Ideal.Gen.facts) := by
  intro m g m' g' _ ha
  refine ⟨fun c => (Cert.Kernel11Ideal.Gen.dats m 0 c).arrAt 4 Cert.Kernel11Ideal.cfg0.N, Cert.Kernel11Ideal.Value.run_blocks m g, ?_⟩
  refine (θ_run _ _ _).mono (fun r h c => ?_) (Cert.Reference11Ideal.Value.run (F := Ideal) m' g')
  obtain ⟨h0, h1⟩ := h c
  obtain ⟨a0, a1, a2⟩ := ha c
  rw [← StableHlo.launchContents_devRef m' c] at a0 a1 a2
  refine ⟨h0.trans ((Cert.Reference11Ideal.Read.val_main_v232_eq (F := Ideal) _).trans ?_), h1⟩
  rw [a0, a1, a2]
  refine Eq.trans ?_ (Cert.Kernel11Ideal.result_end m c).symm
  funext j
  obtain ⟨t, ch, rfl⟩ : ∃ t ch, ix2 t ch = j := ⟨j 0, j 1, ix2_eta j⟩
  exact Cert.Reference11Ideal.output_apply _ _ _ t ch

end Cert.Proof11

end
-- ==== Proof.Norms.lean ====
/- The gradient of a row's norm `x · r · g`, `r = (mean x² + ε)^(-1/2)`, over the extended reals: what a chain rule, read backwards,
   adds up is the closed form, whatever the row holds. -/
module

public import Idealize.ShloMosaic.PureOps.Ideal
public import Idealize.ShloMosaic.PureOps.Ideal.Laws
public import Idealize.ShloMosaic.Lib.Pointwise

@[expose] public section

noncomputable section

namespace Cert.Norms

open Idealize.ShloMosaic

/-- The row's length, -/
def len : EReal := Ideal.ofBits .f32 0x45000000#32
/-- the constant under the root, -/
def eps : EReal := Ideal.ofBits .f32 0x358637BD#32
/-- and the factor of the root's derivative. -/
def negHalf : EReal := Ideal.ofBits .f32 0xBF000000#32

theorem len_eq : len = ((2048 : ℝ) : EReal) := by simp [len, Ideal.ofBits, Ideal.ieee, -EReal.coe_mul]; norm_num
theorem negHalf_eq : negHalf = ((-(1 / 2) : ℝ) : EReal) := by simp [negHalf, Ideal.ofBits, Ideal.ieee, -EReal.coe_mul]; norm_num
theorem eps_eq : ∃ e : ℝ, 0 < e ∧ eps = (e : EReal) :=
  ⟨8796093 * (2 : ℝ) ^ (-43 : ℤ), by positivity, by simp [eps, Ideal.ofBits, Ideal.ieee, -EReal.coe_mul]⟩

theorem div_len (a : EReal) : Ideal.div a len = a * ((1 / 2048 : ℝ) : EReal) := by
  rw [len_eq, Ideal.div_coe (by norm_num)]

variable {n : ℕ} (x p : Fin n → EReal)

/-- The mean square and the constant, -/
def under : EReal := Ideal.div (∑ k, x k * x k) len + eps
/-- and one over its root. -/
def scale : EReal := Ideal.rsqrt (under x)

/-- The gradient in closed form: `p` is the cotangent times the gain. -/
def grad (j : Fin n) : EReal := scale x * (p j - x j * scale x * Ideal.div (∑ k, p k * (x k * scale x)) len)

/-- The mean square's cotangent, as the chain rule has it. -/
def meanGrad : EReal := Ideal.div ((∑ k, x k * p k) * (negHalf * Ideal.div (scale x) (under x))) len

theorem mul_sum {ι : Type} (s : Finset ι) (f : ι → EReal) (c : ℝ) (hc : 0 ≤ c) : (∑ k ∈ s, f k) * (c : EReal) = ∑ k ∈ s, f k * (c : EReal) := by
  classical
  refine Finset.induction_on s (by simp) fun a s ha h => ?_
  rw [Finset.sum_insert ha, Finset.sum_insert ha, EReal.right_distrib_of_nonneg_of_ne_top (EReal.coe_nonneg.mpr hc) (EReal.coe_ne_top c), h]

theorem square_nonneg (a : EReal) : 0 ≤ a * a := by
  induction a with
  | bot => simp
  | top => simp
  | coe a => exact_mod_cast mul_self_nonneg a

theorem under_pos : under x = ⊤ ∨ ∃ a : ℝ, 0 < a ∧ under x = (a : EReal) := by
  obtain ⟨e, he, h⟩ := eps_eq
  have hs : 0 ≤ ∑ k, x k * x k := Finset.sum_nonneg fun k _ => square_nonneg (x k)
  unfold under
  rw [div_len, h]
  generalize ∑ k, x k * x k = s at hs
  induction s with
  | bot => exact absurd hs (by simp)
  | top => left; rw [EReal.top_mul_coe_of_pos (by norm_num), EReal.top_add_coe]
  | coe s =>
    right
    have hs' : 0 ≤ s := EReal.coe_nonneg.mp hs
    exact ⟨s * (1 / 2048) + e, by positivity, by push_cast; rfl⟩

/-- A negative multiple taken twice. -/
theorem twice (y : EReal) (c : ℝ) (hc : 0 ≤ c) : y * ((-c : ℝ) : EReal) + y * ((-c : ℝ) : EReal) = -(y * ((c + c : ℝ) : EReal)) := by
  have h : y * ((-c : ℝ) : EReal) = -(y * (c : EReal)) := by rw [EReal.coe_neg, mul_neg]
  rw [h, EReal.coe_add, EReal.left_distrib_of_nonneg (EReal.coe_nonneg.mpr hc) (EReal.coe_nonneg.mpr hc)]
  generalize y * (c : EReal) = z
  induction z with
  | bot => rfl
  | top => rfl
  | coe z => norm_cast; ring

/-- What the chain rule adds up, term by term, is the closed form. -/
theorem chain_eq (b : EReal) (j : Fin n) :
    b + p j * scale x + x j * meanGrad x p + meanGrad x p * x j = b + grad x p j := by
  rcases under_pos x with h | ⟨a, ha, h⟩
  · have hr : scale x = 0 := by rw [scale, h, Ideal.rsqrt_top]
    have hm : meanGrad x p = 0 := by
      unfold meanGrad
      rw [hr, h, div_len]
      simp [Ideal.div]
    rw [grad, hr, hm]
    simp
  · obtain ⟨ρ, hρ, hr, hd⟩ : ∃ ρ : ℝ, 0 < ρ ∧ scale x = (ρ : EReal) ∧ Ideal.div (scale x) (under x) = ((ρ * ρ * ρ : ℝ) : EReal) := by
      have hs : 0 < Real.sqrt a := Real.sqrt_pos.mpr ha
      refine ⟨(Real.sqrt a)⁻¹, inv_pos.mpr hs, ?_, ?_⟩
      · rw [scale, h, Ideal.rsqrt_coe, if_neg (not_lt.mpr ha.le), if_neg ha.ne']
      · rw [scale, h, Ideal.rsqrt_coe, if_neg (not_lt.mpr ha.le), if_neg ha.ne', Ideal.div_coe ha.ne', ← EReal.coe_mul]
        congr 1
        have : a = Real.sqrt a * Real.sqrt a := (Real.mul_self_sqrt ha.le).symm
        rw [one_div]
        conv_lhs => rw [this]
        rw [Real.sqrt_mul_self hs.le, mul_inv]
        ring
    have hm : meanGrad x p = (∑ k, p k * x k) * ((-(ρ * ρ * ρ / 4096) : ℝ) : EReal) := by
      unfold meanGrad
      rw [hd, negHalf_eq, div_len, mul_assoc, ← EReal.coe_mul, ← EReal.coe_mul]
      refine congrArg₂ (· * ·) (Finset.sum_congr rfl fun k _ => mul_comm _ _) (congrArg _ ?_)
      ring
    have hg : grad x p j = p j * (ρ : EReal) + -(x j * (∑ k, p k * x k) * ((ρ * ρ * ρ / 4096 + ρ * ρ * ρ / 4096 : ℝ) : EReal)) := by
      have e : ∑ k, p k * (x k * (ρ : EReal)) = (∑ k, p k * x k) * (ρ : EReal) := by
        rw [mul_sum _ _ _ hρ.le]
        exact Finset.sum_congr rfl fun k _ => (mul_assoc _ _ _).symm
      unfold grad
      rw [hr, e, div_len, sub_eq_add_neg, mul_comm,
        EReal.right_distrib_of_nonneg_of_ne_top (EReal.coe_nonneg.mpr hρ.le) (EReal.coe_ne_top ρ), neg_mul]
      refine congrArg (fun z => p j * (ρ : EReal) + -z) ?_
      generalize ∑ k, p k * x k = S
      rw [show ρ * ρ * ρ / 4096 + ρ * ρ * ρ / 4096 = ρ * (ρ * (1 / 2048) * ρ) by ring, EReal.coe_mul, EReal.coe_mul, EReal.coe_mul]
      ac_rfl
    rw [hm, hg, hr, mul_comm (_ * _) (x j), add_assoc, add_assoc, ← mul_assoc, twice _ _ (by positivity)]

/-- An index by its coordinates. -/
theorem at_ix2 {a b : ℕ} {j : (⟨2, ![a, b]⟩ : Shape).Idx} {t : Fin a} {k : Fin b} (h0 : j 0 = t) (h1 : j 1 = k) : j = ix2 t k :=
  (ix2_eta j).symm.trans (congrArg₂ ix2 h0 h1)

theorem zero_bits : Ideal.ofBits .f32 0x00000000#32 = 0 := by simp [Ideal.ofBits, Ideal.ieee]

abbrev Rows : Type := FVec Ideal ⟨2, ![2048, 2048]⟩ .f32
abbrev Gain : Type := FVec Ideal ⟨2, ![1, 2048]⟩ .f32

/-- The gradient of a norm's input, added to what else flows into it; by rows, -/
def inGrad (b d x : Rows) (g : Gain) : Rows := fun j =>
  (b (ix2 (j 0) (j 1)) + grad (fun k : Fin 2048 => x (ix2 (j 0) k)) (fun k => d (ix2 (j 0) k) * g (ix2 0 k)) (j 1) : EReal)
/-- the same where nothing else flows in, rounded, -/
def rowGrad (d x : Rows) (g : Gain) : FVec Ideal ⟨2, ![2048, 2048]⟩ .bf16 := fun j =>
  (grad (fun k : Fin 2048 => x (ix2 (j 0) k)) (fun k => d (ix2 (j 0) k) * g (ix2 0 k)) (j 1) : EReal)
/-- and that of its gain, a sum over the rows. -/
def gainGrad (d x : Rows) : Gain := fun j =>
  (∑ t : Fin 2048, d (ix2 t (j 1)) * (x (ix2 t (j 1)) * scale fun k : Fin 2048 => x (ix2 t k)) : EReal)

end Cert.Norms

end
-- ==== Proof.PreNormGrad.lean ====
/- The gradient of the first norm: the input's gradient with the branch that passes the norm by, and the gain's. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Products
public import proofs.«01_k».proof.Proof.Norms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel12Ideal

open Gen Cert.Products Cert.Norms

section Cases

variable (c : Dev nD) (i : grid0.Coords) (a1 : Memref sig .tc .vmem S512x2048 .f32) (h1 : a1.IsWhole) (a2 : Memref sig .tc .vmem S512x2048 .f32) (h2 : a2.IsWhole)
  (a3 : Memref sig .tc .vmem S512x2048 .f32) (h3 : a3.IsWhole) (a4 : Memref sig .tc .vmem S1x2048 .f32) (h4 : a4.IsWhole)
  (a5 : Memref sig .tc .vmem S512x2048 .f32) (h5 : a5.IsWhole) (a6 : Memref sig .tc .vmem S1x2048 .f32) (h6 : a6.IsWhole)
  (b d x : Vec Ideal S512x2048 .f32) (g s : Vec Ideal S1x2048 .f32)

theorem first_dx (hc0 : cond0_0 i) (hc1 : ¬cond0_1 i) :
    out0_A_4 (F := Ideal) c i a1 h1 a2 h2 a3 h3 a4 h4 a5 h5 a6 h6 hc0 hc1 b d x g = k0_pay5 x g d b := by
  unfold out0_A_4
  rw [View.read_writes_eq_canon _ _ _ (cover0_A_4 c i a1 h1 a2 h2 a3 h3 a4 h4 a5 h5 a6 h6 hc0 hc1 b d x g)]
  unfold kernelRun0_A
  dsimp only
  sl_unfold_run_names
  rw [View.canon_unit_zero zero2]
  simp only [View.readAt_eq_ld, h1.read_unread, h2.read_unread, h3.read_unread, h4.read_unread, View.ld_unit_zero (S := S512x2048) zero2, View.ld_unit_zero (S := S1x2048) zero2]
theorem first_dg (hc0 : cond0_0 i) (hc1 : ¬cond0_1 i) :
    out0_A_5 (F := Ideal) c i a1 h1 a2 h2 a3 h3 a4 h4 a5 h5 a6 h6 hc0 hc1 b d x g = k0_pay4 x d := by
  unfold out0_A_5
  rw [View.read_writes_eq_canon _ _ _ (cover0_A_5 c i a1 h1 a2 h2 a3 h3 a4 h4 a5 h5 a6 h6 hc0 hc1 b d x g)]
  unfold kernelRun0_A
  dsimp only
  sl_unfold_run_names
  rw [View.canon_unit_zero zero2]
  simp only [View.readAt_eq_ld, h2.read_unread, h3.read_unread, View.ld_unit_zero (S := S512x2048) zero2]
theorem later_dx (hc0 : ¬cond0_0 i) (hc1 : cond0_1 i) :
    out0_B_4 (F := Ideal) c i a1 h1 a2 h2 a3 h3 a4 h4 a5 h5 a6 h6 hc0 hc1 b d x g s = k0_pay5 x g d b := by
  unfold out0_B_4
  rw [View.read_writes_eq_canon _ _ _ (cover0_B_4 c i a1 h1 a2 h2 a3 h3 a4 h4 a5 h5 a6 h6 hc0 hc1 b d x g s)]
  unfold kernelRun0_B
  dsimp only
  sl_unfold_run_names
  rw [View.canon_unit_zero zero2]
  simp only [View.readAt_eq_ld, h1.read_unread, h2.read_unread, h3.read_unread, h4.read_unread, View.ld_unit_zero (S := S512x2048) zero2, View.ld_unit_zero (S := S1x2048) zero2]
theorem later_dg (hc0 : ¬cond0_0 i) (hc1 : cond0_1 i) :
    out0_B_5 (F := Ideal) c i a1 h1 a2 h2 a3 h3 a4 h4 a5 h5 a6 h6 hc0 hc1 b d x g s = k0_pay1 (k0_pay4 x d) s := by
  unfold out0_B_5
  rw [View.read_writes_eq_canon _ _ _ (cover0_B_5 c i a1 h1 a2 h2 a3 h3 a4 h4 a5 h5 a6 h6 hc0 hc1 b d x g s)]
  unfold kernelRun0_B
  dsimp only
  sl_unfold_run_names
  rw [View.canon_unit_zero zero2]
  simp only [View.readAt_eq_ld, h2.read_unread, h3.read_unread, h6.read_unread, View.ld_unit_zero (S := S512x2048) zero2, View.ld_unit_zero (S := S1x2048) zero2]

end Cases

/-- A block's row of the input's gradient, -/
theorem dx_apply (x d b : Vec Ideal S512x2048 .f32) (g : Vec Ideal S1x2048 .f32) (u : Fin 512) (l : Fin 2048) :
    k0_pay5 (F := Ideal) x g d b (ix2 u l)
      = (b (ix2 u l) + grad (fun k => x (ix2 u k)) (fun k => d (ix2 u k) * g (ix2 0 k)) l : EReal) := by
  simp only [pointwise, k0_pay5, k0_pay3, k0_pay2]
  rfl
/-- and its term of the gain's. -/
theorem dg_apply (x d : Vec Ideal S512x2048 .f32) (l : Fin 2048) :
    k0_pay4 (F := Ideal) x d (ix2 0 l) = (∑ u : Fin 512, d (ix2 u l) * (x (ix2 u l) * scale fun k => x (ix2 u k)) : EReal) := by
  simp only [pointwise, k0_pay4, k0_pay3, k0_pay2]
  rfl

variable (m : (ℓ : Loc nD τ sig) → Buf (Elt Ideal) ℓ)

theorem count (t : Fin cfg0.N) : t.val < 4 := lt_of_lt_of_eq t.isLt N_0

/-- Every window's block index: point `t` takes 512 rows. -/
theorem index_at : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] := by decide +kernel

theorem flush_at : ∀ t : Fin cfg0.N, (cfg0.win 5).flush t = true → t.val = 3 := by decide +kernel

/-- Row `u` of block `t`. -/
def row (t : Fin cfg0.N) (u : Fin 512) : Fin 2048 := ⟨512 * t.val + u.val, by have := count t; omega⟩

theorem block_b (c : Dev nD) (t : Fin cfg0.N) (u : Fin 512) (k : Fin 2048) :
    iblk m c 0 t (ix2 u k) = m ((c : Thread nD τ).loc main_arg0) (ix2 (row t u) k) := by
  rw [← V_main_arg0 m c]
  unfold row
  blk_ext [iblk, (index_at t).1]
theorem block_d (c : Dev nD) (t : Fin cfg0.N) (u : Fin 512) (k : Fin 2048) :
    iblk m c 1 t (ix2 u k) = m ((c : Thread nD τ).loc main_arg1) (ix2 (row t u) k) := by
  rw [← V_main_arg1 m c]
  unfold row
  blk_ext [iblk, (index_at t).2.1]
theorem block_x (c : Dev nD) (t : Fin cfg0.N) (u : Fin 512) (k : Fin 2048) :
    iblk m c 2 t (ix2 u k) = m ((c : Thread nD τ).loc main_arg2) (ix2 (row t u) k) := by
  rw [← V_main_arg2 m c]
  unfold row
  blk_ext [iblk, (index_at t).2.2.1]
theorem block_g (c : Dev nD) (t : Fin cfg0.N) (k : Fin 2048) :
    iblk m c 3 t (ix2 0 k) = m ((c : Thread nD τ).loc main_arg3) (ix2 0 k) := by
  rw [← V_main_arg3 m c]
  blk_ext [iblk, (index_at t).2.2.2.1]

/-- What a point leaves in the block of the input's gradient, -/
theorem dx_at (c : Dev nD) (t : Fin cfg0.N) :
    (outsAt0 m c t.val t.isLt).1 = k0_pay5 (iblk m c 2 t) (iblk m c 3 t) (iblk m c 1 t) (iblk m c 0 t) := by
  have ht := count t
  by_cases h : t.val = 0
  · rw [outsAt0_A m c t (by omega) (by omega)]
    dsimp only
    rw [first_dx]
  · rw [outsAt0_B m c t (by omega) (by omega)]
    dsimp only
    rw [later_dx]
/-- the first in the gain's, -/
theorem dg_first (c : Dev nD) (t : Fin cfg0.N) (h : t.val = 0) :
    (outsAt0 m c t.val t.isLt).2 = k0_pay4 (iblk m c 2 t) (iblk m c 1 t) := by
  rw [outsAt0_A m c t (by omega) (by omega)]
  dsimp only
  rw [first_dg]
/-- and the others. -/
theorem dg_later (c : Dev nD) (t : Fin cfg0.N) (h : t.val ≠ 0) :
    (outsAt0 m c t.val t.isLt).2 = k0_pay1 (k0_pay4 (iblk m c 2 t) (iblk m c 1 t)) (outsAt0 m c (t.val - 1) (Nat.lt_of_le_of_lt (Nat.sub_le _ _) t.isLt)).2 := by
  have ht := count t
  rw [outsAt0_B m c t (by omega) (by omega)]
  dsimp only
  rw [later_dg]

/-- The input's gradient, whole. -/
theorem dx_end (c : Dev nD) : (dats m 0 c).arrAt 4 cfg0.N
    = inGrad (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  obtain ⟨u, k, rfl⟩ : ∃ (u : Fin 512) (k : Fin 2048), ix2 u k = y := ⟨y 0, y 1, ix2_eta y⟩
  blk_simp
  rw [after0_4, dx_at]
  refine (dx_apply _ _ _ _ u k).trans ?_
  have e0 : (win0_4.blk t).view.emb (ix2 u k) 0 = row t u :=
    Fin.ext (by blk_simp; rw [(index_at t).2.2.2.2.1]; show t.val * 512 + u.val = 512 * t.val + u.val; omega)
  have e1 : (win0_4.blk t).view.emb (ix2 u k) 1 = k :=
    Fin.ext (by blk_simp; rw [(index_at t).2.2.2.2.1]; show 0 * 2048 + k.val = k.val; omega)
  simp only [block_b, block_d, block_x, block_g]
  show _ = inGrad _ _ _ _ _
  unfold inGrad
  rw [e0, e1]

/-- The gain's gradient, whole. -/
theorem dg_end (c : Dev nD) : (dats m 0 c).arrAt 5 cfg0.N
    = gainGrad (m ((c : Thread nD τ).loc main_arg1)) (m ((c : Thread nD τ).loc main_arg2)) := by
  refine (dats m 0 c).arrAt_eq_of_covers 5 _ (by decide +kernel) fun t hf y => ?_
  obtain ⟨z, k, rfl⟩ : ∃ (z : Fin 1) (k : Fin 2048), ix2 z k = y := ⟨y 0, y 1, ix2_eta y⟩
  obtain rfl : z = 0 := Subsingleton.elim _ _
  blk_simp
  rw [after0_5]
  have h := flush_at t hf
  have hN : cfg0.N = 4 := N_0
  have e2 := dg_later m c ⟨t.val - 1, by omega⟩ (by show t.val - 1 ≠ 0; omega)
  have e1 := dg_later m c ⟨t.val - 1 - 1, by omega⟩ (by show t.val - 1 - 1 ≠ 0; omega)
  have e0 := dg_first m c ⟨t.val - 1 - 1 - 1, by omega⟩ (by show t.val - 1 - 1 - 1 = 0; omega)
  dsimp only at e0 e1 e2
  rw [dg_later m c t (by omega), e2, e1, e0]
  have e : (win0_5.blk t).view.emb (ix2 (0 : Fin 1) k) 1 = k :=
    Fin.ext (by blk_simp; rw [(index_at t).2.2.2.2.2]; show 0 * 2048 + k.val = k.val; omega)
  show _ = gainGrad _ _ _
  unfold gainGrad
  rw [e, sum_columns (R := 4) (n := 512) rfl, Fin.sum_univ_four]
  simp only [pointwise, k0_pay1, dg_apply, block_d, block_x]
  have r (s : Fin cfg0.N) (r : Fin 4) (h : s.val = r.val) : row s = column rfl r := funext fun u => Fin.ext (by show 512 * s.val + u.val = 512 * r.val + u.val; rw [h])
  rw [r t 3 h, r ⟨t.val - 1, _⟩ 2 (by show t.val - 1 = 2; omega), r ⟨t.val - 1 - 1, _⟩ 1 (by show t.val - 1 - 1 = 1; omega), r ⟨t.val - 1 - 1 - 1, _⟩ 0 (by show t.val - 1 - 1 - 1 = 0; omega)]

end Cert.Kernel12Ideal

namespace Cert.Reference12Ideal

open Read Cert.Products Cert.Norms

variable (b d x : Rows) (g : Gain)

/-- The mean square and the constant of a row, -/
theorem mean (t : Fin 2048) : val_main_v7 (F := Ideal) x (ix2 t 0) = under fun k => x (ix2 t k) := by
  rw [val_main_v7_apply, val_main_v5_apply, val_main_v3_apply, val_main_v2_apply, val_main_v4_apply, val_main_v6_apply]
  show Ideal.div (Ideal.ofBits .f32 0x00000000#32 + _) len + eps = _
  rw [zero_bits, zero_add]
  have e (k : Fin 2048) : idx_main_v2 (idx_main_v3 (ix2 t 0)) k = ix2 t k := at_ix2 rfl rfl
  simp only [e, val_main_v1_apply]
  rfl
/-- one over its root, -/
theorem root (t : Fin 2048) : val_main_v8 (F := Ideal) x (ix2 t 0) = scale fun k => x (ix2 t k) := by
  rw [val_main_v8_apply, mean]
  rfl
theorem root_at (t k : Fin 2048) : val_main_v12 (F := Ideal) x (ix2 t k) = scale fun k => x (ix2 t k) := by
  rw [val_main_v12_apply, show idx_main_v12 (ix2 t k) = ix2 t 0 from at_ix2 rfl rfl, root]
/-- the cotangent times the gain, -/
theorem scaled (t k : Fin 2048) : val_main_v21 (F := Ideal) d g (ix2 t k) = (d (ix2 t k) * g (ix2 0 k) : EReal) := by
  rw [val_main_v21_apply, val_main_v20_apply, val_main_v14_apply, val_main_v0_apply]
  refine congrArg (fun j => (d (ix2 t k) * g j : EReal)) (at_ix2 rfl (Fin.ext (Nat.mod_eq_of_lt k.isLt)))
/-- and the mean square's cotangent. -/
theorem mean_grad (t k : Fin 2048) : val_main_v33 (F := Ideal) d x g (ix2 t k)
    = meanGrad (fun k => x (ix2 t k)) (fun k => d (ix2 t k) * g (ix2 0 k)) := by
  rw [val_main_v33_apply, val_main_v32_apply, Fin.sum_univ_one, val_main_v31_apply, val_main_v29_apply, val_main_v25_apply, val_main_v24_apply, val_main_v30_apply, val_main_v11_apply, val_main_v10_apply, val_main_v9_apply]
  have e1 : idx_main_v32 (idx_main_v33 (ix2 t k)) 0 = ix2 t 0 := at_ix2 rfl rfl
  have e2 (l : Fin 2048) : idx_main_v24 (idx_main_v25 (ix2 t 0)) l = ix2 t l := at_ix2 (Fin.ext (by show t.val * 1 + 0 = t.val; omega)) rfl
  simp only [e1, e2, mean, root, val_main_v23_apply, scaled]
  show Ideal.ofBits .f32 0x00000000#32 + Ideal.div ((Ideal.ofBits .f32 0x00000000#32 + _) * _) len = _
  rw [zero_bits, zero_add, zero_add]
  rfl

/-- The reference's gradient of the input, -/
theorem dx_eq : val_main_v37 (F := Ideal) b d x g = inGrad b d x g := by
  funext j
  obtain ⟨t, k, rfl⟩ : ∃ t k, ix2 t k = j := ⟨j 0, j 1, ix2_eta j⟩
  rw [val_main_v37_apply, val_main_v35_apply, val_main_v28_apply, val_main_v27_apply, val_main_v36_apply, val_main_v34_apply, mean_grad, scaled,
    val_main_v26_apply, show idx_main_v26 (ix2 t k) = ix2 t 0 from at_ix2 rfl rfl, root]
  exact chain_eq (fun k => x (ix2 t k)) (fun k => d (ix2 t k) * g (ix2 0 k)) (b (ix2 t k)) k
/-- the same where nothing else flows in, -/
theorem rows_eq : (fun j => (val_main_v27 (F := Ideal) d x g j + val_main_v34 (F := Ideal) d x g j + val_main_v36 (F := Ideal) d x g j : EReal)) = rowGrad d x g := by
  funext j
  obtain ⟨t, k, rfl⟩ : ∃ t k, ix2 t k = j := ⟨j 0, j 1, ix2_eta j⟩
  rw [val_main_v27_apply, val_main_v36_apply, val_main_v34_apply, mean_grad, scaled,
    val_main_v26_apply, show idx_main_v26 (ix2 t k) = ix2 t 0 from at_ix2 rfl rfl, root]
  have h := chain_eq (fun k => x (ix2 t k)) (fun k => d (ix2 t k) * g (ix2 0 k)) 0 k
  rw [zero_add, zero_add] at h
  exact h
/-- and of the gain. -/
theorem dg_eq : val_main_v38 (F := Ideal) d x = gainGrad d x := by
  funext j
  obtain ⟨z, k, rfl⟩ : ∃ (z : Fin 1) (k : Fin 2048), ix2 z k = j := ⟨j 0, j 1, ix2_eta j⟩
  rw [val_main_v38_apply, val_main_v22_apply, Fin.sum_univ_one, val_main_v19_apply, val_main_v18_apply]
  have e (t : Fin 2048) : idx_main_v18 (idx_main_v19 (idx_main_v22 (idx_main_v38 (ix2 z k)) 0)) t = ix2 t k :=
    at_ix2 rfl (Fin.ext (by show 0 * 2048 + k.val = k.val; omega))
  simp only [e, val_main_v17_apply, val_main_v13_apply, root_at]
  show Ideal.ofBits .f32 0x00000000#32 + (Ideal.ofBits .f32 0x00000000#32 + _) = _
  rw [zero_bits, zero_add, zero_add]
  exact Finset.sum_congr rfl fun t _ => mul_comm _ _

end Cert.Reference12Ideal

namespace Cert.Proof12

theorem frame_ri : Cert.quiescent_Reference12Ideal (hReference12Ideal := Cert.Reference12Ideal.Gen.facts) := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem equal : Cert.algebraic_Kernel12Ideal_Reference12Ideal (hKernel12Ideal := Cert.Kernel12Ideal.Gen.facts) (hReference12Ideal := Cert.Reference12Ideal.Gen.facts) := by
  intro m g m' g' _ ha
  refine ⟨_, _, Cert.Kernel12Ideal.Value.run_blocks m g, ?_⟩
  refine (θ_run _ _ _).mono (fun r h c => ?_) (Cert.Reference12Ideal.Value.run (F := Ideal) m' g')
  obtain ⟨h0, h1, h2⟩ := h c
  obtain ⟨a0, a1, a2, a3⟩ := ha c
  refine ⟨h0.trans ((Cert.Reference12Ideal.Read.val_main_v37_eq (F := Ideal) _ _).trans ?_), h1.trans ((Cert.Reference12Ideal.Read.val_main_v38_eq (F := Ideal) _ _).trans ?_), h2⟩
  · rw [a0, a1, a2, a3, Cert.Kernel12Ideal.dx_end m c]
    exact Cert.Reference12Ideal.dx_eq _ _ _ _
  · rw [a1, a2, Cert.Kernel12Ideal.dg_end m c]
    exact Cert.Reference12Ideal.dg_eq _ _

end Cert.Proof12

end
-- ==== Proof.MidNormGrad.lean ====
/- The gradient of the two norms between the layers: of the second layer's first norm, with the branch that passes it by, and of the
   first layer's last norm, whose cotangent is what the former gives. Each is `Proof.PreNormGrad`'s. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.PreNormGrad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel13Ideal

open Gen Cert.Products Cert.Norms

section Cases

variable (c : Dev nD) (i : grid0.Coords) (a1 : Memref sig .tc .vmem S512x2048 .f32) (h1 : a1.IsWhole) (a2 : Memref sig .tc .vmem S512x2048 .f32) (h2 : a2.IsWhole)
  (a3 : Memref sig .tc .vmem S512x2048 .f32) (h3 : a3.IsWhole) (a4 : Memref sig .tc .vmem S512x2048 .f32) (h4 : a4.IsWhole)
  (a5 : Memref sig .tc .vmem S1x2048 .f32) (h5 : a5.IsWhole) (a6 : Memref sig .tc .vmem S1x2048 .f32) (h6 : a6.IsWhole)
  (a7 : Memref sig .tc .vmem S512x2048 .f32) (h7 : a7.IsWhole) (a8 : Memref sig .tc .vmem S512x2048 .bf16) (h8 : a8.IsWhole)
  (a9 : Memref sig .tc .vmem S1x2048 .f32) (h9 : a9.IsWhole) (a10 : Memref sig .tc .vmem S1x2048 .f32) (h10 : a10.IsWhole)
  (b d x y : Vec Ideal S512x2048 .f32) (g p s r : Vec Ideal S1x2048 .f32)

theorem first_dx (hc0 : cond0_0 i) (hc1 : ¬cond0_1 i) (hc2 : cond0_2 i) (hc3 : ¬cond0_3 i) :
    out0_A_6 (F := Ideal) c i a1 h1 a2 h2 a3 h3 a4 h4 a5 h5 a6 h6 a7 h7 a8 h8 a9 h9 a10 h10 hc0 hc1 hc2 hc3 b d x y g p = k0_pay10 x g d b := by
  unfold out0_A_6
  rw [View.read_writes_eq_canon _ _ _ (cover0_A_6 c i a1 h1 a2 h2 a3 h3 a4 h4 a5 h5 a6 h6 a7 h7 a8 h8 a9 h9 a10 h10 hc0 hc1 hc2 hc3 b d x y g p)]
  unfold kernelRun0_A
  dsimp only
  sl_unfold_run_names
  rw [View.canon_unit_zero zero2]
  simp only [View.readAt_eq_ld, h1.read_unread, h2.read_unread, h3.read_unread, h5.read_unread, View.ld_unit_zero (S := S512x2048) zero2, View.ld_unit_zero (S := S1x2048) zero2]
theorem first_dy (hc0 : cond0_0 i) (hc1 : ¬cond0_1 i) (hc2 : cond0_2 i) (hc3 : ¬cond0_3 i) :
    out0_A_7 (F := Ideal) c i a1 h1 a2 h2 a3 h3 a4 h4 a5 h5 a6 h6 a7 h7 a8 h8 a9 h9 a10 h10 hc0 hc1 hc2 hc3 b d x y g p = k0_pay4 (k0_pay10 x g d b) y p (k0_pay11 y) := by
  unfold out0_A_7
  rw [View.read_writes_eq_canon _ _ _ (cover0_A_7 c i a1 h1 a2 h2 a3 h3 a4 h4 a5 h5 a6 h6 a7 h7 a8 h8 a9 h9 a10 h10 hc0 hc1 hc2 hc3 b d x y g p)]
  unfold kernelRun0_A
  dsimp only
  sl_unfold_run_names
  rw [View.canon_unit_zero zero2]
  simp only [View.readAt_eq_ld, h1.read_unread, h2.read_unread, h3.read_unread, h4.read_unread, h5.read_unread, h6.read_unread, View.ld_unit_zero (S := S512x2048) zero2, View.ld_unit_zero (S := S1x2048) zero2]
theorem first_dg (hc0 : cond0_0 i) (hc1 : ¬cond0_1 i) (hc2 : cond0_2 i) (hc3 : ¬cond0_3 i) :
    out0_A_8 (F := Ideal) c i a1 h1 a2 h2 a3 h3 a4 h4 a5 h5 a6 h6 a7 h7 a8 h8 a9 h9 a10 h10 hc0 hc1 hc2 hc3 b d x y g p = k0_pay9 x d := by
  unfold out0_A_8
  rw [View.read_writes_eq_canon _ _ _ (cover0_A_8 c i a1 h1 a2 h2 a3 h3 a4 h4 a5 h5 a6 h6 a7 h7 a8 h8 a9 h9 a10 h10 hc0 hc1 hc2 hc3 b d x y g p)]
  unfold kernelRun0_A
  dsimp only
  sl_unfold_run_names
  rw [View.canon_unit_zero zero2]
  simp only [View.readAt_eq_ld, h2.read_unread, h3.read_unread, View.ld_unit_zero (S := S512x2048) zero2]
theorem first_dp (hc0 : cond0_0 i) (hc1 : ¬cond0_1 i) (hc2 : cond0_2 i) (hc3 : ¬cond0_3 i) :
    out0_A_9 (F := Ideal) c i a1 h1 a2 h2 a3 h3 a4 h4 a5 h5 a6 h6 a7 h7 a8 h8 a9 h9 a10 h10 hc0 hc1 hc2 hc3 b d x y g p = k0_pay3 (k0_pay10 x g d b) y (k0_pay11 y) := by
  unfold out0_A_9
  rw [View.read_writes_eq_canon _ _ _ (cover0_A_9 c i a1 h1 a2 h2 a3 h3 a4 h4 a5 h5 a6 h6 a7 h7 a8 h8 a9 h9 a10 h10 hc0 hc1 hc2 hc3 b d x y g p)]
  unfold kernelRun0_A
  dsimp only
  sl_unfold_run_names
  rw [View.canon_unit_zero zero2]
  simp only [View.readAt_eq_ld, h1.read_unread, h2.read_unread, h3.read_unread, h4.read_unread, h5.read_unread, View.ld_unit_zero (S := S512x2048) zero2, View.ld_unit_zero (S := S1x2048) zero2]
theorem later_dx (hc0 : ¬cond0_0 i) (hc1 : cond0_1 i) (hc2 : ¬cond0_2 i) (hc3 : cond0_3 i) :
    out0_B_6 (F := Ideal) c i a1 h1 a2 h2 a3 h3 a4 h4 a5 h5 a6 h6 a7 h7 a8 h8 a9 h9 a10 h10 hc0 hc1 hc2 hc3 b d x y g p s r = k0_pay10 x g d b := by
  unfold out0_B_6
  rw [View.read_writes_eq_canon _ _ _ (cover0_B_6 c i a1 h1 a2 h2 a3 h3 a4 h4 a5 h5 a6 h6 a7 h7 a8 h8 a9 h9 a10 h10 hc0 hc1 hc2 hc3 b d x y g p s r)]
  unfold kernelRun0_B
  dsimp only
  sl_unfold_run_names
  rw [View.canon_unit_zero zero2]
  simp only [View.readAt_eq_ld, h1.read_unread, h2.read_unread, h3.read_unread, h5.read_unread, View.ld_unit_zero (S := S512x2048) zero2, View.ld_unit_zero (S := S1x2048) zero2]
theorem later_dy (hc0 : ¬cond0_0 i) (hc1 : cond0_1 i) (hc2 : ¬cond0_2 i) (hc3 : cond0_3 i) :
    out0_B_7 (F := Ideal) c i a1 h1 a2 h2 a3 h3 a4 h4 a5 h5 a6 h6 a7 h7 a8 h8 a9 h9 a10 h10 hc0 hc1 hc2 hc3 b d x y g p s r = k0_pay4 (k0_pay10 x g d b) y p (k0_pay11 y) := by
  unfold out0_B_7
  rw [View.read_writes_eq_canon _ _ _ (cover0_B_7 c i a1 h1 a2 h2 a3 h3 a4 h4 a5 h5 a6 h6 a7 h7 a8 h8 a9 h9 a10 h10 hc0 hc1 hc2 hc3 b d x y g p s r)]
  unfold kernelRun0_B
  dsimp only
  sl_unfold_run_names
  rw [View.canon_unit_zero zero2]
  simp only [View.readAt_eq_ld, h1.read_unread, h2.read_unread, h3.read_unread, h4.read_unread, h5.read_unread, h6.read_unread, View.ld_unit_zero (S := S512x2048) zero2, View.ld_unit_zero (S := S1x2048) zero2]
theorem later_dg (hc0 : ¬cond0_0 i) (hc1 : cond0_1 i) (hc2 : ¬cond0_2 i) (hc3 : cond0_3 i) :
    out0_B_8 (F := Ideal) c i a1 h1 a2 h2 a3 h3 a4 h4 a5 h5 a6 h6 a7 h7 a8 h8 a9 h9 a10 h10 hc0 hc1 hc2 hc3 b d x y g p s r = k0_pay5 (k0_pay9 x d) s := by
  unfold out0_B_8
  rw [View.read_writes_eq_canon _ _ _ (cover0_B_8 c i a1 h1 a2 h2 a3 h3 a4 h4 a5 h5 a6 h6 a7 h7 a8 h8 a9 h9 a10 h10 hc0 hc1 hc2 hc3 b d x y g p s r)]
  unfold kernelRun0_B
  dsimp only
  sl_unfold_run_names
  rw [View.canon_unit_zero zero2]
  simp only [View.readAt_eq_ld, h2.read_unread, h3.read_unread, h9.read_unread, View.ld_unit_zero (S := S512x2048) zero2, View.ld_unit_zero (S := S1x2048) zero2]
theorem later_dp (hc0 : ¬cond0_0 i) (hc1 : cond0_1 i) (hc2 : ¬cond0_2 i) (hc3 : cond0_3 i) :
    out0_B_9 (F := Ideal) c i a1 h1 a2 h2 a3 h3 a4 h4 a5 h5 a6 h6 a7 h7 a8 h8 a9 h9 a10 h10 hc0 hc1 hc2 hc3 b d x y g p s r = k0_pay6 (k0_pay10 x g d b) y (k0_pay11 y) r := by
  unfold out0_B_9
  rw [View.read_writes_eq_canon _ _ _ (cover0_B_9 c i a1 h1 a2 h2 a3 h3 a4 h4 a5 h5 a6 h6 a7 h7 a8 h8 a9 h9 a10 h10 hc0 hc1 hc2 hc3 b d x y g p s r)]
  unfold kernelRun0_B
  dsimp only
  sl_unfold_run_names
  rw [View.canon_unit_zero zero2]
  simp only [View.readAt_eq_ld, h1.read_unread, h2.read_unread, h3.read_unread, h4.read_unread, h5.read_unread, h10.read_unread, View.ld_unit_zero (S := S512x2048) zero2, View.ld_unit_zero (S := S1x2048) zero2]

end Cases

/-- A block's row of the second layer's part, -/
theorem dx_apply (x d b : Vec Ideal S512x2048 .f32) (g : Vec Ideal S1x2048 .f32) (u : Fin 512) (l : Fin 2048) :
    k0_pay10 (F := Ideal) x g d b (ix2 u l)
      = (b (ix2 u l) + grad (fun k => x (ix2 u k)) (fun k => d (ix2 u k) * g (ix2 0 k)) l : EReal) :=
  Cert.Kernel12Ideal.dx_apply x d b g u l
/-- its term of the gain's gradient, -/
theorem dg_apply (x d : Vec Ideal S512x2048 .f32) (l : Fin 2048) :
    k0_pay9 (F := Ideal) x d (ix2 0 l) = (∑ u : Fin 512, d (ix2 u l) * (x (ix2 u l) * scale fun k => x (ix2 u k)) : EReal) :=
  Cert.Kernel12Ideal.dg_apply x d l
/-- and the same of the first layer's. -/
theorem dp_apply (y d : Vec Ideal S512x2048 .f32) (l : Fin 2048) :
    k0_pay3 (F := Ideal) d y (k0_pay11 y) (ix2 0 l) = (∑ u : Fin 512, d (ix2 u l) * (y (ix2 u l) * scale fun k => y (ix2 u k)) : EReal) :=
  Cert.Kernel12Ideal.dg_apply y d l
theorem dy_apply (y d : Vec Ideal S512x2048 .f32) (p : Vec Ideal S1x2048 .f32) (u : Fin 512) (l : Fin 2048) :
    k0_pay4 (F := Ideal) d y p (k0_pay11 y) (ix2 u l)
      = (grad (fun k => y (ix2 u k)) (fun k => d (ix2 u k) * p (ix2 0 k)) l : EReal) := by
  simp only [pointwise, k0_pay4, k0_pay2, k0_pay1, k0_pay11]
  rfl

variable (m : (ℓ : Loc nD τ sig) → Buf (Elt Ideal) ℓ)

theorem count (t : Fin cfg0.N) : t.val < 4 := lt_of_lt_of_eq t.isLt N_0

/-- Every window's block index: point `t` takes 512 rows. -/
theorem index_at : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] := by decide +kernel

theorem flush_at : ∀ t : Fin cfg0.N, ((cfg0.win 8).flush t = true → t.val = 3) ∧ ((cfg0.win 9).flush t = true → t.val = 3) := by decide +kernel

/-- Row `u` of block `t`. -/
def row (t : Fin cfg0.N) (u : Fin 512) : Fin 2048 := ⟨512 * t.val + u.val, by have := count t; omega⟩

theorem row_eq {t : Fin cfg0.N} {r : Fin 4} (h : t.val = r.val) : row t = column rfl r :=
  funext fun u => Fin.ext (by show 512 * t.val + u.val = 512 * r.val + u.val; rw [h])

theorem block_b (c : Dev nD) (t : Fin cfg0.N) (u : Fin 512) (k : Fin 2048) :
    iblk m c 0 t (ix2 u k) = m ((c : Thread nD τ).loc main_arg0) (ix2 (row t u) k) := by
  rw [← V_main_arg0 m c]
  unfold row
  blk_ext [iblk, (index_at t).1]
theorem block_d (c : Dev nD) (t : Fin cfg0.N) (u : Fin 512) (k : Fin 2048) :
    iblk m c 1 t (ix2 u k) = m ((c : Thread nD τ).loc main_arg1) (ix2 (row t u) k) := by
  rw [← V_main_arg1 m c]
  unfold row
  blk_ext [iblk, (index_at t).2.1]
theorem block_x (c : Dev nD) (t : Fin cfg0.N) (u : Fin 512) (k : Fin 2048) :
    iblk m c 2 t (ix2 u k) = m ((c : Thread nD τ).loc main_arg2) (ix2 (row t u) k) := by
  rw [← V_main_arg2 m c]
  unfold row
  blk_ext [iblk, (index_at t).2.2.1]
theorem block_y (c : Dev nD) (t : Fin cfg0.N) (u : Fin 512) (k : Fin 2048) :
    iblk m c 3 t (ix2 u k) = m ((c : Thread nD τ).loc main_arg3) (ix2 (row t u) k) := by
  rw [← V_main_arg3 m c]
  unfold row
  blk_ext [iblk, (index_at t).2.2.2.1]
theorem block_g (c : Dev nD) (t : Fin cfg0.N) (k : Fin 2048) :
    iblk m c 4 t (ix2 0 k) = m ((c : Thread nD τ).loc main_arg4) (ix2 0 k) := by
  rw [← V_main_arg4 m c]
  blk_ext [iblk, (index_at t).2.2.2.2.1]
theorem block_p (c : Dev nD) (t : Fin cfg0.N) (k : Fin 2048) :
    iblk m c 5 t (ix2 0 k) = m ((c : Thread nD τ).loc main_arg5) (ix2 0 k) := by
  rw [← V_main_arg5 m c]
  blk_ext [iblk, (index_at t).2.2.2.2.2.1]

/-- What a point computes of the second layer's input gradient, -/
abbrev dxBlock (c : Dev nD) (t : Fin cfg0.N) : Vec Ideal S512x2048 .f32 := k0_pay10 (iblk m c 2 t) (iblk m c 4 t) (iblk m c 1 t) (iblk m c 0 t)

/-- what it leaves of it, -/
theorem dx_at (c : Dev nD) (t : Fin cfg0.N) : (outsAt0 m c t.val t.isLt).1 = dxBlock m c t := by
  have ht := count t
  by_cases h : t.val = 0
  · rw [outsAt0_A m c t (by omega) (by omega) (by omega) (by omega)]
    dsimp only
    rw [first_dx]
  · rw [outsAt0_B m c t (by omega) (by omega) (by omega) (by omega)]
    dsimp only
    rw [later_dx]
/-- of the first layer's output gradient, -/
theorem dy_at (c : Dev nD) (t : Fin cfg0.N) :
    (outsAt0 m c t.val t.isLt).2.1 = k0_pay4 (dxBlock m c t) (iblk m c 3 t) (iblk m c 5 t) (k0_pay11 (iblk m c 3 t)) := by
  have ht := count t
  by_cases h : t.val = 0
  · rw [outsAt0_A m c t (by omega) (by omega) (by omega) (by omega)]
    dsimp only
    rw [first_dy]
  · rw [outsAt0_B m c t (by omega) (by omega) (by omega) (by omega)]
    dsimp only
    rw [later_dy]
/-- and of the gains': the first point, -/
theorem gains_first (c : Dev nD) (t : Fin cfg0.N) (h : t.val = 0) :
    (outsAt0 m c t.val t.isLt).2.2 = (k0_pay9 (iblk m c 2 t) (iblk m c 1 t), k0_pay3 (dxBlock m c t) (iblk m c 3 t) (k0_pay11 (iblk m c 3 t))) := by
  rw [outsAt0_A m c t (by omega) (by omega) (by omega) (by omega)]
  dsimp only
  rw [first_dg, first_dp]
/-- the others. -/
theorem gains_later (c : Dev nD) (t : Fin cfg0.N) (h : t.val ≠ 0) :
    (outsAt0 m c t.val t.isLt).2.2 = (k0_pay5 (k0_pay9 (iblk m c 2 t) (iblk m c 1 t)) (outsAt0 m c (t.val - 1) (Nat.lt_of_le_of_lt (Nat.sub_le _ _) t.isLt)).2.2.1,
      k0_pay6 (dxBlock m c t) (iblk m c 3 t) (k0_pay11 (iblk m c 3 t)) (outsAt0 m c (t.val - 1) (Nat.lt_of_le_of_lt (Nat.sub_le _ _) t.isLt)).2.2.2) := by
  have ht := count t
  rw [outsAt0_B m c t (by omega) (by omega) (by omega) (by omega)]
  dsimp only
  rw [later_dg, later_dp]

/-- The second layer's input gradient, -/
abbrev dx (c : Dev nD) : Rows :=
  inGrad (m ((c : Thread nD τ).loc main_arg0)) (m ((c : Thread nD τ).loc main_arg1)) (m ((c : Thread nD τ).loc main_arg2)) (m ((c : Thread nD τ).loc main_arg4))

/-- a block of it, -/
theorem dx_block (c : Dev nD) (t : Fin cfg0.N) (u : Fin 512) (k : Fin 2048) : dxBlock m c t (ix2 u k) = dx m c (ix2 (row t u) k) := by
  refine (dx_apply _ _ _ _ u k).trans ?_
  simp only [block_b, block_d, block_x, block_g]
  rfl

/-- whole. -/
theorem dx_end (c : Dev nD) : (dats m 0 c).arrAt 6 cfg0.N = dx m c := by
  refine (dats m 0 c).arrAt_eq_of_covers 6 _ (by decide +kernel) fun t _ y => ?_
  obtain ⟨u, k, rfl⟩ : ∃ (u : Fin 512) (k : Fin 2048), ix2 u k = y := ⟨y 0, y 1, ix2_eta y⟩
  blk_simp
  rw [after0_6, dx_at]
  refine (dx_block m c t u k).trans (congrArg (dx m c) (at_ix2 ?_ ?_).symm)
  · exact Fin.ext (by blk_simp; rw [(index_at t).2.2.2.2.2.2.1]; show t.val * 512 + u.val = 512 * t.val + u.val; omega)
  · exact Fin.ext (by blk_simp; rw [(index_at t).2.2.2.2.2.2.1]; show 0 * 2048 + k.val = k.val; omega)
/-- The first layer's output gradient, whole. -/
theorem dy_end (c : Dev nD) : (dats m 0 c).arrAt 7 cfg0.N
    = rowGrad (dx m c) (m ((c : Thread nD τ).loc main_arg3)) (m ((c : Thread nD τ).loc main_arg5)) := by
  refine (dats m 0 c).arrAt_eq_of_covers 7 _ (by decide +kernel) fun t _ y => ?_
  obtain ⟨u, k, rfl⟩ : ∃ (u : Fin 512) (k : Fin 2048), ix2 u k = y := ⟨y 0, y 1, ix2_eta y⟩
  blk_simp
  rw [after0_7, dy_at]
  refine (dy_apply _ _ _ u k).trans (Eq.trans ?_ (congrArg (rowGrad _ _ _) (at_ix2 (t := row t u) (k := k) ?_ ?_).symm))
  · simp only [dx_block, block_y, block_p]
    rfl
  · exact Fin.ext (by blk_simp; rw [(index_at t).2.2.2.2.2.2.2.1]; show t.val * 512 + u.val = 512 * t.val + u.val; omega)
  · exact Fin.ext (by blk_simp; rw [(index_at t).2.2.2.2.2.2.2.1]; show 0 * 2048 + k.val = k.val; omega)

/-- The gains' gradients after the last point. -/
theorem gains_end (c : Dev nD) (t : Fin cfg0.N) (h : t.val = 3) (k : Fin 2048) :
    (outsAt0 m c t.val t.isLt).2.2.1 (ix2 0 k) = gainGrad (m ((c : Thread nD τ).loc main_arg1)) (m ((c : Thread nD τ).loc main_arg2)) (ix2 0 k)
    ∧ (outsAt0 m c t.val t.isLt).2.2.2 (ix2 0 k) = gainGrad (dx m c) (m ((c : Thread nD τ).loc main_arg3)) (ix2 0 k) := by
  have hN : cfg0.N = 4 := N_0
  have e2 := gains_later m c ⟨t.val - 1, by omega⟩ (by show t.val - 1 ≠ 0; omega)
  have e1 := gains_later m c ⟨t.val - 1 - 1, by omega⟩ (by show t.val - 1 - 1 ≠ 0; omega)
  have e0 := gains_first m c ⟨t.val - 1 - 1 - 1, by omega⟩ (by show t.val - 1 - 1 - 1 = 0; omega)
  dsimp only at e0 e1 e2
  rw [gains_later m c t (by omega), e2, e1, e0]
  constructor
  · show _ = (∑ s : Fin 2048, _ : EReal)
    rw [sum_columns (R := 4) (n := 512) rfl, Fin.sum_univ_four]
    simp only [pointwise, k0_pay5, dg_apply, block_d, block_x]
    rw [row_eq (t := t) (r := 3) h, row_eq (t := ⟨t.val - 1, _⟩) (r := 2) (by show t.val - 1 = 2; omega), row_eq (t := ⟨t.val - 1 - 1, _⟩) (r := 1) (by show t.val - 1 - 1 = 1; omega), row_eq (t := ⟨t.val - 1 - 1 - 1, _⟩) (r := 0) (by show t.val - 1 - 1 - 1 = 0; omega)]
  · show _ = (∑ s : Fin 2048, _ : EReal)
    rw [sum_columns (R := 4) (n := 512) rfl, Fin.sum_univ_four]
    simp only [pointwise, k0_pay6, dp_apply, dx_block, block_y]
    rw [row_eq (t := t) (r := 3) h, row_eq (t := ⟨t.val - 1, _⟩) (r := 2) (by show t.val - 1 = 2; omega), row_eq (t := ⟨t.val - 1 - 1, _⟩) (r := 1) (by show t.val - 1 - 1 = 1; omega), row_eq (t := ⟨t.val - 1 - 1 - 1, _⟩) (r := 0) (by show t.val - 1 - 1 - 1 = 0; omega)]

theorem dg_end (c : Dev nD) : (dats m 0 c).arrAt 8 cfg0.N = gainGrad (m ((c : Thread nD τ).loc main_arg1)) (m ((c : Thread nD τ).loc main_arg2)) := by
  refine (dats m 0 c).arrAt_eq_of_covers 8 _ (by decide +kernel) fun t hf y => ?_
  obtain ⟨z, k, rfl⟩ : ∃ (z : Fin 1) (k : Fin 2048), ix2 z k = y := ⟨y 0, y 1, ix2_eta y⟩
  obtain rfl : z = 0 := Subsingleton.elim _ _
  blk_simp
  rw [after0_8]
  refine ((gains_end m c t ((flush_at t).1 hf) k).1).trans (congrArg (gainGrad _ _) (at_ix2 (Subsingleton.elim (α := Fin 1) _ _) (Fin.ext ?_)).symm)
  blk_simp; rw [(index_at t).2.2.2.2.2.2.2.2.1]; show 0 * 2048 + k.val = k.val; omega
theorem dp_end (c : Dev nD) : (dats m 0 c).arrAt 9 cfg0.N = gainGrad (dx m c) (m ((c : Thread nD τ).loc main_arg3)) := by
  refine (dats m 0 c).arrAt_eq_of_covers 9 _ (by decide +kernel) fun t hf y => ?_
  obtain ⟨z, k, rfl⟩ : ∃ (z : Fin 1) (k : Fin 2048), ix2 z k = y := ⟨y 0, y 1, ix2_eta y⟩
  obtain rfl : z = 0 := Subsingleton.elim _ _
  blk_simp
  rw [after0_9]
  refine ((gains_end m c t ((flush_at t).2 hf) k).2).trans (congrArg (gainGrad _ _) (at_ix2 (Subsingleton.elim (α := Fin 1) _ _) (Fin.ext ?_)).symm)
  blk_simp; rw [(index_at t).2.2.2.2.2.2.2.2.2]; show 0 * 2048 + k.val = k.val; omega

end Cert.Kernel13Ideal

namespace Cert.Reference13Ideal

open Read Cert.Products Cert.Norms

variable (b d x y : Rows) (g p : Gain)

/-- The second layer's norm is the first norm's again, -/
theorem dx_eq : val_main_v37 (F := Ideal) b d x g = inGrad b d x g := Cert.Reference12Ideal.dx_eq b d x g
theorem dg_eq : val_main_v76 (F := Ideal) d x = gainGrad d x := Cert.Reference12Ideal.dg_eq d x
/-- and so is the first layer's last norm, its cotangent what the former gives. -/
theorem dp_eq : val_main_v77 (F := Ideal) b d x y g = gainGrad (inGrad b d x g) y := by
  rw [← dx_eq]
  exact Cert.Reference12Ideal.dg_eq (val_main_v37 (F := Ideal) b d x g) y
theorem dy_eq : val_main_v75 (F := Ideal) b d x y g p = rowGrad (inGrad b d x g) y p := by
  rw [← dx_eq]
  exact Cert.Reference12Ideal.rows_eq (val_main_v37 (F := Ideal) b d x g) y p

end Cert.Reference13Ideal

namespace Cert.Proof13

open Cert.Reference13Ideal.Read

theorem frame_ri : Cert.quiescent_Reference13Ideal (hReference13Ideal := Cert.Reference13Ideal.Gen.facts) := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

theorem equal : Cert.algebraic_Kernel13Ideal_Reference13Ideal (hKernel13Ideal := Cert.Kernel13Ideal.Gen.facts) (hReference13Ideal := Cert.Reference13Ideal.Gen.facts) := by
  intro m g m' g' _ ha
  refine ⟨_, _, _, _, Cert.Kernel13Ideal.Value.run_blocks m g, ?_⟩
  refine (θ_run _ _ _).mono (fun r h c => ?_) (Cert.Reference13Ideal.Value.run (F := Ideal) m' g')
  obtain ⟨h0, h1, h2, h3, h4⟩ := h c
  obtain ⟨a0, a1, a2, a3, a4, a5⟩ := ha c
  refine ⟨h0.trans ((val_main_v37_eq (F := Ideal) _ _).trans ?_), h1.trans ((val_main_v75_eq (F := Ideal) _ _).trans ?_), h2.trans ((val_main_v76_eq (F := Ideal) _ _).trans ?_), h3.trans ((val_main_v77_eq (F := Ideal) _ _).trans ?_), h4⟩
  · rw [a0, a1, a2, a4, Cert.Kernel13Ideal.dx_end m c]
    exact Cert.Reference13Ideal.dx_eq _ _ _ _
  · rw [a0, a1, a2, a3, a4, a5, Cert.Kernel13Ideal.dy_end m c]
    exact Cert.Reference13Ideal.dy_eq _ _ _ _ _ _
  · rw [a1, a2, Cert.Kernel13Ideal.dg_end m c]
    exact Cert.Reference13Ideal.dg_eq _ _
  · rw [a0, a1, a2, a3, a4, Cert.Kernel13Ideal.dp_end m c]
    exact Cert.Reference13Ideal.dp_eq _ _ _ _ _

end Cert.Proof13

end
-- ==== Proof.LossHead.lean ====
/- The last norm and the loss: the loss, the gradient of the branch that passes the norm by, and the norm's own, which are
   `Proof.PreNormGrad`'s with the former as their cotangent. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.PreNormGrad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.LossHead

open Cert.Norms

theorem half_bits : Ideal.ofBits .f32 0x3F000000#32 = ((1 / 2 : ℝ) : EReal) := by simp [Ideal.ofBits, Ideal.ieee, -EReal.coe_mul]; norm_num
theorem one_bits : Ideal.ofBits .f32 0x3F800000#32 = ((1 : ℝ) : EReal) := by simp [Ideal.ofBits, Ideal.ieee, -EReal.coe_mul]; norm_num
theorem two_bits : Ideal.ofBits .f32 0x40000000#32 = ((2 : ℝ) : EReal) := by simp [Ideal.ofBits, Ideal.ieee, -EReal.coe_mul]; norm_num
theorem share_bits : Ideal.ofBits .f32 0x39800000#32 = ((1 / 4096 : ℝ) : EReal) := by simp [Ideal.ofBits, Ideal.ieee, -EReal.coe_mul]; norm_num
theorem mean_bits : Ideal.ofBits .f32 0x3A000000#32 = ((1 / 2048 : ℝ) : EReal) := by simp [Ideal.ofBits, Ideal.ieee, -EReal.coe_mul]; norm_num

/-- The error of one entry: the branch plus the norm, less the target, -/
def entry (x y e : Fin 2048 → EReal) (g : Fin 2048 → EReal) (k : Fin 2048) : EReal := x k + y k * scale y * g k - e k

variable (x y e : Rows) (g : Gain)

/-- of the array, -/
def error : Rows := fun j => entry (fun k => x (ix2 (j 0) k)) (fun k => y (ix2 (j 0) k)) (fun k => e (ix2 (j 0) k)) (fun k => g (ix2 0 k)) (j 1)
/-- the loss, half the sum of the rows' mean squares, -/
def loss : FVec Ideal ⟨2, ![1, 1]⟩ .f32 := fun _ =>
  ((∑ t : Fin 2048, ∑ k : Fin 2048, error x y e g (ix2 t k) * error x y e g (ix2 t k)) * ((1 / 4096 : ℝ) : EReal) : EReal)
/-- and its gradient. -/
def errorGrad : Rows := fun j => (error x y e g (ix2 (j 0) (j 1)) * ((1 / 2048 : ℝ) : EReal) : EReal)

/-- The sum over the rows, by the four blocks. -/
theorem four (f : Fin 2048 → EReal) : (∑ t, f t) = ∑ u, f (Cert.Products.column (R := 4) (n := 512) rfl 0 u) + ∑ u, f (Cert.Products.column (R := 4) (n := 512) rfl 1 u)
    + ∑ u, f (Cert.Products.column (R := 4) (n := 512) rfl 2 u) + ∑ u, f (Cert.Products.column (R := 4) (n := 512) rfl 3 u) := by
  rw [Cert.Products.sum_columns (R := 4) (n := 512) rfl, Fin.sum_univ_four]

theorem share (a b c d : EReal) (r : ℝ) (h : 0 ≤ r) : (a + b + c + d) * (r : EReal) = a * r + b * r + c * r + d * r := by
  have hd (x y : EReal) : (x + y) * (r : EReal) = x * r + y * r := EReal.right_distrib_of_nonneg_of_ne_top (EReal.coe_nonneg.mpr h) (EReal.coe_ne_top r) x y
  rw [hd, hd, hd]

end Cert.LossHead

namespace Cert.Kernel14Ideal

open Gen Cert.Products Cert.Norms Cert.LossHead

section Cases

variable (c : Dev nD) (i : grid0.Coords) (a1 : Memref sig .tc .vmem S512x2048 .f32) (h1 : a1.IsWhole) (a2 : Memref sig .tc .vmem S512x2048 .f32) (h2 : a2.IsWhole)
  (a3 : Memref sig .tc .vmem S1x2048 .f32) (h3 : a3.IsWhole) (a4 : Memref sig .tc .vmem S512x2048 .f32) (h4 : a4.IsWhole)
  (a5 : Memref sig .tc .vmem S1x1 .f32) (h5 : a5.IsWhole) (a6 : Memref sig .tc .vmem S512x2048 .f32) (h6 : a6.IsWhole)
  (a7 : Memref sig .tc .vmem S512x2048 .bf16) (h7 : a7.IsWhole) (a8 : Memref sig .tc .vmem S1x2048 .f32) (h8 : a8.IsWhole)
  (x y e : Vec Ideal S512x2048 .f32) (g s : Vec Ideal S1x2048 .f32) (l : Vec Ideal S1x1 .f32)

theorem first_loss (hc0 : cond0_0 i) (hc1 : ¬cond0_1 i) (hc2 : cond0_2 i) (hc3 : ¬cond0_3 i) :
    out0_A_4 (F := Ideal) c i a1 h1 a2 h2 a3 h3 a4 h4 a5 h5 a6 h6 a7 h7 a8 h8 hc0 hc1 hc2 hc3 x y g e = k0_pay7 y g x e := by
  unfold out0_A_4
  rw [View.read_writes_eq_canon _ _ _ (cover0_A_4 c i a1 h1 a2 h2 a3 h3 a4 h4 a5 h5 a6 h6 a7 h7 a8 h8 hc0 hc1 hc2 hc3 x y g e)]
  unfold kernelRun0_A
  dsimp only
  sl_unfold_run_names
  rw [View.canon_unit_zero zero2]
  simp only [View.readAt_eq_ld, h1.read_unread, h2.read_unread, h3.read_unread, h4.read_unread, View.ld_unit_zero (S := S512x2048) zero2, View.ld_unit_zero (S := S1x2048) zero2]
theorem first_dx (hc0 : cond0_0 i) (hc1 : ¬cond0_1 i) (hc2 : cond0_2 i) (hc3 : ¬cond0_3 i) :
    out0_A_5 (F := Ideal) c i a1 h1 a2 h2 a3 h3 a4 h4 a5 h5 a6 h6 a7 h7 a8 h8 hc0 hc1 hc2 hc3 x y g e = k0_pay9 y g x e := by
  unfold out0_A_5
  rw [View.read_writes_eq_canon _ _ _ (cover0_A_5 c i a1 h1 a2 h2 a3 h3 a4 h4 a5 h5 a6 h6 a7 h7 a8 h8 hc0 hc1 hc2 hc3 x y g e)]
  unfold kernelRun0_A
  dsimp only
  sl_unfold_run_names
  rw [View.canon_unit_zero zero2]
  simp only [View.readAt_eq_ld, h1.read_unread, h2.read_unread, h3.read_unread, h4.read_unread, View.ld_unit_zero (S := S512x2048) zero2, View.ld_unit_zero (S := S1x2048) zero2]
theorem first_dy (hc0 : cond0_0 i) (hc1 : ¬cond0_1 i) (hc2 : cond0_2 i) (hc3 : ¬cond0_3 i) :
    out0_A_6 (F := Ideal) c i a1 h1 a2 h2 a3 h3 a4 h4 a5 h5 a6 h6 a7 h7 a8 h8 hc0 hc1 hc2 hc3 x y g e = k0_pay4 y g (k0_pay9 y g x e) (k0_pay10 y) := by
  unfold out0_A_6
  rw [View.read_writes_eq_canon _ _ _ (cover0_A_6 c i a1 h1 a2 h2 a3 h3 a4 h4 a5 h5 a6 h6 a7 h7 a8 h8 hc0 hc1 hc2 hc3 x y g e)]
  unfold kernelRun0_A
  dsimp only
  sl_unfold_run_names
  rw [View.canon_unit_zero zero2]
  simp only [View.readAt_eq_ld, h1.read_unread, h2.read_unread, h3.read_unread, h4.read_unread, View.ld_unit_zero (S := S512x2048) zero2, View.ld_unit_zero (S := S1x2048) zero2]
theorem first_dg (hc0 : cond0_0 i) (hc1 : ¬cond0_1 i) (hc2 : cond0_2 i) (hc3 : ¬cond0_3 i) :
    out0_A_7 (F := Ideal) c i a1 h1 a2 h2 a3 h3 a4 h4 a5 h5 a6 h6 a7 h7 a8 h8 hc0 hc1 hc2 hc3 x y g e = k0_pay3 y (k0_pay9 y g x e) (k0_pay10 y) := by
  unfold out0_A_7
  rw [View.read_writes_eq_canon _ _ _ (cover0_A_7 c i a1 h1 a2 h2 a3 h3 a4 h4 a5 h5 a6 h6 a7 h7 a8 h8 hc0 hc1 hc2 hc3 x y g e)]
  unfold kernelRun0_A
  dsimp only
  sl_unfold_run_names
  rw [View.canon_unit_zero zero2]
  simp only [View.readAt_eq_ld, h1.read_unread, h2.read_unread, h3.read_unread, h4.read_unread, View.ld_unit_zero (S := S512x2048) zero2, View.ld_unit_zero (S := S1x2048) zero2]
theorem later_loss (hc0 : ¬cond0_0 i) (hc1 : cond0_1 i) (hc2 : ¬cond0_2 i) (hc3 : cond0_3 i) :
    out0_B_4 (F := Ideal) c i a1 h1 a2 h2 a3 h3 a4 h4 a5 h5 a6 h6 a7 h7 a8 h8 hc0 hc1 hc2 hc3 x y g e l s = k0_pay8 y g x e l := by
  unfold out0_B_4
  rw [View.read_writes_eq_canon _ _ _ (cover0_B_4 c i a1 h1 a2 h2 a3 h3 a4 h4 a5 h5 a6 h6 a7 h7 a8 h8 hc0 hc1 hc2 hc3 x y g e l s)]
  unfold kernelRun0_B
  dsimp only
  sl_unfold_run_names
  rw [View.canon_unit_zero zero2]
  simp only [View.readAt_eq_ld, h1.read_unread, h2.read_unread, h3.read_unread, h4.read_unread, h5.read_unread, View.ld_unit_zero (S := S512x2048) zero2, View.ld_unit_zero (S := S1x2048) zero2, View.ld_unit_zero (S := S1x1) zero2]
theorem later_dx (hc0 : ¬cond0_0 i) (hc1 : cond0_1 i) (hc2 : ¬cond0_2 i) (hc3 : cond0_3 i) :
    out0_B_5 (F := Ideal) c i a1 h1 a2 h2 a3 h3 a4 h4 a5 h5 a6 h6 a7 h7 a8 h8 hc0 hc1 hc2 hc3 x y g e l s = k0_pay9 y g x e := by
  unfold out0_B_5
  rw [View.read_writes_eq_canon _ _ _ (cover0_B_5 c i a1 h1 a2 h2 a3 h3 a4 h4 a5 h5 a6 h6 a7 h7 a8 h8 hc0 hc1 hc2 hc3 x y g e l s)]
  unfold kernelRun0_B
  dsimp only
  sl_unfold_run_names
  rw [View.canon_unit_zero zero2]
  simp only [View.readAt_eq_ld, h1.read_unread, h2.read_unread, h3.read_unread, h4.read_unread, View.ld_unit_zero (S := S512x2048) zero2, View.ld_unit_zero (S := S1x2048) zero2]
theorem later_dy (hc0 : ¬cond0_0 i) (hc1 : cond0_1 i) (hc2 : ¬cond0_2 i) (hc3 : cond0_3 i) :
    out0_B_6 (F := Ideal) c i a1 h1 a2 h2 a3 h3 a4 h4 a5 h5 a6 h6 a7 h7 a8 h8 hc0 hc1 hc2 hc3 x y g e l s = k0_pay4 y g (k0_pay9 y g x e) (k0_pay10 y) := by
  unfold out0_B_6
  rw [View.read_writes_eq_canon _ _ _ (cover0_B_6 c i a1 h1 a2 h2 a3 h3 a4 h4 a5 h5 a6 h6 a7 h7 a8 h8 hc0 hc1 hc2 hc3 x y g e l s)]
  unfold kernelRun0_B
  dsimp only
  sl_unfold_run_names
  rw [View.canon_unit_zero zero2]
  simp only [View.readAt_eq_ld, h1.read_unread, h2.read_unread, h3.read_unread, h4.read_unread, View.ld_unit_zero (S := S512x2048) zero2, View.ld_unit_zero (S := S1x2048) zero2]
theorem later_dg (hc0 : ¬cond0_0 i) (hc1 : cond0_1 i) (hc2 : ¬cond0_2 i) (hc3 : cond0_3 i) :
    out0_B_7 (F := Ideal) c i a1 h1 a2 h2 a3 h3 a4 h4 a5 h5 a6 h6 a7 h7 a8 h8 hc0 hc1 hc2 hc3 x y g e l s = k0_pay5 y (k0_pay9 y g x e) (k0_pay10 y) s := by
  unfold out0_B_7
  rw [View.read_writes_eq_canon _ _ _ (cover0_B_7 c i a1 h1 a2 h2 a3 h3 a4 h4 a5 h5 a6 h6 a7 h7 a8 h8 hc0 hc1 hc2 hc3 x y g e l s)]
  unfold kernelRun0_B
  dsimp only
  sl_unfold_run_names
  rw [View.canon_unit_zero zero2]
  simp only [View.readAt_eq_ld, h1.read_unread, h2.read_unread, h3.read_unread, h4.read_unread, h8.read_unread, View.ld_unit_zero (S := S512x2048) zero2, View.ld_unit_zero (S := S1x2048) zero2]

end Cases

/-- A block's errors, -/
theorem error_apply (x y e : Vec Ideal S512x2048 .f32) (g : Vec Ideal S1x2048 .f32) (u : Fin 512) (k : Fin 2048) :
    k0_pay6 (F := Ideal) y g x e (ix2 u k) = entry (fun k => x (ix2 u k)) (fun k => y (ix2 u k)) (fun k => e (ix2 u k)) (fun k => g (ix2 0 k)) k := by
  simp only [pointwise, k0_pay6]
  rfl
/-- its part of the loss, -/
theorem loss_apply (x y e : Vec Ideal S512x2048 .f32) (g : Vec Ideal S1x2048 .f32) :
    k0_pay7 (F := Ideal) y g x e (ix2 0 0)
      = ((∑ u : Fin 512, ∑ k : Fin 2048, k0_pay6 (F := Ideal) y g x e (ix2 u k) * k0_pay6 (F := Ideal) y g x e (ix2 u k)) * ((1 / 4096 : ℝ) : EReal) : EReal) := by
  rw [← share_bits]
  simp only [pointwise, k0_pay7]
/-- the loss's gradient, -/
theorem dx_apply (x y e : Vec Ideal S512x2048 .f32) (g : Vec Ideal S1x2048 .f32) (u : Fin 512) (k : Fin 2048) :
    k0_pay9 (F := Ideal) y g x e (ix2 u k) = (k0_pay6 (F := Ideal) y g x e (ix2 u k) * ((1 / 2048 : ℝ) : EReal) : EReal) := by
  rw [← mean_bits]
  rfl
/-- the norm's, -/
theorem dy_apply (y d : Vec Ideal S512x2048 .f32) (g : Vec Ideal S1x2048 .f32) (u : Fin 512) (l : Fin 2048) :
    k0_pay4 (F := Ideal) y g d (k0_pay10 y) (ix2 u l)
      = (grad (fun k => y (ix2 u k)) (fun k => d (ix2 u k) * g (ix2 0 k)) l : EReal) := by
  simp only [pointwise, k0_pay4, k0_pay2, k0_pay1, k0_pay10]
  rfl
/-- and its term of the gain's. -/
theorem dg_apply (y d : Vec Ideal S512x2048 .f32) (l : Fin 2048) :
    k0_pay3 (F := Ideal) y d (k0_pay10 y) (ix2 0 l) = (∑ u : Fin 512, d (ix2 u l) * (y (ix2 u l) * scale fun k => y (ix2 u k)) : EReal) :=
  Cert.Kernel12Ideal.dg_apply y d l

variable (m : (ℓ : Loc nD τ sig) → Buf (Elt Ideal) ℓ)

theorem count (t : Fin cfg0.N) : t.val < 4 := lt_of_lt_of_eq t.isLt N_0

/-- Every window's block index: point `t` takes 512 rows. -/
theorem index_at : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0]
    ∧ win0_7.index t = ![0, 0] := by decide +kernel

theorem flush_at : ∀ t : Fin cfg0.N, ((cfg0.win 4).flush t = true → t.val = 3) ∧ ((cfg0.win 7).flush t = true → t.val = 3) := by decide +kernel

/-- Row `u` of block `t`. -/
def row (t : Fin cfg0.N) (u : Fin 512) : Fin 2048 := ⟨512 * t.val + u.val, by have := count t; omega⟩

theorem row_eq {t : Fin cfg0.N} {r : Fin 4} (h : t.val = r.val) : row t = column rfl r :=
  funext fun u => Fin.ext (by show 512 * t.val + u.val = 512 * r.val + u.val; rw [h])

theorem block_x (c : Dev nD) (t : Fin cfg0.N) (u : Fin 512) (k : Fin 2048) :
    iblk m c 0 t (ix2 u k) = m ((c : Thread nD τ).loc main_arg0) (ix2 (row t u) k) := by
  rw [← V_main_arg0 m c]
  unfold row
  blk_ext [iblk, (index_at t).1]
theorem block_y (c : Dev nD) (t : Fin cfg0.N) (u : Fin 512) (k : Fin 2048) :
    iblk m c 1 t (ix2 u k) = m ((c : Thread nD τ).loc main_arg1) (ix2 (row t u) k) := by
  rw [← V_main_arg1 m c]
  unfold row
  blk_ext [iblk, (index_at t).2.1]
theorem block_g (c : Dev nD) (t : Fin cfg0.N) (k : Fin 2048) :
    iblk m c 2 t (ix2 0 k) = m ((c : Thread nD τ).loc main_arg2) (ix2 0 k) := by
  rw [← V_main_arg2 m c]
  blk_ext [iblk, (index_at t).2.2.1]
theorem block_e (c : Dev nD) (t : Fin cfg0.N) (u : Fin 512) (k : Fin 2048) :
    iblk m c 3 t (ix2 u k) = m ((c : Thread nD τ).loc main_arg3) (ix2 (row t u) k) := by
  rw [← V_main_arg3 m c]
  unfold row
  blk_ext [iblk, (index_at t).2.2.2.1]

/-- What a point computes of the loss's gradient, -/
abbrev dxBlock (c : Dev nD) (t : Fin cfg0.N) : Vec Ideal S512x2048 .f32 := k0_pay9 (iblk m c 1 t) (iblk m c 2 t) (iblk m c 0 t) (iblk m c 3 t)

/-- what it leaves of it, -/
theorem dx_at (c : Dev nD) (t : Fin cfg0.N) : (outsAt0 m c t.val t.isLt).2.1 = dxBlock m c t := by
  have ht := count t
  by_cases h : t.val = 0
  · rw [outsAt0_A m c t (by omega) (by omega) (by omega) (by omega)]
    dsimp only
    rw [first_dx]
  · rw [outsAt0_B m c t (by omega) (by omega) (by omega) (by omega)]
    dsimp only
    rw [later_dx]
/-- of the norm's, -/
theorem dy_at (c : Dev nD) (t : Fin cfg0.N) :
    (outsAt0 m c t.val t.isLt).2.2.1 = k0_pay4 (iblk m c 1 t) (iblk m c 2 t) (dxBlock m c t) (k0_pay10 (iblk m c 1 t)) := by
  have ht := count t
  by_cases h : t.val = 0
  · rw [outsAt0_A m c t (by omega) (by omega) (by omega) (by omega)]
    dsimp only
    rw [first_dy]
  · rw [outsAt0_B m c t (by omega) (by omega) (by omega) (by omega)]
    dsimp only
    rw [later_dy]
/-- and of the loss and the gain's: the first point, -/
theorem sums_first (c : Dev nD) (t : Fin cfg0.N) (h : t.val = 0) :
    (outsAt0 m c t.val t.isLt).1 = k0_pay7 (iblk m c 1 t) (iblk m c 2 t) (iblk m c 0 t) (iblk m c 3 t)
    ∧ (outsAt0 m c t.val t.isLt).2.2.2 = k0_pay3 (iblk m c 1 t) (dxBlock m c t) (k0_pay10 (iblk m c 1 t)) := by
  rw [outsAt0_A m c t (by omega) (by omega) (by omega) (by omega)]
  dsimp only
  rw [first_loss, first_dg]
  exact ⟨rfl, rfl⟩
/-- the others. -/
theorem sums_later (c : Dev nD) (t : Fin cfg0.N) (h : t.val ≠ 0) :
    (outsAt0 m c t.val t.isLt).1 = k0_pay8 (iblk m c 1 t) (iblk m c 2 t) (iblk m c 0 t) (iblk m c 3 t) (outsAt0 m c (t.val - 1) (Nat.lt_of_le_of_lt (Nat.sub_le _ _) t.isLt)).1
    ∧ (outsAt0 m c t.val t.isLt).2.2.2 = k0_pay5 (iblk m c 1 t) (dxBlock m c t) (k0_pay10 (iblk m c 1 t)) (outsAt0 m c (t.val - 1) (Nat.lt_of_le_of_lt (Nat.sub_le _ _) t.isLt)).2.2.2 := by
  have ht := count t
  rw [outsAt0_B m c t (by omega) (by omega) (by omega) (by omega)]
  dsimp only
  rw [later_loss, later_dg]
  exact ⟨rfl, rfl⟩

/-- The errors, -/
abbrev err (c : Dev nD) : Rows :=
  error (m ((c : Thread nD τ).loc main_arg0)) (m ((c : Thread nD τ).loc main_arg1)) (m ((c : Thread nD τ).loc main_arg3)) (m ((c : Thread nD τ).loc main_arg2))
/-- the loss's gradient, -/
abbrev dx (c : Dev nD) : Rows :=
  errorGrad (m ((c : Thread nD τ).loc main_arg0)) (m ((c : Thread nD τ).loc main_arg1)) (m ((c : Thread nD τ).loc main_arg3)) (m ((c : Thread nD τ).loc main_arg2))

/-- and blocks of them. -/
theorem err_block (c : Dev nD) (t : Fin cfg0.N) (u : Fin 512) (k : Fin 2048) :
    k0_pay6 (iblk m c 1 t) (iblk m c 2 t) (iblk m c 0 t) (iblk m c 3 t) (ix2 u k) = err m c (ix2 (row t u) k) := by
  refine (error_apply _ _ _ _ u k).trans ?_
  simp only [block_x, block_y, block_g, block_e]
  rfl
theorem dx_block (c : Dev nD) (t : Fin cfg0.N) (u : Fin 512) (k : Fin 2048) : dxBlock m c t (ix2 u k) = dx m c (ix2 (row t u) k) := by
  refine (dx_apply _ _ _ _ u k).trans ?_
  rw [err_block]
  rfl

theorem dx_end (c : Dev nD) : (dats m 0 c).arrAt 5 cfg0.N = dx m c := by
  refine (dats m 0 c).arrAt_eq_of_covers 5 _ (by decide +kernel) fun t _ y => ?_
  obtain ⟨u, k, rfl⟩ : ∃ (u : Fin 512) (k : Fin 2048), ix2 u k = y := ⟨y 0, y 1, ix2_eta y⟩
  blk_simp
  rw [after0_5, dx_at]
  refine (dx_block m c t u k).trans (congrArg (dx m c) (at_ix2 ?_ ?_).symm)
  · exact Fin.ext (by blk_simp; rw [(index_at t).2.2.2.2.2.1]; show t.val * 512 + u.val = 512 * t.val + u.val; omega)
  · exact Fin.ext (by blk_simp; rw [(index_at t).2.2.2.2.2.1]; show 0 * 2048 + k.val = k.val; omega)
theorem dy_end (c : Dev nD) : (dats m 0 c).arrAt 6 cfg0.N
    = rowGrad (dx m c) (m ((c : Thread nD τ).loc main_arg1)) (m ((c : Thread nD τ).loc main_arg2)) := by
  refine (dats m 0 c).arrAt_eq_of_covers 6 _ (by decide +kernel) fun t _ y => ?_
  obtain ⟨u, k, rfl⟩ : ∃ (u : Fin 512) (k : Fin 2048), ix2 u k = y := ⟨y 0, y 1, ix2_eta y⟩
  blk_simp
  rw [after0_6, dy_at]
  refine (dy_apply _ _ _ u k).trans (Eq.trans ?_ (congrArg (rowGrad _ _ _) (at_ix2 (t := row t u) (k := k) ?_ ?_).symm))
  · simp only [dx_block, block_y, block_g]
    rfl
  · exact Fin.ext (by blk_simp; rw [(index_at t).2.2.2.2.2.2.1]; show t.val * 512 + u.val = 512 * t.val + u.val; omega)
  · exact Fin.ext (by blk_simp; rw [(index_at t).2.2.2.2.2.2.1]; show 0 * 2048 + k.val = k.val; omega)

theorem loss_end (c : Dev nD) : (dats m 0 c).arrAt 4 cfg0.N
    = loss (m ((c : Thread nD τ).loc main_arg0)) (m ((c : Thread nD τ).loc main_arg1)) (m ((c : Thread nD τ).loc main_arg3)) (m ((c : Thread nD τ).loc main_arg2)) := by
  refine (dats m 0 c).arrAt_eq_of_covers 4 _ (by decide +kernel) fun t hf y => ?_
  obtain ⟨z, k, rfl⟩ : ∃ (z k : Fin 1), ix2 z k = y := ⟨y 0, y 1, ix2_eta y⟩
  obtain rfl : z = 0 := Subsingleton.elim _ _
  obtain rfl : k = 0 := Subsingleton.elim _ _
  blk_simp
  rw [after0_4]
  have h := (flush_at t).1 hf
  have hN : cfg0.N = 4 := N_0
  have e2 := (sums_later m c ⟨t.val - 1, by omega⟩ (by show t.val - 1 ≠ 0; omega)).1
  have e1 := (sums_later m c ⟨t.val - 1 - 1, by omega⟩ (by show t.val - 1 - 1 ≠ 0; omega)).1
  have e0 := (sums_first m c ⟨t.val - 1 - 1 - 1, by omega⟩ (by show t.val - 1 - 1 - 1 = 0; omega)).1
  dsimp only at e0 e1 e2
  rw [(sums_later m c t (by omega)).1, e2, e1, e0]
  unfold loss
  rw [four, share _ _ _ _ _ (by norm_num)]
  simp only [pointwise, k0_pay8, loss_apply, err_block]
  rw [row_eq (t := t) (r := 3) h, row_eq (t := ⟨t.val - 1, _⟩) (r := 2) (by show t.val - 1 = 2; omega), row_eq (t := ⟨t.val - 1 - 1, _⟩) (r := 1) (by show t.val - 1 - 1 = 1; omega), row_eq (t := ⟨t.val - 1 - 1 - 1, _⟩) (r := 0) (by show t.val - 1 - 1 - 1 = 0; omega)]
theorem dg_end (c : Dev nD) : (dats m 0 c).arrAt 7 cfg0.N = gainGrad (dx m c) (m ((c : Thread nD τ).loc main_arg1)) := by
  refine (dats m 0 c).arrAt_eq_of_covers 7 _ (by decide +kernel) fun t hf y => ?_
  obtain ⟨z, k, rfl⟩ : ∃ (z : Fin 1) (k : Fin 2048), ix2 z k = y := ⟨y 0, y 1, ix2_eta y⟩
  obtain rfl : z = 0 := Subsingleton.elim _ _
  blk_simp
  rw [after0_7]
  have h := (flush_at t).2 hf
  have hN : cfg0.N = 4 := N_0
  have e2 := (sums_later m c ⟨t.val - 1, by omega⟩ (by show t.val - 1 ≠ 0; omega)).2
  have e1 := (sums_later m c ⟨t.val - 1 - 1, by omega⟩ (by show t.val - 1 - 1 ≠ 0; omega)).2
  have e0 := (sums_first m c ⟨t.val - 1 - 1 - 1, by omega⟩ (by show t.val - 1 - 1 - 1 = 0; omega)).2
  dsimp only at e0 e1 e2
  rw [(sums_later m c t (by omega)).2, e2, e1, e0]
  have e : (win0_7.blk t).view.emb (ix2 (0 : Fin 1) k) 1 = k :=
    Fin.ext (by blk_simp; rw [(index_at t).2.2.2.2.2.2.2]; show 0 * 2048 + k.val = k.val; omega)
  show _ = gainGrad _ _ _
  unfold gainGrad
  rw [e, four]
  simp only [pointwise, k0_pay5, dg_apply, dx_block, block_y]
  rw [row_eq (t := t) (r := 3) h, row_eq (t := ⟨t.val - 1, _⟩) (r := 2) (by show t.val - 1 = 2; omega), row_eq (t := ⟨t.val - 1 - 1, _⟩) (r := 1) (by show t.val - 1 - 1 = 1; omega), row_eq (t := ⟨t.val - 1 - 1 - 1, _⟩) (r := 0) (by show t.val - 1 - 1 - 1 = 0; omega)]

end Cert.Kernel14Ideal

namespace Cert.Reference14Ideal

open Read Cert.Products Cert.Norms Cert.LossHead

variable (x y e : Rows) (g : Gain)

theorem error_eq (t k : Fin 2048) : val_main_v18 (F := Ideal) x y g e (ix2 t k) = error x y e g (ix2 t k) := by
  rw [val_main_v18_apply, val_main_v17_apply, val_main_v16_apply, val_main_v13_apply, val_main_v15_apply, val_main_v14_apply, val_main_v0_apply]
  rw [show val_main_v12 (F := Ideal) y (ix2 t k) = scale fun k => y (ix2 t k) from Cert.Reference12Ideal.root_at y t k]
  refine congrArg (fun j => (x (ix2 t k) + y (ix2 t k) * (scale fun k => y (ix2 t k)) * g j - e (ix2 t k) : EReal)) (at_ix2 rfl (Fin.ext (Nat.mod_eq_of_lt k.isLt)))
theorem dx_eq : val_main_v32 (F := Ideal) x y g e = errorGrad x y e g := by
  funext j
  obtain ⟨t, k, rfl⟩ : ∃ t k, ix2 t k = j := ⟨j 0, j 1, ix2_eta j⟩
  rw [val_main_v32_apply, val_main_v31_apply, val_main_v30_apply, val_main_v28_apply, val_main_v27_apply, val_main_v29_apply, val_main_v21_apply, val_main_v20_apply, error_eq]
  show Ideal.div (Ideal.ofBits .f32 0x3F000000#32 * Ideal.ofBits .f32 0x3F800000#32) len * (Ideal.ofBits .f32 0x40000000#32 * _) = _
  rw [half_bits, one_bits, two_bits, div_len, ← mul_assoc, ← EReal.coe_mul, ← EReal.coe_mul, ← EReal.coe_mul, mul_comm]
  refine congrArg (fun r : ℝ => (error x y e g (ix2 t k) * (r : EReal) : EReal)) (by norm_num)
theorem loss_eq : val_main_v53 (F := Ideal) x y g e = loss x y e g := by
  funext j
  refine Eq.trans (show _ = val_main_v26 (F := Ideal) x y g e _ from rfl) ?_
  rw [val_main_v26_apply, val_main_v25_apply, sum_idx1]
  have h (t : Fin 2048) : val_main_v24 (F := Ideal) x y g e (ix1 t) = ((∑ k : Fin 2048, error x y e g (ix2 t k) * error x y e g (ix2 t k)) * ((1 / 2048 : ℝ) : EReal) : EReal) := by
    rw [val_main_v24_apply, val_main_v22_apply, val_main_v23_apply]
    have i (k : Fin 2048) : idx_main_v22 (ix1 t) k = ix2 t k := at_ix2 rfl rfl
    simp only [i, val_main_v19_apply, error_eq]
    show Ideal.div (Ideal.ofBits .f32 0x00000000#32 + _) len = _
    rw [zero_bits, zero_add, div_len]
    rfl
  simp only [h]
  show Ideal.ofBits .f32 0x3F000000#32 * (Ideal.ofBits .f32 0x00000000#32 + _) = _
  rw [zero_bits, zero_add, half_bits, ← mul_sum _ _ _ (by norm_num), mul_comm, mul_assoc, ← EReal.coe_mul]
  unfold loss
  refine congrArg (fun r : ℝ => ((∑ t : Fin 2048, ∑ k : Fin 2048, error x y e g (ix2 t k) * error x y e g (ix2 t k)) * (r : EReal) : EReal)) (by norm_num)
/-- The norm's gradients are the first norm's again. -/
theorem dy_eq : val_main_v54 (F := Ideal) x y g e = rowGrad (errorGrad x y e g) y g := by
  rw [← dx_eq]
  exact Cert.Reference12Ideal.rows_eq (val_main_v32 (F := Ideal) x y g e) y g
theorem dg_eq : val_main_v55 (F := Ideal) x y g e = gainGrad (errorGrad x y e g) y := by
  rw [← dx_eq]
  exact Cert.Reference12Ideal.dg_eq (val_main_v32 (F := Ideal) x y g e) y

end Cert.Reference14Ideal

namespace Cert.Proof14

open Cert.Reference14Ideal.Read

theorem frame_ri : Cert.quiescent_Reference14Ideal (hReference14Ideal := Cert.Reference14Ideal.Gen.facts) := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

theorem equal : Cert.algebraic_Kernel14Ideal_Reference14Ideal (hKernel14Ideal := Cert.Kernel14Ideal.Gen.facts) (hReference14Ideal := Cert.Reference14Ideal.Gen.facts) := by
  intro m g m' g' _ ha
  refine ⟨_, _, _, _, Cert.Kernel14Ideal.Value.run_blocks m g, ?_⟩
  refine (θ_run _ _ _).mono (fun r h c => ?_) (Cert.Reference14Ideal.Value.run (F := Ideal) m' g')
  obtain ⟨h0, h1, h2, h3, h4⟩ := h c
  obtain ⟨a0, a1, a2, a3⟩ := ha c
  refine ⟨h0.trans ((val_main_v53_eq (F := Ideal) _ _ _ _).trans ?_), h1.trans ((val_main_v32_eq (F := Ideal) _ _ _ _).trans ?_), h2.trans ((val_main_v54_eq (F := Ideal) _ _).trans ?_), h3.trans ((val_main_v55_eq (F := Ideal) _ _ _ _).trans ?_), h4⟩
  · rw [a0, a1, a2, a3, Cert.Kernel14Ideal.loss_end m c]
    exact Cert.Reference14Ideal.loss_eq _ _ _ _
  · rw [a0, a1, a2, a3, Cert.Kernel14Ideal.dx_end m c]
    exact Cert.Reference14Ideal.dx_eq _ _ _ _
  · rw [a0, a1, a2, a3, Cert.Kernel14Ideal.dy_end m c]
    exact Cert.Reference14Ideal.dy_eq _ _ _ _
  · rw [a0, a1, a2, a3, Cert.Kernel14Ideal.dg_end m c]
    exact Cert.Reference14Ideal.dg_eq _ _ _ _

end Cert.Proof14

end
-- ==== Proof.AdamW.lean ====
/- The optimizer's update of one matrix entry, and of an array entry by entry. -/
module

public import Idealize.ShloMosaic.PureOps.Ideal
public import Idealize.ShloMosaic.PureOps.Ideal.Laws
public import Idealize.ShloMosaic.Lib.Pointwise

@[expose] public section

noncomputable section

namespace Cert.AdamW

open Idealize.ShloMosaic

/-- The first moment: nine tenths of the old one, one tenth of the gradient. -/
def first (g m : EReal) : EReal := Ideal.ofBits .f32 0x3F666666#32 * m + Ideal.ofBits .f32 0x3DCCCCCD#32 * g
/-- The second moment, of the gradient's square. -/
def second (g v : EReal) : EReal := Ideal.ofBits .f32 0x3F7FBE77#32 * v + Ideal.ofBits .f32 0x3A83126F#32 * (g * g)
/-- What is added to the weight: both moments freed of their bias, the root, and the weight's decay. -/
def step (w g m v : EReal) : EReal :=
  Ideal.ofBits .f32 0xBA83126F#32
    * (Ideal.div (Ideal.div (first g m) (Ideal.ofBits .f32 0x3F26BD02#32))
          (Ideal.sqrt (Ideal.div (second g v) (Ideal.ofBits .f32 0x3C231ACC#32)) + Ideal.ofBits .f32 0x322BCC77#32)
        + Ideal.ofBits .f32 0x3C23D70A#32 * w)

variable {S : Shape}

def firsts (g m : FVec Ideal S .f32) : FVec Ideal S .f32 := fun j => first (g j) (m j)
def seconds (g v : FVec Ideal S .f32) : FVec Ideal S .f32 := fun j => second (g j) (v j)
def steps (w g m v : FVec Ideal S .f32) : FVec Ideal S .f32 := fun j => step (w j) (g j) (m j) (v j)

end Cert.AdamW

end
-- ==== Proof.EInUpdate.lean ====
/- The optimizer's update of the even layers' input matrix. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Products
public import proofs.«01_k».proof.Proof.AdamW
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel15Ideal

open Gen Cert.Products Cert.AdamW

theorem firsts_eq (g m : Vec Ideal S128x3072 .f32) : k0_pay2 (F := Ideal) g m = firsts g m := rfl
theorem seconds_eq (g v : Vec Ideal S128x3072 .f32) : k0_pay3 (F := Ideal) g v = seconds g v := rfl
theorem steps_eq (w g m v : Vec Ideal S128x3072 .f32) : k0_pay1 (F := Ideal) (k0_pay4 g m v w) k0_pay5 = steps w g m v := rfl

variable (m : (ℓ : Loc nD τ sig) → Buf (Elt Ideal) ℓ) (c : Dev nD)

theorem grads_end : (dats m 0 c).arrAt 4 cfg0.N = m ((c : Thread nD τ).loc main_arg1) := by
  refine (dats m 0 c).arrAt_eq_of_covers 4 _ (by decide +kernel) fun t _ y => ?_
  blk_simp
  rw [after0_4, out0_4, View.canon_unit_zero zero2, View.ld_unit_zero (S := S128x3072) zero2, ← V_main_arg1 m c]
  rfl
theorem steps_end : (dats m 0 c).arrAt 5 cfg0.N = steps (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out0_5, View.canon_unit_zero zero2]
  simp only [View.ld_unit_zero (S := S128x3072) zero2]
  rw [steps_eq, ← V_main_arg0 m c, ← V_main_arg1 m c, ← V_main_arg2 m c, ← V_main_arg3 m c]
  rfl
theorem firsts_end : (dats m 0 c).arrAt 6 cfg0.N = firsts (m ((c : Thread nD τ).loc main_arg1)) (m ((c : Thread nD τ).loc main_arg2)) := by
  refine (dats m 0 c).arrAt_eq_of_covers 6 _ (by decide +kernel) fun t _ y => ?_
  blk_simp
  rw [after0_6, out0_6, View.canon_unit_zero zero2]
  simp only [View.ld_unit_zero (S := S128x3072) zero2]
  rw [firsts_eq, ← V_main_arg1 m c, ← V_main_arg2 m c]
  rfl
theorem seconds_end : (dats m 0 c).arrAt 7 cfg0.N = seconds (m ((c : Thread nD τ).loc main_arg1)) (m ((c : Thread nD τ).loc main_arg3)) := by
  refine (dats m 0 c).arrAt_eq_of_covers 7 _ (by decide +kernel) fun t _ y => ?_
  blk_simp
  rw [after0_7, out0_7, View.canon_unit_zero zero2]
  simp only [View.ld_unit_zero (S := S128x3072) zero2]
  rw [seconds_eq, ← V_main_arg1 m c, ← V_main_arg3 m c]
  rfl

end Cert.Kernel15Ideal

namespace Cert.Proof15

open Cert.Reference15Ideal.Read

theorem frame_ri : Cert.quiescent_Reference15Ideal (hReference15Ideal := Cert.Reference15Ideal.Gen.facts) := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

theorem equal : Cert.algebraic_Kernel15Ideal_Reference15Ideal (hKernel15Ideal := Cert.Kernel15Ideal.Gen.facts) (hReference15Ideal := Cert.Reference15Ideal.Gen.facts) := by
  intro m g m' g' _ ha
  refine ⟨_, _, _, _, Cert.Kernel15Ideal.Value.run_blocks m g, ?_⟩
  refine (θ_run _ _ _).mono (fun r h c => ?_) (Cert.Reference15Ideal.Value.run (F := Ideal) m' g')
  obtain ⟨h0, h1, h2, h3, h4⟩ := h c
  obtain ⟨a0, a1, a2, a3⟩ := ha c
  refine ⟨h0.trans ?_, h1.trans ((val_main_v23_eq (F := Ideal) _ _ _ _).trans ?_), h2.trans ((val_main_v4_eq (F := Ideal) _ _).trans ?_), h3.trans ((val_main_v10_eq (F := Ideal) _ _).trans ?_), h4⟩
  · rw [a1, Cert.Kernel15Ideal.grads_end m c]
  · rw [a0, a1, a2, a3, Cert.Kernel15Ideal.steps_end m c]
    funext j
    rfl
  · rw [a1, a2, Cert.Kernel15Ideal.firsts_end m c]
    funext j
    rfl
  · rw [a1, a3, Cert.Kernel15Ideal.seconds_end m c]
    funext j
    rfl

end Cert.Proof15

end
-- ==== Proof.OInUpdate.lean ====
/- The optimizer's update of the odd layers' input matrix. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Products
public import proofs.«01_k».proof.Proof.AdamW
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel16Ideal

open Gen Cert.Products Cert.AdamW

theorem firsts_eq (g m : Vec Ideal S128x1536 .f32) : k0_pay2 (F := Ideal) g m = firsts g m := rfl
theorem seconds_eq (g v : Vec Ideal S128x1536 .f32) : k0_pay3 (F := Ideal) g v = seconds g v := rfl
theorem steps_eq (w g m v : Vec Ideal S128x1536 .f32) : k0_pay1 (F := Ideal) (k0_pay4 g m v w) k0_pay5 = steps w g m v := rfl

variable (m : (ℓ : Loc nD τ sig) → Buf (Elt Ideal) ℓ) (c : Dev nD)

theorem grads_end : (dats m 0 c).arrAt 4 cfg0.N = m ((c : Thread nD τ).loc main_arg1) := by
  refine (dats m 0 c).arrAt_eq_of_covers 4 _ (by decide +kernel) fun t _ y => ?_
  blk_simp
  rw [after0_4, out0_4, View.canon_unit_zero zero2, View.ld_unit_zero (S := S128x1536) zero2, ← V_main_arg1 m c]
  rfl
theorem steps_end : (dats m 0 c).arrAt 5 cfg0.N = steps (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out0_5, View.canon_unit_zero zero2]
  simp only [View.ld_unit_zero (S := S128x1536) zero2]
  rw [steps_eq, ← V_main_arg0 m c, ← V_main_arg1 m c, ← V_main_arg2 m c, ← V_main_arg3 m c]
  rfl
theorem firsts_end : (dats m 0 c).arrAt 6 cfg0.N = firsts (m ((c : Thread nD τ).loc main_arg1)) (m ((c : Thread nD τ).loc main_arg2)) := by
  refine (dats m 0 c).arrAt_eq_of_covers 6 _ (by decide +kernel) fun t _ y => ?_
  blk_simp
  rw [after0_6, out0_6, View.canon_unit_zero zero2]
  simp only [View.ld_unit_zero (S := S128x1536) zero2]
  rw [firsts_eq, ← V_main_arg1 m c, ← V_main_arg2 m c]
  rfl
theorem seconds_end : (dats m 0 c).arrAt 7 cfg0.N = seconds (m ((c : Thread nD τ).loc main_arg1)) (m ((c : Thread nD τ).loc main_arg3)) := by
  refine (dats m 0 c).arrAt_eq_of_covers 7 _ (by decide +kernel) fun t _ y => ?_
  blk_simp
  rw [after0_7, out0_7, View.canon_unit_zero zero2]
  simp only [View.ld_unit_zero (S := S128x1536) zero2]
  rw [seconds_eq, ← V_main_arg1 m c, ← V_main_arg3 m c]
  rfl

end Cert.Kernel16Ideal

namespace Cert.Proof16

open Cert.Reference16Ideal.Read

theorem frame_ri : Cert.quiescent_Reference16Ideal (hReference16Ideal := Cert.Reference16Ideal.Gen.facts) := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

theorem equal : Cert.algebraic_Kernel16Ideal_Reference16Ideal (hKernel16Ideal := Cert.Kernel16Ideal.Gen.facts) (hReference16Ideal := Cert.Reference16Ideal.Gen.facts) := by
  intro m g m' g' _ ha
  refine ⟨_, _, _, _, Cert.Kernel16Ideal.Value.run_blocks m g, ?_⟩
  refine (θ_run _ _ _).mono (fun r h c => ?_) (Cert.Reference16Ideal.Value.run (F := Ideal) m' g')
  obtain ⟨h0, h1, h2, h3, h4⟩ := h c
  obtain ⟨a0, a1, a2, a3⟩ := ha c
  refine ⟨h0.trans ?_, h1.trans ((val_main_v23_eq (F := Ideal) _ _ _ _).trans ?_), h2.trans ((val_main_v4_eq (F := Ideal) _ _).trans ?_), h3.trans ((val_main_v10_eq (F := Ideal) _ _).trans ?_), h4⟩
  · rw [a1, Cert.Kernel16Ideal.grads_end m c]
  · rw [a0, a1, a2, a3, Cert.Kernel16Ideal.steps_end m c]
    funext j
    rfl
  · rw [a1, a2, Cert.Kernel16Ideal.firsts_end m c]
    funext j
    rfl
  · rw [a1, a3, Cert.Kernel16Ideal.seconds_end m c]
    funext j
    rfl

end Cert.Proof16

end
-- ==== Proof.OutUpdate.lean ====
/- The optimizer's update of an output matrix, the even layers' or the odd layers'. -/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Products
public import proofs.«01_k».proof.Proof.AdamW
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel17Ideal

open Gen Cert.Products Cert.AdamW

theorem firsts_eq (g m : Vec Ideal S128x2048 .f32) : k0_pay2 (F := Ideal) g m = firsts g m := rfl
theorem seconds_eq (g v : Vec Ideal S128x2048 .f32) : k0_pay3 (F := Ideal) g v = seconds g v := rfl
theorem steps_eq (w g m v : Vec Ideal S128x2048 .f32) : k0_pay1 (F := Ideal) (k0_pay4 g m v w) k0_pay5 = steps w g m v := rfl

variable (m : (ℓ : Loc nD τ sig) → Buf (Elt Ideal) ℓ) (c : Dev nD)

theorem grads_end : (dats m 0 c).arrAt 4 cfg0.N = m ((c : Thread nD τ).loc main_arg1) := by
  refine (dats m 0 c).arrAt_eq_of_covers 4 _ (by decide +kernel) fun t _ y => ?_
  blk_simp
  rw [after0_4, out0_4, View.canon_unit_zero zero2, View.ld_unit_zero (S := S128x2048) zero2, ← V_main_arg1 m c]
  rfl
theorem steps_end : (dats m 0 c).arrAt 5 cfg0.N = steps (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out0_5, View.canon_unit_zero zero2]
  simp only [View.ld_unit_zero (S := S128x2048) zero2]
  rw [steps_eq, ← V_main_arg0 m c, ← V_main_arg1 m c, ← V_main_arg2 m c, ← V_main_arg3 m c]
  rfl
theorem firsts_end : (dats m 0 c).arrAt 6 cfg0.N = firsts (m ((c : Thread nD τ).loc main_arg1)) (m ((c : Thread nD τ).loc main_arg2)) := by
  refine (dats m 0 c).arrAt_eq_of_covers 6 _ (by decide +kernel) fun t _ y => ?_
  blk_simp
  rw [after0_6, out0_6, View.canon_unit_zero zero2]
  simp only [View.ld_unit_zero (S := S128x2048) zero2]
  rw [firsts_eq, ← V_main_arg1 m c, ← V_main_arg2 m c]
  rfl
theorem seconds_end : (dats m 0 c).arrAt 7 cfg0.N = seconds (m ((c : Thread nD τ).loc main_arg1)) (m ((c : Thread nD τ).loc main_arg3)) := by
  refine (dats m 0 c).arrAt_eq_of_covers 7 _ (by decide +kernel) fun t _ y => ?_
  blk_simp
  rw [after0_7, out0_7, View.canon_unit_zero zero2]
  simp only [View.ld_unit_zero (S := S128x2048) zero2]
  rw [seconds_eq, ← V_main_arg1 m c, ← V_main_arg3 m c]
  rfl

end Cert.Kernel17Ideal

namespace Cert.Proof17

open Cert.Reference17Ideal.Read

theorem frame_ri : Cert.quiescent_Reference17Ideal (hReference17Ideal := Cert.Reference17Ideal.Gen.facts) := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

theorem equal : Cert.algebraic_Kernel17Ideal_Reference17Ideal (hKernel17Ideal := Cert.Kernel17Ideal.Gen.facts) (hReference17Ideal := Cert.Reference17Ideal.Gen.facts) := by
  intro m g m' g' _ ha
  refine ⟨_, _, _, _, Cert.Kernel17Ideal.Value.run_blocks m g, ?_⟩
  refine (θ_run _ _ _).mono (fun r h c => ?_) (Cert.Reference17Ideal.Value.run (F := Ideal) m' g')
  obtain ⟨h0, h1, h2, h3, h4⟩ := h c
  obtain ⟨a0, a1, a2, a3⟩ := ha c
  refine ⟨h0.trans ?_, h1.trans ((val_main_v23_eq (F := Ideal) _ _ _ _).trans ?_), h2.trans ((val_main_v4_eq (F := Ideal) _ _).trans ?_), h3.trans ((val_main_v10_eq (F := Ideal) _ _).trans ?_), h4⟩
  · rw [a1, Cert.Kernel17Ideal.grads_end m c]
  · rw [a0, a1, a2, a3, Cert.Kernel17Ideal.steps_end m c]
    funext j
    rfl
  · rw [a1, a2, Cert.Kernel17Ideal.firsts_end m c]
    funext j
    rfl
  · rw [a1, a3, Cert.Kernel17Ideal.seconds_end m c]
    funext j
    rfl

end Cert.Proof17

end
-- ==== Proof.PreNorm.lean ====
/- The norm before the even branch: every row over the root of its mean square, times the gain. -/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Norms
public import proofs.«01_k».proof.Proof.Products
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Norms

/-- A row's norm, -/
def normed (x g : Fin 2048 → EReal) (k : Fin 2048) : EReal := x k * scale x * g k
/-- that of an array, by rows, -/
def rows (x : Rows) (g : Gain) : FVec Ideal ⟨2, ![2048, 2048]⟩ .bf16 := fun j =>
  (normed (fun k => x (ix2 (j 0) k)) (fun k => g (ix2 0 k)) (j 1) : EReal)
/-- and added to another. -/
def added (b x : Rows) (g : Gain) : Rows := fun j =>
  (b (ix2 (j 0) (j 1)) + normed (fun k => x (ix2 (j 0) k)) (fun k => g (ix2 0 k)) (j 1) : EReal)

end Cert.Norms

namespace Cert.Kernel18Ideal

open Gen Cert.Products Cert.Norms

theorem norm_apply (x : Vec Ideal S512x2048 .f32) (g : Vec Ideal S1x2048 .f32) (u : Fin 512) (l : Fin 2048) :
    k0_pay1 (F := Ideal) x g (ix2 u l) = (normed (fun k => x (ix2 u k)) (fun k => g (ix2 0 k)) l : EReal) := by
  simp only [pointwise, k0_pay1]
  rfl

theorem out_eq (x : Vec Ideal S512x2048 .f32) (g : Vec Ideal S1x2048 .f32) : out0_2 (F := Ideal) x g = k0_pay1 x g := by
  unfold out0_2
  rw [View.canon_unit_zero zero2, View.ld_unit_zero (S := S512x2048) zero2, View.ld_unit_zero (S := S1x2048) zero2]

variable (m : (ℓ : Loc nD τ sig) → Buf (Elt Ideal) ℓ)

theorem count (t : Fin cfg0.N) : t.val < 4 := lt_of_lt_of_eq t.isLt N_0

/-- Every window's block index: point `t` takes 512 rows. -/
theorem index_at : ∀ t : Fin cfg0.N, win0_0.index t = ![t.val, 0] ∧ win0_1.index t = ![0, 0] ∧ win0_2.index t = ![t.val, 0] := by decide +kernel

/-- Row `u` of block `t`. -/
def row (t : Fin cfg0.N) (u : Fin 512) : Fin 2048 := ⟨512 * t.val + u.val, by have := count t; omega⟩

theorem block_x (c : Dev nD) (t : Fin cfg0.N) (u : Fin 512) (k : Fin 2048) :
    iblk m c 0 t (ix2 u k) = m ((c : Thread nD τ).loc main_arg0) (ix2 (row t u) k) := by
  rw [← V_main_arg0 m c]
  unfold row
  blk_ext [iblk, (index_at t).1]
theorem block_g (c : Dev nD) (t : Fin cfg0.N) (k : Fin 2048) :
    iblk m c 1 t (ix2 0 k) = m ((c : Thread nD τ).loc main_arg1) (ix2 0 k) := by
  rw [← V_main_arg1 m c]
  blk_ext [iblk, (index_at t).2.1]

theorem norm_end (c : Dev nD) : (dats m 0 c).arrAt 2 cfg0.N
    = rows (m ((c : Thread nD τ).loc main_arg0)) (m ((c : Thread nD τ).loc main_arg1)) := by
  refine (dats m 0 c).arrAt_eq_of_covers 2 _ (by decide +kernel) fun t _ y => ?_
  obtain ⟨u, k, rfl⟩ : ∃ (u : Fin 512) (k : Fin 2048), ix2 u k = y := ⟨y 0, y 1, ix2_eta y⟩
  blk_simp
  rw [after0_2, out_eq]
  refine (norm_apply _ _ u k).trans (Eq.trans ?_ (congrArg (rows _ _) (at_ix2 (t := row t u) (k := k) ?_ ?_).symm))
  · simp only [block_x, block_g]
    rfl
  · exact Fin.ext (by blk_simp; rw [(index_at t).2.2]; show t.val * 512 + u.val = 512 * t.val + u.val; omega)
  · exact Fin.ext (by blk_simp; rw [(index_at t).2.2]; show 0 * 2048 + k.val = k.val; omega)

end Cert.Kernel18Ideal

namespace Cert.Reference18Ideal

open Read Cert.Norms

variable (x : Rows) (g : Gain)

theorem scale_at (t k : Fin 2048) : val_main_v9 (F := Ideal) x (ix2 t k) = scale fun k => x (ix2 t k) := by
  rw [val_main_v9_apply, val_main_v8_apply, val_main_v7_apply, val_main_v5_apply, val_main_v3_apply, val_main_v2_apply, val_main_v4_apply, val_main_v6_apply]
  have i (l : Fin 2048) : idx_main_v2 (idx_main_v3 (idx_main_v9 (ix2 t k))) l = ix2 t l := at_ix2 rfl rfl
  simp only [i]
  show Ideal.rsqrt (Ideal.div (Ideal.ofBits .f32 0x00000000#32 + _) len + eps) = _
  rw [zero_bits, zero_add]
  rfl
theorem norm_at (t k : Fin 2048) : val_main_v13 (F := Ideal) x g (ix2 t k) = normed (fun k => x (ix2 t k)) (fun k => g (ix2 0 k)) k := by
  rw [val_main_v13_apply, val_main_v10_apply, val_main_v12_apply, val_main_v11_apply, val_main_v0_apply, scale_at]
  exact congrArg (fun j => (x (ix2 t k) * (scale fun k => x (ix2 t k)) * g j : EReal)) (at_ix2 rfl (Fin.ext (Nat.mod_eq_of_lt k.isLt)))
theorem norm_eq : val_main_v14 (F := Ideal) x g = rows x g := by
  funext j
  obtain ⟨t, k, rfl⟩ : ∃ t k, ix2 t k = j := ⟨j 0, j 1, ix2_eta j⟩
  rw [val_main_v14_apply]
  exact norm_at x g t k

end Cert.Reference18Ideal

namespace Cert.Proof18

open Cert.Reference18Ideal.Read

theorem frame_ri : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)

theorem equal : Cert.algebraic_Kernel18Ideal_Reference18Ideal (hKernel18Ideal := Cert.Kernel18Ideal.Gen.facts) (hReference18Ideal := Cert.Reference18Ideal.Gen.facts) := by
  intro m g m' g' _ ha
  refine ⟨_, Cert.Kernel18Ideal.Value.run_blocks m g, ?_⟩
  refine (θ_run _ _ _).mono (fun r h c => ?_) (Cert.Reference18Ideal.Value.run (F := Ideal) m' g')
  obtain ⟨h0, h1⟩ := h c
  obtain ⟨a0, a1⟩ := ha c
  refine ⟨h0.trans ((val_main_v14_eq (F := Ideal) _ _).trans ?_), h1⟩
  rw [a0, a1, Cert.Kernel18Ideal.norm_end m c]
  exact Cert.Reference18Ideal.norm_eq _ _

end Cert.Proof18

end
-- ==== Proof.MidNorm.lean ====
/- The two norms between the branches: that of the even branch's output, added to what passes it by, and that of the sum. -/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.PreNorm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel19Ideal

open Gen Cert.Products Cert.Norms

theorem added_apply (b y : Vec Ideal S512x2048 .f32) (g : Vec Ideal S1x2048 .f32) (u : Fin 512) (l : Fin 2048) :
    k0_pay1 (F := Ideal) b y g (ix2 u l) = (b (ix2 u l) + normed (fun k => y (ix2 u k)) (fun k => g (ix2 0 k)) l : EReal) := by
  simp only [pointwise, k0_pay1]
  rfl
/-- The second norm is the first call's, of the sum. -/
theorem norm_apply (b y : Vec Ideal S512x2048 .f32) (g g' : Vec Ideal S1x2048 .f32) (u : Fin 512) (l : Fin 2048) :
    k0_pay2 (F := Ideal) b y g g' (ix2 u l) = (normed (fun k => k0_pay1 (F := Ideal) b y g (ix2 u k)) (fun k => g' (ix2 0 k)) l : EReal) :=
  Cert.Kernel18Ideal.norm_apply (k0_pay1 b y g) g' u l

theorem out_sum (b y : Vec Ideal S512x2048 .f32) (g g' : Vec Ideal S1x2048 .f32) : out0_4 (F := Ideal) b y g g' = k0_pay1 b y g := by
  unfold out0_4
  rw [View.canon_unit_zero zero2]
  simp only [View.ld_unit_zero (S := S512x2048) zero2, View.ld_unit_zero (S := S1x2048) zero2]
theorem out_norm (b y : Vec Ideal S512x2048 .f32) (g g' : Vec Ideal S1x2048 .f32) : out0_5 (F := Ideal) b y g g' = k0_pay2 b y g g' := by
  unfold out0_5
  rw [View.canon_unit_zero zero2]
  simp only [View.ld_unit_zero (S := S512x2048) zero2, View.ld_unit_zero (S := S1x2048) zero2]

variable (m : (ℓ : Loc nD τ sig) → Buf (Elt Ideal) ℓ)

theorem count (t : Fin cfg0.N) : t.val < 4 := lt_of_lt_of_eq t.isLt N_0

/-- Every window's block index: point `t` takes 512 rows. -/
theorem index_at : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] := by decide +kernel

/-- Row `u` of block `t`. -/
def row (t : Fin cfg0.N) (u : Fin 512) : Fin 2048 := ⟨512 * t.val + u.val, by have := count t; omega⟩

theorem block_x (c : Dev nD) (t : Fin cfg0.N) (u : Fin 512) (k : Fin 2048) :
    iblk m c 0 t (ix2 u k) = m ((c : Thread nD τ).loc main_arg0) (ix2 (row t u) k) := by
  rw [← V_main_arg0 m c]
  unfold row
  blk_ext [iblk, (index_at t).1]
theorem block_y (c : Dev nD) (t : Fin cfg0.N) (u : Fin 512) (k : Fin 2048) :
    iblk m c 1 t (ix2 u k) = m ((c : Thread nD τ).loc main_arg1) (ix2 (row t u) k) := by
  rw [← V_main_arg1 m c]
  unfold row
  blk_ext [iblk, (index_at t).2.1]
theorem block_post (c : Dev nD) (t : Fin cfg0.N) (k : Fin 2048) :
    iblk m c 2 t (ix2 0 k) = m ((c : Thread nD τ).loc main_arg2) (ix2 0 k) := by
  rw [← V_main_arg2 m c]
  blk_ext [iblk, (index_at t).2.2.1]
theorem block_pre (c : Dev nD) (t : Fin cfg0.N) (k : Fin 2048) :
    iblk m c 3 t (ix2 0 k) = m ((c : Thread nD τ).loc main_arg3) (ix2 0 k) := by
  rw [← V_main_arg3 m c]
  blk_ext [iblk, (index_at t).2.2.2.1]

/-- The sum, -/
abbrev total (c : Dev nD) : Rows :=
  added (m ((c : Thread nD τ).loc main_arg0)) (m ((c : Thread nD τ).loc main_arg1)) (m ((c : Thread nD τ).loc main_arg2))

/-- and a block of it. -/
theorem total_block (c : Dev nD) (t : Fin cfg0.N) (u : Fin 512) (k : Fin 2048) :
    k0_pay1 (F := Ideal) (iblk m c 0 t) (iblk m c 1 t) (iblk m c 2 t) (ix2 u k) = total m c (ix2 (row t u) k) := by
  refine (added_apply _ _ _ u k).trans ?_
  simp only [block_x, block_y, block_post]
  rfl

theorem total_end (c : Dev nD) : (dats m 0 c).arrAt 4 cfg0.N = total m c := by
  refine (dats m 0 c).arrAt_eq_of_covers 4 _ (by decide +kernel) fun t _ y => ?_
  obtain ⟨u, k, rfl⟩ : ∃ (u : Fin 512) (k : Fin 2048), ix2 u k = y := ⟨y 0, y 1, ix2_eta y⟩
  blk_simp
  rw [after0_4, out_sum]
  refine (total_block m c t u k).trans (congrArg (total m c) (at_ix2 ?_ ?_).symm)
  · exact Fin.ext (by blk_simp; rw [(index_at t).2.2.2.2.1]; show t.val * 512 + u.val = 512 * t.val + u.val; omega)
  · exact Fin.ext (by blk_simp; rw [(index_at t).2.2.2.2.1]; show 0 * 2048 + k.val = k.val; omega)
theorem norm_end (c : Dev nD) : (dats m 0 c).arrAt 5 cfg0.N = rows (total m c) (m ((c : Thread nD τ).loc main_arg3)) := by
  refine (dats m 0 c).arrAt_eq_of_covers 5 _ (by decide +kernel) fun t _ y => ?_
  obtain ⟨u, k, rfl⟩ : ∃ (u : Fin 512) (k : Fin 2048), ix2 u k = y := ⟨y 0, y 1, ix2_eta y⟩
  blk_simp
  rw [after0_5, out_norm]
  refine (norm_apply _ _ _ _ u k).trans (Eq.trans ?_ (congrArg (rows _ _) (at_ix2 (t := row t u) (k := k) ?_ ?_).symm))
  · simp only [total_block, block_pre]
    rfl
  · exact Fin.ext (by blk_simp; rw [(index_at t).2.2.2.2.2]; show t.val * 512 + u.val = 512 * t.val + u.val; omega)
  · exact Fin.ext (by blk_simp; rw [(index_at t).2.2.2.2.2]; show 0 * 2048 + k.val = k.val; omega)

end Cert.Kernel19Ideal

namespace Cert.Reference19Ideal

open Read Cert.Norms

variable (x y : Rows) (g g' : Gain)

theorem total_eq : val_main_v14 (F := Ideal) x y g = added x y g := by
  funext j
  obtain ⟨t, k, rfl⟩ : ∃ t k, ix2 t k = j := ⟨j 0, j 1, ix2_eta j⟩
  rw [val_main_v14_apply]
  rw [show val_main_v13 (F := Ideal) y g (ix2 t k) = _ from Cert.Reference18Ideal.norm_at y g t k]
  rfl
theorem norm_eq : val_main_v29 (F := Ideal) x y g g' = rows (added x y g) g' := by
  rw [← total_eq]
  exact Cert.Reference18Ideal.norm_eq (val_main_v14 (F := Ideal) x y g) g'

end Cert.Reference19Ideal

namespace Cert.Proof19

open Cert.Reference19Ideal.Read

theorem frame_ri : Cert.quiescent_Reference19Ideal (hReference19Ideal := Cert.Reference19Ideal.Gen.facts) := fun m ρ _ =>
  (θ_run Cert.Reference19Ideal.defs _ _).mono (fun r h => ⟨fun c => (h c).2.2, sem_eq_zero_of_no_sems (by decide) r.2⟩)
    (Cert.Reference19Ideal.Value.run (F := Ideal) m ρ)

theorem equal : Cert.algebraic_Kernel19Ideal_Reference19Ideal (hKernel19Ideal := Cert.Kernel19Ideal.Gen.facts) (hReference19Ideal := Cert.Reference19Ideal.Gen.facts) := by
  intro m g m' g' _ ha
  refine ⟨_, _, Cert.Kernel19Ideal.Value.run_blocks m g, ?_⟩
  refine (θ_run _ _ _).mono (fun r h c => ?_) (Cert.Reference19Ideal.Value.run (F := Ideal) m' g')
  obtain ⟨h0, h1, h2⟩ := h c
  obtain ⟨a0, a1, a2, a3⟩ := ha c
  refine ⟨h0.trans ((val_main_v14_eq (F := Ideal) _ _ _).trans ?_), h1.trans ((val_main_v29_eq (F := Ideal) _ _ _ _).trans ?_), h2⟩
  · rw [a0, a1, a2, Cert.Kernel19Ideal.total_end m c]
    exact Cert.Reference19Ideal.total_eq _ _ _
  · rw [a0, a1, a2, a3, Cert.Kernel19Ideal.norm_end m c]
    exact Cert.Reference19Ideal.norm_eq _ _ _ _

end Cert.Proof19

end
-- ==== Proof.OddBranch.lean ====
/- The odd branch's gating unit and the norm after its convolution: layer norms of rows, the chunks' mixing and the gates. -/
module

public import proofs.«01_k».proof.Defs
public import proofs.«01_k».proof.Proof.Gen.Kernel20Ideal.Frame
public import proofs.«01_k».proof.Proof.Gen.Reference20Ideal.Run
public import proofs.«01_k».proof.Proof.Gen.Reference20Ideal.Read
public import proofs.«01_k».proof.Proof.Rows
public import proofs.«01_k».proof.Proof.Norms
public import proofs.«01_k».proof.Proof.Products
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL Idealize.SL.Sem

namespace Cert.Odd

open Cert.Norms

/-- A row's length, -/
def wid : EReal := Ideal.ofBits .f32 0x44800000#32
/-- its mean, -/
def mean (x : Fin 1024 → EReal) : EReal := Ideal.div (∑ k, x k) wid
/-- the mean of the squares about it -/
def spread (x : Fin 1024 → EReal) : EReal := Ideal.div (∑ k, (x k - mean x) * (x k - mean x)) wid
/-- and the row's layer norm. -/
def layer (x g b : Fin 1024 → EReal) (k : Fin 1024) : EReal := (x k - mean x) * Ideal.rsqrt (spread x + eps) * g k + b k

/-- A weight of the mixing, kept where the column is not past the row. -/
def kept (i k : Fin 128) (w : EReal) : EReal := if k.val ≤ i.val then w else 0
/-- An element of the gating unit: its part's mixing of the rows, plus the bias, between the gates. -/
def mix (u z β : EReal) (w n : Fin 128 → EReal) (i : Fin 128) : EReal := u * (∑ k, kept i k (w k) * n k + β) * z * gate z
/-- An element past the convolution: its norm and its gate, each by its own weight. -/
def passed (x g b : Fin 1024 → EReal) (z : EReal) (k : Fin 1024) : EReal := layer x g b k * gate (layer x g b k) * z * gate z

/-- A column's part, -/
def part (J : Fin 1024) : Fin 4 := ⟨J.val / 256, by omega⟩
/-- as the column of the biases, -/
def lane (J : Fin 1024) : Fin 128 := ⟨J.val / 256, by omega⟩
/-- a row's place in its chunk, -/
def inner (t : Fin 2048) : Fin 128 := ⟨t.val % 128, by omega⟩
/-- and the chunk's rows. -/
def chunk (t : Fin 2048) (k : Fin 128) : Fin 2048 := ⟨128 * (t.val / 128) + k.val, by omega⟩
/-- The columns from `o` on. -/
def col (o : ℕ) (ho : o ≤ 5120) (J : Fin 1024) : Fin 6144 := ⟨o + J.val, by omega⟩

abbrev Proj : Type := FVec Ideal ⟨2, ![2048, 6144]⟩ .f32
abbrev Half : Type := FVec Ideal ⟨2, ![2048, 1024]⟩ .f32
abbrev Vect : Type := FVec Ideal ⟨2, ![1, 1024]⟩ .f32

/-- The gating unit at row `t` and column `J`, -/
def unitAt (z1 : Proj) (g b : Vect) (w : FVec Ideal ⟨3, ![4, 128, 128]⟩ .f32) (bias : FVec Ideal ⟨2, ![128, 128]⟩ .f32) (t : Fin 2048) (J : Fin 1024) : EReal :=
  mix (z1 (ix2 t (col 0 (by omega) J))) (z1 (ix2 t (col 2048 (by omega) J))) (bias (ix2 (inner t) (lane J))) (fun k => w (ix3 (part J) (inner t) k))
    (fun k => layer (fun J => z1 (ix2 (chunk t k) (col 1024 (by omega) J))) (fun J => g (ix2 0 J)) (fun J => b (ix2 0 J)) J) (inner t)
/-- what is past the convolution, -/
def passedAt (x : Half) (z1 : Proj) (g b : Vect) (t : Fin 2048) (J : Fin 1024) : EReal :=
  passed (fun J => x (ix2 t J)) (fun J => g (ix2 0 J)) (fun J => b (ix2 0 J)) (z1 (ix2 t (col 5120 (by omega) J))) J
/-- and the two side by side. -/
def sides (x : Half) (z1 : Proj) (g b : Vect) (w : FVec Ideal ⟨3, ![4, 128, 128]⟩ .f32) (bias : FVec Ideal ⟨2, ![128, 128]⟩ .f32) (g' b' : Vect) :
    FVec Ideal ⟨2, ![2048, 2048]⟩ .bf16 := fun j =>
  (if h : (j 1).val < 1024 then unitAt z1 g b w bias (j 0) ⟨(j 1).val, h⟩
    else passedAt x z1 g' b' (j 0) ⟨(j 1).val - 1024, by have := (j 1).isLt; change (j 1).val < 2048 at this; omega⟩ : EReal)

section Sides

variable (x : Half) (z1 : Proj) (g b : Vect) (w : FVec Ideal ⟨3, ![4, 128, 128]⟩ .f32) (bias : FVec Ideal ⟨2, ![128, 128]⟩ .f32) (g' b' : Vect)
  (t : Fin 2048) (J : Fin 1024) (j : (⟨2, ![2048, 2048]⟩ : Shape).Idx) (h0 : (j 0).val = t.val)
include h0

theorem sides_left (h1 : (j 1).val = J.val) : sides x z1 g b w bias g' b' j = unitAt z1 g b w bias t J :=
  (dif_pos (show (j 1).val < 1024 by omega)).trans (congrArg₂ (unitAt z1 g b w bias) (Fin.ext h0) (Fin.ext h1))
theorem sides_right (h1 : (j 1).val = 1024 + J.val) : sides x z1 g b w bias g' b' j = passedAt x z1 g' b' t J :=
  (dif_neg (show ¬ (j 1).val < 1024 by omega)).trans
    (congrArg₂ (passedAt x z1 g' b') (Fin.ext h0) (Fin.ext (show (j 1).val - 1024 = J.val by omega)))

end Sides

end Cert.Odd

namespace Cert.Kernel20Ideal

open Gen Cert.Products Cert.Norms Cert.Odd

/-! ## A point's block of the gating unit: four tiles, each a part's mixing of its columns -/

theorem kept_apply (w : Vec Ideal S1x128x128 .f32) (i k : Fin 128) :
    k0_pay6 (F := Ideal) w (ix2 i k) = (kept i k (w (ix3 0 i k)) : EReal) := by
  simp only [pointwise, k0_pay6, k0_pay2]
  show Scalar.select (IntOp.cmpi .sle (BitVec.ofNat 32 (0 * 128 + k.val)) (BitVec.ofNat 32 (0 * 128 + i.val))) _ (0 : EReal) = _
  rw [show 0 * 128 + k.val = k.val by omega, show 0 * 128 + i.val = i.val by omega, WordCmp.cmpi_sle_ofNat (by omega) (by omega)]
  simp only [pointwise, kept]

theorem layer_apply (v : Vec Ideal S128x1024 .f32) (g b : Vec Ideal S1x1024 .f32) (i : Fin 128) (J : Fin 1024) :
    k0_pay10 (F := Ideal) (k0_pay7 v) (k0_pay8 v) k0_pay9 g b (ix2 i J)
      = (layer (fun J => v (ix2 i J)) (fun J => g (ix2 0 J)) (fun J => b (ix2 0 J)) J : EReal) := by
  simp only [pointwise, k0_pay10, k0_pay9, k0_pay8, k0_pay7]
  rfl

/-- A tile: the columns from `o` on of the rows mixed, plus the bias, between the gates. -/
def tile (o : ℕ) (hs : S128x1024.Slices ![0, o] S128x256) (w : Vec Ideal S1x128x128 .f32) (v : FVec Ideal S128x1024 .bf16)
    (bias : Vec Ideal S128x1 .f32) (z u : Vec Ideal S128x256 .f32) : FVec Ideal S128x256 .bf16 :=
  k0_pay1 (addf (matmul dot_S128x128_S128x256_S128x256_1_0_0_1_n_n none (k0_pay6 w) (extractStridedSlice S128x256 ![0, o] v hs)
    (constant S128x256 .f32 0x00000000#32)) (broadcastTo S128x256 bias broadcasts_S128x1_S128x256)) z u

theorem tile_apply (o : ℕ) (hs : S128x1024.Slices ![0, o] S128x256) (w : Vec Ideal S1x128x128 .f32) (v : FVec Ideal S128x1024 .bf16)
    (bias : Vec Ideal S128x1 .f32) (z u : Vec Ideal S128x256 .f32) (i : Fin 128) (l : Fin 256) (J : Fin 1024) (hJ : J.val = o + l.val) :
    tile o hs w v bias z u (ix2 i l) = (mix (u (ix2 i l)) (z (ix2 i l)) (bias (ix2 i 0)) (fun k => w (ix3 0 i k)) (fun k => v (ix2 k J)) i : EReal) := by
  simp only [pointwise, tile, k0_pay1, kept_apply]
  exact congrArg (fun a : EReal => u (ix2 i l) * (a + bias (ix2 i 0)) * z (ix2 i l) * gate (z (ix2 i l)))
    ((zero_add _).trans (Finset.sum_congr rfl fun k _ => congrArg (fun j => (kept i k (w (ix3 0 i k)) * v j : EReal))
      (at_ix2 (Fin.ext (Nat.zero_add _)) (Fin.ext hJ.symm))))

/-- The block a point leaves, at row `i` and column `J`. -/
theorem unit_apply (u v z : Vec Ideal S128x1024 .f32) (g b : Vec Ideal S1x1024 .f32) (w : Vec Ideal S4x128x128 .f32) (bias : Vec Ideal S128x128 .f32)
    (i : Fin 128) (J : Fin 1024) : out0_7 (F := Ideal) u v z g b w bias (ix2 i J)
      = (mix (u (ix2 i J)) (z (ix2 i J)) (bias (ix2 i (lane J))) (fun k => w (ix3 (part J) i k))
        (fun k => layer (fun J => v (ix2 k J)) (fun J => g (ix2 0 J)) (fun J => b (ix2 0 J)) J) i : EReal) := by
  have n : k0_pay19 (F := Ideal) u v z g b w bias = k0_pay10 (k0_pay7 v) (k0_pay8 v) k0_pay9 g b := by
    unfold k0_pay19 k0_pay18 k0_pay17 k0_pay16
    simp only [View.ld_unit_zero (S := S128x1024) zero2, View.ld_unit_zero (S := S1x1024) zero2]
  have e (q o : ℕ) (hs : S128x1024.Slices ![0, o] S128x256) (iw : ∀ a, ![q, 0, 0] a + S1x128x128.size a ≤ S4x128x128.size a)
      (ib : ∀ a, ![0, q] a + S128x1.size a ≤ S128x128.size a) (iz : ∀ a, ![0, o] a + S128x256.size a ≤ S128x1024.size a)
      (l : Fin 256) (ho : o = 256 * q) (hJ : J.val = o + l.val) :
      tile o hs (View.ld w (Rect.unit (s := S4x128x128) ![q, 0, 0] S1x128x128.size iw)) (k0_pay19 (F := Ideal) u v z g b w bias)
          (View.ld bias (Rect.unit (s := S128x128) ![0, q] S128x1.size ib)) (View.ld z (Rect.unit (s := S128x1024) ![0, o] S128x256.size iz))
          (View.ld u (Rect.unit (s := S128x1024) ![0, o] S128x256.size iz)) (ix2 i l)
        = (mix (u (ix2 i J)) (z (ix2 i J)) (bias (ix2 i (lane J))) (fun k => w (ix3 (part J) i k))
          (fun k => layer (fun J => v (ix2 k J)) (fun J => g (ix2 0 J)) (fun J => b (ix2 0 J)) J) i : EReal) := by
    have hw (k : Fin 128) : View.ld w (Rect.unit (s := S4x128x128) ![q, 0, 0] S1x128x128.size iw) (ix3 0 i k) = w (ix3 (part J) i k) :=
      View.ld_unit_apply_of w _ _ _ _ _ fun a => by
        match a with
        | ⟨0, _⟩ => show J.val / 256 = q + 0; omega
        | ⟨1, _⟩ => exact (Nat.zero_add _).symm
        | ⟨2, _⟩ => exact (Nat.zero_add _).symm
    have hb : View.ld bias (Rect.unit (s := S128x128) ![0, q] S128x1.size ib) (ix2 i 0) = bias (ix2 i (lane J)) :=
      View.ld_unit_apply_of bias _ _ _ _ _ fun a => by
        match a with
        | ⟨0, _⟩ => exact (Nat.zero_add _).symm
        | ⟨1, _⟩ => show J.val / 256 = q + 0; omega
    have hz (z : Vec Ideal S128x1024 .f32) : View.ld z (Rect.unit (s := S128x1024) ![0, o] S128x256.size iz) (ix2 i l) = z (ix2 i J) :=
      View.ld_unit_apply_of z _ _ _ _ _ fun a => by
        match a with
        | ⟨0, _⟩ => exact (Nat.zero_add _).symm
        | ⟨1, _⟩ => exact hJ
    refine (tile_apply o hs _ _ _ _ _ i l J hJ).trans ?_
    rw [hb, hz, hz, n]
    simp only [hw, layer_apply]
  unfold out0_7
  canon_tiles x h using cover0_7 ..
  all_goals
    obtain ⟨p, l, rfl⟩ : ∃ (p : Fin 128) (l : Fin 256), ix2 p l = x := ⟨x 0, x 1, ix2_eta x⟩
    obtain rfl : i = p := Fin.ext h0
    change J.val = _ at h1
  · exact e 3 768 slices_S128x1024_o0_768_S128x256 _ _ _ l rfl h1
  · exact e 2 512 slices_S128x1024_o0_512_S128x256 _ _ _ l rfl h1
  · exact e 1 256 slices_S128x1024_o0_256_S128x256 _ _ _ l rfl h1
  · exact e 0 0 slices_S128x1024_o0_0_S128x256 _ _ _ l rfl (h1.trans (Nat.zero_add _).symm)

/-! ## A point's block past the convolution -/

theorem passed_apply (x z : Vec Ideal S512x1024 .f32) (g b : Vec Ideal S1x1024 .f32) (i : Fin 512) (J : Fin 1024) :
    k1_pay1 (F := Ideal) (k1_pay2 x g b z) (k1_pay3 z) (ix2 i J)
      = (passed (fun J => x (ix2 i J)) (fun J => g (ix2 0 J)) (fun J => b (ix2 0 J)) (z (ix2 i J)) J : EReal) := by
  simp only [pointwise, k1_pay1, k1_pay2, k1_pay3]
  rfl

section Later

variable (c : Dev nD) (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S1x1024 .f32) (h4 : a4.IsWhole)
  (a6 : Memref sig .tc .vmem S512x1024 .bf16) (h6 : a6.IsWhole) (x z : Vec Ideal S512x1024 .f32) (g b : Vec Ideal S1x1024 .f32)

theorem out_later (i : grid1.Coords) : out1_A_4 (F := Ideal) c i a1 h1 a2 h2 a3 h3 a4 h4 a6 h6 x z g b = k1_pay1 (k1_pay2 x g b z) (k1_pay3 z) := by
  unfold out1_A_4
  rw [View.read_writes_eq_canon _ _ _ (cover1_A_4 c i a1 h1 a2 h2 a3 h3 a4 h4 a6 h6 x z g b)]
  unfold kernelRun1_A
  dsimp only
  rw [View.canon_unit_zero zero2]
  unfold kernelRun1_A.sl.r kernelRun1_A.sl.r_1
  simp only [View.readAt_eq_ld, h1.read_unread, h2.read_unread, h3.read_unread, h4.read_unread, View.ld_unit_zero (S := S512x1024) zero2, View.ld_unit_zero (S := S1x1024) zero2]

end Later

/-! ## The blocks the calls read -/

/-- Every window's block index: the first call's point takes a chunk of rows, the second's 512 rows. -/
theorem index_zero : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![0, 0, 0] ∧ win0_6.index t = ![0, 0] ∧ win0_7.index t = ![t.val, 0] := by
  decide +kernel
theorem index_one : ∀ t : Fin cfg1.N, win1_0.index t = ![t.val, 0] ∧ win1_1.index t = ![t.val, 5] ∧ win1_2.index t = ![0, 0]
    ∧ win1_3.index t = ![0, 0] ∧ win1_4.index t = ![t.val, 1] := by decide +kernel

theorem count_zero (t : Fin cfg0.N) : t.val < 16 := lt_of_lt_of_eq t.isLt N_0
theorem count_one (t : Fin cfg1.N) : t.val < 4 := lt_of_lt_of_eq t.isLt N_1

/-- Row `i` of a point's block. -/
def rowZero (t : Fin cfg0.N) (i : Fin 128) : Fin 2048 := ⟨128 * t.val + i.val, by have := count_zero t; omega⟩
def rowOne (t : Fin cfg1.N) (i : Fin 512) : Fin 2048 := ⟨512 * t.val + i.val, by have := count_one t; omega⟩

section Blocks

variable (V : (c : Dev nD) → (b : Ref sig .tc) → Buf (Elt Ideal) ((c : Thread nD τ).loc b)) (c : Dev nD) (J : Fin 1024)

theorem block_u (t : Fin cfg0.N) (i : Fin 128) : iblk0 V c 0 t (ix2 i J) = V c main_arg1 (ix2 (rowZero t i) (col 0 (by omega) J)) := by
  unfold rowZero col; blk_ext [iblk0, (index_zero t).1]
theorem block_v (t : Fin cfg0.N) (i : Fin 128) : iblk0 V c 1 t (ix2 i J) = V c main_arg1 (ix2 (rowZero t i) (col 1024 (by omega) J)) := by
  unfold rowZero col; blk_ext [iblk0, (index_zero t).2.1]
theorem block_z (t : Fin cfg0.N) (i : Fin 128) : iblk0 V c 2 t (ix2 i J) = V c main_arg1 (ix2 (rowZero t i) (col 2048 (by omega) J)) := by
  unfold rowZero col; blk_ext [iblk0, (index_zero t).2.2.1]
theorem block_g (t : Fin cfg0.N) : iblk0 V c 3 t (ix2 0 J) = V c main_arg2 (ix2 0 J) := by blk_ext [iblk0, (index_zero t).2.2.2.1]
theorem block_b (t : Fin cfg0.N) : iblk0 V c 4 t (ix2 0 J) = V c main_arg3 (ix2 0 J) := by blk_ext [iblk0, (index_zero t).2.2.2.2.1]
theorem block_w (t : Fin cfg0.N) (r : Fin 4) (i k : Fin 128) : iblk0 V c 5 t (ix3 r i k) = V c main_arg4 (ix3 r i k) := by
  blk_ext [iblk0, (index_zero t).2.2.2.2.2.1]
theorem block_bias (t : Fin cfg0.N) (i k : Fin 128) : iblk0 V c 6 t (ix2 i k) = V c main_arg5 (ix2 i k) := by
  blk_ext [iblk0, (index_zero t).2.2.2.2.2.2.1]
theorem block_x (t : Fin cfg1.N) (i : Fin 512) : iblk1 V c 0 t (ix2 i J) = V c main_arg0 (ix2 (rowOne t i) J) := by
  unfold rowOne; blk_ext [iblk1, (index_one t).1]
theorem block_z_one (t : Fin cfg1.N) (i : Fin 512) : iblk1 V c 1 t (ix2 i J) = V c main_arg1 (ix2 (rowOne t i) (col 5120 (by omega) J)) := by
  unfold rowOne col; blk_ext [iblk1, (index_one t).2.1]
theorem block_g_one (t : Fin cfg1.N) : iblk1 V c 2 t (ix2 0 J) = V c main_arg6 (ix2 0 J) := by blk_ext [iblk1, (index_one t).2.2.1]
theorem block_b_one (t : Fin cfg1.N) : iblk1 V c 3 t (ix2 0 J) = V c main_arg7 (ix2 0 J) := by blk_ext [iblk1, (index_one t).2.2.2.1]

end Blocks

/-! ## The arrays the calls leave -/

variable (m : (ℓ : Loc nD τ sig) → Buf (Elt Ideal) ℓ) (ρ : Dev nD → PrngReg)

/-- The result, whole. -/
def whole (c : Dev nD) : FVec Ideal S2048x2048 .bf16 :=
  sides (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem end_zero (c : Dev nD) : (dat0 (V0 m ρ) c).arrAt 7 cfg0.N
    = fun j => if (j 1 : ℕ) / 1024 = 0 then whole m c j else (dat0 (V0 m ρ) c).A 7 j := by
  refine (dat0 (V0 m ρ) c).arrAt_eq_of_coversWhere 7 _ (fun β => β (1 : Fin 2) = 0) (by decide +kernel) (fun t hf y => ?_) (fun j => Iff.rfl)
  obtain ⟨i, J, rfl⟩ : ∃ (i : Fin 128) (J : Fin 1024), ix2 i J = y := ⟨y 0, y 1, ix2_eta y⟩
  blk_simp
  rw [after0_7]
  refine (unit_apply _ _ _ _ _ _ _ i J).trans (Eq.trans ?_ (sides_left _ _ _ _ _ _ _ _ (rowZero t i) J _ ?_ ?_).symm)
  · have hi : inner (rowZero t i) = i := Fin.ext (show (128 * t.val + i.val) % 128 = i.val by omega)
    have hc (k : Fin 128) : chunk (rowZero t i) k = rowZero t k := Fin.ext (show 128 * ((128 * t.val + i.val) / 128) + k.val = 128 * t.val + k.val by omega)
    unfold unitAt
    simp only [block_u, block_v, block_z, block_g, block_b, block_w, block_bias, hi, hc]
  · blk_simp; rw [(index_zero t).2.2.2.2.2.2.2]; show t.val * 128 + i.val = 128 * t.val + i.val; omega
  · blk_simp; rw [(index_zero t).2.2.2.2.2.2.2]; show 0 * 1024 + J.val = J.val; omega
theorem end_one (c : Dev nD) : (dat1 (V2 m ρ) c).arrAt 4 cfg1.N
    = fun j => if (j 1 : ℕ) / 1024 = 1 then whole m c j else (dat1 (V2 m ρ) c).A 4 j := by
  refine (dat1 (V2 m ρ) c).arrAt_eq_of_coversWhere 4 _ (fun β => β (1 : Fin 2) = 1) (by decide +kernel) (fun t hf y => ?_) (fun j => Iff.rfl)
  obtain ⟨i, J, rfl⟩ : ∃ (i : Fin 512) (J : Fin 1024), ix2 i J = y := ⟨y 0, y 1, ix2_eta y⟩
  blk_simp
  rw [after1_4]; unfold outsAt1; rw [out_later]
  refine (passed_apply _ _ _ _ i J).trans (Eq.trans ?_ (sides_right _ _ _ _ _ _ _ _ (rowOne t i) J _ ?_ ?_).symm)
  · have e (a : Ref sig .tc) (ha : a ∈ argRefs) : V2 m ρ c a = m ((c : Thread nD τ).loc a) := W2_args m ρ c a ha
    unfold passedAt
    simp only [block_x, block_z_one, block_g_one, block_b_one]
    rw [e main_arg0 (by decide), e main_arg1 (by decide), e main_arg6 (by decide), e main_arg7 (by decide)]
  · blk_simp; rw [(index_one t).2.2.2.2]; show t.val * 512 + i.val = 512 * t.val + i.val; omega
  · blk_simp; rw [(index_one t).2.2.2.2]; show 1 * 1024 + J.val = 1024 + J.val; omega

/-- The second call starts from a copy of what the first left. -/
theorem entry_one (c : Dev nD) : (dat1 (V2 m ρ) c).A 4 = (dat0 (V0 m ρ) c).arrAt 7 cfg0.N :=
  (A_eq1 (V2 m ρ) c 4).trans (Eq.trans (by show StableHlo.after hostOps1 (W1 m ρ c) (Proc.devRef .tc main_v1) = W1 m ρ c (Proc.devRef .tc main_v0); after_results; rfl) (W1_arr m ρ c 7))

/-- The result, whole: every column is one call's. -/
theorem result_end (c : Dev nD) : W3 m ρ c (Proc.devRef .tc main_v1) = whole m c := by
  refine (W3_arr m ρ c 4).trans ?_
  rw [end_one]
  funext j
  by_cases h1 : (j 1 : ℕ) / 1024 = 1
  · exact if_pos h1
  refine (if_neg h1).trans ?_
  rw [entry_one, end_zero]
  have h := (j 1).isLt
  change (j 1).val < 2048 at h
  exact if_pos (by omega)

/-! ## The run -/

section Run

open Idealize.SL.RA Idealize.SL.BI Idealize.SL.BI.BIBase Idealize.SL.BI.Laws Idealize.SL.ProofMode Idealize.ShloMosaic.Rounds
open scoped Idealize.SL.BI

local notation "𝕄" => MT nD τ sig Unit (Elt Ideal) ℕ (UR sig nD τ) ℕ

set_option backward.isDefEq.respectTransparency.types false in
/-- After the two calls every array of the program holds what the last boundary says. -/
theorem run_main : θ_run defs (onTc (τ := τ) (main (F := Ideal))) ⟨m, fun _ => 0, ρ⟩ (fun r => ∀ c : Dev nD,
      ∀ b ∈ Pipeline.ucRefs τ sig, r.2.mem ((c : Thread nD τ).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Run

theorem run_value : θ_run defs (onTc (τ := τ) (main (F := Ideal))) ⟨m, fun _ => 0, ρ⟩ (fun r => ∀ c : Dev nD,
      r.2.mem ((c.tc : Thread nD τ).loc main_v1) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      have arg (a : Ref sig .tc) (hu : (Proc.devRef .tc a) ∈ Pipeline.ucRefs τ sig) (ha : a ∈ argRefs) : r.2.mem ((c.tc : Thread nD τ).loc a) = m ((c.tc : Thread nD τ).loc a) := (h c _ hu).trans (W3_args m ρ c a ha)
      ⟨(h c _ (mem_uc main_v1 (by decide))).trans (result_end m ρ c), arg main_arg0 (mem_uc _ (by decide)) (by decide),
        arg main_arg1 (mem_uc _ (by decide)) (by decide), arg main_arg2 (mem_uc _ (by decide)) (by decide), arg main_arg3 (mem_uc _ (by decide)) (by decide),
        arg main_arg4 (mem_uc _ (by decide)) (by decide), arg main_arg5 (mem_uc _ (by decide)) (by decide), arg main_arg6 (mem_uc _ (by decide)) (by decide),
        arg main_arg7 (mem_uc _ (by decide)) (by decide)⟩)
    (run_main m ρ)

end Cert.Kernel20Ideal

namespace Cert.Reference20Ideal

open Read Cert.Norms Cert.Odd

section Layer

variable (x : Half) (g b : Vect) (t k : Fin 2048)

theorem mean_at (j : S2048x1.Idx) : val_main_v51 (F := Ideal) x j = mean fun k => x (ix2 (j 0) k) := by
  rw [val_main_v51_apply, val_main_v49_apply, val_main_v48_apply, val_main_v50_apply]
  have i (l : Fin 1024) : idx_main_v48 (idx_main_v49 j) l = ix2 (j 0) l := at_ix2 rfl rfl
  simp only [i]
  show Ideal.div (Ideal.ofBits .f32 0x00000000#32 + _) wid = _
  rw [zero_bits, zero_add]
  rfl
theorem about_at (t : Fin 2048) (k : Fin 1024) : val_main_v53 (F := Ideal) x (ix2 t k) = x (ix2 t k) - mean fun k => x (ix2 t k) := by
  rw [val_main_v53_apply, val_main_v52_apply, mean_at]
  rfl
theorem spread_at (j : S2048x1.Idx) : val_main_v58 (F := Ideal) x j = spread fun k => x (ix2 (j 0) k) := by
  rw [val_main_v58_apply, val_main_v56_apply, val_main_v55_apply, val_main_v57_apply]
  have i (l : Fin 1024) : idx_main_v55 (idx_main_v56 j) l = ix2 (j 0) l := at_ix2 rfl rfl
  simp only [i, val_main_v54_apply]
  show Ideal.div (Ideal.ofBits .f32 0x00000000#32 + ∑ l, val_main_v53 (F := Ideal) x (ix2 (j 0) l) * val_main_v53 (F := Ideal) x (ix2 (j 0) l)) wid = _
  rw [zero_bits, zero_add]
  exact congrArg (fun a : EReal => Ideal.div a wid) (Finset.sum_congr rfl fun l _ => congrArg (fun a : EReal => a * a) (about_at x (j 0) l))
/-- The reference's layer norm. -/
theorem layer_at (t : Fin 2048) (k : Fin 1024) : val_main_v71 (F := Ideal) x g b (ix2 t k) = layer (fun k => x (ix2 t k)) (fun k => g (ix2 0 k)) (fun k => b (ix2 0 k)) k := by
  rw [val_main_v71_apply, val_main_v68_apply, val_main_v65_apply, val_main_v64_apply, val_main_v63_apply, val_main_v62_apply, val_main_v61_apply,
    val_main_v67_apply, val_main_v66_apply, val_main_v46_apply, val_main_v70_apply, val_main_v69_apply, val_main_v47_apply, spread_at,
    show val_main_v60 (F := Ideal) x (ix2 t k) = _ from about_at x t k]
  have i : idx_main_v46 (idx_main_v66 (idx_main_v67 (ix2 t k))) = ix2 0 k := at_ix2 rfl (Fin.ext (Nat.mod_eq_of_lt k.isLt))
  have i' : idx_main_v47 (idx_main_v69 (idx_main_v70 (ix2 t k))) = ix2 0 k := at_ix2 rfl (Fin.ext (Nat.mod_eq_of_lt k.isLt))
  rw [i, i']
  rfl

end Layer

variable (x : Half) (z1 : Proj) (g b : Vect) (w : FVec Ideal S4x128x128 .f32) (bias : FVec Ideal S128x128 .f32) (g' b' : Vect) (t : Fin 2048) (J : Fin 1024)

/-- The same of the columns the gating unit norms. -/
theorem unit_layer_at : val_main_v29 (F := Ideal) z1 g b (ix2 t J)
    = layer (fun J => z1 (ix2 t (col 1024 (by omega) J))) (fun J => g (ix2 0 J)) (fun J => b (ix2 0 J)) J :=
  (show val_main_v71 (F := Ideal) (val_main_v1 (F := Ideal) z1) g b (ix2 t J) = _ from layer_at _ g b t J).trans
    (congrArg (fun y => layer y (fun J => g (ix2 0 J)) (fun J => b (ix2 0 J)) J)
      (funext fun J => (val_main_v1_apply (F := Ideal) z1 (ix2 t J)).trans (congrArg z1 (at_ix2 rfl rfl))))

/-- The weights, kept where the column is not past the row. -/
theorem kept_at (i k : Fin 128) (a : EReal) : a * val_main_v32 (F := Ideal) (ix2 i k) = kept i k a := by
  have h : val_main_v32 (F := Ideal) (ix2 i k) = if k.val ≤ i.val then (1 : EReal) else 0 := by
    pointwise [val_main_v32, val_main_call0_v4, val_main_call0_v2, val_main_call0_v0, val_main_call0_v1, val_main_call0_c, val_main_call0_v3,
      val_main_v31, val_main_cst_4, val_main_call0_v5, val_main_call0_cst]
    show Scalar.select (IntOp.cmpi .sge (BitVec.ofNat 32 i.val + 0#32) (BitVec.ofNat 32 k.val)) (1 : EReal) 0 = _
    rw [BitVec.add_zero, WordCmp.cmpi_sge_ofNat (by omega) (by omega)]
    simp only [pointwise]
  rw [h, kept]
  split
  · exact mul_one _
  · exact mul_zero _

theorem silu_unit (j : S2048x1024.Idx) : val_main_v44 (F := Ideal) z1 j = val_main_v2 (F := Ideal) z1 j * gate (val_main_v2 (F := Ideal) z1 j) := by
  pointwise [val_main_v44, val_main_call1_v5, val_main_call1_v4, val_main_call1_v3, val_main_call1_v2, val_main_call1_v1, val_main_call1_v0,
    val_main_call1_cst, val_main_call1_cst_0, gate]
  rw [zero_sub]
theorem silu_norm (j : S2048x1024.Idx) : val_main_v72 (F := Ideal) x g b j = val_main_v71 (F := Ideal) x g b j * gate (val_main_v71 (F := Ideal) x g b j) := by
  pointwise [val_main_v72, val_main_call2_v5, val_main_call2_v4, val_main_call2_v3, val_main_call2_v2, val_main_call2_v1, val_main_call2_v0,
    val_main_call2_cst, val_main_call2_cst_0, gate]
  rw [zero_sub]
theorem silu_gate (j : S2048x1024.Idx) : val_main_v73 (F := Ideal) z1 j = val_main_v3 (F := Ideal) z1 j * gate (val_main_v3 (F := Ideal) z1 j) := by
  pointwise [val_main_v73, val_main_call3_v5, val_main_call3_v4, val_main_call3_v3, val_main_call3_v2, val_main_call3_v1, val_main_call3_v0,
    val_main_call3_cst, val_main_call3_cst_0, gate]
  rw [zero_sub]

/-- The mixing of the rows, plus the bias. -/
theorem mixed_at : val_main_v42 (F := Ideal) z1 g b w bias (ix2 t J)
    = ∑ k, kept (inner t) k (w (ix3 (part J) (inner t) k)) * layer (fun J => z1 (ix2 (chunk t k) (col 1024 (by omega) J))) (fun J => g (ix2 0 J)) (fun J => b (ix2 0 J)) J
      + bias (ix2 (inner t) (lane J)) := by
  rw [val_main_v42_apply, val_main_v41_apply, val_main_v37_apply, val_main_v36_apply, val_main_v40_apply, val_main_v39_apply, val_main_v38_apply]
  refine congrArg₂ (fun a b : EReal => a + b) (Finset.sum_congr rfl fun k _ => ?_) (congrArg bias (at_ix2 (Fin.ext ?_) (Fin.ext ?_)))
  · rw [val_main_v30_apply, val_main_v35_apply, val_main_v34_apply, val_main_v33_apply]
    refine (mul_comm _ _).trans (congrArg₂ (fun a b : EReal => a * b) ?_ (Eq.trans (congrArg (val_main_v29 (F := Ideal) z1 g b) (at_ix2 (Fin.ext ?_) (Fin.ext ?_)))
      (unit_layer_at z1 g b (chunk t k) J)))
    · refine Eq.trans ?_ (kept_at (inner t) k (w (ix3 (part J) (inner t) k)))
      refine congrArg₂ (fun a b : EReal => a * b) (congrArg w (funext fun a => ?_)) (congrArg (val_main_v32 (F := Ideal)) (at_ix2 (Fin.ext ?_) rfl))
      · match a with
        | ⟨0, _⟩ => exact Fin.ext (by show (t.val * 1024 + J.val) / 256 % 4 = J.val / 256; omega)
        | ⟨1, _⟩ => exact Fin.ext (by show (t.val * 1024 + J.val) / 1024 % 128 = t.val % 128; omega)
        | ⟨2, _⟩ => rfl
      · show (t.val * 1024 + J.val) / 1024 % 128 = t.val % 128; omega
    · show ((((t.val * 1024 + J.val) / 131072 * 128 + k.val) * 4 + (t.val * 1024 + J.val) / 256 % 4) * 256 + (t.val * 1024 + J.val) % 256) / 1024 = 128 * (t.val / 128) + k.val
      omega
    · show ((((t.val * 1024 + J.val) / 131072 * 128 + k.val) * 4 + (t.val * 1024 + J.val) / 256 % 4) * 256 + (t.val * 1024 + J.val) % 256) % 1024 = J.val
      omega
  · show (t.val * 1024 + J.val) / 1024 % 128 = t.val % 128; omega
  · show (t.val * 1024 + J.val) / 256 % 4 = J.val / 256; omega

theorem unit_at : val_main_v45 (F := Ideal) z1 g b w bias (ix2 t J) = unitAt z1 g b w bias t J := by
  rw [val_main_v45_apply, val_main_v43_apply, silu_unit, mixed_at, val_main_v0_apply, val_main_v2_apply]
  have i : idx_main_v0 (ix2 t J) = ix2 t (col 0 (by omega) J) := at_ix2 rfl (Fin.ext (Nat.zero_add _).symm)
  have i' : idx_main_v2 (ix2 t J) = ix2 t (col 2048 (by omega) J) := at_ix2 rfl rfl
  rw [i, i']
  exact (mul_assoc _ _ _).symm
theorem passed_at : val_main_v74 (F := Ideal) x z1 g' b' (ix2 t J) = passedAt x z1 g' b' t J := by
  rw [val_main_v74_apply, silu_norm, silu_gate, layer_at, val_main_v3_apply]
  have i : idx_main_v3 (ix2 t J) = ix2 t (col 5120 (by omega) J) := at_ix2 rfl rfl
  rw [i]
  exact (mul_assoc _ _ _).symm

/-- The reference's result, whole. -/
theorem sides_eq : val_main_v76 (F := Ideal) x z1 g b w bias g' b' = sides x z1 g b w bias g' b' := by
  funext j
  obtain ⟨t, K, rfl⟩ : ∃ (t K : Fin 2048), ix2 t K = j := ⟨j 0, j 1, ix2_eta j⟩
  rw [val_main_v76_apply]
  show val_main_v75 (F := Ideal) x z1 g b w bias g' b' (ix2 t K) = _
  unfold val_main_v75
  by_cases h : K.val < 1024
  · refine Eq.trans ?_ ((unit_at z1 g b w bias t ⟨K.val, h⟩).trans (sides_left x z1 g b w bias g' b' t ⟨K.val, h⟩ (ix2 t K) rfl rfl).symm)
    exact concatenate_pair_apply_left (t := S2048x2048) (s₁ := S2048x1024) 1 _ _ _ (ix2 t K) rfl (ix2 t ⟨K.val, h⟩) fun a => match a with | ⟨0, _⟩ => rfl | ⟨1, _⟩ => rfl
  · have hK : K.val - 1024 < 1024 := by omega
    have e : K.val - 1024 + 1024 = K.val := by omega
    refine Eq.trans ?_ ((passed_at x z1 g' b' t ⟨K.val - 1024, hK⟩).trans (sides_right x z1 g b w bias g' b' t ⟨K.val - 1024, hK⟩ (ix2 t K) rfl (e.symm.trans (Nat.add_comm _ _))).symm)
    exact concatenate_pair_apply_right (t := S2048x2048) (s₁ := S2048x1024) (s₂ := S2048x1024) 1 _ _ _ (ix2 t K) rfl rfl (ix2 t ⟨K.val - 1024, hK⟩)
      (fun a ha => match a with | ⟨0, _⟩ => rfl | ⟨1, _⟩ => absurd rfl ha) e

end Cert.Reference20Ideal

namespace Cert.Proof20

theorem frame_ri : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run (F := Ideal) m ρ)

theorem equal : Cert.algebraic_Kernel20Ideal_Reference20Ideal (hKernel20Ideal := Cert.Kernel20Ideal.Gen.facts) (hReference20Ideal := Cert.Reference20Ideal.Gen.facts) := by
  intro m g m' g' _ ha
  refine ⟨fun c => Cert.Kernel20Ideal.whole m c, Cert.Kernel20Ideal.run_value m g, ?_⟩
  refine (θ_run _ _ _).mono (fun r h c => ?_) (Cert.Reference20Ideal.Value.run (F := Ideal) m' g')
  obtain ⟨h0, h1⟩ := h c
  obtain ⟨a0, a1, a2, a3, a4, a5, a6, a7⟩ := ha c
  refine ⟨h0.trans ((Cert.Reference20Ideal.Read.val_main_v76_eq (F := Ideal) _ _).trans ?_), h1⟩
  rw [a0, a1, a2, a3, a4, a5, a6, a7]
  exact Cert.Reference20Ideal.sides_eq _ _ _ _ _ _ _ _

end Cert.Proof20

end
-- ==== Proof.Pooling.lean ====
/- The even branch's pooling: trailing means over windows of 2, 4, 8 and 16 rows, their product and its gate. -/
module

public import proofs.«01_k».proof.Defs
public import proofs.«01_k».proof.Proof.Gen.Kernel21Ideal.Frame
public import proofs.«01_k».proof.Proof.Gen.Reference21Ideal.Run
public import proofs.«01_k».proof.Proof.Gen.Reference21Ideal.Read
public import proofs.«01_k».proof.Proof.Rows
public import proofs.«01_k».proof.Proof.Norms
public import proofs.«01_k».proof.Proof.Products
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL Idealize.SL.Sem

namespace Cert.Pool

open Cert.Norms

/-! ## Sums over a window of rows -/

/-- A column past whose end there are zeros. -/
def long (x : Fin 2048 → EReal) (s : ℕ) : EReal := if h : s < 2048 then x ⟨s, h⟩ else 0
/-- The sum of the last `n` elements at `t`. -/
def trail (x : Fin 2048 → EReal) (n t : ℕ) : EReal := ∑ i ∈ Finset.range n, if i ≤ t then long x (t - i) else 0

theorem trail_one (x : Fin 2048 → EReal) (t : Fin 2048) : trail x 1 t.val = x t := by
  rw [trail, Finset.sum_range_one, if_pos (Nat.zero_le _), Nat.sub_zero, long, dif_pos t.isLt]

/-- A window of twice the length is a window and the one before it. -/
theorem trail_double (x : Fin 2048 → EReal) (n t : ℕ) : trail x (n + n) t = trail x n t + if n ≤ t then trail x n (t - n) else 0 := by
  rw [trail, Finset.sum_range_add]
  refine congrArg (trail x n t + ·) ?_
  split_ifs with h
  · refine Finset.sum_congr rfl fun i _ => ?_
    by_cases h' : i ≤ t - n
    · rw [if_pos (show n + i ≤ t by omega), if_pos h', Nat.sub_sub]
    · rw [if_neg (show ¬ n + i ≤ t by omega), if_neg h']
  · exact Finset.sum_eq_zero fun i _ => if_neg (show ¬ n + i ≤ t by omega)

/-- The same as a sum over all the rows, of those in the window. -/
theorem sum_window (x : Fin 2048 → EReal) (n : ℕ) (t : Fin 2048) :
    ∑ s : Fin 2048, x s * (if s.val ≤ t.val ∧ t.val < s.val + n then 1 else 0) = trail x n t.val := by
  have ht := t.isLt
  have e (s : Fin 2048) : x s * (if s.val ≤ t.val ∧ t.val < s.val + n then 1 else 0)
      = (fun s : ℕ => if s ≤ t.val ∧ t.val < s + n then long x s else 0) s.val := by
    show _ = if s.val ≤ t.val ∧ t.val < s.val + n then long x s.val else 0
    rw [long, dif_pos s.isLt]
    split
    · exact mul_one _
    · exact mul_zero _
  rw [Finset.sum_congr rfl fun s _ => e s, Fin.sum_univ_eq_sum_range (fun s : ℕ => if s ≤ t.val ∧ t.val < s + n then long x s else 0) 2048, trail, ← Finset.sum_filter, ← Finset.sum_filter]
  refine Finset.sum_nbij' (fun s => t.val - s) (fun i => t.val - i) ?_ ?_ ?_ ?_ ?_
  · intro s hs; simp only [Finset.mem_filter, Finset.mem_range] at hs ⊢; omega
  · intro s hs; simp only [Finset.mem_filter, Finset.mem_range] at hs ⊢; omega
  · intro s hs; simp only [Finset.mem_filter, Finset.mem_range] at hs; show t.val - (t.val - s) = s; omega
  · intro s hs; simp only [Finset.mem_filter, Finset.mem_range] at hs; show t.val - (t.val - s) = s; omega
  · intro s hs
    simp only [Finset.mem_filter, Finset.mem_range] at hs
    show long x s = long x (t.val - (t.val - s))
    rw [show t.val - (t.val - s) = s by omega]

/-! ## The pooling -/

/-- A group's window, as a number -/
def width (g : Fin 4) : ℕ := 2 ^ (g.val + 1)
/-- and how many of its rows there are at `t`. -/
def count (g : Fin 4) (t : Fin 2048) : EReal :=
  FloatOps.sitofp (F := Ideal) .f32 (IntOp.minsi (BitVec.ofNat 32 t.val + 1#32) (BitVec.ofNat 32 (width g)))
/-- The trailing mean less the element, -/
def pooled (x : Fin 2048 → EReal) (g : Fin 4) (t : Fin 2048) : EReal := Ideal.div (trail x (width g) t.val) (count g t) - x t
/-- and an element of the result. -/
def gated (x : Fin 256 → Fin 2048 → EReal) (w : Fin 256 → EReal) (s z : EReal) (g : Fin 4) (t : Fin 2048) : EReal :=
  (∑ k, pooled (x k) g t * w k) * s * z * gate z

/-- A column's group -/
def grp (J : Fin 1024) : Fin 4 := ⟨J.val / 256, by omega⟩
/-- and its place there, -/
def sub (J : Fin 1024) : Fin 256 := ⟨J.val % 256, by omega⟩
/-- a group's column, -/
def at_ (g : Fin 4) (k : Fin 256) : Fin 1024 := ⟨256 * g.val + k.val, by omega⟩
/-- and the columns from `o` on. -/
def col (o : ℕ) (ho : o ≤ 1024) (J : Fin 1024) : Fin 12288 := ⟨o + J.val, by omega⟩

/-- The result, whole. -/
def whole (z0 : FVec Ideal ⟨2, ![2048, 12288]⟩ .f32) (w : FVec Ideal ⟨3, ![4, 256, 256]⟩ .bf16) (s : FVec Ideal ⟨2, ![1, 1024]⟩ .f32) (t : Fin 2048) (J : Fin 1024) : EReal :=
  gated (fun k t => z0 (ix2 t (col 0 (by omega) (at_ (grp J) k)))) (fun k => w (ix3 (grp J) k (sub J))) (s (ix2 0 J)) (z0 (ix2 t (col 1024 (by omega) J))) (grp J) t

end Cert.Pool

namespace Cert.Kernel21Ideal

open Gen Cert.Pool Cert.Norms Cert.Products

/-! ## A point's block -/

/-- The rows `n` before, with zeros where there are none. -/
def before (n : BitVec 32) (s : FVec Ideal S2048x256 .f32) : FVec Ideal S2048x256 .f32 :=
  select (broadcastTo S2048x256 (shapeCast S2048x1 (cmpi .sge (iota .tc S2048x1 32 [0] iota_S2048x1_d0_w32) (broadcast S2048x1 n)) shapeCasts_S2048x1_S2048x1) broadcasts_S2048x1_S2048x256)
    (dynamicRotate 0 n none s rotates_S2048x256_d0) (broadcast S2048x256 (Scalar.ofBits .f32 0x00000000#32))
/-- One doubling, where the window is wider. -/
def doubled (w n : BitVec 32) (s : FVec Ideal S2048x256 .f32) : FVec Ideal S2048x256 .f32 := Scalar.select (Scalar.cmpi .sgt w n) (addf s (before n s)) s
/-- The sums, by four doublings. -/
def sums (w : BitVec 32) (v : FVec Ideal S2048x256 .f32) : FVec Ideal S2048x256 .f32 := doubled w 8#32 (doubled w 4#32 (doubled w 2#32 (doubled w 1#32 v)))

theorem before_apply (n : ℕ) (hn : n < 2048) (s : FVec Ideal S2048x256 .f32) (t : Fin 2048) (l : Fin 256) :
    before (BitVec.ofNat 32 n) s (ix2 t l) = if h : n ≤ t.val then s (ix2 ⟨t.val - n, by omega⟩ l) else (0 : EReal) := by
  have ht := t.isLt
  simp only [pointwise, before, List.foldl, zero_mul, zero_add]
  show Scalar.select (IntOp.cmpi .sge (BitVec.ofNat 32 t.val) (BitVec.ofNat 32 n))
    (s (ix2 ⟨(t.val + 2048 - ((BitVec.ofNat 32 n).toNat + 0) % 2048) % 2048, Nat.mod_lt _ (by omega)⟩ l)) (0 : EReal) = _
  rw [WordCmp.cmpi_sge_ofNat (by omega) (by omega)]
  by_cases h : n ≤ t.val
  · rw [dif_pos h, decide_eq_true h]
    refine congrArg (fun t => s (ix2 t l)) (Fin.ext ?_)
    show (t.val + 2048 - ((BitVec.ofNat 32 n).toNat + 0) % 2048) % 2048 = t.val - n
    rw [BitVec.toNat_ofNat]
    omega
  · rw [dif_neg h, decide_eq_false h]
    rfl

/-- `s` holds the sums over `n` rows of the columns of `v`. -/
def Sums (v : FVec Ideal S2048x256 .f32) (n : ℕ) (s : FVec Ideal S2048x256 .f32) : Prop := ∀ (t : Fin 2048) (l : Fin 256), s (ix2 t l) = trail (fun t => v (ix2 t l)) n t.val

theorem sums_one (v : FVec Ideal S2048x256 .f32) : Sums v 1 v := fun t l => (trail_one (fun t => v (ix2 t l)) t).symm
theorem sums_double (v s : FVec Ideal S2048x256 .f32) (n : ℕ) (hn : n < 2048) (h : Sums v n s) : Sums v (n + n) (addf s (before (BitVec.ofNat 32 n) s)) := fun t l => by
  rw [trail_double]
  show s (ix2 t l) + before (BitVec.ofNat 32 n) s (ix2 t l) = (_ : EReal)
  rw [before_apply n hn, h t l]
  refine congrArg (_ + ·) ?_
  by_cases h' : n ≤ t.val
  · rw [dif_pos h', if_pos h', h ⟨t.val - n, by omega⟩ l]
  · rw [dif_neg h', if_neg h']

theorem shift_left : ∀ g : Fin 4, Scalar.shli 2#32 (BitVec.ofNat 32 g.val) = BitVec.ofNat 32 (width g) := by decide

theorem sums_width (v : FVec Ideal S2048x256 .f32) (g : Fin 4) : Sums v (width g) (sums (BitVec.ofNat 32 (width g)) v) :=
  have h1 := sums_double v v 1 (by omega) (sums_one v)
  have h2 := sums_double v _ 2 (by omega) h1
  have h4 := sums_double v _ 4 (by omega) h2
  match g with
  | ⟨0, _⟩ => h1
  | ⟨1, _⟩ => h2
  | ⟨2, _⟩ => h4
  | ⟨3, _⟩ => sums_double v _ 8 (by omega) h4

theorem off (a b : EReal) : Scalar.select (Scalar.cmpi .sgt 0#32 8#32) a b = b := rfl

/-- An element of the block a point leaves. -/
theorem gated_apply (i : grid0.Coords) (g : Fin 4) (hg : (i 0).val = g.val) (x z : Vec Ideal S2048x256 .f32) (w : Vec Ideal S1x256x256 .bf16) (s : Vec Ideal S1x256 .f32)
    (t : Fin 2048) (l : Fin 256) :
    out0_4 (F := Ideal) i x z w s (ix2 t l) = (gated (fun k t => x (ix2 t k)) (fun k => w (ix3 0 k l)) (s (ix2 0 l)) (z (ix2 t l)) g t : EReal) := by
  unfold out0_4
  rw [View.canon_unit_zero zero2]
  simp only [View.ld_unit_zero (S := S2048x256) zero2, View.ld_unit_zero (S := S1x256) zero2, View.ld_unit_zero (S := S1x256x256) zero3]
  have e : k0_pay1 (F := Ideal) (Scalar.shli 2#32 (BitVec.ofNat 32 (i 0).val)) (k0_pay2 (F := Ideal) i) x (k0_pay3 i x) k0_pay4 (k0_pay5 i x) w s z
      = k0_pay1 (F := Ideal) 0#32 (k0_pay2 (F := Ideal) i) x (sums (Scalar.shli 2#32 (BitVec.ofNat 32 (i 0).val)) x) k0_pay4 (k0_pay5 i x) w s z := rfl
  rw [e, hg, shift_left]
  have hs (k : Fin 256) := sums_width x g t k
  simp only [pointwise, k0_pay1, k0_pay2, hg, List.foldl, off, hs, shift_left, zero_mul, zero_add]
  rfl

/-! ## The blocks the call reads -/

theorem index_at : ∀ t : Fin cfg0.N, win0_0.index t = ![0, t.val] ∧ win0_1.index t = ![0, 4 + t.val] ∧ win0_2.index t = ![t.val, 0, 0]
    ∧ win0_3.index t = ![0, t.val] ∧ win0_4.index t = ![0, t.val] := by decide +kernel
theorem coords_at : ∀ t : Fin cfg0.N, (grid0.coords t 0).val = t.val := by decide +kernel

/-- A point's group. -/
def point (t : Fin cfg0.N) : Fin 4 := ⟨t.val, lt_of_lt_of_eq t.isLt N_0⟩

variable (m : (ℓ : Loc nD τ sig) → Buf (Elt Ideal) ℓ) (ρ : Dev nD → PrngReg)

section Blocks

variable (c : Dev nD) (t : Fin cfg0.N) (s : Fin 2048) (l : Fin 256)

theorem block_x : iblk m c 0 t (ix2 s l) = V m c main_arg0 (ix2 s (col 0 (by omega) (at_ (point t) l))) := by
  unfold col at_ point; blk_ext [iblk, (index_at t).1]
theorem block_z : iblk m c 1 t (ix2 s l) = V m c main_arg0 (ix2 s (col 1024 (by omega) (at_ (point t) l))) := by
  unfold col at_ point; blk_ext [iblk, (index_at t).2.1]
theorem block_w (k : Fin 256) : iblk m c 2 t (ix3 0 k l) = V m c main_arg1 (ix3 (point t) k l) := by
  unfold point; blk_ext [iblk, (index_at t).2.2.1]
theorem block_s : iblk m c 3 t (ix2 0 l) = V m c main_arg2 (ix2 0 (at_ (point t) l)) := by
  unfold at_ point; blk_ext [iblk, (index_at t).2.2.2.1]

end Blocks

/-! ## The result -/

/-- The result, whole. -/
def out (c : Dev nD) : FVec Ideal S2048x1024 .bf16 := fun j =>
  whole (m ((c : Thread nD τ).loc main_arg0)) (m ((c : Thread nD τ).loc main_arg1)) (m ((c : Thread nD τ).loc main_arg2)) (j 0) (j 1)
/-- The same at an index of the array the call leaves, in whose left half it is. -/
def left (c : Dev nD) (j : S2048x2048.Idx) : EReal :=
  if h : (j 1).val < 1024 then out m c (ix2 (j 0) ⟨(j 1).val, h⟩) else 0

theorem left_apply (c : Dev nD) (j : S2048x2048.Idx) (s : Fin 2048) (J : Fin 1024) (h0 : (j 0).val = s.val) (h1 : (j 1).val = J.val) : left m c j = out m c (ix2 s J) := by
  have hJ := J.isLt
  rw [left, dif_pos (by omega)]
  exact congrArg₂ (fun s J => out m c (ix2 s J)) (Fin.ext h0) (Fin.ext h1)

theorem array_end (c : Dev nD) : (dats m 0 c).arrAt 4 cfg0.N = fun j => if (j 1 : ℕ) / 256 < 4 then left m c j else (dats m 0 c).A 4 j := by
  refine (dats m 0 c).arrAt_eq_of_coversWhere 4 _ (fun β => β (1 : Fin 2) < 4) (by decide +kernel) (fun t hf y => ?_) (fun j => Iff.rfl)
  obtain ⟨s, l, rfl⟩ : ∃ (s : Fin 2048) (l : Fin 256), ix2 s l = y := ⟨y 0, y 1, ix2_eta y⟩
  blk_simp
  rw [after0_4]
  refine (gated_apply _ (point t) (coords_at t) _ _ _ _ s l).trans (Eq.trans ?_ (left_apply m c _ s (at_ (point t) l) ?_ ?_).symm)
  · have hg : grp (at_ (point t) l) = point t := Fin.ext (show (256 * t.val + l.val) / 256 = t.val by omega)
    have hs : sub (at_ (point t) l) = l := Fin.ext (show (256 * t.val + l.val) % 256 = l.val by omega)
    simp only [block_x, block_z, block_w, block_s]
    show _ = whole _ _ _ s (at_ (point t) l)
    unfold whole
    rw [hg, hs]
    rfl
  · blk_simp; rw [(index_at t).2.2.2.2]; show 0 * 2048 + s.val = s.val; omega
  · blk_simp; rw [(index_at t).2.2.2.2]; show t.val * 256 + l.val = 256 * t.val + l.val; omega

theorem result_end (c : Dev nD) : Pipeline.afterTail₀ cfgs (dats m) 0 (V0 m) [hostOps1] c main_v1 = out m c := by
  show StableHlo.after hostOps1 (Pipeline.withArrays cfg0.spec c (V0 m c) (fun w => (dats m 0 c).arrAt w cfg0.N)) (Proc.devRef .tc main_v1) = _
  have e : Pipeline.withArrays cfg0.spec c (V0 m c) (fun w => (dats m 0 c).arrAt w cfg0.N) (Proc.devRef .tc main_v0) = (dats m 0 c).arrAt 4 cfg0.N :=
    (dats m 0 c).withArrays_arrAt sharedIn0 (V0 m c) (A_eq m c) 4
  after_results
  rw [e, array_end]
  funext j
  obtain ⟨s, J, rfl⟩ : ∃ (s : Fin 2048) (J : Fin 1024), ix2 s J = j := ⟨j 0, j 1, ix2_eta j⟩
  simp only [pointwise]
  refine (if_pos ?_).trans (left_apply m c _ s J ?_ ?_)
  · show (0 + J.val) / 256 < 4; omega
  · exact Nat.zero_add _
  · exact Nat.zero_add _

theorem run_value : θ_run defs (onTc (τ := τ) (main (F := Ideal))) ⟨m, fun _ => 0, ρ⟩ (fun r => ∀ c : Dev nD,
    r.2.mem ((c : Thread nD τ).loc main_v1) = out m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) := by
  refine (θ_run _ _ _).mono (fun r h c => ?_) (run_main m ρ)
  exact ⟨((h c).2 main_v1 (by decide)).trans (result_end m c),
    ((h c).1 1).trans (((dats m 0 c).arrAt_in 1 rfl _).trans ((A_eq m c 1).trans (V_main_arg0 m c))),
    ((h c).1 2).trans (((dats m 0 c).arrAt_in 2 rfl _).trans ((A_eq m c 2).trans (V_main_arg1 m c))),
    ((h c).1 3).trans (((dats m 0 c).arrAt_in 3 rfl _).trans ((A_eq m c 3).trans (V_main_arg2 m c)))⟩

end Cert.Kernel21Ideal

namespace Cert.Reference21Ideal

open Read Cert.Pool Cert.Norms

variable (x : FVec Ideal S2048x12288 .f32) (w : FVec Ideal S4x256x256 .bf16) (s : FVec Ideal S1x1024 .f32) (t : Fin 2048)

theorem shift_left : ∀ g : Fin 4, IntOp.shli .host 2#32 (BitVec.ofNat 32 g.val) = BitVec.ofNat 32 (width g) := by decide
theorem width_le : ∀ g : Fin 4, width g ≤ 16 := by decide

/-- The mask of a group's windows. -/
theorem mask_at (g : Fin 4) (r : Fin 2048) : val_main_v11 (F := Ideal) (ix3 g t r) = if r.val ≤ t.val ∧ t.val < r.val + width g then (1 : EReal) else 0 := by
  have hw := width_le g
  pointwise [val_main_v11, val_main_v10, val_main_v9, val_main_v8, val_main_v7, val_main_v6, val_main_v5, val_main_v4, val_main_v3, val_main_v2, val_main_c,
    val_main_call0_v0, val_main_call0_v1, val_main_cst, val_main_cst_0]
  rw [shift_left, show IntOp.addi (BitVec.ofNat 32 r.val) (BitVec.ofNat 32 (width g)) = BitVec.ofNat 32 (r.val + width g) from (BitVec.ofNat_add _ _).symm,
    WordCmp.cmpi_sle_ofNat (by omega) (by omega), WordCmp.cmpi_sgt_ofNat (by omega) (by omega)]
  by_cases h : r.val ≤ t.val
  · by_cases h' : t.val < r.val + width g
    · rw [decide_eq_true h, decide_eq_true h', if_pos ⟨h, h'⟩]; rfl
    · rw [decide_eq_true h, decide_eq_false h', if_neg fun a => h' a.2]; rfl
  · rw [decide_eq_false h, if_neg fun a => h a.1]
    cases decide (t.val < r.val + width g) <;> rfl

theorem count_at (g : Fin 4) : val_main_v19 (F := Ideal) (ix3 t g 0) = count g t := by
  rw [val_main_v19_apply, val_main_v18_apply, val_main_v15_apply, val_main_v13_apply, val_main_v14_apply, val_main_v17_apply, val_main_v16_apply, val_main_v12_apply]
  show FloatOps.sitofp (F := Ideal) .f32 (IntOp.minsi (BitVec.ofNat 32 t.val + 1#32) (IntOp.shli .host 2#32 (BitVec.ofNat 32 g.val))) = _
  rw [shift_left]
  rfl

/-- The sequence by groups. -/
theorem group_at (g : Fin 4) (k : Fin 256) : val_main_v1 (F := Ideal) x (ix3 t g k) = x (ix2 t (col 0 (by omega) (at_ g k))) := by
  rw [val_main_v1_apply, val_main_v0_apply]
  refine congrArg x (at_ix2 (Fin.ext ?_) (Fin.ext ?_))
  · show ((t.val * 4 + g.val) * 256 + k.val) / 1024 = t.val; omega
  · show ((t.val * 4 + g.val) * 256 + k.val) % 1024 = 0 + (256 * g.val + k.val); omega

theorem pooled_at (g : Fin 4) (k : Fin 256) : val_main_v24 (F := Ideal) x (ix3 t g k) = pooled (fun t => x (ix2 t (col 0 (by omega) (at_ g k)))) g t := by
  rw [val_main_v24_apply, val_main_v23_apply, val_main_v21_apply, val_main_v20_apply, val_main_v22_apply, group_at]
  have h (r : Fin 2048) : val_main_v1 (F := Ideal) x (lidx_main_v20 (idx_main_v21 (ix3 t g k)) r) * val_main_v11 (F := Ideal) (ridx_main_v20 (idx_main_v21 (ix3 t g k)) r)
      = x (ix2 r (col 0 (by omega) (at_ g k))) * (if r.val ≤ t.val ∧ t.val < r.val + width g then (1 : EReal) else 0) :=
    congrArg₂ (fun a b : EReal => a * b) (group_at x r g k) (mask_at t g r)
  rw [Finset.sum_congr rfl fun r _ => h r, sum_window (fun r => x (ix2 r (col 0 (by omega) (at_ g k)))),
    show val_main_v19 (F := Ideal) (idx_main_v22 (ix3 t g k)) = _ from count_at t g]
  rfl

theorem silu_at (j : S2048x1024.Idx) : val_main_v32 (F := Ideal) x j = val_main_v31 (F := Ideal) x j * gate (val_main_v31 (F := Ideal) x j) := by
  pointwise [val_main_v32, val_main_call1_v5, val_main_call1_v4, val_main_call1_v3, val_main_call1_v2, val_main_call1_v1, val_main_call1_v0,
    val_main_call1_cst, val_main_call1_cst_0, gate]
  rw [zero_sub]

theorem mixed_at (J : Fin 1024) : val_main_v28 (F := Ideal) x w (ix2 t J)
    = ∑ k, pooled (fun t => x (ix2 t (col 0 (by omega) (at_ (grp J) k)))) (grp J) t * w (ix3 (grp J) k (sub J)) := by
  rw [val_main_v28_apply, val_main_v27_apply, val_main_v26_apply]
  refine Finset.sum_congr rfl fun k _ => (mul_comm _ _).trans (congrArg₂ (fun a b : EReal => a * b) ?_ ?_)
  · refine Eq.trans (congrArg (val_main_v24 (F := Ideal) x) (funext fun a => ?_)) (pooled_at x t (grp J) k)
    match a with
    | ⟨0, _⟩ => exact Fin.ext (by show (t.val * 1024 + J.val) / 1024 = t.val; omega)
    | ⟨1, _⟩ => exact Fin.ext (by show (t.val * 1024 + J.val) / 256 % 4 = J.val / 256; omega)
    | ⟨2, _⟩ => rfl
  · rw [val_main_v25_apply]
    refine congrArg w (funext fun a => ?_)
    match a with
    | ⟨0, _⟩ => exact Fin.ext (by show (t.val * 1024 + J.val) / 256 % 4 = J.val / 256; omega)
    | ⟨1, _⟩ => rfl
    | ⟨2, _⟩ => exact Fin.ext (by show (t.val * 1024 + J.val) % 256 = J.val % 256; omega)

theorem whole_at (J : Fin 1024) : val_main_v34 (F := Ideal) x w s (ix2 t J) = whole x w s t J := by
  rw [val_main_v34_apply, val_main_v33_apply, val_main_v30_apply, silu_at, mixed_at, val_main_v29_apply, val_main_v31_apply]
  have i : idx_main_v31 (ix2 t J) = ix2 t (col 1024 (by omega) J) := at_ix2 rfl rfl
  have i' : idx_main_v29 (ix2 t J) = ix2 0 J := at_ix2 rfl rfl
  rw [i, i']
  exact (mul_assoc _ _ _).symm

/-- The reference's result, whole. -/
theorem whole_eq : val_main_v34 (F := Ideal) x w s = fun j => whole x w s (j 0) (j 1) := by
  funext j
  obtain ⟨t, J, rfl⟩ : ∃ (t : Fin 2048) (J : Fin 1024), ix2 t J = j := ⟨j 0, j 1, ix2_eta j⟩
  exact whole_at x w s t J

end Cert.Reference21Ideal

namespace Cert.Proof21

theorem frame_ri : Cert.quiescent_Reference21Ideal (hReference21Ideal := Cert.Reference21Ideal.Gen.facts) := fun m ρ _ =>
  (θ_run Cert.Reference21Ideal.defs _ _).mono (fun r h => ⟨fun c => (h c).2, sem_eq_zero_of_no_sems (by decide) r.2⟩)
    (Cert.Reference21Ideal.Value.run (F := Ideal) m ρ)

theorem equal : Cert.algebraic_Kernel21Ideal_Reference21Ideal (hKernel21Ideal := Cert.Kernel21Ideal.Gen.facts) (hReference21Ideal := Cert.Reference21Ideal.Gen.facts) := by
  intro m g m' g' _ ha
  refine ⟨fun c => Cert.Kernel21Ideal.out m c, Cert.Kernel21Ideal.run_value m g, ?_⟩
  refine (θ_run _ _ _).mono (fun r h c => ?_) (Cert.Reference21Ideal.Value.run (F := Ideal) m' g')
  obtain ⟨h0, h1⟩ := h c
  obtain ⟨a0, a1, a2⟩ := ha c
  refine ⟨h0.trans ((Cert.Reference21Ideal.Read.val_main_v34_eq (F := Ideal) _ _ _).trans ?_), h1⟩
  rw [a0, a1, a2]
  exact Cert.Reference21Ideal.whole_eq _ _ _

end Cert.Proof21

end
-- ==== Proof.Run.lean ====
/- The kernel's body at a grid point, run on whole buffers: at the first two points (nothing to wait for), at the points after
   them (the copies of two points before waited first), and at the last (every copy waited). -/
module

public import proofs.«01_k».proof.Proof.Stores

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

/-- The blocks a point reads, -/
abbrev blocksIn (c : Dev nD) (arg1 arg2 : Memref sig .tc .vmem S2048x128 .f32) (arg3 : Memref sig .tc .vmem S31x128 .f32) (arg4 : Memref sig .tc .vmem S2048x128 .f32)
    (x0 x1 : Vec F S2048x128 .f32) (x2 : Vec F S31x128 .f32) (x3 : Vec F S2048x128 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3)
/-- and its scratch. -/
abbrev scratch (c : Dev nD) : sProp 𝕄 :=
  iprop((∃ d, owns (c : Thread nD τ) padX fullShare d) ∗ (∃ d, owns (c : Thread nD τ) padD fullShare d) ∗ (∃ d, owns (c : Thread nD τ) gradX fullShare d))

set_option maxHeartbeats 4000000 in
/-- At the first two points. -/
theorem run_boot (c : Dev nD) (t : Fin grid0.N) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg7 : Memref sig .tc .vmem S31x128 .f32) (harg7 : arg7.IsWhole) (arg8 : Memref sig .tc .vmem S1x128 .f32) (harg8 : arg8.IsWhole)
    (hc0 : ¬late (grid0.coords t)) (hc1 : ¬final (grid0.coords t)) (x0 x1 : Vec F S2048x128 .f32) (x2 : Vec F S31x128 .f32) (x3 : Vec F S2048x128 .f32) (W : Waits sig Unit) (K : PUnit → sProp 𝕄) :
    iprop(blocksIn c arg1 arg2 arg3 arg4 x0 x1 x2 x3 ∗ (∃ d, owns (c : Thread nD τ) arg7 fullShare d) ∗ (∃ d, owns (c : Thread nD τ) arg8 fullShare d) ∗ scratch c
        ∗ ahead c (Ring.bk 8 t.val) ∗ free c (Ring.sl 2 t.val) ∗ owes (c : Thread nD τ) 0 W
        ∗ (iprop(blocksIn c arg1 arg2 arg3 arg4 x0 x1 x2 x3 ∗ owns (c : Thread nD τ) arg7 fullShare (dwOut x0 x1 x3) ∗ owns (c : Thread nD τ) arg8 fullShare (dbOut x3) ∗ scratch c
            ∗ (flightA c (Ring.sl 2 t.val) (Ring.bk 8 t.val) (valOut x1 x2 x3) ∗ flightB c (Ring.sl 2 t.val) (Ring.bk 8 t.val) (gluOut x0 x1 x2 x3)) ∗ (∃ W', owes (c : Thread nD τ) 0 W')) -∗ K ⟨⟩))
      ⊢ wp frame (wpE (defs₀ (F := F)) Variants.none c none) Set.univ (cc0_conv_bwd (grid0.coords t) arg1 harg1 arg2 harg2 arg3 harg3 arg4 harg4 (Memref.whole main_v0_0) (Memref.isWhole_whole _) (Memref.whole main_v0_0) (Memref.isWhole_whole _) arg7 harg7 arg8 harg8 padX (Memref.isWhole_whole _) padD (Memref.isWhole_whole _) gradX (Memref.isWhole_whole _) tilesA (Memref.isWhole_whole _) tilesB (Memref.isWhole_whole _) cc0_scratch5) K := by
  haveI : Fact (¬late (grid0.coords t)) := ⟨hc0⟩
  haveI : Fact (¬final (grid0.coords t)) := ⟨hc1⟩
  simp only [cc0_conv_bwd_eq_skeleton]; unfold cc0_conv_bwd_skel
  simp only [k0_part13_eq_skeleton, k0_part14_eq_skeleton, k0_part15_eq_skeleton]
  unfold blocksIn scratch owns
  iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨⟨%ds0, %fs0, -, HS0⟩, ⟨%ds1, %fs1, -, HS1⟩, ⟨%ds2, %fs2, -, HS2⟩⟩, ⟨⟨%fpA, HpA⟩, ⟨%fpB, HpB⟩⟩, ⟨⟨HcA, ⟨%fA, HtA⟩⟩, ⟨HcB, ⟨%fB, HtB⟩⟩⟩, HW, Hk⟩
  obtain rfl := harg1.eq_unread hf0; obtain rfl := harg2.eq_unread hf1; obtain rfl := harg3.eq_unread hf2; obtain rfl := harg4.eq_unread hf3
  sl_exec (disch := first | sl_exact hc0 | sl_exact hc1)
  sl_step
  iapply Hk
  isplitl [H0 H1 H2 H3]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr; · ipureintro; exact harg4.read_unread _
    iexact H3
  isplitl [H4]
  · iexists _; isplitr; swap; · iexact H4
    ipureintro
    rw [hL3]
    sl_unfold_run_names
    rw [read_padTop, read_padBottom, View.read_writes_full, load_block harg1, load_block harg2, load_block harg4, trips_eq]
    rfl
  isplitl [H5]
  · iexists _; isplitr; swap; · iexact H5
    ipureintro
    sl_unfold_run_names
    rw [View.read_writes_full, load_block harg4]
    rfl
  isplitl [HS0 HS1 HS2]
  · isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl
  isplitl [HcA HcB]
  · isplitl [HcA]
    · iexists _, _; isplitr; swap; · iexact HcA
      ipureintro
      sl_unfold_run_names
      refine (View.read_writes_whole _ _ _).trans ?_
      refine (read_tileA t _ _).trans ?_
      rw [load_block harg2, load_block harg3, load_block harg4, readCov_dx _ _ _ _ trips_eq, read_padBottom]
      rfl
    iexists _, _; isplitr; swap; · iexact HcB
    ipureintro
    sl_unfold_run_names
    refine (View.read_writes_whole _ _ _).trans ?_
    refine (read_tileB t _ _).trans ?_
    rw [load_block harg1, load_block harg2, load_block harg3, load_block harg4, readCov_dx _ _ _ _ trips_eq, read_padBottom]
    rfl
  iexists _; iexact HW

set_option maxHeartbeats 4000000 in
/-- At the points after them, but the last. -/
theorem run_next (c : Dev nD) (t : Fin grid0.N) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg7 : Memref sig .tc .vmem S31x128 .f32) (harg7 : arg7.IsWhole) (arg8 : Memref sig .tc .vmem S1x128 .f32) (harg8 : arg8.IsWhole)
    (hc0 : late (grid0.coords t)) (hc1 : ¬final (grid0.coords t)) (x0 x1 : Vec F S2048x128 .f32) (x2 : Vec F S31x128 .f32) (x3 : Vec F S2048x128 .f32) (W : Waits sig Unit) (K : PUnit → sProp 𝕄) (T0 T1 : Vec F S2048x128 .bf16) :
    iprop(blocksIn c arg1 arg2 arg3 arg4 x0 x1 x2 x3 ∗ (∃ d, owns (c : Thread nD τ) arg7 fullShare d) ∗ (∃ d, owns (c : Thread nD τ) arg8 fullShare d) ∗ scratch c
        ∗ ahead c (Ring.bk 8 t.val) ∗ (flightA c (Ring.sl 2 t.val) (Ring.bk 8 (t.val - 2)) T0 ∗ flightB c (Ring.sl 2 t.val) (Ring.bk 8 (t.val - 2)) T1) ∗ owes (c : Thread nD τ) 0 W
        ∗ (iprop(blocksIn c arg1 arg2 arg3 arg4 x0 x1 x2 x3 ∗ owns (c : Thread nD τ) arg7 fullShare (dwOut x0 x1 x3) ∗ owns (c : Thread nD τ) arg8 fullShare (dbOut x3) ∗ scratch c
            ∗ (home c (Ring.bk 8 (t.val - 2), 0) T0 ∗ home c (Ring.bk 8 (t.val - 2), 1) T1) ∗ (flightA c (Ring.sl 2 t.val) (Ring.bk 8 t.val) (valOut x1 x2 x3) ∗ flightB c (Ring.sl 2 t.val) (Ring.bk 8 t.val) (gluOut x0 x1 x2 x3)) ∗ (∃ W', owes (c : Thread nD τ) 0 W')) -∗ K ⟨⟩))
      ⊢ wp frame (wpE (defs₀ (F := F)) Variants.none c none) Set.univ (cc0_conv_bwd (grid0.coords t) arg1 harg1 arg2 harg2 arg3 harg3 arg4 harg4 (Memref.whole main_v0_0) (Memref.isWhole_whole _) (Memref.whole main_v0_0) (Memref.isWhole_whole _) arg7 harg7 arg8 harg8 padX (Memref.isWhole_whole _) padD (Memref.isWhole_whole _) gradX (Memref.isWhole_whole _) tilesA (Memref.isWhole_whole _) tilesB (Memref.isWhole_whole _) cc0_scratch5) K := by
  haveI : Fact (late (grid0.coords t)) := ⟨hc0⟩
  haveI : Fact (¬final (grid0.coords t)) := ⟨hc1⟩
  simp only [cc0_conv_bwd_eq_skeleton]; unfold cc0_conv_bwd_skel
  simp only [k0_part13_eq_skeleton, k0_part14_eq_skeleton, k0_part15_eq_skeleton]
  unfold blocksIn scratch owns
  iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨⟨%ds0, %fs0, -, HS0⟩, ⟨%ds1, %fs1, -, HS1⟩, ⟨%ds2, %fs2, -, HS2⟩⟩, ⟨⟨%fpA, HpA⟩, ⟨%fpB, HpB⟩⟩, ⟨⟨%ffA, %feA, %htA, HFA⟩, ⟨%ffB, %feB, %htB, HFB⟩⟩, HW, Hk⟩
  obtain rfl := harg1.eq_unread hf0; obtain rfl := harg2.eq_unread hf1; obtain rfl := harg3.eq_unread hf2; obtain rfl := harg4.eq_unread hf3
  sl_exec (disch := first | sl_exact hc0 | sl_exact hc1)
  sl_step
  iapply Hk
  isplitl [H0 H1 H2 H3]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr; · ipureintro; exact harg4.read_unread _
    iexact H3
  isplitl [H4]
  · iexists _; isplitr; swap; · iexact H4
    ipureintro
    rw [hL3]
    sl_unfold_run_names
    rw [read_padTop, read_padBottom, View.read_writes_full, load_block harg1, load_block harg2, load_block harg4, trips_eq]
    rfl
  isplitl [H5]
  · iexists _; isplitr; swap; · iexact H5
    ipureintro
    sl_unfold_run_names
    rw [View.read_writes_full, load_block harg4]
    rfl
  isplitl [HS0 HS1 HS2]
  · isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl
  isplitl [HFA_dst HFB_dst]
  · isplitl [HFA_dst]
    · iexists _; isplitr; · ipureintro; exact htA
      iexact HFA_dst
    iexists _; isplitr; · ipureintro; exact htB
    iexact HFB_dst
  isplitl [HFA HFB]
  · isplitl [HFA]
    · iexists _, _; isplitr; swap; · iexact HFA
      ipureintro
      sl_unfold_run_names
      refine (View.read_writes_whole _ _ _).trans ?_
      refine (read_tileA t _ _).trans ?_
      rw [load_block harg2, load_block harg3, load_block harg4, readCov_dx _ _ _ _ trips_eq, read_padBottom]
      rfl
    iexists _, _; isplitr; swap; · iexact HFB
    ipureintro
    sl_unfold_run_names
    refine (View.read_writes_whole _ _ _).trans ?_
    refine (read_tileB t _ _).trans ?_
    rw [load_block harg1, load_block harg2, load_block harg3, load_block harg4, readCov_dx _ _ _ _ trips_eq, read_padBottom]
    rfl
  iexists _; iexact HW

set_option maxHeartbeats 4000000 in
/-- At the last point. -/
theorem run_last (c : Dev nD) (t : Fin grid0.N) (arg1 : Memref sig .tc .vmem S2048x128 .f32) (harg1 : arg1.IsWhole) (arg2 : Memref sig .tc .vmem S2048x128 .f32) (harg2 : arg2.IsWhole) (arg3 : Memref sig .tc .vmem S31x128 .f32) (harg3 : arg3.IsWhole) (arg4 : Memref sig .tc .vmem S2048x128 .f32) (harg4 : arg4.IsWhole) (arg7 : Memref sig .tc .vmem S31x128 .f32) (harg7 : arg7.IsWhole) (arg8 : Memref sig .tc .vmem S1x128 .f32) (harg8 : arg8.IsWhole)
    (hc0 : late (grid0.coords t)) (hc1 : final (grid0.coords t)) (x0 x1 : Vec F S2048x128 .f32) (x2 : Vec F S31x128 .f32) (x3 : Vec F S2048x128 .f32) (W : Waits sig Unit) (K : PUnit → sProp 𝕄) (T0 T1 U0 U1 : Vec F S2048x128 .bf16) :
    iprop(blocksIn c arg1 arg2 arg3 arg4 x0 x1 x2 x3 ∗ (∃ d, owns (c : Thread nD τ) arg7 fullShare d) ∗ (∃ d, owns (c : Thread nD τ) arg8 fullShare d) ∗ scratch c
        ∗ ahead c (Ring.bk 8 t.val) ∗ (flightA c (Ring.sl 2 t.val) (Ring.bk 8 (t.val - 2)) T0 ∗ flightB c (Ring.sl 2 t.val) (Ring.bk 8 (t.val - 2)) T1) ∗ (flightA c (Ring.sl 2 (t.val + 1)) (Ring.bk 8 (t.val - 1)) U0 ∗ flightB c (Ring.sl 2 (t.val + 1)) (Ring.bk 8 (t.val - 1)) U1) ∗ owes (c : Thread nD τ) 0 W
        ∗ (iprop(blocksIn c arg1 arg2 arg3 arg4 x0 x1 x2 x3 ∗ owns (c : Thread nD τ) arg7 fullShare (dwOut x0 x1 x3) ∗ owns (c : Thread nD τ) arg8 fullShare (dbOut x3) ∗ scratch c
            ∗ (home c (Ring.bk 8 t.val, 0) (valOut x1 x2 x3) ∗ home c (Ring.bk 8 t.val, 1) (gluOut x0 x1 x2 x3)) ∗ (home c (Ring.bk 8 (t.val - 2), 0) T0 ∗ home c (Ring.bk 8 (t.val - 2), 1) T1) ∗ (home c (Ring.bk 8 (t.val - 1), 0) U0 ∗ home c (Ring.bk 8 (t.val - 1), 1) U1) ∗ free c (Ring.sl 2 t.val) ∗ free c (Ring.sl 2 (t.val + 1)) ∗ (∃ W', owes (c : Thread nD τ) 0 W')) -∗ K ⟨⟩))
      ⊢ wp frame (wpE (defs₀ (F := F)) Variants.none c none) Set.univ (cc0_conv_bwd (grid0.coords t) arg1 harg1 arg2 harg2 arg3 harg3 arg4 harg4 (Memref.whole main_v0_0) (Memref.isWhole_whole _) (Memref.whole main_v0_0) (Memref.isWhole_whole _) arg7 harg7 arg8 harg8 padX (Memref.isWhole_whole _) padD (Memref.isWhole_whole _) gradX (Memref.isWhole_whole _) tilesA (Memref.isWhole_whole _) tilesB (Memref.isWhole_whole _) cc0_scratch5) K := by
  haveI : Fact (late (grid0.coords t)) := ⟨hc0⟩
  haveI : Fact (final (grid0.coords t)) := ⟨hc1⟩
  simp only [cc0_conv_bwd_eq_skeleton]; unfold cc0_conv_bwd_skel
  simp only [k0_part13_eq_skeleton, k0_part14_eq_skeleton, k0_part15_eq_skeleton]
  unfold blocksIn scratch owns
  iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨⟨%ds0, %fs0, -, HS0⟩, ⟨%ds1, %fs1, -, HS1⟩, ⟨%ds2, %fs2, -, HS2⟩⟩, ⟨⟨%fpA, HpA⟩, ⟨%fpB, HpB⟩⟩, ⟨⟨%ffA, %feA, %htA, HFA⟩, ⟨%ffB, %feB, %htB, HFB⟩⟩, ⟨⟨%fgA, %fhA, %huA, HIA⟩, ⟨%fgB, %fhB, %huB, HIB⟩⟩, HW, Hk⟩
  obtain rfl := harg1.eq_unread hf0; obtain rfl := harg2.eq_unread hf1; obtain rfl := harg3.eq_unread hf2; obtain rfl := harg4.eq_unread hf3
  sl_exec (disch := first | sl_exact hc0 | sl_exact hc1)
  sl_step
  iapply Hk
  isplitl [H0 H1 H2 H3]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr; · ipureintro; exact harg4.read_unread _
    iexact H3
  isplitl [H4]
  · iexists _; isplitr; swap; · iexact H4
    ipureintro
    rw [hL3]
    sl_unfold_run_names
    rw [read_padTop, read_padBottom, View.read_writes_full, load_block harg1, load_block harg2, load_block harg4, trips_eq]
    rfl
  isplitl [H5]
  · iexists _; isplitr; swap; · iexact H5
    ipureintro
    sl_unfold_run_names
    rw [View.read_writes_full, load_block harg4]
    rfl
  isplitl [HS0 HS1 HS2]
  · isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl
  isplitl [HpA HpB]
  · isplitl [HpA]
    · iexists _; isplitr; swap; · iexact HpA
      ipureintro
      sl_unfold_run_names
      refine (View.read_writes_whole _ _ _).trans ?_
      refine (read_tileA t _ _).trans ?_
      rw [load_block harg2, load_block harg3, load_block harg4, readCov_dx _ _ _ _ trips_eq, read_padBottom]
      rfl
    iexists _; isplitr; swap; · iexact HpB
    ipureintro
    sl_unfold_run_names
    refine (View.read_writes_whole _ _ _).trans ?_
    refine (read_tileB t _ _).trans ?_
    rw [load_block harg1, load_block harg2, load_block harg3, load_block harg4, readCov_dx _ _ _ _ trips_eq, read_padBottom]
    rfl
  isplitl [HFA_dst HFB_dst]
  · isplitl [HFA_dst]
    · iexists _; isplitr; · ipureintro; exact htA
      iexact HFA_dst
    iexists _; isplitr; · ipureintro; exact htB
    iexact HFB_dst
  isplitl [HIA_dst HIB_dst]
  · isplitl [HIA_dst]
    · iexists _; isplitr; · ipureintro; exact huA
      iexact HIA_dst
    iexists _; isplitr; · ipureintro; exact huB
    iexact HIB_dst
  isplitl [HFA HFA_src HFB HFB_src]
  · isplitl [HFA HFA_src]
    · isplitl [HFA]; · iexact HFA
      iexists _; iexact HFA_src
    isplitl [HFB]; · iexact HFB
    iexists _; iexact HFB_src
  isplitl [HIA HIA_src HIB HIB_src]
  · isplitl [HIA HIA_src]
    · isplitl [HIA]; · iexact HIA
      iexists _; iexact HIA_src
    isplitl [HIB]; · iexact HIB
    iexists _; iexact HIB_src
  iexists _; iexact HW

end Cert.KernelIdeal

end
-- ==== Proof.Columns.lean ====
/- The result's columns: split into the column blocks the kernel writes when it starts, joined again when it ends. -/
module

public import proofs.«01_k».proof.Proof.Run

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Gen

variable {F : FTy → Type} [FloatOps F]

local notation "𝕄" => MT nD τ sig Unit (Elt F) ℕ (Pipeline.UD sig nD τ) ℕ

/-- A family over two members. -/
theorem both (P : Fin 2 → sProp 𝕄) : bigSep Finset.univ P = iprop(P 0 ∗ P 1) := by
  rw [BI.bigSep_eq_bigSepL_of_eq [0, 1] (by decide) (by decide)]; rfl

/-- A family weakened member by member. -/
theorem each {I : Type} {s : Finset I} {P Q : I → sProp 𝕄} (h : ∀ i ∈ s, P i ⊢ Q i) : bigSep s P ⊢ bigSep s Q := BI.bigSep_mono h

/-- The columns outside every column block. -/
abbrev others : Finset S2048x6144.Idx := Finset.univ \ Finset.univ.biUnion pieceSet

/-- The result whose written column blocks hold `TA` and `TB`, the others at `f`. -/
def columns (TA TB : Fin 8 → Vec F S2048x128 .bf16) (f : Vec F S2048x6144 .bf16) : Vec F S2048x6144 .bf16 := fun j =>
  if h : 3072 ≤ (j 1).val ∧ (j 1).val < 4096 then
    TA ⟨((j 1).val - 3072) / 128, by omega⟩ (ix2 (j 0) ⟨((j 1).val - 3072) % 128, Nat.mod_lt _ (by decide)⟩)
  else if h' : 4096 ≤ (j 1).val ∧ (j 1).val < 5120 then
    TB ⟨((j 1).val - 4096) / 128, by omega⟩ (ix2 (j 0) ⟨((j 1).val - 4096) % 128, Nat.mod_lt _ (by decide)⟩)
  else f j

/-- Where an index of a column block falls in the result. -/
def pieceAt (u : Fin 8 × Fin 2) (z : S2048x128.Idx) : S2048x6144.Idx := (Rect.unit (s := S2048x6144) (pieceOff u) S2048x128.size (pieceOff_inb u)).emb z

theorem pieceAt_eq (u : Fin 8 × Fin 2) (z : S2048x128.Idx) :
    pieceAt u z 0 = z 0 ∧ (pieceAt u z 1).val = 128 * u.1.val + (1024 * u.2.val + 3072) + (z 1).val := by
  unfold pieceAt
  refine ⟨Fin.ext ?_, ?_⟩
  · rw [Rect.emb_apply]; change 0 + 1 * (z 0).val = (z 0).val; omega
  · rw [Rect.emb_apply]; change 128 * u.1.val + (1024 * u.2.val + 3072) + 1 * (z 1).val = _; omega

theorem columns_at_A (TA TB : Fin 8 → Vec F S2048x128 .bf16) (f : Vec F S2048x6144 .bf16) (u : Fin 8) (z : S2048x128.Idx) (j : S2048x6144.Idx)
    (h0 : j 0 = z 0) (h1 : (j 1).val = 128 * u.val + (1024 * 0 + 3072) + (z 1).val) : columns TA TB f j = TA u z := by
  have hz := (z 1).isLt
  change (z 1).val < 128 at hz
  have hu := u.isLt
  unfold columns
  rw [dif_pos (by constructor <;> omega)]
  refine congr (congrArg TA (Fin.ext ?_)) ?_
  · change ((j 1).val - 3072) / 128 = u.val
    omega
  · funext a; fin_cases a
    · exact h0
    · refine Fin.ext ?_
      change ((j 1).val - 3072) % 128 = (z 1).val
      omega

theorem columns_A (TA TB : Fin 8 → Vec F S2048x128 .bf16) (f : Vec F S2048x6144 .bf16) (u : Fin 8) :
    (piece (u, 0)).view.read (Elt F) (columns TA TB f) = TA u :=
  funext fun z => columns_at_A TA TB f u z (pieceAt (u, 0) z) (pieceAt_eq (u, 0) z).1 (pieceAt_eq (u, 0) z).2

theorem columns_at_B (TA TB : Fin 8 → Vec F S2048x128 .bf16) (f : Vec F S2048x6144 .bf16) (u : Fin 8) (z : S2048x128.Idx) (j : S2048x6144.Idx)
    (h0 : j 0 = z 0) (h1 : (j 1).val = 128 * u.val + (1024 * 1 + 3072) + (z 1).val) : columns TA TB f j = TB u z := by
  have hz := (z 1).isLt
  change (z 1).val < 128 at hz
  have hu := u.isLt
  unfold columns
  rw [dif_neg (by omega), dif_pos (by constructor <;> omega)]
  refine congr (congrArg TB (Fin.ext ?_)) ?_
  · change ((j 1).val - 4096) / 128 = u.val
    omega
  · funext a; fin_cases a
    · exact h0
    · refine Fin.ext ?_
      change ((j 1).val - 4096) % 128 = (z 1).val
      omega

theorem columns_B (TA TB : Fin 8 → Vec F S2048x128 .bf16) (f : Vec F S2048x6144 .bf16) (u : Fin 8) :
    (piece (u, 1)).view.read (Elt F) (columns TA TB f) = TB u :=
  funext fun z => columns_at_B TA TB f u z (pieceAt (u, 1) z) (pieceAt_eq (u, 1) z).1 (pieceAt_eq (u, 1) z).2

theorem columns_others (TA TB : Fin 8 → Vec F S2048x128 .bf16) (f : Vec F S2048x6144 .bf16) (j : S2048x6144.Idx) (hj : j ∈ others) :
    columns TA TB f j = f j := by
  have hn := (Finset.mem_sdiff.mp hj).2
  unfold columns
  rw [dif_neg, dif_neg]
  · intro h
    refine hn (Finset.mem_biUnion.mpr ⟨(⟨((j 1).val - 4096) / 128, by omega⟩, 1), Finset.mem_univ _, (mem_pieceSet _ j).mpr ?_⟩)
    change 128 * (((j 1).val - 4096) / 128) + (1024 * 1 + 3072) ≤ (j 1).val ∧ (j 1).val < 128 * (((j 1).val - 4096) / 128) + (1024 * 1 + 3072) + 128
    omega
  · intro h
    refine hn (Finset.mem_biUnion.mpr ⟨(⟨((j 1).val - 3072) / 128, by omega⟩, 0), Finset.mem_univ _, (mem_pieceSet _ j).mpr ?_⟩)
    change 128 * (((j 1).val - 3072) / 128) + (1024 * 0 + 3072) ≤ (j 1).val ∧ (j 1).val < 128 * (((j 1).val - 3072) / 128) + (1024 * 0 + 3072) + 128
    omega

section
variable (c : Dev nD)

abbrev resultLoc : Loc nD τ sig := (c : Thread nD τ).loc main_v0_0

theorem pieceP_eq (u : Fin 8 × Fin 2) (f) : pieceP (F := F) c u f = ((resultLoc c) ↦[pieceSet u]{fullShare} f : sProp 𝕄) := by
  unfold pieceP; rw [piece_set]; rfl
theorem tileAP_eq (g : Fin 2) (e) : tileAP (F := F) c g e = (((c : Thread nD τ).loc cc0_scratch3) ↦[tileSet g]{fullShare} e : sProp 𝕄) := by
  unfold tileAP; rw [tileA_set]; rfl
theorem tileBP_eq (g : Fin 2) (e) : tileBP (F := F) c g e = (((c : Thread nD τ).loc cc0_scratch4) ↦[tileSet g]{fullShare} e : sProp 𝕄) := by
  unfold tileBP; rw [tileB_set]; rfl

/-- A column block holding `T` is that block of any result that holds `T` there. -/
theorem home_at (u : Fin 8 × Fin 2) (T : Vec F S2048x128 .bf16) (G : Vec F S2048x6144 .bf16) (hG : (piece u).view.read (Elt F) G = T) :
    home c u T ⊢ ((resultLoc c) ↦[pieceSet u]{fullShare} G : sProp 𝕄) := by
  iintro ⟨%f, %hf, H⟩
  have e : pieceP (F := F) c u f = pieceP c u G := pointsTo_congr fun i hi => by
    obtain ⟨z, rfl⟩ := View.exists_emb_of_mem_set _ hi
    exact congrFun (hf.trans hG.symm) z
  iapply (Entails.of_eq (pieceP_eq c u G))
  iapply (Entails.of_eq e)
  iexact H

theorem columns_split (f : Vec F S2048x6144 .bf16) :
    ((resultLoc c) ↦{fullShare} f : sProp 𝕄) ⊢ iprop(bigSep Finset.univ (ahead c) ∗ (resultLoc c) ↦[others]{fullShare} f) := by
  iintro H
  ihave H' := (pointsTo_split_subset (q := fullShare) (f := f) (Finset.subset_univ (Finset.univ.biUnion pieceSet))).1 $$ H
  icases H' with ⟨Hs, HO⟩
  ihave HB := (Entails.of_eq (pointsTo_biUnion (Ix := Unit) (Name := ℕ) (U := Pipeline.UD sig nD τ) (Lvl := ℕ) (q := fullShare) (f := f) Finset.univ pieceSet
    (fun i _ i' _ h => pieceSet_disjoint i i' h))) $$ Hs
  isplitl [HB]
  · iapply (Entails.of_eq (BI.bigSep_congr (s := Finset.univ) fun u _ => both (F := F) (fun r => iprop(∃ f, pieceP (F := F) c (u, r) f))))
    iapply (Entails.of_eq (BI.bigSep_univ_prod (fun i : Fin 8 × Fin 2 => iprop(∃ f, pieceP (F := F) c i f))))
    iapply (each (F := F) (s := Finset.univ) fun i _ =>
      (show ((resultLoc c) ↦[pieceSet i]{fullShare} f : sProp 𝕄) ⊢ iprop(∃ f, pieceP c i f) from by iintro H; iexists f; iapply (Entails.of_eq (pieceP_eq c i f).symm); iexact H))
    iexact HB
  iexact HO

theorem columns_join (TA TB : Fin 8 → Vec F S2048x128 .bf16) (f : Vec F S2048x6144 .bf16) :
    iprop(bigSep Finset.univ (behind c TA TB) ∗ (resultLoc c) ↦[others]{fullShare} f) ⊢ ((resultLoc c) ↦{fullShare} (columns TA TB f) : sProp 𝕄) := by
  iintro ⟨HB, HO⟩
  iapply (pointsTo_split_subset (q := fullShare) (f := columns TA TB f) (Finset.subset_univ (Finset.univ.biUnion pieceSet))).2
  isplitl [HB]
  · iapply (Entails.of_eq (pointsTo_biUnion (Ix := Unit) (Name := ℕ) (U := Pipeline.UD sig nD τ) (Lvl := ℕ) (q := fullShare) (f := columns TA TB f) Finset.univ pieceSet
      (fun i _ i' _ h => pieceSet_disjoint i i' h)).symm)
    iapply (Entails.of_eq (BI.bigSep_univ_prod (fun i : Fin 8 × Fin 2 => ((resultLoc c) ↦[pieceSet i]{fullShare} (columns TA TB f) : sProp 𝕄))).symm)
    iapply (Entails.of_eq (BI.bigSep_congr (s := Finset.univ) fun u _ => both (F := F) (fun r => ((resultLoc c) ↦[pieceSet (u, r)]{fullShare} (columns TA TB f) : sProp 𝕄))).symm)
    iapply (each (F := F) (s := Finset.univ) fun u _ =>
      (show behind c TA TB u ⊢ iprop(((resultLoc c) ↦[pieceSet (u, 0)]{fullShare} (columns TA TB f)) ∗ ((resultLoc c) ↦[pieceSet (u, 1)]{fullShare} (columns TA TB f))) from by
        iintro ⟨HA, HB⟩
        isplitl [HA]
        · iapply (home_at c (u, 0) (TA u) (columns TA TB f) (columns_A TA TB f u)); iexact HA
        iapply (home_at c (u, 1) (TB u) (columns TA TB f) (columns_B TA TB f u)); iexact HB))
    iexact HB
  iapply (Entails.of_eq (pointsTo_congr (fun i hi => (columns_others TA TB f i hi).symm)))
  iexact HO

/-- What of the tiles' buffers is in no tile (nothing), carried beside the ring. -/
abbrev spareA : sProp 𝕄 := iprop(∃ f : Buf (Elt F) ((c : Thread nD τ).loc cc0_scratch3), ((c : Thread nD τ).loc cc0_scratch3) ↦[Finset.univ \ Finset.univ.biUnion tileSet]{fullShare} f)
abbrev spareB : sProp 𝕄 := iprop(∃ f : Buf (Elt F) ((c : Thread nD τ).loc cc0_scratch4), ((c : Thread nD τ).loc cc0_scratch4) ↦[Finset.univ \ Finset.univ.biUnion tileSet]{fullShare} f)

theorem tilesA_split : iprop(∃ d, owns (c : Thread nD τ) tilesA fullShare d) ⊢ (iprop(bigSep Finset.univ (fun g => iprop(∃ e, tileAP (F := F) c g e)) ∗ spareA c) : sProp 𝕄) := by
  simp only [tilesA, owns_whole]
  exact Ring.pieces_split_spare (U := Pipeline.UD sig nD τ) (ℓ := (c : Thread nD τ).loc cc0_scratch3) (q := fullShare) tileSet tileSet_disjoint (fun g e => tileAP c g e) (fun g e => tileAP_eq c g e)
theorem tilesB_split : iprop(∃ d, owns (c : Thread nD τ) tilesB fullShare d) ⊢ (iprop(bigSep Finset.univ (fun g => iprop(∃ e, tileBP (F := F) c g e)) ∗ spareB c) : sProp 𝕄) := by
  simp only [tilesB, owns_whole]
  exact Ring.pieces_split_spare (U := Pipeline.UD sig nD τ) (ℓ := (c : Thread nD τ).loc cc0_scratch4) (q := fullShare) tileSet tileSet_disjoint (fun g e => tileBP c g e) (fun g e => tileBP_eq c g e)
theorem tilesA_join : (iprop(bigSep Finset.univ (fun g => iprop(∃ e, tileAP (F := F) c g e)) ∗ spareA c) : sProp 𝕄) ⊢ iprop(∃ d, owns (c : Thread nD τ) tilesA fullShare d) := by
  simp only [tilesA, owns_whole]
  exact Ring.pieces_join_spare (U := Pipeline.UD sig nD τ) (ℓ := (c : Thread nD τ).loc cc0_scratch3) (q := fullShare) tileSet tileSet_disjoint (fun g e => tileAP c g e) (fun g e => tileAP_eq c g e)
theorem tilesB_join : (iprop(bigSep Finset.univ (fun g => iprop(∃ e, tileBP (F := F) c g e)) ∗ spareB c) : sProp 𝕄) ⊢ iprop(∃ d, owns (c : Thread nD τ) tilesB fullShare d) := by
  simp only [tilesB, owns_whole]
  exact Ring.pieces_join_spare (U := Pipeline.UD sig nD τ) (ℓ := (c : Thread nD τ).loc cc0_scratch4) (q := fullShare) tileSet tileSet_disjoint (fun g e => tileBP c g e) (fun g e => tileBP_eq c g e)

/-- The four cells at zero, as the launch lists them. -/
abbrev cells : sProp 𝕄 := iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0)
theorem ownCells_eq : (Pipeline.ownSems0 (Ix := Unit) (Name := ℕ) (U := Pipeline.UD sig nD τ) (Lvl := ℕ) (Val := Elt F) (τ := τ) ownCells c : sProp 𝕄) = cells c := by
  rw [Pipeline.ownSems0_eq_of_list c ownCells [0, 1, 2, 3] (by decide) (by decide)]; rfl
theorem cellP_00 : cellP (F := F) c 0 0 = semVal ((c : Thread nD τ), SemLoc.dma 12) 0 := by unfold cellP; rw [cellLoc_eq]; rfl
theorem cellP_10 : cellP (F := F) c 1 0 = semVal ((c : Thread nD τ), SemLoc.dma 13) 0 := by unfold cellP; rw [cellLoc_eq]; rfl
theorem cellP_01 : cellP (F := F) c 0 1 = semVal ((c : Thread nD τ), SemLoc.dma 14) 0 := by unfold cellP; rw [cellLoc_eq]; rfl
theorem cellP_11 : cellP (F := F) c 1 1 = semVal ((c : Thread nD τ), SemLoc.dma 15) 0 := by unfold cellP; rw [cellLoc_eq]; rfl

/-- The buffers and cells the columns are written through, whole. -/
abbrev through : sProp 𝕄 := iprop((∃ d, owns (c : Thread nD τ) tilesA fullShare d) ∗ (∃ d, owns (c : Thread nD τ) tilesB fullShare d) ∗ cells c)

/-- Into the ring, -/
theorem ring_in (TA TB : Fin 8 → Vec F S2048x128 .bf16) (f : Vec F S2048x6144 .bf16) :
    iprop(through c ∗ (resultLoc c) ↦{fullShare} f) ⊢ iprop(ring c TA TB 0 ∗ spareA c ∗ spareB c ∗ (resultLoc c) ↦[others]{fullShare} f) := by
  unfold ring; rw [Ring.AtBΦ_lt _ _ _ _ _ 0 (by decide), Ring.AtB_zero]; unfold Ring.AtB₀
  rw [both (free c)]
  iintro ⟨⟨HA, HB, H12, H13, H14, H15⟩, HR⟩
  ihave HA' := (tilesA_split (F := F) c) $$ HA
  ihave HB' := (tilesB_split (F := F) c) $$ HB
  rw [both, both]
  icases HA' with ⟨⟨HA0, HA1⟩, HSA⟩
  icases HB' with ⟨⟨HB0, HB1⟩, HSB⟩
  ihave HR' := (columns_split (F := F) c f) $$ HR
  icases HR' with ⟨HP, HO⟩
  unfold free
  rw [cellP_00, cellP_10, cellP_01, cellP_11]
  isplitl [HP H12 H13 H14 H15 HA0 HA1 HB0 HB1]
  · isplitl [HP]; · iexact HP
    isplitl [H12 H14 HA0 HB0]
    · isplitl [H12 HA0]
      · isplitl [H12]; · iexact H12
        iexact HA0
      isplitl [H14]; · iexact H14
      iexact HB0
    isplitl [H13 HA1]
    · isplitl [H13]; · iexact H13
      iexact HA1
    isplitl [H15]; · iexact H15
    iexact HB1
  isplitl [HSA]; · iexact HSA
  isplitl [HSB]; · iexact HSB
  iexact HO

/-- and out of it. -/
theorem ring_out (TA TB : Fin 8 → Vec F S2048x128 .bf16) (f : Vec F S2048x6144 .bf16) :
    iprop(ring c TA TB 8 ∗ spareA c ∗ spareB c ∗ (resultLoc c) ↦[others]{fullShare} f) ⊢ iprop(through c ∗ (resultLoc c) ↦{fullShare} (columns TA TB f)) := by
  unfold ring; rw [Ring.AtBΦ_end _ _ _ _ _ 8 rfl]; unfold Ring.AtBEnd
  rw [both (free c)]
  unfold free
  rw [cellP_00, cellP_10, cellP_01, cellP_11]
  iintro ⟨⟨HP, ⟨⟨H12, HA0⟩, ⟨H14, HB0⟩⟩, ⟨⟨H13, HA1⟩, ⟨H15, HB1⟩⟩⟩, HSA, HSB, HO⟩
  isplitl [H12 H13 H14 H15 HA0 HA1 HB0 HB1 HSA HSB]
  · isplitl [HA0 HA1 HSA]
    · iapply (tilesA_join (F := F) c)
      rw [both]
      isplitl [HA0 HA1]
      · isplitl [HA0]; · iexact HA0
        iexact HA1
      iexact HSA
    isplitl [HB0 HB1 HSB]
    · iapply (tilesB_join (F := F) c)
      rw [both]
      isplitl [HB0 HB1]
      · isplitl [HB0]; · iexact HB0
        iexact HB1
      iexact HSB
    isplitl [H12]; · iexact H12
    isplitl [H13]; · iexact H13
    isplitl [H14]; · iexact H14
    iexact H15
  iapply (columns_join c TA TB f)
  isplitl [HP]; · iexact HP
  iexact HO

end

end Cert.KernelIdeal

end
-- ==== Proof.Whole.lean ====
/- The whole launch: the kernel's body at every grid point keeps the columns' ring, so the result ends with the gradient of the
   values and of the gates in its column blocks, and the taps' and the bias's gradients in theirs. -/
module

public import proofs.«01_k».proof.Proof.Columns

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- `@main` before the kernel: the argument whose columns are kept is copied to the result. -/
theorem main_before : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-! ## What each point leaves -/

/-- Grid point `u`. -/
def point (u : Fin 8) : Fin cfg0.N := u.cast N_0.symm
theorem point_bk (t : Fin cfg0.N) : point (Ring.bk 8 t.val) = t :=
  Fin.ext (Ring.bk_val (NB := 8) (lt_of_lt_of_eq t.isLt N_0))

/-- The column block of the values' gradient at point `u`, -/
def colA (c : Dev nD) (u : Fin 8) : Vec F S2048x128 .bf16 := valOut (iblk m c 1 (point u)) (iblk m c 2 (point u)) (iblk m c 3 (point u))
/-- and of the gates'. -/
def colB (c : Dev nD) (u : Fin 8) : Vec F S2048x128 .bf16 := gluOut (iblk m c 0 (point u)) (iblk m c 1 (point u)) (iblk m c 2 (point u)) (iblk m c 3 (point u))
theorem colA_bk (c : Dev nD) (t : Fin cfg0.N) : colA m c (Ring.bk 8 t.val) = valOut (iblk m c 1 t) (iblk m c 2 t) (iblk m c 3 t) := by
  unfold colA; rw [point_bk]
theorem colB_bk (c : Dev nD) (t : Fin cfg0.N) : colB m c (Ring.bk 8 t.val) = gluOut (iblk m c 0 t) (iblk m c 1 t) (iblk m c 2 t) (iblk m c 3 t) := by
  unfold colB; rw [point_bk]

/-- The result when the launch ends. -/
def columnsEnd (c : Dev nD) : Vec F S2048x6144 .bf16 := columns (colA m c) (colB m c) (V m c main_v0_0)

/-- What holds before point `k`, beside the blocks. -/
def invAt (c : Dev nD) (k : ℕ) : sProp 𝕄 :=
  iprop(scratch c ∗ (∃ r, prngReg c r) ∗ ring c (colA m c) (colB m c) k ∗ spareA c ∗ spareB c ∗ (resultLoc c) ↦[others]{fullShare} (V m c main_v0_0))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dwOut (iblk m c 0 t) (iblk m c 1 t) (iblk m c 3 t)
    | ⟨5, _⟩ => dbOut (iblk m c 3 t)
  Φ t := invAt m c t.val
  q w := Pipeline.shareOf spec0 w
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = invAt m c t.val := by
  dsimp only [dats]; simp only [Fin.coe_castSucc]
theorem inv_succ (c : Dev nD) (t : Fin cfg0.N) : (dats m 0 c).Φ t.succ = invAt m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = dwOut (iblk m c 0 t) (iblk m c 1 t) (iblk m c 3 t) := by dsimp only [dats]
theorem after_5 (c : Dev nD) (t : Fin cfg0.N) : (dats m 0 c).after 5 t = dbOut (iblk m c 3 t) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body at a point -/

abbrev buf0 (t : Fin cfg0.N) : Memref sig .tc .vmem S2048x128 .f32 := win0_0.stage (cfg0.slots t 0)
abbrev buf0_whole (t : Fin cfg0.N) : (buf0 t).IsWhole := hstage0_0 ((cfg0.slots t 0).cast nbuf0_0)
abbrev buf1 (t : Fin cfg0.N) : Memref sig .tc .vmem S2048x128 .f32 := win0_1.stage (cfg0.slots t 1)
abbrev buf1_whole (t : Fin cfg0.N) : (buf1 t).IsWhole := hstage0_1 ((cfg0.slots t 1).cast nbuf0_1)
abbrev buf2 (t : Fin cfg0.N) : Memref sig .tc .vmem S31x128 .f32 := win0_2.stage (cfg0.slots t 2)
abbrev buf2_whole (t : Fin cfg0.N) : (buf2 t).IsWhole := hstage0_2 ((cfg0.slots t 2).cast nbuf0_2)
abbrev buf3 (t : Fin cfg0.N) : Memref sig .tc .vmem S2048x128 .f32 := win0_3.stage (cfg0.slots t 3)
abbrev buf3_whole (t : Fin cfg0.N) : (buf3 t).IsWhole := hstage0_3 ((cfg0.slots t 3).cast nbuf0_3)
abbrev buf4 (t : Fin cfg0.N) : Memref sig .tc .vmem S31x128 .f32 := win0_4.stage (cfg0.slots t 4)
abbrev buf4_whole (t : Fin cfg0.N) : (buf4 t).IsWhole := hstage0_4 ((cfg0.slots t 4).cast nbuf0_4)
abbrev buf5 (t : Fin cfg0.N) : Memref sig .tc .vmem S1x128 .f32 := win0_5.stage (cfg0.slots t 5)
abbrev buf5_whole (t : Fin cfg0.N) : (buf5 t).IsWhole := hstage0_5 ((cfg0.slots t 5).cast nbuf0_5)

def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [after_0, after_1, after_2, after_3, after_4, after_5]
  rw [inv_castSucc m c t, inv_succ m c t]
  unfold Dat.owesAt Pipeline.owesWithin
  rw [show (dats m 0 c).owed t.castSucc = 0 from rfl, show (dats m 0 c).owed t.succ = 0 from rfl]
  unfold invAt ring
  have hN : t.val < 8 := lt_of_lt_of_eq t.isLt (show cfg0.N = 8 from N_0)
  have hA := colA_bk m c t
  have hB := colB_bk m c t
  by_cases h0 : 2 ≤ t.val
  · by_cases h1 : t.val + 1 = 8
    · rw [Ring.AtBΦ_lt _ _ _ _ _ t.val hN, Ring.AtB22_here_last _ _ _ _ t.val h0 h1, Ring.AtBΦ_end _ _ _ _ _ (t.val + 1) h1, Ring.AtB22_drained _ _ t.val h0 h1]
      iintro ⟨⟨HS, Hg, ⟨Hp, HB, HF, HI⟩, HsA, HsB, HO⟩, ⟨%W, -, HW⟩, ⟨%d0, H0⟩, ⟨%d1, H1⟩, ⟨%d2, H2⟩, ⟨%d3, H3⟩, ⟨%d4, H4⟩, ⟨%d5, H5⟩⟩
      iapply (run_last c t (buf0 t) (buf0_whole t) (buf1 t) (buf1_whole t) (buf2 t) (buf2_whole t) (buf3 t) (buf3_whole t) (buf4 t) (buf4_whole t) (buf5 t) (buf5_whole t) ((late_iff t).mpr h0) ((final_iff t).mpr h1) (iblk m c 0 t) (iblk m c 1 t) (iblk m c 2 t) (iblk m c 3 t) W _ _ _ _ _)
      isplitl [H0 H1 H2 H3]
      · isplitl [H0]; · iexact H0
        isplitl [H1]; · iexact H1
        isplitl [H2]; · iexact H2
        iexact H3
      isplitl [H4]; · iexists _; iexact H4
      isplitl [H5]; · iexists _; iexact H5
      isplitl [HS]; · iexact HS
      isplitl [Hp]; · iexact Hp
      isplitl [HF]; · iexact HF
      isplitl [HI]; · iexact HI
      isplitl [HW]; · iexact HW
      iintro ⟨⟨H0, H1, H2, H3⟩, H4, H5, HS, Ho, Hl, Hm, Hf, Hf', ⟨%W', HW'⟩⟩
      isplitl [HS Hg HsA HsB HO HB Ho Hl Hm Hf Hf']
      · isplitl [HS]; · iexact HS
        isplitl [Hg]; · iexact Hg
        isplitl [HB Ho Hl Hm Hf Hf']
        · isplitl [Ho Hl Hm HB]
          · isplitl [Ho]
            · unfold behind; rw [hA, hB]; iexact Ho
            isplitl [Hl]; · iexact Hl
            isplitl [Hm]; · iexact Hm
            iexact HB
          isplitl [Hf]; · iexact Hf
          iexact Hf'
        isplitl [HsA]; · iexact HsA
        isplitl [HsB]; · iexact HsB
        iexact HO
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5
    · rw [Ring.AtBΦ_lt _ _ _ _ _ t.val hN, Ring.AtB22_here _ _ _ _ t.val h0 hN, Ring.AtBΦ_lt _ _ _ _ _ (t.val + 1) (by omega), Ring.AtB22_next _ _ _ _ t.val h0 hN]
      iintro ⟨⟨HS, Hg, ⟨⟨Hp, HA⟩, HB, HF, HI⟩, HsA, HsB, HO⟩, ⟨%W, -, HW⟩, ⟨%d0, H0⟩, ⟨%d1, H1⟩, ⟨%d2, H2⟩, ⟨%d3, H3⟩, ⟨%d4, H4⟩, ⟨%d5, H5⟩⟩
      iapply (run_next c t (buf0 t) (buf0_whole t) (buf1 t) (buf1_whole t) (buf2 t) (buf2_whole t) (buf3 t) (buf3_whole t) (buf4 t) (buf4_whole t) (buf5 t) (buf5_whole t) ((late_iff t).mpr h0) (fun h => h1 ((final_iff t).mp h)) (iblk m c 0 t) (iblk m c 1 t) (iblk m c 2 t) (iblk m c 3 t) W _ _ _)
      isplitl [H0 H1 H2 H3]
      · isplitl [H0]; · iexact H0
        isplitl [H1]; · iexact H1
        isplitl [H2]; · iexact H2
        iexact H3
      isplitl [H4]; · iexists _; iexact H4
      isplitl [H5]; · iexists _; iexact H5
      isplitl [HS]; · iexact HS
      isplitl [Hp]; · iexact Hp
      isplitl [HF]; · iexact HF
      isplitl [HW]; · iexact HW
      iintro ⟨⟨H0, H1, H2, H3⟩, H4, H5, HS, Hl, Hn, ⟨%W', HW'⟩⟩
      isplitl [HS Hg HsA HsB HO HA HB HI Hl Hn]
      · isplitl [HS]; · iexact HS
        isplitl [Hg]; · iexact Hg
        isplitl [HA HB HI Hl Hn]
        · isplitl [HA]; · iexact HA
          isplitl [Hl HB]
          · isplitl [Hl]; · iexact Hl
            iexact HB
          isplitl [HI]; · iexact HI
          unfold infl; rw [hA, hB]; iexact Hn
        isplitl [HsA]; · iexact HsA
        isplitl [HsB]; · iexact HsB
        iexact HO
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5
  · have h1 : ¬t.val + 1 = 8 := by omega
    rcases (show t.val = 0 ∨ t.val = 1 by omega) with hz | hz
    · rw [Ring.AtBΦ_lt _ _ _ _ _ t.val hN, Ring.AtB2_zero' 2 _ _ _ _ t.val hz, Ring.AtBΦ_lt _ _ _ _ _ (t.val + 1) (by omega), Ring.AtB22_next_zero' _ _ _ _ t.val hz]
      iintro ⟨⟨HS, Hg, ⟨⟨Hp, HA⟩, Hf, Hx⟩, HsA, HsB, HO⟩, ⟨%W, -, HW⟩, ⟨%d0, H0⟩, ⟨%d1, H1⟩, ⟨%d2, H2⟩, ⟨%d3, H3⟩, ⟨%d4, H4⟩, ⟨%d5, H5⟩⟩
      iapply (run_boot c t (buf0 t) (buf0_whole t) (buf1 t) (buf1_whole t) (buf2 t) (buf2_whole t) (buf3 t) (buf3_whole t) (buf4 t) (buf4_whole t) (buf5 t) (buf5_whole t) (fun h => h0 ((late_iff t).mp h)) (fun h => h1 ((final_iff t).mp h)) (iblk m c 0 t) (iblk m c 1 t) (iblk m c 2 t) (iblk m c 3 t) W _)
      isplitl [H0 H1 H2 H3]
      · isplitl [H0]; · iexact H0
        isplitl [H1]; · iexact H1
        isplitl [H2]; · iexact H2
        iexact H3
      isplitl [H4]; · iexists _; iexact H4
      isplitl [H5]; · iexists _; iexact H5
      isplitl [HS]; · iexact HS
      isplitl [Hp]; · iexact Hp
      isplitl [Hf]; · iexact Hf
      isplitl [HW]; · iexact HW
      iintro ⟨⟨H0, H1, H2, H3⟩, H4, H5, HS, Hn, ⟨%W', HW'⟩⟩
      isplitl [HS Hg HsA HsB HO HA Hx Hn]
      · isplitl [HS]; · iexact HS
        isplitl [Hg]; · iexact Hg
        isplitl [HA Hx Hn]
        · isplitl [HA]; · iexact HA
          isplitl [Hx]; · iexact Hx
          unfold infl; rw [hA, hB]; iexact Hn
        isplitl [HsA]; · iexact HsA
        isplitl [HsB]; · iexact HsB
        iexact HO
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5
    · rw [Ring.AtBΦ_lt _ _ _ _ _ t.val hN, Ring.AtB22_one' _ _ _ _ t.val hz (by decide), Ring.AtBΦ_lt _ _ _ _ _ (t.val + 1) (by omega), Ring.AtB22_next_one' _ _ _ _ t.val hz]
      iintro ⟨⟨HS, Hg, ⟨⟨Hp, HA⟩, Hf, Hx⟩, HsA, HsB, HO⟩, ⟨%W, -, HW⟩, ⟨%d0, H0⟩, ⟨%d1, H1⟩, ⟨%d2, H2⟩, ⟨%d3, H3⟩, ⟨%d4, H4⟩, ⟨%d5, H5⟩⟩
      iapply (run_boot c t (buf0 t) (buf0_whole t) (buf1 t) (buf1_whole t) (buf2 t) (buf2_whole t) (buf3 t) (buf3_whole t) (buf4 t) (buf4_whole t) (buf5 t) (buf5_whole t) (fun h => h0 ((late_iff t).mp h)) (fun h => h1 ((final_iff t).mp h)) (iblk m c 0 t) (iblk m c 1 t) (iblk m c 2 t) (iblk m c 3 t) W _)
      isplitl [H0 H1 H2 H3]
      · isplitl [H0]; · iexact H0
        isplitl [H1]; · iexact H1
        isplitl [H2]; · iexact H2
        iexact H3
      isplitl [H4]; · iexists _; iexact H4
      isplitl [H5]; · iexists _; iexact H5
      isplitl [HS]; · iexact HS
      isplitl [Hp]; · iexact Hp
      isplitl [Hf]; · iexact Hf
      isplitl [HW]; · iexact HW
      iintro ⟨⟨H0, H1, H2, H3⟩, H4, H5, HS, Hn, ⟨%W', HW'⟩⟩
      isplitl [HS Hg HsA HsB HO HA Hx Hn]
      · isplitl [HS]; · iexact HS
        isplitl [Hg]; · iexact Hg
        isplitl [HA Hx Hn]
        · isplitl [HA]; · iexact HA
          isplitl [Hx]; · iexact Hx
          unfold infl; rw [hA, hB]; iexact Hn
        isplitl [HsA]; · iexact HsA
        isplitl [HsB]; · iexact HsB
        iexact HO
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The result, beside the windows' arrays. -/
abbrev written : Finset (Ref sig .tc) := {main_v0_0}

/-- What the buffers the kernel's own copies write end with. -/
def endOf (c : Dev nD) (b : Ref sig .tc) : Buf (Elt F) ((c.tc : Thread nD τ).loc b) := if h : b = main_v0_0 then h ▸ columnsEnd m c else V m c b

theorem endOf_result (c : Dev nD) : endOf m c main_v0_0 = columnsEnd m c := by unfold endOf; rw [dif_pos rfl]

theorem routed_eq (c : Dev nD) (W : (b : Ref sig .tc) → Buf (Elt F) ((c.tc : Thread nD τ).loc b)) :
    (Pipeline.routed written c W : sProp 𝕄) = iprop((resultLoc c) ↦{fullShare} (W main_v0_0)) := by
  unfold Pipeline.routed; rw [BI.bigSep_eq_bigSepL_of_eq [main_v0_0] (by decide) (by decide)]; rfl

theorem emp_left (P : sProp 𝕄) : iprop(BI.emp ∗ P) = P := BI.equiv_iff.mp BI.emp_sep

theorem handed_eq (c : Dev nD) (G : (c : Dev nD) → (b : Ref sig .tc) → Buf (Elt F) ((c.tc : Thread nD τ).loc b)) :
    (Pipeline.ΦDRG ownCells spec0 ∅ written (V m) G c : sProp 𝕄)
      = iprop(iprop((∃ d, owns (c : Thread nD τ) padX fullShare d) ∗ (∃ d, owns (c : Thread nD τ) padD fullShare d) ∗ (∃ d, owns (c : Thread nD τ) gradX fullShare d) ∗ (∃ d, owns (c : Thread nD τ) tilesA fullShare d) ∗ (∃ d, owns (c : Thread nD τ) tilesB fullShare d))
          ∗ (∃ r, prngReg c r) ∗ cells c ∗ (resultLoc c) ↦{fullShare} (G c main_v0_0)) := by
  rw [Pipeline.ΦDRG_eq, scopedRest0_eq, ownCells_eq, routed_eq, BI.bigSep_empty, emp_left]; simp only [padX, padD, gradX, tilesA, tilesB, owns_whole]; try rfl

theorem launch_in (c : Dev nD) : Pipeline.ΦDRG ownCells spec0 ∅ written (V m) (V m) c ⊢ (dats m 0 c).Φ 0 := by
  rw [handed_eq, show (dats m 0 c).Φ 0 = invAt m c 0 from rfl]
  unfold invAt
  iintro ⟨⟨HX, HD, HG, HA, HB⟩, Hg, Hq, HR⟩
  isplitl [HX HD HG]
  · isplitl [HX]; · iexact HX
    isplitl [HD]; · iexact HD
    iexact HG
  isplitl [Hg]; · iexact Hg
  iapply (ring_in (F := F) c)
  isplitl [HA HB Hq]
  · isplitl [HA]; · iexact HA
    isplitl [HB]; · iexact HB
    iexact Hq
  iexact HR

theorem launch_out (c : Dev nD) : (dats m 0 c).Φ (Fin.last cfg0.N) ⊢ Pipeline.ΦDRG ownCells spec0 ∅ written (V m) (endOf m) c := by
  rw [handed_eq, endOf_result, show (dats m 0 c).Φ (Fin.last cfg0.N) = invAt m c grid0.N from rfl]
  unfold invAt
  rw [show grid0.N = 8 by rw [N_0]]
  iintro ⟨⟨HX, HD, HG⟩, Hg, HW⟩
  ihave HW' := (ring_out (F := F) c (colA m c) (colB m c) (V m c main_v0_0)) $$ HW
  icases HW' with ⟨⟨HA, HB, Hq⟩, HR⟩
  isplitl [HX HD HG HA HB]
  · isplitl [HX]; · iexact HX
    isplitl [HD]; · iexact HD
    isplitl [HG]; · iexact HG
    isplitl [HA]; · iexact HA
    iexact HB
  isplitl [Hg]; · iexact Hg
  isplitl [Hq]; · iexact Hq
  iexact HR

set_option backward.isDefEq.respectTransparency.types false in
/-- Every execution of the program ends, with every array as the points left it, the result's columns written, and every counter at zero. -/
theorem run_main : θ_run defs (onTc (τ := τ) (main (F := F))) (s₀ m ρ) (fun r => (Pipeline.FramePostRG cfgs (dats m) 0 written (V m) (endOf m)) r ∧ r.2.sem = fun _ => 0) :=
  Pipeline.θ_run_frame_dmaRG_shared (Q' := _) cfgs (dats m) (0 : Fin 1) launch₀0 ownCells defs₀ Variants.none ownCells_facts ∅ written (by decide) (by decide) m ρ main
    (hbody := fun c => (body_obligation m c).loose) (hq := fun _ _ _ => rfl)
    (howed := fun _ _ => rfl) (V := V m) (hmain := main_before m) (hA := A_eq m) (G := endOf m)
    (hin := launch_in m) (hout := launch_out m)

/-- The arguments end as they began. -/
theorem unchanged {r : PUnit × MemSt nD τ sig (Elt F)} (h : Pipeline.FramePostRG cfgs (dats m) 0 written (V m) (endOf m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h.toR c).1 1).trans (((dats m 0 c).arrAt_in 1 rfl _).trans ((A_eq m c 1).trans (V_main_arg0 m c))),
   ((h.toR c).1 3).trans (((dats m 0 c).arrAt_in 3 rfl _).trans ((A_eq m c 3).trans (V_main_arg1 m c))),
   ((h.toR c).1 2).trans (((dats m 0 c).arrAt_in 2 rfl _).trans ((A_eq m c 2).trans (V_main_arg2 m c))),
   ((h.toR c).2 main_arg3 (Finset.mem_sdiff.mpr ⟨Pipeline.mem_restRefs_of main_arg3 (by decide) (by decide), by decide⟩)).trans (V_main_arg3 m c)⟩

/-- The frame, at any interpretation of the floats. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨unchanged m h.1, h.2⟩) (run_main m ρ)

end Cert.KernelIdeal

end
-- ==== Proof.Blocks.lean ====
/- The blocks a point reads, and the three results when the launch ends, element by element. -/
module

public import proofs.«01_k».proof.Proof.Whole
public import proofs.«01_k».proof.Proof.TapValues
public import Idealize.ShloMosaic.Lib.Pipeline.ValueKit

@[expose] public section

set_option maxRecDepth 16384

noncomputable section

namespace Cert.KernelIdeal

open Idealize.ShloMosaic Idealize.ShloMosaic.TcCoe Idealize.SL.Sem
open Gen

variable (m : (ℓ : Loc nD τ sig) → Buf (Elt Ideal) ℓ)

/-- Every window's block index at point `u`. -/
theorem index_at : ∀ u : Fin 8, win0_0.index (point u) = ![0, 24 + u.val] ∧ win0_1.index (point u) = ![0, 32 + u.val]
    ∧ win0_2.index (point u) = ![0, u.val] ∧ win0_3.index (point u) = ![0, u.val]
    ∧ win0_4.index (point u) = ![0, u.val] ∧ win0_5.index (point u) = ![0, u.val] := by decide +kernel

/-- The values' block, -/
theorem block_values (c : Dev nD) (u : Fin 8) (t : Fin 2048) (l : Fin 128) :
    iblk m c 0 (point u) (ix2 t l) = m ((c : Thread nD τ).loc main_arg0) (ix2 t ⟨3072 + (128 * u.val + l.val), by omega⟩) := by
  rw [← V_main_arg0 m c]
  blk_ext [iblk, (index_at u).1]
/-- the gates', -/
theorem block_gates (c : Dev nD) (u : Fin 8) (t : Fin 2048) (l : Fin 128) :
    iblk m c 1 (point u) (ix2 t l) = m ((c : Thread nD τ).loc main_arg0) (ix2 t ⟨4096 + (128 * u.val + l.val), by omega⟩) := by
  rw [← V_main_arg0 m c]
  blk_ext [iblk, (index_at u).2.1]
/-- the filter's -/
theorem block_filter (c : Dev nD) (u : Fin 8) (k : Fin 31) (l : Fin 128) :
    iblk m c 2 (point u) (ix2 k l) = m ((c : Thread nD τ).loc main_arg2) (ix2 k ⟨128 * u.val + l.val, by omega⟩) := by
  rw [← V_main_arg2 m c]
  blk_ext [iblk, (index_at u).2.2.1]
/-- and the cotangent's. -/
theorem block_cotangent (c : Dev nD) (u : Fin 8) (t : Fin 2048) (l : Fin 128) :
    iblk m c 3 (point u) (ix2 t l) = m ((c : Thread nD τ).loc main_arg1) (ix2 t ⟨128 * u.val + l.val, by omega⟩) := by
  rw [← V_main_arg1 m c]
  blk_ext [iblk, (index_at u).2.2.2.1]

/-- The sequence the gates let through, as a matrix. -/
def gated (x : FVec Ideal S2048x6144 .f32) : FVec Ideal ⟨2, ![2048, 1024]⟩ .f32 := fun j =>
  (x (ix2 (j 0) ⟨3072 + (j 1).val, by have := (j 1).isLt; change (j 1).val < 1024 at this; omega⟩)
    * gate (x (ix2 (j 0) ⟨4096 + (j 1).val, by have := (j 1).isLt; change (j 1).val < 1024 at this; omega⟩)) : EReal)

/-! ## The results -/

/-- A block of the gradient of the filter, from the blocks of the arguments. -/
theorem dw_block (c : Dev nD) (u : Fin 8) (k : Fin 31) (l : Fin 128) :
    dwOut (iblk m c 0 (point u)) (iblk m c 1 (point u)) (iblk m c 3 (point u)) (ix2 k l)
      = filterAt (gated (m ((c : Thread nD τ).loc main_arg0))) (m ((c : Thread nD τ).loc main_arg1)) k.val (⟨128 * u.val + l.val, by omega⟩ : Fin 1024) :=
  (dwOut_apply _ _ _ _ _).trans (filterAt_congr _ _ _ _ _ _ _
    (fun t => (pay59_apply _ _ _).trans (by rw [block_values, block_gates]; rfl)) fun t => block_cotangent m c u t l)

/-- The filter's gradient, whole: the blocks of the points side by side. -/
theorem filter_end (c : Dev nD) : (dats m 0 c).arrAt 4 cfg0.N
    = fun j => filterAt (gated (m ((c : Thread nD τ).loc main_arg0))) (m ((c : Thread nD τ).loc main_arg1)) (j 0).val (j 1) := by
  refine (dats m 0 c).arrAt_eq_of_covers 4 _ (by decide +kernel) fun t hf y => ?_
  obtain ⟨u, rfl⟩ : ∃ u, point u = t := ⟨_, point_bk t⟩
  obtain ⟨k, l, rfl⟩ : ∃ (k : Fin 31) (l : Fin 128), ix2 k l = y := ⟨y 0, y 1, ix2_eta y⟩
  blk_simp
  rw [after_4]
  refine (dw_block m c u k l).trans ?_
  have hk : k.val = win0_4.index (point u) 0 * 31 + k.val := by rw [(index_at u).2.2.2.2.1]; simp
  have hl : (⟨128 * u.val + l.val, by omega⟩ : Fin 1024) = (win0_4.blk (point u)).view.emb (ix2 k l) 1 :=
    Fin.ext (by blk_simp; rw [(index_at u).2.2.2.2.1]; show 128 * u.val + l.val = u.val * 128 + l.val; omega)
  exact congrArg₂ (filterAt _ _) hk hl

/-- The bias's likewise. -/
theorem bias_end (c : Dev nD) : (dats m 0 c).arrAt 5 cfg0.N = fun j => biasAt (m ((c : Thread nD τ).loc main_arg1)) (j 1) := by
  refine (dats m 0 c).arrAt_eq_of_covers 5 _ (by decide +kernel) fun t hf y => ?_
  obtain ⟨u, rfl⟩ : ∃ u, point u = t := ⟨_, point_bk t⟩
  obtain ⟨k, l, rfl⟩ : ∃ (k : Fin 1) (l : Fin 128), ix2 k l = y := ⟨y 0, y 1, ix2_eta y⟩
  obtain rfl : k = 0 := Subsingleton.elim _ _
  blk_simp
  rw [after_5]
  refine (dbOut_apply _ _).trans ((biasAt_congr _ _ _ (⟨128 * u.val + l.val, by omega⟩ : Fin 1024) fun t => block_cotangent m c u t l).trans ?_)
  exact congrArg (biasAt _) (Fin.ext (by blk_simp; rw [(index_at u).2.2.2.2.2]; show 128 * u.val + l.val = u.val * 128 + l.val; omega))

/-- A block of the values' gradient, -/
theorem colA_apply (c : Dev nD) (u : Fin 8) (t : Fin 2048) (l : Fin 128) : colA m c u (ix2 t l)
    = (dxAt (m ((c : Thread nD τ).loc main_arg2)) (m ((c : Thread nD τ).loc main_arg1)) t.val (⟨128 * u.val + l.val, by omega⟩ : Fin 1024)
        * gate (m ((c : Thread nD τ).loc main_arg0) (ix2 t ⟨4096 + (128 * u.val + l.val), by omega⟩)) : EReal) := by
  refine (valOut_apply _ _ _ _ _).trans ?_
  rw [block_gates, dxAt_congr _ _ _ _ _ _ _ (fun k => block_filter m c u k l) fun t => block_cotangent m c u t l]
/-- and of the gates'. -/
theorem colB_apply (c : Dev nD) (u : Fin 8) (t : Fin 2048) (l : Fin 128) : colB m c u (ix2 t l)
    = (dxAt (m ((c : Thread nD τ).loc main_arg2)) (m ((c : Thread nD τ).loc main_arg1)) t.val (⟨128 * u.val + l.val, by omega⟩ : Fin 1024)
        * m ((c : Thread nD τ).loc main_arg0) (ix2 t ⟨3072 + (128 * u.val + l.val), by omega⟩)
        * gate (m ((c : Thread nD τ).loc main_arg0) (ix2 t ⟨4096 + (128 * u.val + l.val), by omega⟩))
        * (1 - gate (m ((c : Thread nD τ).loc main_arg0) (ix2 t ⟨4096 + (128 * u.val + l.val), by omega⟩))) : EReal) := by
  refine (gluOut_apply _ _ _ _ _ _).trans ?_
  rw [block_gates, block_values, dxAt_congr _ _ _ _ _ _ _ (fun k => block_filter m c u k l) fun t => block_cotangent m c u t l]

/-- The result begins as the array it replaces. -/
theorem V_result (c : Dev nD) : V m c main_v0_0 = m ((c : Thread nD τ).loc main_arg3) := by
  rw [V, StableHlo.after_cons, StableHlo.after_nil]
  rfl

/-- The result the blocks are copied into. -/
theorem columns_end (c : Dev nD) (t : Fin 2048) (j : Fin 6144) : columnsEnd m c (ix2 t j)
      = (if h : 3072 ≤ j.val ∧ j.val < 4096 then
          dxAt (m ((c : Thread nD τ).loc main_arg2)) (m ((c : Thread nD τ).loc main_arg1)) t.val (⟨j.val - 3072, by omega⟩ : Fin 1024)
            * gate (m ((c : Thread nD τ).loc main_arg0) (ix2 t ⟨j.val + 1024, by omega⟩))
        else if h : 4096 ≤ j.val ∧ j.val < 5120 then
          dxAt (m ((c : Thread nD τ).loc main_arg2)) (m ((c : Thread nD τ).loc main_arg1)) t.val (⟨j.val - 4096, by omega⟩ : Fin 1024)
            * m ((c : Thread nD τ).loc main_arg0) (ix2 t ⟨j.val - 1024, by omega⟩)
            * gate (m ((c : Thread nD τ).loc main_arg0) (ix2 t ⟨j.val, by omega⟩))
            * (1 - gate (m ((c : Thread nD τ).loc main_arg0) (ix2 t ⟨j.val, by omega⟩)))
        else m ((c : Thread nD τ).loc main_arg3) (ix2 t j) : EReal) := by
  have at' (a b : ℕ) (ha : a < 1024) (h : a = b) : ∀ hb : b < 1024, (⟨a, ha⟩ : Fin 1024) = ⟨b, hb⟩ := fun _ => Fin.ext h
  have ix (a b : ℕ) (ha : a < 6144) (hb : b < 6144) (h : a = b) : m ((c : Thread nD τ).loc main_arg0) (ix2 t ⟨a, ha⟩) = m ((c : Thread nD τ).loc main_arg0) (ix2 t ⟨b, hb⟩) := by
    subst h; rfl
  have hm := fun n => Nat.div_add_mod n 128
  by_cases h : 3072 ≤ j.val ∧ j.val < 4096
  · refine (dif_pos h).trans (Eq.trans ?_ (dif_pos h).symm)
    have := hm (j.val - 3072)
    have e := colA_apply m c ⟨(j.val - 3072) / 128, by omega⟩ t ⟨(j.val - 3072) % 128, Nat.mod_lt _ (by decide)⟩
    rw [at' _ (j.val - 3072) _ this (by omega), ix (4096 + _) (j.val + 1024) _ (by omega) (by dsimp only; omega)] at e
    exact e
  · refine (dif_neg h).trans (Eq.trans ?_ (dif_neg h).symm)
    by_cases h' : 4096 ≤ j.val ∧ j.val < 5120
    · refine (dif_pos h').trans (Eq.trans ?_ (dif_pos h').symm)
      have := hm (j.val - 4096)
      have e := colB_apply m c ⟨(j.val - 4096) / 128, by omega⟩ t ⟨(j.val - 4096) % 128, Nat.mod_lt _ (by decide)⟩
      rw [at' _ (j.val - 4096) _ this (by omega), ix (3072 + _) (j.val - 1024) _ (by omega) (by dsimp only; omega),
        ix (4096 + _) j.val _ j.isLt (by dsimp only; omega)] at e
      exact e
    · refine (dif_neg h').trans (Eq.trans ?_ (dif_neg h').symm)
      exact congrFun (V_result m c) _

end Cert.KernelIdeal

end
-- ==== Proof.Same.lean ====
module

public import proofs.«01_k».proof.Defs
public import proofs.«01_k».proof.Proof.Gen.Kernel
public import proofs.«01_k».proof.Proof.Gen.KernelIdeal

@[expose] public section
noncomputable section
namespace Cert.Same
open Idealize.ShloMosaic Idealize.SL.Sem
variable {F : FTy → Type} [FloatOps F]
attribute [local instance] Cert.Kernel.Gen.facts Cert.KernelIdeal.Gen.facts

theorem sig_eq : Cert.Kernel.sig = Cert.KernelIdeal.sig := rfl
theorem cfg_eq : Cert.Kernel.cfg0 = Cert.KernelIdeal.cfg0 := rfl
theorem main_eq : Cert.Kernel.main (F := F) = Cert.KernelIdeal.main (F := F) := rfl
theorem body_eq : @Cert.Kernel.cc0_conv_bwd F _ _ = @Cert.KernelIdeal.cc0_conv_bwd F _ _ := rfl
theorem defs0_eq : Cert.Kernel.defs₀ (F := F) = Cert.KernelIdeal.defs₀ (F := F) := by
  unfold Cert.Kernel.defs₀ Cert.KernelIdeal.defs₀
  refine congrArg Defs.onTc (funext fun l => funext fun a => ?_)
  match l with
  | 0 => rfl
theorem defs_eq : Cert.Kernel.defs (F := F) = Cert.KernelIdeal.defs (F := F) :=
  congrArg (Pipeline.defs Cert.KernelIdeal.pcfgs) defs0_eq
end Cert.Same
end
-- ==== Proof.Reference.lean ====
/- The reference's gradients of the filter and of the padded sequence, each as a sum over the taps. -/
module

public import proofs.«01_k».proof.Proof.Gen.ReferenceIdeal.Read
public import Idealize.ShloMosaic.Lib.Pointwise

@[expose] public section

set_option maxRecDepth 16384

noncomputable section

namespace Cert.ReferenceIdeal

open Idealize.ShloMosaic Gen Read

variable {F : FTy → Type} [FloatOps F]

/-- A family summed from the last tap down, `n` taps after the last. -/
def downTo {s : Shape} (f : Fin 31 → FVec F s .f32) : ℕ → FVec F s .f32
  | 0 => f 30
  | n + 1 => addf (downTo f n) (f (Fin.ofNat 31 (29 - n)))

theorem row_slices : ∀ k : Fin 31, S31x1024.Slices ![k.val, 0] S1x1024 := by decide
theorem seq_slices : ∀ k : Fin 31, S2078x1024.Slices ![k.val, 0] S2048x1024 := by decide
theorem row_pads : ∀ k : Fin 31, S1x1024.Pads ![k.val, 0] ![30 - k.val, 0] ![0, 0] S31x1024 := by decide
theorem seq_pads : ∀ k : Fin 31, S2048x1024.Pads ![k.val, 0] ![30 - k.val, 0] ![0, 0] S2078x1024 := by decide

/-- Tap `k`'s row of the filter, down the sequence. -/
def filterRows (w : FVec F S31x1024 .f32) (k : Fin 31) : FVec F S2048x1024 .f32 :=
  broadcastInDim S2048x1024 ![0, 1] bcast_S1x1024_S2048x1024_0_1
    (broadcastInDim S1x1024 ![1] bcast_S1024_S1x1024_1 (shapeCast S1024 (extractStridedSlice S1x1024 ![k.val, 0] w (row_slices k)) shapeCasts_S1x1024_S1024))

/-- What tap `k` adds to the gradient of the padded sequence, -/
def seqTap (dy : FVec F S2048x1024 .f32) (w : FVec F S31x1024 .f32) (k : Fin 31) : FVec F S2078x1024 .f32 :=
  pad S2078x1024 ![k.val, 0] ![30 - k.val, 0] ![0, 0] (mulf (shapeCast S2048x1024 dy shapeCasts_S2048x1024_S2048x1024) (filterRows w k)) (constant S_ .f32 0x00000000#32) (seq_pads k) h_S_

/-- and to the gradient of the filter. -/
def rowTap (x : FVec F S2078x1024 .f32) (dy : FVec F S2048x1024 .f32) (k : Fin 31) : FVec F S31x1024 .f32 :=
  pad S31x1024 ![k.val, 0] ![30 - k.val, 0] ![0, 0]
    (broadcastInDim S1x1024 ![1] bcast_S1024_S1x1024_1
      (Host.reduceAdd
        (shapeCast S1x1024
          (Host.reduceAdd (mulf (extractStridedSlice S2048x1024 ![k.val, 0] x (seq_slices k)) (shapeCast S2048x1024 dy shapeCasts_S2048x1024_S2048x1024))
            (constant S_ .f32 0x00000000#32) reducesTo_S2048x1024_S1024_d0 h_S_)
          shapeCasts_S1024_S1x1024)
        (constant S_ .f32 0x00000000#32) reducesTo_S1x1024_S1024_d0 h_S_))
    (constant S_ .f32 0x00000000#32) (row_pads k) h_S_

theorem seq_eq (dy : FVec F S2048x1024 .f32) (w : FVec F S31x1024 .f32) : val_main_v579 dy w = downTo (seqTap dy w) 30 := rfl

theorem filter_eq (x : FVec F S2048x6144 .f32) (dy : FVec F S2048x1024 .f32) : val_main_v577 x dy = downTo (rowTap (val_main_v14 x) dy) 30 := rfl

end Cert.ReferenceIdeal

end
-- ==== Proof.ReferenceValues.lean ====
/- The reference's results, element by element over the extended reals. -/
module

public import proofs.«01_k».proof.Proof.Reference
public import proofs.«01_k».proof.Proof.Rows

@[expose] public section

set_option maxRecDepth 16384

noncomputable section

namespace Cert.ReferenceIdeal

open Idealize.ShloMosaic Gen Read

theorem downTo_apply {s : Shape} (f : Fin 31 → FVec Ideal s .f32) (j : s.Idx) :
    ∀ n : ℕ, n ≤ 30 → downTo f n j = (∑ i ∈ Finset.range (n + 1), f (Fin.ofNat 31 (30 - i)) j : EReal)
  | 0, _ => by rw [Finset.sum_range_one]; rfl
  | n + 1, hn => by
    have e : downTo f (n + 1) j = (downTo f n j + f (Fin.ofNat 31 (29 - n)) j : EReal) := rfl
    rw [e, downTo_apply f j n (by omega), Finset.sum_range_succ _ (n + 1)]
    rw [show 30 - (n + 1) = 29 - n by omega]

/-- A family summed from the last tap down is its sum over the taps. -/
theorem downTo_eq {s : Shape} (f : Fin 31 → FVec Ideal s .f32) (j : s.Idx) :
    downTo f 30 j = (∑ k ∈ Finset.range 31, f (Fin.ofNat 31 k) j : EReal) := by
  rw [downTo_apply f j 30 le_rfl, ← Finset.sum_range_reflect]
  rfl

theorem seqTap_apply (dy : FVec Ideal S2048x1024 .f32) (w : FVec Ideal S31x1024 .f32) (k : ℕ) (hk : k < 31) (t : Fin 2048) (ch : Fin 1024) :
    seqTap dy w (Fin.ofNat 31 k) (ix2 ⟨30 + t.val, by omega⟩ ch) = (rowOr w k ch * rowOr dy (t.val + (30 - k)) ch : EReal) := by
  rw [show (Fin.ofNat 31 k : Fin 31) = ⟨k, hk⟩ from Fin.ext (Nat.mod_eq_of_lt hk)]
  unfold seqTap filterRows
  pointwise
  have ht := t.isLt
  by_cases h : t.val + (30 - k) < 2048
  · rw [dif_pos ⟨by omega, by omega⟩, rowOr_of_lt w k hk, rowOr_of_lt dy _ h, mul_comm]
    refine congrArg (_ * ·) (congrArg dy (congrArg (ix2 · ch) (Fin.ext ?_)))
    change 30 + t.val - k = t.val + (30 - k)
    omega
  · rw [dif_neg (by omega), rowOr_of_le dy _ (by omega), mul_zero]

theorem rowTap_apply (x : FVec Ideal S2078x1024 .f32) (dy : FVec Ideal S2048x1024 .f32) (k : ℕ) (hk : k < 31) (r : Fin 31) (ch : Fin 1024) :
    rowTap x dy (Fin.ofNat 31 k) (ix2 r ch)
      = (if k = r.val then ∑ t ∈ Finset.range 2048, rowOr x (k + t) ch * rowOr dy t ch else 0 : EReal) := by
  rw [show (Fin.ofNat 31 k : Fin 31) = ⟨k, hk⟩ from Fin.ext (Nat.mod_eq_of_lt hk)]
  unfold rowTap
  pointwise
  have hr := r.isLt
  by_cases h : k = r.val
  · rw [dif_pos ⟨by omega, by omega⟩, if_pos h, Finset.sum_range]
    refine (Fin.sum_univ_one _).trans (Finset.sum_congr rfl fun t _ => ?_)
    have ht := t.isLt
    rw [rowOr_of_lt x _ (by omega), rowOr_of_lt dy _ ht]
  · rw [dif_neg (by omega), if_neg h]

theorem padded_apply (x : FVec Ideal S2048x6144 .f32) (i : Fin 2078) (ch : Fin 1024) :
    val_main_v14 (F := Ideal) x (ix2 i ch) = (if 30 ≤ i.val then rowOr (val_main_v12 (F := Ideal) x) (i.val - 30) ch else 0 : EReal) := by
  unfold val_main_v14
  generalize val_main_v12 (F := Ideal) x = y
  pointwise [val_main_v13, val_main_cst_3]
  have hi := i.isLt
  by_cases h : i.val < 30
  · exact (dif_pos h).trans (if_neg (by omega)).symm
  · exact (dif_neg h).trans ((if_pos (by omega)).trans (rowOr_of_lt y _ (by omega) ch)).symm

/-! ## The gradients -/

theorem seq_apply (dy : FVec Ideal S2048x1024 .f32) (w : FVec Ideal S31x1024 .f32) (t : Fin 2048) (ch : Fin 1024) :
    val_main_v581 (F := Ideal) dy w (ix2 t ch) = dxAt w dy t.val ch := by
  have e : val_main_v581 (F := Ideal) dy w (ix2 t ch) = val_main_v579 (F := Ideal) dy w (ix2 ⟨30 + t.val, by omega⟩ ch) := by
    rw [val_main_v581_apply]
    exact congrArg _ (by funext a; fin_cases a <;> rfl)
  rw [e, seq_eq, downTo_eq]
  exact Finset.sum_congr rfl fun k hk => seqTap_apply dy w k (Finset.mem_range.mp hk) t ch

theorem filter_apply (x : FVec Ideal S2048x6144 .f32) (dy : FVec Ideal S2048x1024 .f32) (r : Fin 31) (ch : Fin 1024) :
    val_main_v577 (F := Ideal) x dy (ix2 r ch) = filterAt (val_main_v12 (F := Ideal) x) dy r.val ch := by
  have hr := r.isLt
  rw [filter_eq, downTo_eq]
  rw [Finset.sum_congr rfl fun k hk => rowTap_apply (val_main_v14 (F := Ideal) x) dy k (Finset.mem_range.mp hk) r ch,
    Finset.sum_ite_eq', if_pos (Finset.mem_range.mpr hr)]
  refine Finset.sum_congr rfl fun t ht => ?_
  have ht' := Finset.mem_range.mp ht
  rw [mul_comm, Nat.add_comm r.val t, rowOr_of_lt (val_main_v14 (F := Ideal) x) _ (by omega), padded_apply]

theorem bias_apply (dy : FVec Ideal S2048x1024 .f32) (ch : Fin 1024) :
    val_main_v590 (F := Ideal) dy (ix2 0 ch) = biasAt dy ch := by
  unfold biasAt
  rw [Finset.sum_range]
  pointwise [val_main_v590, val_main_v240, val_main_v239, val_main_v238, val_main_cst_6, val_main_cst_7]
  refine (Fin.sum_univ_one _).trans (Finset.sum_congr rfl fun t _ => (rowOr_of_lt dy t.val t.isLt ch).symm)

theorem gate_apply (x : FVec Ideal S2048x6144 .f32) (t : Fin 2048) (ch : Fin 1024) :
    val_main_v8 (F := Ideal) x (ix2 t ch) = gate (x (ix2 t ⟨4096 + ch.val, by omega⟩)) := by
  pointwise [val_main_v8, val_main_v7, val_main_v6, val_main_v5, val_main_v4, val_main_v3, val_main_v2, val_main_cst_0, val_main_cst_1, gate]
  rw [zero_sub]

theorem gated_apply (x : FVec Ideal S2048x6144 .f32) (t : Fin 2048) (ch : Fin 1024) :
    val_main_v12 (F := Ideal) x (ix2 t ch)
      = (x (ix2 t ⟨3072 + ch.val, by omega⟩) * gate (x (ix2 t ⟨4096 + ch.val, by omega⟩)) : EReal) := by
  rw [← gate_apply]
  pointwise [val_main_v12, val_main_v1]

/-- The result's columns: the values' gradient in the second block of 1024 past column 3072, the gates' in the next, the
    others as they came. -/
theorem columns_apply (x0 : FVec Ideal S2048x6144 .f32) (dy : FVec Ideal S2048x1024 .f32) (w : FVec Ideal S31x1024 .f32)
    (x3 : FVec Ideal S2048x6144 .bf16) (t : Fin 2048) (j : Fin 6144) :
    val_main_v589 (F := Ideal) x0 dy w x3 (ix2 t j)
      = (if h : 3072 ≤ j.val ∧ j.val < 4096 then
          dxAt w dy t.val ⟨j.val - 3072, by omega⟩ * gate (x0 (ix2 t ⟨j.val + 1024, by omega⟩))
        else if h : 4096 ≤ j.val ∧ j.val < 5120 then
          dxAt w dy t.val ⟨j.val - 4096, by omega⟩ * x0 (ix2 t ⟨j.val - 1024, by omega⟩) * gate (x0 (ix2 t ⟨j.val, by omega⟩))
            * (1 - gate (x0 (ix2 t ⟨j.val, by omega⟩)))
        else x3 (ix2 t j) : EReal) := by
  pointwise [val_main_v589, val_main_v588, val_main_v587, val_main_v586, val_main_v585, val_main_v584, val_main_v583, val_main_v582,
    val_main_v11, val_main_v10, val_main_v9, val_main_cst_2, val_main_v1]
  have hj := j.isLt
  have same : ∀ (a b : ℕ) (ha : a < 6144) (hb : b < 6144), a = b → x0 (ix2 t ⟨a, ha⟩) = x0 (ix2 t ⟨b, hb⟩) := by
    intro a b ha hb h; subst h; rfl
  by_cases h1 : j.val < 3072
  · have n1 : ¬(3072 ≤ j.val ∧ j.val < 4096) := by omega
    have n2 : ¬(4096 ≤ j.val ∧ j.val < 5120) := by omega
    rw [dif_pos h1, dif_neg n1, dif_neg n2]
  refine (dif_neg h1).trans ?_
  by_cases h2 : j.val - 3072 < 1024
  · refine (dif_pos h2).trans (Eq.trans ?_ (dif_pos (by omega)).symm)
    rw [seq_apply, gate_apply]
    exact congrArg (_ * gate ·) (same _ _ _ _ (by dsimp only; omega))
  refine (dif_neg h2).trans (Eq.trans ?_ (dif_neg (by omega)).symm)
  by_cases h3 : j.val - 3072 - 1024 < 1024
  · refine (dif_pos h3).trans (Eq.trans ?_ (dif_pos (by omega)).symm)
    rw [seq_apply, gate_apply]
    have e1 := same (3072 + (j.val - 3072 - 1024)) (j.val - 1024) (by omega) (by omega) (by omega)
    have e2 := same (4096 + (j.val - 3072 - 1024)) j.val (by omega) hj (by omega)
    have e3 : dxAt w dy t.val (⟨j.val - 3072 - 1024, h3⟩ : Fin 1024) = dxAt w dy t.val (⟨j.val - 4096, by omega⟩ : Fin 1024) :=
      congrArg (dxAt w dy t.val) (Fin.ext (by dsimp only; omega))
    refine (congrArg₂ (· * ·) (congrArg₂ (· * ·) e1 e3) (congrArg (fun g => gate g * (1 - gate g)) e2)).trans ?_
    rw [← mul_assoc, mul_comm (x0 _) (dxAt w dy t.val _)]
  · refine (dif_neg h3).trans (Eq.trans ?_ (dif_neg (by omega)).symm)
    exact congrArg x3 (congrArg (ix2 t ·) (Fin.ext (by dsimp only; omega)))

end Cert.ReferenceIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.OInWeight
public import proofs.«01_k».proof.Proof.Gen.Kernel3.Frame
public import proofs.«01_k».proof.Proof.OInInput
public import proofs.«01_k».proof.Proof.Gen.Kernel4.Frame
public import proofs.«01_k».proof.Proof.EInWeight
public import proofs.«01_k».proof.Proof.Gen.Kernel5.Frame
public import proofs.«01_k».proof.Proof.EInInput
public import proofs.«01_k».proof.Proof.Gen.Kernel6.Frame
public import proofs.«01_k».proof.Proof.OutWeight
public import proofs.«01_k».proof.Proof.Gen.Kernel7.Frame
public import proofs.«01_k».proof.Proof.OutInput
public import proofs.«01_k».proof.Proof.Gen.Kernel8.Frame
public import proofs.«01_k».proof.Proof.EInOutput
public import proofs.«01_k».proof.Proof.Gen.Kernel9.Frame
public import proofs.«01_k».proof.Proof.OInOutput
public import proofs.«01_k».proof.Proof.Gen.Kernel10.Frame
public import proofs.«01_k».proof.Proof.OutOutput
public import proofs.«01_k».proof.Proof.Gen.Kernel11.Frame
public import proofs.«01_k».proof.Proof.ConvOutput
public import proofs.«01_k».proof.Proof.Gen.Kernel12.Frame
public import proofs.«01_k».proof.Proof.PreNormGrad
public import proofs.«01_k».proof.Proof.Gen.Kernel13.Frame
public import proofs.«01_k».proof.Proof.MidNormGrad
public import proofs.«01_k».proof.Proof.Gen.Kernel14.Frame
public import proofs.«01_k».proof.Proof.LossHead
public import proofs.«01_k».proof.Proof.Gen.Kernel15.Frame
public import proofs.«01_k».proof.Proof.EInUpdate
public import proofs.«01_k».proof.Proof.Gen.Kernel16.Frame
public import proofs.«01_k».proof.Proof.OInUpdate
public import proofs.«01_k».proof.Proof.Gen.Kernel17.Frame
public import proofs.«01_k».proof.Proof.OutUpdate
public import proofs.«01_k».proof.Proof.Gen.Kernel18.Frame
public import proofs.«01_k».proof.Proof.PreNorm
public import proofs.«01_k».proof.Proof.Gen.Kernel19.Frame
public import proofs.«01_k».proof.Proof.MidNorm
public import proofs.«01_k».proof.Proof.Gen.Kernel20.Frame
public import proofs.«01_k».proof.Proof.OddBranch
public import proofs.«01_k».proof.Proof.Gen.Kernel21.Frame
public import proofs.«01_k».proof.Proof.Pooling
public import proofs.«01_k».proof.Proof.Blocks
public import proofs.«01_k».proof.Proof.Same
public import proofs.«01_k».proof.Proof.ReferenceValues
public import Idealize.ShloMosaic.Adequacy
public import Idealize.ShloMosaic.Init

@[expose] public section

noncomputable section

namespace Cert.Proof

open Idealize.ShloMosaic Idealize.SL.Sem Cert.Kernel

theorem frame_p : Cert.quiescent_Kernel (hKernel := Cert.Kernel.Gen.facts) := fun m ρ _ => by
  have h := Cert.KernelIdeal.frame_any (F := Bits) m ρ
  rw [← Cert.Same.defs_eq] at h
  exact h
theorem frame_pi : Cert.quiescent_KernelIdeal (hKernelIdeal := Cert.KernelIdeal.Gen.facts) := fun m ρ _ => Cert.KernelIdeal.frame_any (F := Ideal) m ρ
theorem frame_ri : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- From equal arguments the two programs end with equal results. -/
theorem equal : Cert.algebraic_KernelIdeal_ReferenceIdeal (hKernelIdeal := Cert.KernelIdeal.Gen.facts) (hReferenceIdeal := Cert.ReferenceIdeal.Gen.facts) := by
  intro m g m' g' _ ha
  refine ⟨fun c => Cert.KernelIdeal.columnsEnd m c, fun c => (Cert.KernelIdeal.dats m 0 c).arrAt 4 Cert.KernelIdeal.cfg0.N,
    fun c => (Cert.KernelIdeal.dats m 0 c).arrAt 5 Cert.KernelIdeal.cfg0.N, ?_, ?_⟩
  · exact (θ_run _ _ _).mono (fun r h c => ⟨(h.1.written c (b := Cert.KernelIdeal.main_v0_0) (by decide)).trans (Cert.KernelIdeal.endOf_result m c),
      (h.1.toR c).1 4, (h.1.toR c).1 5, Cert.KernelIdeal.unchanged m h.1 c⟩) (Cert.KernelIdeal.run_main m g)
  · refine (θ_run _ _ _).mono (fun r h c => ?_) (Cert.ReferenceIdeal.Value.run (F := Ideal) m' g')
    obtain ⟨h0, h1, h2, h3⟩ := h c
    obtain ⟨a0, a1, a2, a3⟩ := ha c
    rw [← StableHlo.launchContents_devRef m' c] at a0 a1 a2 a3
    refine ⟨h0.trans ((Cert.ReferenceIdeal.Read.val_main_v589_eq (StableHlo.launchContents m' c)).trans ?_),
      h1.trans ((Cert.ReferenceIdeal.Read.val_main_v577_eq (StableHlo.launchContents m' c)).trans ?_),
      h2.trans ((Cert.ReferenceIdeal.Read.val_main_v590_eq (StableHlo.launchContents m' c)).trans ?_), h3⟩
    · rw [a0, a1, a2, a3]
      funext j
      obtain ⟨t, l, rfl⟩ : ∃ (t : Fin 2048) (l : Fin 6144), ix2 t l = j := ⟨j 0, j 1, ix2_eta j⟩
      exact (Cert.ReferenceIdeal.columns_apply _ _ _ _ t l).trans (Cert.KernelIdeal.columns_end m c t l).symm
    · rw [a0, a1]
      refine Eq.trans ?_ (Cert.KernelIdeal.filter_end m c).symm
      funext j
      obtain ⟨k, l, rfl⟩ : ∃ (k : Fin 31) (l : Fin 1024), ix2 k l = j := ⟨j 0, j 1, ix2_eta j⟩
      exact (Cert.ReferenceIdeal.filter_apply _ _ k l).trans (filterAt_congr _ _ _ _ _ _ _ (fun t => Cert.ReferenceIdeal.gated_apply _ t l) fun _ => rfl)
    · rw [a1]
      refine Eq.trans ?_ (Cert.KernelIdeal.bias_end m c).symm
      funext j
      obtain ⟨k, l, rfl⟩ : ∃ (k : Fin 1) (l : Fin 1024), ix2 k l = j := ⟨j 0, j 1, ix2_eta j⟩
      obtain rfl : k = 0 := Subsingleton.elim _ _
      exact Cert.ReferenceIdeal.bias_apply _ l

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    frame_p, frame_pi, frame_ri,
    fun m ρ _ => Cert.Kernel2.Gen.frame m ρ, fun m ρ _ => Cert.Kernel2Ideal.Gen.frame m ρ, Cert.Proof2.frame_ri,
    fun m ρ _ => Cert.Kernel3.Gen.frame m ρ, fun m ρ _ => Cert.Kernel3Ideal.Gen.frame m ρ, Cert.Proof3.frame_ri,
    fun m ρ _ => Cert.Kernel4.Gen.frame m ρ, fun m ρ _ => Cert.Kernel4Ideal.Gen.frame m ρ, Cert.Proof4.frame_ri,
    fun m ρ _ => Cert.Kernel5.Gen.frame m ρ, fun m ρ _ => Cert.Kernel5Ideal.Gen.frame m ρ, Cert.Proof5.frame_ri,
    fun m ρ _ => Cert.Kernel6.Gen.frame m ρ, fun m ρ _ => Cert.Kernel6Ideal.Gen.frame m ρ, Cert.Proof6.frame_ri,
    fun m ρ _ => Cert.Kernel7.Gen.frame m ρ, fun m ρ _ => Cert.Kernel7Ideal.Gen.frame m ρ, Cert.Proof7.frame_ri,
    fun m ρ _ => Cert.Kernel8.Gen.frame m ρ, fun m ρ _ => Cert.Kernel8Ideal.Gen.frame m ρ, Cert.Proof8.frame_ri,
    fun m ρ _ => Cert.Kernel9.Gen.frame m ρ, fun m ρ _ => Cert.Kernel9Ideal.Gen.frame m ρ, Cert.Proof9.frame_ri,
    fun m ρ _ => Cert.Kernel10.Gen.frame m ρ, fun m ρ _ => Cert.Kernel10Ideal.Gen.frame m ρ, Cert.Proof10.frame_ri,
    fun m ρ _ => Cert.Kernel11.Gen.frame m ρ, fun m ρ _ => Cert.Kernel11Ideal.Gen.frame m ρ, Cert.Proof11.frame_ri,
    fun m ρ _ => Cert.Kernel12.Gen.frame m ρ, fun m ρ _ => Cert.Kernel12Ideal.Gen.frame m ρ, Cert.Proof12.frame_ri,
    fun m ρ _ => Cert.Kernel13.Gen.frame m ρ, fun m ρ _ => Cert.Kernel13Ideal.Gen.frame m ρ, Cert.Proof13.frame_ri,
    fun m ρ _ => Cert.Kernel14.Gen.frame m ρ, fun m ρ _ => Cert.Kernel14Ideal.Gen.frame m ρ, Cert.Proof14.frame_ri,
    fun m ρ _ => Cert.Kernel15.Gen.frame m ρ, fun m ρ _ => Cert.Kernel15Ideal.Gen.frame m ρ, Cert.Proof15.frame_ri,
    fun m ρ _ => Cert.Kernel16.Gen.frame m ρ, fun m ρ _ => Cert.Kernel16Ideal.Gen.frame m ρ, Cert.Proof16.frame_ri,
    fun m ρ _ => Cert.Kernel17.Gen.frame m ρ, fun m ρ _ => Cert.Kernel17Ideal.Gen.frame m ρ, Cert.Proof17.frame_ri,
    fun m ρ _ => Cert.Kernel18.Gen.frame m ρ, fun m ρ _ => Cert.Kernel18Ideal.Gen.frame m ρ, Cert.Proof18.frame_ri,
    fun m ρ _ => Cert.Kernel19.Gen.frame m ρ, fun m ρ _ => Cert.Kernel19Ideal.Gen.frame m ρ, Cert.Proof19.frame_ri,
    fun m ρ _ => Cert.Kernel20.Gen.frame m ρ, fun m ρ _ => Cert.Kernel20Ideal.Gen.frame m ρ, Cert.Proof20.frame_ri,
    fun m ρ _ => Cert.Kernel21.Gen.frame m ρ, fun m ρ _ => Cert.Kernel21Ideal.Gen.frame m ρ, Cert.Proof21.frame_ri,
    trivial, equal,
    trivial, Cert.Proof2.equal,
    trivial, Cert.Proof3.equal,
    trivial, Cert.Proof4.equal,
    trivial, Cert.Proof5.equal,
    trivial, Cert.Proof6.equal,
    trivial, Cert.Proof7.equal,
    trivial, Cert.Proof8.equal,
    trivial, Cert.Proof9.equal,
    trivial, Cert.Proof10.equal,
    trivial, Cert.Proof11.equal,
    trivial, Cert.Proof12.equal,
    trivial, Cert.Proof13.equal,
    trivial, Cert.Proof14.equal,
    trivial, Cert.Proof15.equal,
    trivial, Cert.Proof16.equal,
    trivial, Cert.Proof17.equal,
    trivial, Cert.Proof18.equal,
    trivial, Cert.Proof19.equal,
    trivial, Cert.Proof20.equal,
    trivial, Cert.Proof21.equal⟩

end Cert.Proof

end
